-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v47_0)) (v1 : (c : Dev Cert.Kernel4Ideal.nD) → Buf (Elt Ideal) ((c.tc : Thread Cert.Kernel4Ideal.nD Cert.Kernel4Ideal.τ).loc Cert.Kernel4Ideal.main_v47_2)) (v2 : (c : Dev Cert.Kernel4Ideal.nD) → Buf (Elt Ideal) ((c.tc : Thread Cert.Kernel4Ideal.nD Cert.Kernel4Ideal.τ).loc Cert.Kernel4Ideal.main_v47_3)) (v3 : (c : Dev Cert.Kernel4Ideal.nD) → Buf (Elt Ideal) ((c.tc : Thread Cert.Kernel4Ideal.nD Cert.Kernel4Ideal.τ).loc Cert.Kernel4Ideal.main_v47_4)) (v4 : (c : Dev Cert.Kernel4Ideal.nD) → Buf (Elt Ideal) ((c.tc : Thread Cert.Kernel4Ideal.nD Cert.Kernel4Ideal.τ).loc Cert.Kernel4Ideal.main_v47_5)) (v5 : (c : Dev Cert.Kernel4Ideal.nD) → Buf (Elt Ideal) ((c.tc : Thread Cert.Kernel4Ideal.nD Cert.Kernel4Ideal.τ).loc Cert.Kernel4Ideal.main_v47_6)) (v6 : (c : Dev Cert.Kernel4Ideal.nD) → Buf (Elt Ideal) ((c.tc : Thread Cert.Kernel4Ideal.nD Cert.Kernel4Ideal.τ).loc Cert.Kernel4Ideal.main_v47_7)) (v7 : (c : Dev Cert.Kernel4Ideal.nD) → Buf (Elt Ideal) ((c.tc : Thread Cert.Kernel4Ideal.nD Cert.Kernel4Ideal.τ).loc Cert.Kernel4Ideal.main_v47_9)) (v8 : (c : Dev Cert.Kernel4Ideal.nD) → Buf (Elt Ideal) ((c.tc : Thread Cert.Kernel4Ideal.nD Cert.Kernel4Ideal.τ).loc Cert.Kernel4Ideal.main_v47_10)) (v9 : (c : Dev Cert.Kernel4Ideal.nD) → Buf (Elt Ideal) ((c.tc : Thread Cert.Kernel4Ideal.nD Cert.Kernel4Ideal.τ).loc Cert.Kernel4Ideal.main_v47_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v47_0) = v0 c
          ∧ r.2.mem ((c.tc : Thread Cert.Kernel4Ideal.nD Cert.Kernel4Ideal.τ).loc Cert.Kernel4Ideal.main_v47_2) = v1 c
          ∧ r.2.mem ((c.tc : Thread Cert.Kernel4Ideal.nD Cert.Kernel4Ideal.τ).loc Cert.Kernel4Ideal.main_v47_3) = v2 c
          ∧ r.2.mem ((c.tc : Thread Cert.Kernel4Ideal.nD Cert.Kernel4Ideal.τ).loc Cert.Kernel4Ideal.main_v47_4) = v3 c
          ∧ r.2.mem ((c.tc : Thread Cert.Kernel4Ideal.nD Cert.Kernel4Ideal.τ).loc Cert.Kernel4Ideal.main_v47_5) = v4 c
          ∧ r.2.mem ((c.tc : Thread Cert.Kernel4Ideal.nD Cert.Kernel4Ideal.τ).loc Cert.Kernel4Ideal.main_v47_6) = v5 c
          ∧ r.2.mem ((c.tc : Thread Cert.Kernel4Ideal.nD Cert.Kernel4Ideal.τ).loc Cert.Kernel4Ideal.main_v47_7) = v6 c
          ∧ r.2.mem ((c.tc : Thread Cert.Kernel4Ideal.nD Cert.Kernel4Ideal.τ).loc Cert.Kernel4Ideal.main_v47_9) = v7 c
          ∧ r.2.mem ((c.tc : Thread Cert.Kernel4Ideal.nD Cert.Kernel4Ideal.τ).loc Cert.Kernel4Ideal.main_v47_10) = v8 c
          ∧ r.2.mem ((c.tc : Thread Cert.Kernel4Ideal.nD Cert.Kernel4Ideal.τ).loc Cert.Kernel4Ideal.main_v47_11) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_v87) = v1 c
          ∧ r.2.mem ((c.tc : Thread Cert.Reference4Ideal.nD Cert.Reference4Ideal.τ).loc Cert.Reference4Ideal.main_v89) = v2 c
          ∧ r.2.mem ((c.tc : Thread Cert.Reference4Ideal.nD Cert.Reference4Ideal.τ).loc Cert.Reference4Ideal.main_v91) = v3 c
          ∧ r.2.mem ((c.tc : Thread Cert.Reference4Ideal.nD Cert.Reference4Ideal.τ).loc Cert.Reference4Ideal.main_v94) = v4 c
          ∧ r.2.mem ((c.tc : Thread Cert.Reference4Ideal.nD Cert.Reference4Ideal.τ).loc Cert.Reference4Ideal.main_v96) = v5 c
          ∧ r.2.mem ((c.tc : Thread Cert.Reference4Ideal.nD Cert.Reference4Ideal.τ).loc Cert.Reference4Ideal.main_v99) = v6 c
          ∧ r.2.mem ((c.tc : Thread Cert.Reference4Ideal.nD Cert.Reference4Ideal.τ).loc Cert.Reference4Ideal.main_v101) = v7 c
          ∧ r.2.mem ((c.tc : Thread Cert.Reference4Ideal.nD Cert.Reference4Ideal.τ).loc Cert.Reference4Ideal.main_v103) = v8 c
          ∧ r.2.mem ((c.tc : Thread Cert.Reference4Ideal.nD Cert.Reference4Ideal.τ).loc Cert.Reference4Ideal.main_v106) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
-- ==== Pre_finite.lean ====
abbrev S16x4096x4x128 : Shape := ⟨4, ![16, 4096, 4, 128]⟩
abbrev S16x4096x4 : Shape := ⟨3, ![16, 4096, 4]⟩
abbrev S_ : Shape := ⟨0, ![]⟩

class Facts : Prop where
  bcast_S_S16x4096x4x128 : S_.BroadcastsInDim S16x4096x4x128 (![] : Fin 0 → Fin S16x4096x4x128.rank)
  bcast_S_S16x4096x4 : S_.BroadcastsInDim S16x4096x4 (![] : Fin 0 → Fin S16x4096x4.rank)

variable [Facts]

def fn {F : FTy → Type} [FloatOps F] (main_arg0 : FVec F S16x4096x4x128 .f32) (main_arg1 : FVec F S16x4096x4x128 .f32) (main_arg2 : FVec F S16x4096x4x128 .f32) (main_arg3 : FVec F S16x4096x4 .f32) : IVec S16x4096x4x128 1 × IVec S16x4096x4x128 1 × IVec S16x4096x4 1 :=
  let main_v0 : FVec F S16x4096x4x128 .f32 := Host.absf main_arg0
  let main_cst : FVec F S_ .f32 := constant S_ .f32 0x7F800000#32
  let main_v1 : FVec F S16x4096x4x128 .f32 := broadcastInDim S16x4096x4x128 ![] bcast_S_S16x4096x4x128 main_cst
  let main_v2 : IVec S16x4096x4x128 1 := cmpf .olt main_v0 main_v1
  let main_v3 : FVec F S16x4096x4x128 .f32 := Host.absf main_arg1
  let main_cst_0 : FVec F S_ .f32 := constant S_ .f32 0x7F800000#32
  let main_v4 : FVec F S16x4096x4x128 .f32 := broadcastInDim S16x4096x4x128 ![] bcast_S_S16x4096x4x128 main_cst_0
  let main_v5 : IVec S16x4096x4x128 1 := cmpf .olt main_v3 main_v4
  let main_v6 : FVec F S16x4096x4 .f32 := Host.absf main_arg3
  let main_cst_1 : FVec F S_ .f32 := constant S_ .f32 0x7F800000#32
  let main_v7 : FVec F S16x4096x4 .f32 := broadcastInDim S16x4096x4 ![] bcast_S_S16x4096x4 main_cst_1
  let main_v8 : IVec S16x4096x4 1 := cmpf .olt main_v6 main_v7
  (main_v2, main_v5, main_v8)
-- ==== Kernel.lean ====
abbrev S16x4096x4x128 : Shape := ⟨4, ![16, 4096, 4, 128]⟩
abbrev S16x4096x4 : Shape := ⟨3, ![16, 4096, 4]⟩
abbrev S_ : Shape := ⟨0, ![]⟩
abbrev S16x4096x512 : Shape := ⟨3, ![16, 4096, 512]⟩
abbrev S16x4096x4x1 : Shape := ⟨4, ![16, 4096, 4, 1]⟩
abbrev S1x1x1x128 : Shape := ⟨4, ![1, 1, 1, 128]⟩
abbrev S16x4096x4x256 : Shape := ⟨4, ![16, 4096, 4, 256]⟩
abbrev S16x4096x1024 : Shape := ⟨3, ![16, 4096, 1024]⟩
abbrev S65536x512 : Shape := ⟨2, ![65536, 512]⟩
abbrev S512x65536 : Shape := ⟨2, ![512, 65536]⟩
abbrev S1x256x512 : Shape := ⟨3, ![1, 256, 512]⟩
abbrev S1x4096x1024 : Shape := ⟨3, ![1, 4096, 1024]⟩
abbrev S512x4096 : Shape := ⟨2, ![512, 4096]⟩
abbrev S4x256x256 : Shape := ⟨3, ![4, 256, 256]⟩
abbrev S2x4x256x256 : Shape := ⟨4, ![2, 4, 256, 256]⟩
abbrev S2x4x8x256 : Shape := ⟨4, ![2, 4, 8, 256]⟩
abbrev S4x1x256 : Shape := ⟨3, ![4, 1, 256]⟩
abbrev S4x144x256 : Shape := ⟨3, ![4, 144, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x256x256 : Shape := ⟨3, ![1, 256, 256]⟩
abbrev S256x256 : Shape := ⟨2, ![256, 256]⟩
abbrev S1x1x256x256 : Shape := ⟨4, ![1, 1, 256, 256]⟩
abbrev S32x256 : Shape := ⟨2, ![32, 256]⟩
abbrev S4x8x256 : Shape := ⟨3, ![4, 8, 256]⟩
abbrev S8x256 : Shape := ⟨2, ![8, 256]⟩
abbrev S1x1x8x256 : Shape := ⟨4, ![1, 1, 8, 256]⟩
abbrev S1x1x32x256 : Shape := ⟨4, ![1, 1, 32, 256]⟩
abbrev S1x1x256 : Shape := ⟨3, ![1, 1, 256]⟩
abbrev S1x256 : Shape := ⟨2, ![1, 256]⟩
abbrev S256 : Shape := ⟨1, ![256]⟩
abbrev S1x32x256 : Shape := ⟨3, ![1, 32, 256]⟩
abbrev S16x256 : Shape := ⟨2, ![16, 256]⟩
abbrev S1x144x256 : Shape := ⟨3, ![1, 144, 256]⟩
abbrev S144x256 : Shape := ⟨2, ![144, 256]⟩

abbrev nBuf : Space → Nat
  | .hbm => 55
  | .vmem => 12
  | .smem => 0
  | _ => 0

abbrev bufTy : (tb : Table) → Fin (tcTables nBuf tb) → BufTy
  | .hbm, ⟨0, _⟩ => ⟨S16x4096x4x128, .f32⟩
  | .hbm, ⟨1, _⟩ => ⟨S16x4096x4x128, .f32⟩
  | .hbm, ⟨2, _⟩ => ⟨S16x4096x4x128, .f32⟩
  | .hbm, ⟨3, _⟩ => ⟨S16x4096x4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x4096x512, .f32⟩
  | .hbm, ⟨9, _⟩ => ⟨S_, .f32⟩
  | .hbm, ⟨10, _⟩ => ⟨S_, .f32⟩
  | .hbm, ⟨11, _⟩ => ⟨S16x4096x512, .f32⟩
  | .hbm, ⟨12, _⟩ => ⟨S16x4096x512, .f32⟩
  | .hbm, ⟨13, _⟩ => ⟨S16x4096x512, .bf16⟩
  | .hbm, ⟨14, _⟩ => ⟨S_, .f32⟩
  | .hbm, ⟨15, _⟩ => ⟨S16x4096x4, .f32⟩
  | .hbm, ⟨16, _⟩ => ⟨S16x4096x4, .f32⟩
  | .hbm, ⟨17, _⟩ => ⟨S16x4096x4x1, .f32⟩
  | .hbm, ⟨18, _⟩ => ⟨S16x4096x4x1, .bf16⟩
  | .hbm, ⟨19, _⟩ => ⟨S16x4096x4x1, .f32⟩
  | .hbm, ⟨20, _⟩ => ⟨S16x4096x4x1, .f32⟩
  | .hbm, ⟨21, _⟩ => ⟨S16x4096x4x1, .bf16⟩
  | .hbm, ⟨22, _⟩ => ⟨S16x4096x4x1, .f32⟩
  | .hbm, ⟨23, _⟩ => ⟨S16x4096x4x1, .f32⟩
  | .hbm, ⟨24, _⟩ => ⟨S16x4096x4x1, .f32⟩
  | .hbm, ⟨25, _⟩ => ⟨S1x1x1x128, .i32⟩
  | .hbm, ⟨26, _⟩ => ⟨S_, .i32⟩
  | .hbm, ⟨27, _⟩ => ⟨S1x1x1x128, .i32⟩
  | .hbm, ⟨28, _⟩ => ⟨S1x1x1x128, .i1⟩
  | .hbm, ⟨29, _⟩ => ⟨S_, .i32⟩
  | .hbm, ⟨30, _⟩ => ⟨S1x1x1x128, .i32⟩
  | .hbm, ⟨31, _⟩ => ⟨S1x1x1x128, .i1⟩
  | .hbm, ⟨32, _⟩ => ⟨S_, .i32⟩
  | .hbm, ⟨33, _⟩ => ⟨S1x1x1x128, .i32⟩
  | .hbm, ⟨34, _⟩ => ⟨S1x1x1x128, .i1⟩
  | .hbm, ⟨35, _⟩ => ⟨S_, .f32⟩
  | .hbm, ⟨36, _⟩ => ⟨S_, .f32⟩
  | .hbm, ⟨37, _⟩ => ⟨S16x4096x4x128, .i1⟩
  | .hbm, ⟨38, _⟩ => ⟨S16x4096x4x128, .f32⟩
  | .hbm, ⟨39, _⟩ => ⟨S16x4096x4x128, .f32⟩
  | .hbm, ⟨40, _⟩ => ⟨S16x4096x4x128, .f32⟩
  | .hbm, ⟨41, _⟩ => ⟨S16x4096x4x128, .i1⟩
  | .hbm, ⟨42, _⟩ => ⟨S16x4096x4x128, .f32⟩
  | .hbm, ⟨43, _⟩ => ⟨S16x4096x4x128, .f32⟩
  | .hbm, ⟨44, _⟩ => ⟨S16x4096x4x128, .i1⟩
  | .hbm, ⟨45, _⟩ => ⟨S16x4096x4x128, .f32⟩
  | .hbm, ⟨46, _⟩ => ⟨S16x4096x4x128, .f32⟩
  | .hbm, ⟨47, _⟩ => ⟨S16x4096x4x128, .bf16⟩
  | .hbm, ⟨48, _⟩ => ⟨S16x4096x4x128, .bf16⟩
  | .hbm, ⟨49, _⟩ => ⟨S16x4096x4x256, .bf16⟩
  | .hbm, ⟨50, _⟩ => ⟨S16x4096x1024, .bf16⟩
  | .hbm, ⟨51, _⟩ => ⟨S65536x512, .f32⟩
  | .hbm, ⟨52, _⟩ => ⟨S512x65536, .f32⟩
  | .hbm, ⟨53, _⟩ => ⟨S512x65536, .bf16⟩
  | .hbm, ⟨54, _⟩ => ⟨S16x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x1024, .bf16⟩
  | .local _ .vmem, ⟨3, _⟩ => ⟨S512x4096, .bf16⟩
  | .local _ .vmem, ⟨4, _⟩ => ⟨S1x256x512, .bf16⟩
  | .local _ .vmem, ⟨5, _⟩ => ⟨S1x256x512, .bf16⟩
  | .local _ .vmem, ⟨6, _⟩ => ⟨S4x256x256, .bf16⟩
  | .local _ .vmem, ⟨7, _⟩ => ⟨S2x4x256x256, .f32⟩
  | .local _ .vmem, ⟨8, _⟩ => ⟨S2x4x8x256, .f32⟩
  | .local _ .vmem, ⟨9, _⟩ => ⟨S4x256x256, .bf16⟩
  | .local _ .vmem, ⟨10, _⟩ => ⟨S4x1x256, .f32⟩
  | .local _ .vmem, ⟨11, _⟩ => ⟨S4x144x256, .f32⟩
  | _, _ => ⟨S16x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_v25 : Ref sig .tc := ⟨.hbm, 40, rfl⟩
abbrev main_call1_v0 : Ref sig .tc := ⟨.hbm, 41, rfl⟩
abbrev main_call1_v1 : Ref sig .tc := ⟨.hbm, 42, rfl⟩
abbrev main_v26 : Ref sig .tc := ⟨.hbm, 43, rfl⟩
abbrev main_call2_v0 : Ref sig .tc := ⟨.hbm, 44, rfl⟩
abbrev main_call2_v1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![16, 1, 16], ![false, false, false]⟩

def k0_mult1 (i : grid0.Coords) : BitVec 32 :=
  let arg2 : BitVec 32 := BitVec.ofNat 32 (i 2).val
  let c256_i32 : BitVec 32 := 256#32
  let v56 : BitVec 32 := Scalar.muli arg2 c256_i32
  v56
def k0_off1 (i : grid0.Coords) : Fin 3 → Nat :=
  let c0_40 : Index := 0#32
  let arg2 : BitVec 32 := BitVec.ofNat 32 (i 2).val
  let c256_i32 : BitVec 32 := 256#32
  let v56 : BitVec 32 := Scalar.muli arg2 c256_i32
  let v57 : BitVec 32 := v56
  let v58 : Index := Scalar.indexCast v57
  let c0_41 : Index := 0#32
  ![0, v58.toNat, 0]
def k0_off2 (i : grid0.Coords) : Fin 3 → Nat :=
  let c0_62 : Index := 0#32
  let arg2 : BitVec 32 := BitVec.ofNat 32 (i 2).val
  let c256_i32 : BitVec 32 := 256#32
  let v56 : BitVec 32 := Scalar.muli arg2 c256_i32
  let v57 : BitVec 32 := v56
  let v101 : Index := Scalar.indexCast v57
  let c256_63 : Index := 256#32
  ![0, v101.toNat, 256]
def k0_off3 (i : grid0.Coords) : Fin 3 → Nat :=
  let c0_84 : Index := 0#32
  let arg2 : BitVec 32 := BitVec.ofNat 32 (i 2).val
  let c256_i32 : BitVec 32 := 256#32
  let v56 : BitVec 32 := Scalar.muli arg2 c256_i32
  let v57 : BitVec 32 := v56
  let v144 : Index := Scalar.indexCast v57
  let c512 : Index := 512#32
  ![0, v144.toNat, 512]
def k0_off4 (i : grid0.Coords) : Fin 3 → Nat :=
  let c0_105 : Index := 0#32
  let arg2 : BitVec 32 := BitVec.ofNat 32 (i 2).val
  let c256_i32 : BitVec 32 := 256#32
  let v56 : BitVec 32 := Scalar.muli arg2 c256_i32
  let v57 : BitVec 32 := v56
  let v187 : Index := Scalar.indexCast v57
  let c768 : Index := 768#32
  ![0, v187.toNat, 768]
def k0_mult2 : BitVec 32 :=
  let c0_i32 : BitVec 32 := 0#32
  c0_i32
def k0_mult3 (i : grid0.Coords) : BitVec 32 :=
  let arg2 : BitVec 32 := BitVec.ofNat 32 (i 2).val
  let c256_i32_214 : BitVec 32 := 256#32
  let v403 : BitVec 32 := Scalar.muli arg2 c256_i32_214
  v403
def k0_off5 (i : grid0.Coords) : Fin 2 → Nat :=
  let c0_746 : Index := 0#32
  let arg2 : BitVec 32 := BitVec.ofNat 32 (i 2).val
  let c256_i32_214 : BitVec 32 := 256#32
  let v403 : BitVec 32 := Scalar.muli arg2 c256_i32_214
  let v404 : BitVec 32 := v403
  let v1342 : Index := Scalar.indexCast v404
  ![0, v1342.toNat]
def k0_off6 (i : grid0.Coords) : Fin 2 → Nat :=
  let c128_757 : Index := 128#32
  let arg2 : BitVec 32 := BitVec.ofNat 32 (i 2).val
  let c256_i32_214 : BitVec 32 := 256#32
  let v403 : BitVec 32 := Scalar.muli arg2 c256_i32_214
  let v404 : BitVec 32 := v403
  let v1357 : Index := Scalar.indexCast v404
  ![128, v1357.toNat]
def k0_off7 (i : grid0.Coords) : Fin 2 → Nat :=
  let c256_768 : Index := 256#32
  let arg2 : BitVec 32 := BitVec.ofNat 32 (i 2).val
  let c256_i32_214 : BitVec 32 := 256#32
  let v403 : BitVec 32 := Scalar.muli arg2 c256_i32_214
  let v404 : BitVec 32 := v403
  let v1372 : Index := Scalar.indexCast v404
  ![256, v1372.toNat]
def k0_off8 (i : grid0.Coords) : Fin 2 → Nat :=
  let c384_779 : Index := 384#32
  let arg2 : BitVec 32 := BitVec.ofNat 32 (i 2).val
  let c256_i32_214 : BitVec 32 := 256#32
  let v403 : BitVec 32 := Scalar.muli arg2 c256_i32_214
  let v404 : BitVec 32 := v403
  let v1387 : Index := Scalar.indexCast v404
  ![384, v1387.toNat]
@[reducible] def k0_t1_loop (i : grid0.Coords) : Scf.Loop 32 :=
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_795 : BitVec 32 := 1#32
  ⟨c0_i32_792, v1419, c1_i32_795⟩
def k0_mult4 (i : grid0.Coords) (k0_t1 : Fin (k0_t1_loop i).trips) : BitVec 32 :=
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  v1481
def k0_off9 (i : grid0.Coords) (k0_t1 : Fin (k0_t1_loop i).trips) : Fin 3 → Nat :=
  let c0_844 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  let v1482 : BitVec 32 := v1481
  let v1483 : Index := Scalar.indexCast v1482
  let c0_845 : Index := 0#32
  ![0, v1483.toNat, 0]
def k0_off10 (i : grid0.Coords) (k0_t1 : Fin (k0_t1_loop i).trips) : Fin 3 → Nat :=
  let c0_866 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  let v1482 : BitVec 32 := v1481
  let v1526 : Index := Scalar.indexCast v1482
  let c256_867 : Index := 256#32
  ![0, v1526.toNat, 256]
def k0_off11 (i : grid0.Coords) (k0_t1 : Fin (k0_t1_loop i).trips) : Fin 3 → Nat :=
  let c0_888 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  let v1482 : BitVec 32 := v1481
  let v1569 : Index := Scalar.indexCast v1482
  let c512_889 : Index := 512#32
  ![0, v1569.toNat, 512]
def k0_off12 (i : grid0.Coords) (k0_t1 : Fin (k0_t1_loop i).trips) : Fin 3 → Nat :=
  let c0_910 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  let v1482 : BitVec 32 := v1481
  let v1612 : Index := Scalar.indexCast v1482
  let c768_911 : Index := 768#32
  ![0, v1612.toNat, 768]
def k0_mult5 (i : grid0.Coords) (k0_t1 : Fin (k0_t1_loop i).trips) : BitVec 32 :=
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c256_i32_932 : BitVec 32 := 256#32
  let v1655 : BitVec 32 := Scalar.muli v1479 c256_i32_932
  v1655
def k0_off13 (i : grid0.Coords) (k0_t1 : Fin (k0_t1_loop i).trips) : Fin 2 → Nat :=
  let c0_1205 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c256_i32_932 : BitVec 32 := 256#32
  let v1655 : BitVec 32 := Scalar.muli v1479 c256_i32_932
  let v1656 : BitVec 32 := v1655
  let v1998 : Index := Scalar.indexCast v1656
  ![0, v1998.toNat]
def k0_off14 (i : grid0.Coords) (k0_t1 : Fin (k0_t1_loop i).trips) : Fin 2 → Nat :=
  let c128_1216 : Index := 128#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c256_i32_932 : BitVec 32 := 256#32
  let v1655 : BitVec 32 := Scalar.muli v1479 c256_i32_932
  let v1656 : BitVec 32 := v1655
  let v2013 : Index := Scalar.indexCast v1656
  ![128, v2013.toNat]
def k0_off15 (i : grid0.Coords) (k0_t1 : Fin (k0_t1_loop i).trips) : Fin 2 → Nat :=
  let c256_1227 : Index := 256#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c256_i32_932 : BitVec 32 := 256#32
  let v1655 : BitVec 32 := Scalar.muli v1479 c256_i32_932
  let v1656 : BitVec 32 := v1655
  let v2028 : Index := Scalar.indexCast v1656
  ![256, v2028.toNat]
def k0_off16 (i : grid0.Coords) (k0_t1 : Fin (k0_t1_loop i).trips) : Fin 2 → Nat :=
  let c384_1238 : Index := 384#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c256_i32_932 : BitVec 32 := 256#32
  let v1655 : BitVec 32 := Scalar.muli v1479 c256_i32_932
  let v1656 : BitVec 32 := v1655
  let v2043 : Index := Scalar.indexCast v1656
  ![384, v2043.toNat]
def k0_mult6 (i : grid0.Coords) (k0_t1 : Fin (k0_t1_loop i).trips) : BitVec 32 :=
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c2_i32_1246 : BitVec 32 := 2#32
  let v2054 : BitVec 32 := Scalar.addi v1479 c2_i32_1246
  let arg2 : BitVec 32 := BitVec.ofNat 32 (i 2).val
  let v2055 : BitVec 32 := Scalar.minsi v2054 arg2
  let c256_i32_1247 : BitVec 32 := 256#32
  let v2056 : BitVec 32 := Scalar.muli v2055 c256_i32_1247
  v2056
def k0_off17 (i : grid0.Coords) (k0_t1 : Fin (k0_t1_loop i).trips) : Fin 3 → Nat :=
  let c0_1248 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c2_i32_1246 : BitVec 32 := 2#32
  let v2054 : BitVec 32 := Scalar.addi v1479 c2_i32_1246
  let arg2 : BitVec 32 := BitVec.ofNat 32 (i 2).val
  let v2055 : BitVec 32 := Scalar.minsi v2054 arg2
  let c256_i32_1247 : BitVec 32 := 256#32
  let v2056 : BitVec 32 := Scalar.muli v2055 c256_i32_1247
  let v2057 : BitVec 32 := v2056
  let v2058 : Index := Scalar.indexCast v2057
  let c0_1249 : Index := 0#32
  ![0, v2058.toNat, 0]
def k0_off18 (i : grid0.Coords) (k0_t1 : Fin (k0_t1_loop i).trips) : Fin 3 → Nat :=
  let c0_1270 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c2_i32_1246 : BitVec 32 := 2#32
  let v2054 : BitVec 32 := Scalar.addi v1479 c2_i32_1246
  let arg2 : BitVec 32 := BitVec.ofNat 32 (i 2).val
  let v2055 : BitVec 32 := Scalar.minsi v2054 arg2
  let c256_i32_1247 : BitVec 32 := 256#32
  let v2056 : BitVec 32 := Scalar.muli v2055 c256_i32_1247
  let v2057 : BitVec 32 := v2056
  let v2101 : Index := Scalar.indexCast v2057
  let c256_1271 : Index := 256#32
  ![0, v2101.toNat, 256]
def k0_off19 (i : grid0.Coords) (k0_t1 : Fin (k0_t1_loop i).trips) : Fin 3 → Nat :=
  let c0_1292 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c2_i32_1246 : BitVec 32 := 2#32
  let v2054 : BitVec 32 := Scalar.addi v1479 c2_i32_1246
  let arg2 : BitVec 32 := BitVec.ofNat 32 (i 2).val
  let v2055 : BitVec 32 := Scalar.minsi v2054 arg2
  let c256_i32_1247 : BitVec 32 := 256#32
  let v2056 : BitVec 32 := Scalar.muli v2055 c256_i32_1247
  let v2057 : BitVec 32 := v2056
  let v2144 : Index := Scalar.indexCast v2057
  let c512_1293 : Index := 512#32
  ![0, v2144.toNat, 512]
def k0_off20 (i : grid0.Coords) (k0_t1 : Fin (k0_t1_loop i).trips) : Fin 3 → Nat :=
  let c0_1314 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c2_i32_1246 : BitVec 32 := 2#32
  let v2054 : BitVec 32 := Scalar.addi v1479 c2_i32_1246
  let arg2 : BitVec 32 := BitVec.ofNat 32 (i 2).val
  let v2055 : BitVec 32 := Scalar.minsi v2054 arg2
  let c256_i32_1247 : BitVec 32 := 256#32
  let v2056 : BitVec 32 := Scalar.muli v2055 c256_i32_1247
  let v2057 : BitVec 32 := v2056
  let v2187 : Index := Scalar.indexCast v2057
  let c768_1315 : Index := 768#32
  ![0, v2187.toNat, 768]
def k0_mult7 (i : grid0.Coords) (k0_t1 : Fin (k0_t1_loop i).trips) : BitVec 32 :=
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  v2231
def k0_off21 (i : grid0.Coords) (k0_t1 : Fin (k0_t1_loop i).trips) : Fin 2 → Nat :=
  let c0_1610 : Index := 0#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  let v2232 : BitVec 32 := v2231
  let v2574 : Index := Scalar.indexCast v2232
  ![0, v2574.toNat]
def k0_off22 (i : grid0.Coords) (k0_t1 : Fin (k0_t1_loop i).trips) : Fin 2 → Nat :=
  let c128_1621 : Index := 128#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  let v2232 : BitVec 32 := v2231
  let v2589 : Index := Scalar.indexCast v2232
  ![128, v2589.toNat]
def k0_off23 (i : grid0.Coords) (k0_t1 : Fin (k0_t1_loop i).trips) : Fin 2 → Nat :=
  let c256_1632 : Index := 256#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  let v2232 : BitVec 32 := v2231
  let v2604 : Index := Scalar.indexCast v2232
  ![256, v2604.toNat]
def k0_off24 (i : grid0.Coords) (k0_t1 : Fin (k0_t1_loop i).trips) : Fin 2 → Nat :=
  let c384_1643 : Index := 384#32
  let c2_i32_841 : BitVec 32 := 2#32
  let c0_i32_792 : BitVec 32 := 0#32
  let c1_i32_795 : BitVec 32 := 1#32
  let arg13 : BitVec 32 := Scf.iv c0_i32_792 c1_i32_795 k0_t1
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  let v2232 : BitVec 32 := v2231
  let v2619 : Index := Scalar.indexCast v2232
  ![384, v2619.toNat]
@[reducible] def k0_t2_loop (i : grid0.Coords) : Scf.Loop 32 :=
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let v1416 : BitVec 32 := Scalar.addi c0_i32_792 v1415
  let c1_i32_796 : BitVec 32 := 1#32
  ⟨v1419, v1416, c1_i32_796⟩
def k0_mult8 (i : grid0.Coords) (k0_t2 : Fin (k0_t2_loop i).trips) : BitVec 32 :=
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  v1481
def k0_off25 (i : grid0.Coords) (k0_t2 : Fin (k0_t2_loop i).trips) : Fin 3 → Nat :=
  let c0_844 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  let v1482 : BitVec 32 := v1481
  let v1483 : Index := Scalar.indexCast v1482
  let c0_845 : Index := 0#32
  ![0, v1483.toNat, 0]
def k0_off26 (i : grid0.Coords) (k0_t2 : Fin (k0_t2_loop i).trips) : Fin 3 → Nat :=
  let c0_866 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  let v1482 : BitVec 32 := v1481
  let v1526 : Index := Scalar.indexCast v1482
  let c256_867 : Index := 256#32
  ![0, v1526.toNat, 256]
def k0_off27 (i : grid0.Coords) (k0_t2 : Fin (k0_t2_loop i).trips) : Fin 3 → Nat :=
  let c0_888 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  let v1482 : BitVec 32 := v1481
  let v1569 : Index := Scalar.indexCast v1482
  let c512_889 : Index := 512#32
  ![0, v1569.toNat, 512]
def k0_off28 (i : grid0.Coords) (k0_t2 : Fin (k0_t2_loop i).trips) : Fin 3 → Nat :=
  let c0_910 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_842 : BitVec 32 := 1#32
  let v1480 : BitVec 32 := Scalar.addi v1479 c1_i32_842
  let c256_i32_843 : BitVec 32 := 256#32
  let v1481 : BitVec 32 := Scalar.muli v1480 c256_i32_843
  let v1482 : BitVec 32 := v1481
  let v1612 : Index := Scalar.indexCast v1482
  let c768_911 : Index := 768#32
  ![0, v1612.toNat, 768]
def k0_mult9 (i : grid0.Coords) (k0_t2 : Fin (k0_t2_loop i).trips) : BitVec 32 :=
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c256_i32_932 : BitVec 32 := 256#32
  let v1655 : BitVec 32 := Scalar.muli v1479 c256_i32_932
  v1655
def k0_off29 (i : grid0.Coords) (k0_t2 : Fin (k0_t2_loop i).trips) : Fin 2 → Nat :=
  let c0_1205 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c256_i32_932 : BitVec 32 := 256#32
  let v1655 : BitVec 32 := Scalar.muli v1479 c256_i32_932
  let v1656 : BitVec 32 := v1655
  let v1998 : Index := Scalar.indexCast v1656
  ![0, v1998.toNat]
def k0_off30 (i : grid0.Coords) (k0_t2 : Fin (k0_t2_loop i).trips) : Fin 2 → Nat :=
  let c128_1216 : Index := 128#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c256_i32_932 : BitVec 32 := 256#32
  let v1655 : BitVec 32 := Scalar.muli v1479 c256_i32_932
  let v1656 : BitVec 32 := v1655
  let v2013 : Index := Scalar.indexCast v1656
  ![128, v2013.toNat]
def k0_off31 (i : grid0.Coords) (k0_t2 : Fin (k0_t2_loop i).trips) : Fin 2 → Nat :=
  let c256_1227 : Index := 256#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c256_i32_932 : BitVec 32 := 256#32
  let v1655 : BitVec 32 := Scalar.muli v1479 c256_i32_932
  let v1656 : BitVec 32 := v1655
  let v2028 : Index := Scalar.indexCast v1656
  ![256, v2028.toNat]
def k0_off32 (i : grid0.Coords) (k0_t2 : Fin (k0_t2_loop i).trips) : Fin 2 → Nat :=
  let c384_1238 : Index := 384#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c256_i32_932 : BitVec 32 := 256#32
  let v1655 : BitVec 32 := Scalar.muli v1479 c256_i32_932
  let v1656 : BitVec 32 := v1655
  let v2043 : Index := Scalar.indexCast v1656
  ![384, v2043.toNat]
def k0_mult10 (i : grid0.Coords) (k0_t2 : Fin (k0_t2_loop i).trips) : BitVec 32 :=
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c2_i32_1246 : BitVec 32 := 2#32
  let v2054 : BitVec 32 := Scalar.addi v1479 c2_i32_1246
  let v2055 : BitVec 32 := Scalar.minsi v2054 arg2
  let c256_i32_1247 : BitVec 32 := 256#32
  let v2056 : BitVec 32 := Scalar.muli v2055 c256_i32_1247
  v2056
def k0_off33 (i : grid0.Coords) (k0_t2 : Fin (k0_t2_loop i).trips) : Fin 3 → Nat :=
  let c0_1248 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c2_i32_1246 : BitVec 32 := 2#32
  let v2054 : BitVec 32 := Scalar.addi v1479 c2_i32_1246
  let v2055 : BitVec 32 := Scalar.minsi v2054 arg2
  let c256_i32_1247 : BitVec 32 := 256#32
  let v2056 : BitVec 32 := Scalar.muli v2055 c256_i32_1247
  let v2057 : BitVec 32 := v2056
  let v2058 : Index := Scalar.indexCast v2057
  let c0_1249 : Index := 0#32
  ![0, v2058.toNat, 0]
def k0_off34 (i : grid0.Coords) (k0_t2 : Fin (k0_t2_loop i).trips) : Fin 3 → Nat :=
  let c0_1270 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c2_i32_1246 : BitVec 32 := 2#32
  let v2054 : BitVec 32 := Scalar.addi v1479 c2_i32_1246
  let v2055 : BitVec 32 := Scalar.minsi v2054 arg2
  let c256_i32_1247 : BitVec 32 := 256#32
  let v2056 : BitVec 32 := Scalar.muli v2055 c256_i32_1247
  let v2057 : BitVec 32 := v2056
  let v2101 : Index := Scalar.indexCast v2057
  let c256_1271 : Index := 256#32
  ![0, v2101.toNat, 256]
def k0_off35 (i : grid0.Coords) (k0_t2 : Fin (k0_t2_loop i).trips) : Fin 3 → Nat :=
  let c0_1292 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c2_i32_1246 : BitVec 32 := 2#32
  let v2054 : BitVec 32 := Scalar.addi v1479 c2_i32_1246
  let v2055 : BitVec 32 := Scalar.minsi v2054 arg2
  let c256_i32_1247 : BitVec 32 := 256#32
  let v2056 : BitVec 32 := Scalar.muli v2055 c256_i32_1247
  let v2057 : BitVec 32 := v2056
  let v2144 : Index := Scalar.indexCast v2057
  let c512_1293 : Index := 512#32
  ![0, v2144.toNat, 512]
def k0_off36 (i : grid0.Coords) (k0_t2 : Fin (k0_t2_loop i).trips) : Fin 3 → Nat :=
  let c0_1314 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c2_i32_1246 : BitVec 32 := 2#32
  let v2054 : BitVec 32 := Scalar.addi v1479 c2_i32_1246
  let v2055 : BitVec 32 := Scalar.minsi v2054 arg2
  let c256_i32_1247 : BitVec 32 := 256#32
  let v2056 : BitVec 32 := Scalar.muli v2055 c256_i32_1247
  let v2057 : BitVec 32 := v2056
  let v2187 : Index := Scalar.indexCast v2057
  let c768_1315 : Index := 768#32
  ![0, v2187.toNat, 768]
def k0_mult11 (i : grid0.Coords) (k0_t2 : Fin (k0_t2_loop i).trips) : BitVec 32 :=
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  v2231
def k0_off37 (i : grid0.Coords) (k0_t2 : Fin (k0_t2_loop i).trips) : Fin 2 → Nat :=
  let c0_1610 : Index := 0#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  let v2232 : BitVec 32 := v2231
  let v2574 : Index := Scalar.indexCast v2232
  ![0, v2574.toNat]
def k0_off38 (i : grid0.Coords) (k0_t2 : Fin (k0_t2_loop i).trips) : Fin 2 → Nat :=
  let c128_1621 : Index := 128#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  let v2232 : BitVec 32 := v2231
  let v2589 : Index := Scalar.indexCast v2232
  ![128, v2589.toNat]
def k0_off39 (i : grid0.Coords) (k0_t2 : Fin (k0_t2_loop i).trips) : Fin 2 → Nat :=
  let c256_1632 : Index := 256#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  let v2232 : BitVec 32 := v2231
  let v2604 : Index := Scalar.indexCast v2232
  ![256, v2604.toNat]
def k0_off40 (i : grid0.Coords) (k0_t2 : Fin (k0_t2_loop i).trips) : Fin 2 → Nat :=
  let c384_1643 : Index := 384#32
  let c2_i32_841 : BitVec 32 := 2#32
  let c0_i32_792 : BitVec 32 := 0#32
  let arg2 : BitVec 32 := BitVec.ofNat 32 (i 2).val
  let c0_i32_787 : BitVec 32 := 0#32
  let v1399 : BitVec 1 := Scalar.cmpi .sgt arg2 c0_i32_787
  let v1400 : BitVec 32 := Scalar.extui v1399
  let c0_i32_788 : BitVec 32 := 0#32
  let v1401 : BitVec 1 := Scalar.cmpi .slt arg2 c0_i32_788
  let v1402 : BitVec 32 := Scalar.extui v1401
  let v1403 : BitVec 32 := Scalar.subi v1400 v1402
  let c2_i32 : BitVec 32 := 2#32
  let c0_i32_789 : BitVec 32 := 0#32
  let v1404 : BitVec 1 := Scalar.cmpi .sgt c2_i32 c0_i32_789
  let v1405 : BitVec 32 := Scalar.extui v1404
  let c0_i32_790 : BitVec 32 := 0#32
  let v1406 : BitVec 1 := Scalar.cmpi .slt c2_i32 c0_i32_790
  let v1407 : BitVec 32 := Scalar.extui v1406
  let v1408 : BitVec 32 := Scalar.subi v1405 v1407
  let v1409 : BitVec 1 := Scalar.cmpi .ne v1403 v1408
  let v1410 : BitVec 32 := Scalar.remsi arg2 c2_i32
  let c0_i32_791 : BitVec 32 := 0#32
  let v1411 : BitVec 1 := Scalar.cmpi .ne v1410 c0_i32_791
  let v1412 : BitVec 1 := Scalar.andi v1409 v1411
  let v1398 : BitVec 32 := Scalar.divsi arg2 c2_i32
  let c1_i32 : BitVec 32 := 1#32
  let v1413 : BitVec 32 := Scalar.subi v1398 c1_i32
  let v1414 : BitVec 32 := Scalar.select v1412 v1413 v1398
  let v1415 : BitVec 32 := Scalar.subi v1414 c0_i32_792
  let c1_i32_794 : BitVec 32 := 1#32
  let v1417 : BitVec 32 := Scalar.divsi v1415 c1_i32_794
  let v1418 : BitVec 32 := Scalar.muli v1417 c1_i32_794
  let v1419 : BitVec 32 := Scalar.addi c0_i32_792 v1418
  let c1_i32_796 : BitVec 32 := 1#32
  let arg13 : BitVec 32 := Scf.iv v1419 c1_i32_796 k0_t2
  let v1479 : BitVec 32 := Scalar.muli c2_i32_841 arg13
  let c1_i32_1336 : BitVec 32 := 1#32
  let v2230 : BitVec 32 := Scalar.addi v1479 c1_i32_1336
  let c256_i32_1337 : BitVec 32 := 256#32
  let v2231 : BitVec 32 := Scalar.muli v2230 c256_i32_1337
  let v2232 : BitVec 32 := v2231
  let v2619 : Index := Scalar.indexCast v2232
  ![384, v2619.toNat]
def k0_cond1 (i : grid0.Coords) : BitVec 1 :=
  let arg2 : BitVec 32 := BitVec.ofNat 32 (i 2).val
  let c2_i32_797 : BitVec 32 := 2#32
  let c0_i32_798 : BitVec 32 := 0#32
  let v1422 : BitVec 1 := Scalar.cmpi .eq c2_i32_797 c0_i32_798
  let c1_i32_799 : BitVec 32 := 1#32
  let v1423 : BitVec 32 := Scalar.select v1422 c1_i32_799 c2_i32_797
  let v1424 : BitVec 32 := Scalar.remsi arg2 v1423
  let c0_i32_801 : BitVec 32 := 0#32
  let v1426 : BitVec 1 := Scalar.cmpi .slt v1424 c0_i32_801
  let c0_i32_802 : BitVec 32 := 0#32
  let v1427 : BitVec 1 := Scalar.cmpi .slt v1423 c0_i32_802
  let v1428 : BitVec 1 := Scalar.xori v1426 v1427
  let c0_i32_800 : BitVec 32 := 0#32
  let v1425 : BitVec 1 := Scalar.cmpi .ne v1424 c0_i32_800
  let v1429 : BitVec 1 := Scalar.andi v1428 v1425
  let v1430 : BitVec 32 := Scalar.addi v1424 v1423
  let v1431 : BitVec 32 := Scalar.select v1429 v1430 v1424
  let c1_i32_803 : BitVec 32 := 1#32
  let v1432 : BitVec 1 := Scalar.cmpi .eq v1431 c1_i32_803
  let v1433 : BitVec 32 := Scalar.extui v1432
  let c0_i32_804 : BitVec 32 := 0#32
  let v1434 : BitVec 1 := Scalar.cmpi .ne v1433 c0_i32_804
  v1434

def k0_mult12 (i : grid0.Coords) : BitVec 32 :=
  let arg2 : BitVec 32 := BitVec.ofNat 32 (i 2).val
  let c1_i32_841 : BitVec 32 := 1#32
  let v1479 : BitVec 32 := Scalar.subi arg2 c1_i32_841
  let c256_i32_842 : BitVec 32 := 256#32
  let v1480 : BitVec 32 := Scalar.muli v1479 c256_i32_842
  v1480
def k0_off41 (i : grid0.Coords) : Fin 2 → Nat :=
  let c0_1115 : Index := 0#32
  let arg2 : BitVec 32 := BitVec.ofNat 32 (i 2).val
  let c1_i32_841 : BitVec 32 := 1#32
  let v1479 : BitVec 32 := Scalar.subi arg2 c1_i32_841
  let c256_i32_842 : BitVec 32 := 256#32
  let v1480 : BitVec 32 := Scalar.muli v1479 c256_i32_842
  let v1481 : BitVec 32 := v1480
  let v1823 : Index := Scalar.indexCast v1481
  ![0, v1823.toNat]
def k0_off42 (i : grid0.Coords) : Fin 2 → Nat :=
  let c128_1126 : Index := 128#32
  let arg2 : BitVec 32 := BitVec.ofNat 32 (i 2).val
  let c1_i32_841 : BitVec 32 := 1#32
  let v1479 : BitVec 32 := Scalar.subi arg2 c1_i32_841
  let c256_i32_842 : BitVec 32 := 256#32
  let v1480 : BitVec 32 := Scalar.muli v1479 c256_i32_842
  let v1481 : BitVec 32 := v1480
  let v1838 : Index := Scalar.indexCast v1481
  ![128, v1838.toNat]
def k0_off43 (i : grid0.Coords) : Fin 2 → Nat :=
  let c256_1137 : Index := 256#32
  let arg2 : BitVec 32 := BitVec.ofNat 32 (i 2).val
  let c1_i32_841 : BitVec 32 := 1#32
  let v1479 : BitVec 32 := Scalar.subi arg2 c1_i32_841
  let c256_i32_842 : BitVec 32 := 256#32
  let v1480 : BitVec 32 := Scalar.muli v1479 c256_i32_842
  let v1481 : BitVec 32 := v1480
  let v1853 : Index := Scalar.indexCast v1481
  ![256, v1853.toNat]
def k0_off44 (i : grid0.Coords) : Fin 2 → Nat :=
  let c384_1148 : Index := 384#32
  let arg2 : BitVec 32 := BitVec.ofNat 32 (i 2).val
  let c1_i32_841 : BitVec 32 := 1#32
  let v1479 : BitVec 32 := Scalar.subi arg2 c1_i32_841
  let c256_i32_842 : BitVec 32 := 256#32
  let v1480 : BitVec 32 := Scalar.muli v1479 c256_i32_842
  let v1481 : BitVec 32 := v1480
  let v1868 : Index := Scalar.indexCast v1481
  ![384, v1868.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x4096x4x128 : Shape := ⟨4, ![16, 4096, 4, 128]⟩
abbrev S16x4096x4 : Shape := ⟨3, ![16, 4096, 4]⟩
abbrev S16x4x4096 : Shape := ⟨3, ![16, 4, 4096]⟩
abbrev S16x4x4096x4096 : Shape := ⟨4, ![16, 4, 4096, 4096]⟩
abbrev S_ : Shape := ⟨0, ![]⟩
abbrev S16x4x4096x1 : Shape := ⟨4, ![16, 4, 4096, 1]⟩
abbrev S16x4x1x4096 : Shape := ⟨4, ![16, 4, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x4x128x4096 : Shape := ⟨4, ![16, 4, 128, 4096]⟩
abbrev S16x4096x512 : Shape := ⟨3, ![16, 4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x4x128, .f32⟩
  | .hbm, ⟨1, _⟩ => ⟨S16x4096x4x128, .f32⟩
  | .hbm, ⟨2, _⟩ => ⟨S16x4096x4x128, .f32⟩
  | .hbm, ⟨3, _⟩ => ⟨S16x4096x4, .f32⟩
  | .hbm, ⟨4, _⟩ => ⟨S16x4x4096, .f32⟩
  | .hbm, ⟨5, _⟩ => ⟨S16x4x4096x4096, .f32⟩
  | .hbm, ⟨6, _⟩ => ⟨S_, .f32⟩
  | .hbm, ⟨7, _⟩ => ⟨S16x4x4096x4096, .f32⟩
  | .hbm, ⟨8, _⟩ => ⟨S16x4x4096x4096, .f32⟩
  | .hbm, ⟨9, _⟩ => ⟨S16x4x4096x1, .f32⟩
  | .hbm, ⟨10, _⟩ => ⟨S16x4x4096x4096, .f32⟩
  | .hbm, ⟨11, _⟩ => ⟨S16x4x4096x4096, .f32⟩
  | .hbm, ⟨12, _⟩ => ⟨S16x4x1x4096, .f32⟩
  | .hbm, ⟨13, _⟩ => ⟨S16x4x4096x4096, .f32⟩
  | .hbm, ⟨14, _⟩ => ⟨S16x4x4096x4096, .f32⟩
  | .hbm, ⟨15, _⟩ => ⟨S4096, .i32⟩
  | .hbm, ⟨16, _⟩ => ⟨S4096x1, .i32⟩
  | .hbm, ⟨17, _⟩ => ⟨S4096, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S16x4x4096x4096, .i1⟩
  | .hbm, ⟨25, _⟩ => ⟨S16x4x4096x4096, .f32⟩
  | .hbm, ⟨26, _⟩ => ⟨S16x4x4096x4096, .f32⟩
  | .hbm, ⟨27, _⟩ => ⟨S_, .f32⟩
  | .hbm, ⟨28, _⟩ => ⟨S16x4x4096, .f32⟩
  | .hbm, ⟨29, _⟩ => ⟨S_, .f32⟩
  | .hbm, ⟨30, _⟩ => ⟨S16x4x4096, .f32⟩
  | .hbm, ⟨31, _⟩ => ⟨S16x4x4096, .f32⟩
  | .hbm, ⟨32, _⟩ => ⟨S16x4x4096x1, .f32⟩
  | .hbm, ⟨33, _⟩ => ⟨S16x4x4096x4096, .f32⟩
  | .hbm, ⟨34, _⟩ => ⟨S16x4x4096x4096, .f32⟩
  | .hbm, ⟨35, _⟩ => ⟨S16x4x4096x4096, .f32⟩
  | .hbm, ⟨36, _⟩ => ⟨S_, .f32⟩
  | .hbm, ⟨37, _⟩ => ⟨S16x4x4096, .f32⟩
  | .hbm, ⟨38, _⟩ => ⟨S16x4x4096x1, .f32⟩
  | .hbm, ⟨39, _⟩ => ⟨S16x4x4096x4096, .f32⟩
  | .hbm, ⟨40, _⟩ => ⟨S16x4x4096x4096, .f32⟩
  | .hbm, ⟨41, _⟩ => ⟨S16x4x128x4096, .f32⟩
  | .hbm, ⟨42, _⟩ => ⟨S16x4096x4x128, .f32⟩
  | .hbm, ⟨43, _⟩ => ⟨S16x4096x512, .f32⟩
  | .hbm, ⟨44, _⟩ => ⟨S16x4096x512, .bf16⟩
  | _, _ => ⟨S16x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S1024x3072 : Shape := ⟨2, ![1024, 3072]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S65536x1024 : Shape := ⟨2, ![65536, 1024]⟩
abbrev S65536x512 : Shape := ⟨2, ![65536, 512]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩

abbrev nBuf : Space → Nat
  | .hbm => 26
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S1024x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x3072, .bf16⟩
  | .hbm, ⟨12, _⟩ => ⟨S512x1024, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S65536x1024, .f32⟩
  | .hbm, ⟨19, _⟩ => ⟨S16x4096x512, .bf16⟩
  | .hbm, ⟨20, _⟩ => ⟨S65536x512, .bf16⟩
  | .hbm, ⟨21, _⟩ => ⟨S16x4096x512, .bf16⟩
  | .hbm, ⟨22, _⟩ => ⟨S65536x512, .bf16⟩
  | .hbm, ⟨23, _⟩ => ⟨S16x4096x512, .bf16⟩
  | .hbm, ⟨24, _⟩ => ⟨S65536x512, .bf16⟩
  | .hbm, ⟨25, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x3072, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16x4096x1024 : Shape := ⟨3, ![16, 4096, 1024]⟩
abbrev S16x4096x512 : Shape := ⟨3, ![16, 4096, 512]⟩
abbrev S1024x3072 : Shape := ⟨2, ![1024, 3072]⟩
abbrev S512x1024 : Shape := ⟨2, ![512, 1024]⟩
abbrev S1024x1024 : Shape := ⟨2, ![1024, 1024]⟩
abbrev S1024 : Shape := ⟨1, ![1024]⟩
abbrev S16x4096x3072 : Shape := ⟨3, ![16, 4096, 3072]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S1024x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S16x4096x3072, .f32⟩
  | .hbm, ⟨12, _⟩ => ⟨S16x4096x3072, .f32⟩
  | .hbm, ⟨13, _⟩ => ⟨S16x4096x3072, .f32⟩
  | .hbm, ⟨14, _⟩ => ⟨S_, .f32⟩
  | .hbm, ⟨15, _⟩ => ⟨S16x4096x3072, .f32⟩
  | .hbm, ⟨16, _⟩ => ⟨S16x4096x3072, .f32⟩
  | .hbm, ⟨17, _⟩ => ⟨S_, .f32⟩
  | .hbm, ⟨18, _⟩ => ⟨S16x4096x3072, .f32⟩
  | .hbm, ⟨19, _⟩ => ⟨S16x4096x3072, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S_, .f32⟩
  | .hbm, ⟨40, _⟩ => ⟨S16x4096x1, .f32⟩
  | .hbm, ⟨41, _⟩ => ⟨S16x4096x1, .f32⟩
  | .hbm, ⟨42, _⟩ => ⟨S16x4096x1024, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S_, .f32⟩
  | .hbm, ⟨49, _⟩ => ⟨S16x4096x1, .f32⟩
  | .hbm, ⟨50, _⟩ => ⟨S16x4096x1, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x4096x1, .f32⟩
  | .hbm, ⟨55, _⟩ => ⟨S16x4096x1, .f32⟩
  | .hbm, ⟨56, _⟩ => ⟨S16x4096x1, .f32⟩
  | .hbm, ⟨57, _⟩ => ⟨S16x4096x1024, .f32⟩
  | .hbm, ⟨58, _⟩ => ⟨S16x4096x1024, .f32⟩
  | .hbm, ⟨59, _⟩ => ⟨S1x1x1024, .f32⟩
  | .hbm, ⟨60, _⟩ => ⟨S16x4096x1024, .f32⟩
  | .hbm, ⟨61, _⟩ => ⟨S16x4096x1024, .f32⟩
  | .hbm, ⟨62, _⟩ => ⟨S1x1x1024, .f32⟩
  | .hbm, ⟨63, _⟩ => ⟨S16x4096x1024, .f32⟩
  | .hbm, ⟨64, _⟩ => ⟨S16x4096x1024, .f32⟩
  | .hbm, ⟨65, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S65536x1024 : Shape := ⟨2, ![65536, 1024]⟩
abbrev S512x1024 : Shape := ⟨2, ![512, 1024]⟩
abbrev S520x2816 : Shape := ⟨2, ![520, 2816]⟩
abbrev S8x2816 : Shape := ⟨2, ![8, 2816]⟩
abbrev S1024x1408 : Shape := ⟨2, ![1024, 1408]⟩
abbrev S512x1408 : Shape := ⟨2, ![512, 1408]⟩
abbrev S1x1408 : Shape := ⟨2, ![1, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S1x2816, .f32⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S65536x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S3x2816, .f32⟩
  | .local _ .vmem, ⟨4, _⟩ => ⟨S1x2816, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S520x2816, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16x4096x1024 : Shape := ⟨3, ![16, 4096, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S16x4096x5632 : Shape := ⟨3, ![16, 4096, 5632]⟩
abbrev S16x4096x2816 : Shape := ⟨3, ![16, 4096, 2816]⟩
abbrev S_ : Shape := ⟨0, ![]⟩
abbrev S16x4098x2816 : Shape := ⟨3, ![16, 4098, 2816]⟩
abbrev S1x2816 : Shape := ⟨2, ![1, 2816]⟩
abbrev S1x1x2816 : Shape := ⟨3, ![1, 1, 2816]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S16x4096x5632, .f32⟩
  | .hbm, ⟨8, _⟩ => ⟨S16x4096x2816, .f32⟩
  | .hbm, ⟨9, _⟩ => ⟨S16x4096x2816, .f32⟩
  | .hbm, ⟨10, _⟩ => ⟨S_, .i32⟩
  | .hbm, ⟨11, _⟩ => ⟨S_, .f32⟩
  | .hbm, ⟨12, _⟩ => ⟨S16x4098x2816, .f32⟩
  | .hbm, ⟨13, _⟩ => ⟨S1x2816, .f32⟩
  | .hbm, ⟨14, _⟩ => ⟨S2816, .f32⟩
  | .hbm, ⟨15, _⟩ => ⟨S16x4096x2816, .f32⟩
  | .hbm, ⟨16, _⟩ => ⟨S1x1x2816, .f32⟩
  | .hbm, ⟨17, _⟩ => ⟨S16x4096x2816, .f32⟩
  | .hbm, ⟨18, _⟩ => ⟨S16x4096x2816, .f32⟩
  | .hbm, ⟨19, _⟩ => ⟨S_, .f32⟩
  | .hbm, ⟨20, _⟩ => ⟨S16x4096x2816, .f32⟩
  | .hbm, ⟨21, _⟩ => ⟨S16x4096x2816, .f32⟩
  | .hbm, ⟨22, _⟩ => ⟨S1x2816, .f32⟩
  | .hbm, ⟨23, _⟩ => ⟨S2816, .f32⟩
  | .hbm, ⟨24, _⟩ => ⟨S16x4096x2816, .f32⟩
  | .hbm, ⟨25, _⟩ => ⟨S1x1x2816, .f32⟩
  | .hbm, ⟨26, _⟩ => ⟨S16x4096x2816, .f32⟩
  | .hbm, ⟨27, _⟩ => ⟨S16x4096x2816, .f32⟩
  | .hbm, ⟨28, _⟩ => ⟨S16x4096x2816, .f32⟩
  | .hbm, ⟨29, _⟩ => ⟨S1x2816, .f32⟩
  | .hbm, ⟨30, _⟩ => ⟨S2816, .f32⟩
  | .hbm, ⟨31, _⟩ => ⟨S16x4096x2816, .f32⟩
  | .hbm, ⟨32, _⟩ => ⟨S1x1x2816, .f32⟩
  | .hbm, ⟨33, _⟩ => ⟨S16x4096x2816, .f32⟩
  | .hbm, ⟨34, _⟩ => ⟨S16x4096x2816, .f32⟩
  | .hbm, ⟨35, _⟩ => ⟨S16x4096x2816, .f32⟩
  | .hbm, ⟨36, _⟩ => ⟨S1x1x2816, .f32⟩
  | .hbm, ⟨37, _⟩ => ⟨S16x4096x2816, .f32⟩
  | .hbm, ⟨38, _⟩ => ⟨S16x4096x2816, .f32⟩
  | .hbm, ⟨39, _⟩ => ⟨S16x4096x2816, .f32⟩
  | .hbm, ⟨40, _⟩ => ⟨S16x4096x2816, .f32⟩
  | .hbm, ⟨41, _⟩ => ⟨S_, .f32⟩
  | .hbm, ⟨42, _⟩ => ⟨S16x4096x2816, .f32⟩
  | .hbm, ⟨43, _⟩ => ⟨S16x4096x2816, .f32⟩
  | .hbm, ⟨44, _⟩ => ⟨S_, .f32⟩
  | .hbm, ⟨45, _⟩ => ⟨S16x4096x2816, .f32⟩
  | .hbm, ⟨46, _⟩ => ⟨S16x4096x2816, .f32⟩
  | .hbm, ⟨47, _⟩ => ⟨S16x4096x2816, .f32⟩
  | .hbm, ⟨48, _⟩ => ⟨S16x4096x2816, .f32⟩
  | .hbm, ⟨49, _⟩ => ⟨S16x4096x1024, .f32⟩
  | .hbm, ⟨50, _⟩ => ⟨S_, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S16x4096x1024, .f32⟩
  | .hbm, ⟨70, _⟩ => ⟨S16x4096x1024, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S16x4096x1, .f32⟩
  | .hbm, ⟨75, _⟩ => ⟨S16x4096x1024, .f32⟩
  | .hbm, ⟨76, _⟩ => ⟨S16x4096x1024, .f32⟩
  | .hbm, ⟨77, _⟩ => ⟨S1x1x1024, .f32⟩
  | .hbm, ⟨78, _⟩ => ⟨S16x4096x1024, .f32⟩
  | .hbm, ⟨79, _⟩ => ⟨S16x4096x1024, .f32⟩
  | .hbm, ⟨80, _⟩ => ⟨S1x1x1024, .f32⟩
  | .hbm, ⟨81, _⟩ => ⟨S16x4096x1024, .f32⟩
  | .hbm, ⟨82, _⟩ => ⟨S16x4096x1024, .f32⟩
  | .hbm, ⟨83, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_cst_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel4Ideal.lean ====
abbrev S16x4096x1024 : Shape := ⟨3, ![16, 4096, 1024]⟩
abbrev S16x4096x16 : Shape := ⟨3, ![16, 4096, 16]⟩
abbrev S16x4096x8 : Shape := ⟨3, ![16, 4096, 8]⟩
abbrev S1024x4428 : Shape := ⟨2, ![1024, 4428]⟩
abbrev S4 : Shape := ⟨1, ![4]⟩
abbrev S256 : Shape := ⟨1, ![256]⟩
abbrev S256x256 : Shape := ⟨2, ![256, 256]⟩
abbrev S1024x512 : Shape := ⟨2, ![1024, 512]⟩
abbrev S1024x4 : Shape := ⟨2, ![1024, 4]⟩
abbrev S1024x256 : Shape := ⟨2, ![1024, 256]⟩
abbrev S1024x64 : Shape := ⟨2, ![1024, 64]⟩
abbrev S1024x8 : Shape := ⟨2, ![1024, 8]⟩
abbrev S_ : Shape := ⟨0, ![]⟩
abbrev S1024x52 : Shape := ⟨2, ![1024, 52]⟩
abbrev S1x128 : Shape := ⟨2, ![1, 128]⟩
abbrev S1 : Shape := ⟨1, ![1]⟩
abbrev S2 : Shape := ⟨1, ![2]⟩
abbrev S1024x1536 : Shape := ⟨2, ![1024, 1536]⟩
abbrev S1024x128 : Shape := ⟨2, ![1024, 128]⟩
abbrev S1x256 : Shape := ⟨2, ![1, 256]⟩
abbrev S16x4096x96 : Shape := ⟨3, ![16, 4096, 96]⟩
abbrev S16x4096x128 : Shape := ⟨3, ![16, 4096, 128]⟩
abbrev S16x4096x48 : Shape := ⟨3, ![16, 4096, 48]⟩
abbrev S65536x128 : Shape := ⟨2, ![65536, 128]⟩
abbrev S65536x1024 : Shape := ⟨2, ![65536, 1024]⟩
abbrev S65536x512 : Shape := ⟨2, ![65536, 512]⟩
abbrev S512x65536 : Shape := ⟨2, ![512, 65536]⟩
abbrev S128x65536 : Shape := ⟨2, ![128, 65536]⟩
abbrev S512x1024 : Shape := ⟨2, ![512, 1024]⟩
abbrev S512x128 : Shape := ⟨2, ![512, 128]⟩
abbrev S512x512 : Shape := ⟨2, ![512, 512]⟩
abbrev S128x512 : Shape := ⟨2, ![128, 512]⟩
abbrev S512x1536 : Shape := ⟨2, ![512, 1536]⟩
abbrev S512x256 : Shape := ⟨2, ![512, 256]⟩
abbrev S512 : Shape := ⟨1, ![512]⟩
abbrev S512x1 : Shape := ⟨2, ![512, 1]⟩

abbrev nBuf : Space → Nat
  | .hbm => 78
  | .vmem => 44
  | .smem => 0
  | _ => 0

abbrev bufTy : (tb : Table) → Fin (tcTables nBuf tb) → BufTy
  | .hbm, ⟨0, _⟩ => ⟨S16x4096x1024, .f32⟩
  | .hbm, ⟨1, _⟩ => ⟨S16x4096x16, .f32⟩
  | .hbm, ⟨2, _⟩ => ⟨S16x4096x16, .f32⟩
  | .hbm, ⟨3, _⟩ => ⟨S16x4096x8, .f32⟩
  | .hbm, ⟨4, _⟩ => ⟨S16x4096x8, .f32⟩
  | .hbm, ⟨5, _⟩ => ⟨S1024x4428, .f32⟩
  | .hbm, ⟨6, _⟩ => ⟨S4, .f32⟩
  | .hbm, ⟨7, _⟩ => ⟨S256, .f32⟩
  | .hbm, ⟨8, _⟩ => ⟨S256x256, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x4, .f32⟩
  | .hbm, ⟨13, _⟩ => ⟨S1024x512, .f32⟩
  | .hbm, ⟨14, _⟩ => ⟨S1024x256, .f32⟩
  | .hbm, ⟨15, _⟩ => ⟨S1024x512, .f32⟩
  | .hbm, ⟨16, _⟩ => ⟨S1024x64, .f32⟩
  | .hbm, ⟨17, _⟩ => ⟨S1024x8, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x52, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S1024x1536, .f32⟩
  | .hbm, ⟨32, _⟩ => ⟨S1024x1536, .bf16⟩
  | .hbm, ⟨33, _⟩ => ⟨S1024x512, .bf16⟩
  | .hbm, ⟨34, _⟩ => ⟨S1024x256, .bf16⟩
  | .hbm, ⟨35, _⟩ => ⟨S1024x512, .bf16⟩
  | .hbm, ⟨36, _⟩ => ⟨S1024x1536, .f32⟩
  | .hbm, ⟨37, _⟩ => ⟨S1024x1536, .bf16⟩
  | .hbm, ⟨38, _⟩ => ⟨S1024x128, .f32⟩
  | .hbm, ⟨39, _⟩ => ⟨S1024x128, .bf16⟩
  | .hbm, ⟨40, _⟩ => ⟨S1x256, .f32⟩
  | .hbm, ⟨41, _⟩ => ⟨S256x256, .bf16⟩
  | .hbm, ⟨42, _⟩ => ⟨S_, .f32⟩
  | .hbm, ⟨43, _⟩ => ⟨S16x4096x96, .f32⟩
  | .hbm, ⟨44, _⟩ => ⟨S16x4096x128, .f32⟩
  | .hbm, ⟨45, _⟩ => ⟨S16x4096x16, .f32⟩
  | .hbm, ⟨46, _⟩ => ⟨S_, .f32⟩
  | .hbm, ⟨47, _⟩ => ⟨S16x4096x96, .f32⟩
  | .hbm, ⟨48, _⟩ => ⟨S16x4096x128, .f32⟩
  | .hbm, ⟨49, _⟩ => ⟨S_, .f32⟩
  | .hbm, ⟨50, _⟩ => ⟨S16x4096x48, .f32⟩
  | .hbm, ⟨51, _⟩ => ⟨S_, .f32⟩
  | .hbm, ⟨52, _⟩ => ⟨S16x4096x48, .f32⟩
  | .hbm, ⟨53, _⟩ => ⟨S16x4096x128, .f32⟩
  | .hbm, ⟨54, _⟩ => ⟨S16x4096x8, .f32⟩
  | .hbm, ⟨55, _⟩ => ⟨S_, .f32⟩
  | .hbm, ⟨56, _⟩ => ⟨S16x4096x48, .f32⟩
  | .hbm, ⟨57, _⟩ => ⟨S16x4096x8, .f32⟩
  | .hbm, ⟨58, _⟩ => ⟨S_, .f32⟩
  | .hbm, ⟨59, _⟩ => ⟨S16x4096x48, .f32⟩
  | .hbm, ⟨60, _⟩ => ⟨S16x4096x128, .f32⟩
  | .hbm, ⟨61, _⟩ => ⟨S65536x128, .f32⟩
  | .hbm, ⟨62, _⟩ => ⟨S65536x128, .f32⟩
  | .hbm, ⟨63, _⟩ => ⟨S65536x128, .f32⟩
  | .hbm, ⟨64, _⟩ => ⟨S65536x128, .f32⟩
  | .hbm, ⟨65, _⟩ => ⟨S65536x1024, .f32⟩
  | .hbm, ⟨66, _⟩ => ⟨S65536x512, .bf16⟩
  | .hbm, ⟨67, _⟩ => ⟨S65536x1024, .bf16⟩
  | .hbm, ⟨68, _⟩ => ⟨S512x65536, .bf16⟩
  | .hbm, ⟨69, _⟩ => ⟨S65536x512, .bf16⟩
  | .hbm, ⟨70, _⟩ => ⟨S65536x128, .bf16⟩
  | .hbm, ⟨71, _⟩ => ⟨S128x65536, .bf16⟩
  | .hbm, ⟨72, _⟩ => ⟨S65536x512, .bf16⟩
  | .hbm, ⟨73, _⟩ => ⟨S65536x128, .bf16⟩
  | .hbm, ⟨74, _⟩ => ⟨S65536x128, .f32⟩
  | .hbm, ⟨75, _⟩ => ⟨S65536x512, .bf16⟩
  | .hbm, ⟨76, _⟩ => ⟨S65536x512, .bf16⟩
  | .hbm, ⟨77, _⟩ => ⟨S512x65536, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1024x1536, .bf16⟩
  | .local _ .vmem, ⟨11, _⟩ => ⟨S1024x512, .bf16⟩
  | .local _ .vmem, ⟨12, _⟩ => ⟨S1024x256, .bf16⟩
  | .local _ .vmem, ⟨13, _⟩ => ⟨S1024x512, .bf16⟩
  | .local _ .vmem, ⟨14, _⟩ => ⟨S1024x1536, .bf16⟩
  | .local _ .vmem, ⟨15, _⟩ => ⟨S1024x128, .bf16⟩
  | .local _ .vmem, ⟨16, _⟩ => ⟨S1x128, .f32⟩
  | .local _ .vmem, ⟨17, _⟩ => ⟨S1x256, .f32⟩
  | .local _ .vmem, ⟨18, _⟩ => ⟨S256x256, .bf16⟩
  | .local _ .vmem, ⟨19, _⟩ => ⟨S512x512, .bf16⟩
  | .local _ .vmem, ⟨20, _⟩ => ⟨S512x512, .bf16⟩
  | .local _ .vmem, ⟨21, _⟩ => ⟨S512x1024, .bf16⟩
  | .local _ .vmem, ⟨22, _⟩ => ⟨S512x1024, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x128, .bf16⟩
  | .local _ .vmem, ⟨28, _⟩ => ⟨S512x128, .bf16⟩
  | .local _ .vmem, ⟨29, _⟩ => ⟨S128x512, .bf16⟩
  | .local _ .vmem, ⟨30, _⟩ => ⟨S128x512, .bf16⟩
  | .local _ .vmem, ⟨31, _⟩ => ⟨S512x512, .bf16⟩
  | .local _ .vmem, ⟨32, _⟩ => ⟨S512x512, .bf16⟩
  | .local _ .vmem, ⟨33, _⟩ => ⟨S512x128, .bf16⟩
  | .local _ .vmem, ⟨34, _⟩ => ⟨S512x128, .bf16⟩
  | .local _ .vmem, ⟨35, _⟩ => ⟨S512x128, .f32⟩
  | .local _ .vmem, ⟨36, _⟩ => ⟨S512x128, .f32⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S512x512, .bf16⟩
  | .local _ .vmem, ⟨43, _⟩ => ⟨S1x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v47_2 : Ref sig .tc := ⟨.hbm, 68, rfl⟩
abbrev main_v47_3 : Ref sig .tc := ⟨.hbm, 69, rfl⟩
abbrev main_v47_4 : Ref sig .tc := ⟨.hbm, 70, rfl⟩
abbrev main_v47_5 : Ref sig .tc := ⟨.hbm, 71, rfl⟩
abbrev main_v47_6 : Ref sig .tc := ⟨.hbm, 72, rfl⟩
abbrev main_v47_7 : Ref sig .tc := ⟨.hbm, 73, rfl⟩
abbrev main_v47_8 : Ref sig .tc := ⟨.hbm, 74, rfl⟩
abbrev main_v47_9 : Ref sig .tc := ⟨.hbm, 75, rfl⟩
abbrev main_v47_10 : Ref sig .tc := ⟨.hbm, 76, rfl⟩
abbrev main_v47_11 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference4Ideal.lean ====
abbrev S16x4096x1024 : Shape := ⟨3, ![16, 4096, 1024]⟩
abbrev S16x4096x16 : Shape := ⟨3, ![16, 4096, 16]⟩
abbrev S16x4096x8 : Shape := ⟨3, ![16, 4096, 8]⟩
abbrev S1024x4428 : Shape := ⟨2, ![1024, 4428]⟩
abbrev S4 : Shape := ⟨1, ![4]⟩
abbrev S256 : Shape := ⟨1, ![256]⟩
abbrev S256x256 : Shape := ⟨2, ![256, 256]⟩
abbrev S16x4096x4428 : Shape := ⟨3, ![16, 4096, 4428]⟩
abbrev S16x4096x512 : Shape := ⟨3, ![16, 4096, 512]⟩
abbrev S16x4096x4 : Shape := ⟨3, ![16, 4096, 4]⟩
abbrev S16x4096x256 : Shape := ⟨3, ![16, 4096, 256]⟩
abbrev S16x4096x64 : Shape := ⟨3, ![16, 4096, 64]⟩
abbrev S_ : Shape := ⟨0, ![]⟩
abbrev S16x4096 : Shape := ⟨2, ![16, 4096]⟩
abbrev S16x4096x1 : Shape := ⟨3, ![16, 4096, 1]⟩
abbrev S1x1x256 : Shape := ⟨3, ![1, 1, 256]⟩
abbrev S16x4096x128 : Shape := ⟨3, ![16, 4096, 128]⟩
abbrev S16x4096x4x128 : Shape := ⟨4, ![16, 4096, 4, 128]⟩
abbrev S16x4096x1x128 : Shape := ⟨4, ![16, 4096, 1, 128]⟩
abbrev S16x4096x5x128 : Shape := ⟨4, ![16, 4096, 5, 128]⟩
abbrev S16x4096x1x16 : Shape := ⟨4, ![16, 4096, 1, 16]⟩
abbrev S16x4096x5x16 : Shape := ⟨4, ![16, 4096, 5, 16]⟩
abbrev S16x4096x5x96 : Shape := ⟨4, ![16, 4096, 5, 96]⟩
abbrev S16x4096x8x64 : Shape := ⟨4, ![16, 4096, 8, 64]⟩
abbrev S16x4096x1x64 : Shape := ⟨4, ![16, 4096, 1, 64]⟩
abbrev S16x4096x25x64 : Shape := ⟨4, ![16, 4096, 25, 64]⟩
abbrev S16x4096x1x8 : Shape := ⟨4, ![16, 4096, 1, 8]⟩
abbrev S16x4096x25x8 : Shape := ⟨4, ![16, 4096, 25, 8]⟩
abbrev S16x4096x25x48 : Shape := ⟨4, ![16, 4096, 25, 48]⟩
abbrev S65536x512 : Shape := ⟨2, ![65536, 512]⟩
abbrev S512x65536 : Shape := ⟨2, ![512, 65536]⟩
abbrev S65536x128 : Shape := ⟨2, ![65536, 128]⟩
abbrev S128x65536 : Shape := ⟨2, ![128, 65536]⟩

abbrev nBuf : Space → Nat
  | .hbm => 123
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x16, .f32⟩
  | .hbm, ⟨2, _⟩ => ⟨S16x4096x16, .f32⟩
  | .hbm, ⟨3, _⟩ => ⟨S16x4096x8, .f32⟩
  | .hbm, ⟨4, _⟩ => ⟨S16x4096x8, .f32⟩
  | .hbm, ⟨5, _⟩ => ⟨S1024x4428, .f32⟩
  | .hbm, ⟨6, _⟩ => ⟨S4, .f32⟩
  | .hbm, ⟨7, _⟩ => ⟨S256, .f32⟩
  | .hbm, ⟨8, _⟩ => ⟨S256x256, .f32⟩
  | .hbm, ⟨9, _⟩ => ⟨S16x4096x4428, .f32⟩
  | .hbm, ⟨10, _⟩ => ⟨S16x4096x512, .f32⟩
  | .hbm, ⟨11, _⟩ => ⟨S16x4096x512, .f32⟩
  | .hbm, ⟨12, _⟩ => ⟨S16x4096x512, .f32⟩
  | .hbm, ⟨13, _⟩ => ⟨S16x4096x4, .f32⟩
  | .hbm, ⟨14, _⟩ => ⟨S16x4096x512, .f32⟩
  | .hbm, ⟨15, _⟩ => ⟨S16x4096x256, .f32⟩
  | .hbm, ⟨16, _⟩ => ⟨S16x4096x512, .f32⟩
  | .hbm, ⟨17, _⟩ => ⟨S16x4096x64, .f32⟩
  | .hbm, ⟨18, _⟩ => ⟨S16x4096x8, .f32⟩
  | .hbm, ⟨19, _⟩ => ⟨S16x4096x512, .f32⟩
  | .hbm, ⟨20, _⟩ => ⟨S16x4096x512, .f32⟩
  | .hbm, ⟨21, _⟩ => ⟨S16x4096x512, .f32⟩
  | .hbm, ⟨22, _⟩ => ⟨S16x4096x256, .f32⟩
  | .hbm, ⟨23, _⟩ => ⟨S_, .f32⟩
  | .hbm, ⟨24, _⟩ => ⟨S16x4096, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S_, .f32⟩
  | .hbm, ⟨30, _⟩ => ⟨S16x4096x1, .f32⟩
  | .hbm, ⟨31, _⟩ => ⟨S16x4096x1, .f32⟩
  | .hbm, ⟨32, _⟩ => ⟨S16x4096x1, .f32⟩
  | .hbm, ⟨33, _⟩ => ⟨S16x4096x256, .f32⟩
  | .hbm, ⟨34, _⟩ => ⟨S16x4096x256, .f32⟩
  | .hbm, ⟨35, _⟩ => ⟨S1x1x256, .f32⟩
  | .hbm, ⟨36, _⟩ => ⟨S16x4096x256, .f32⟩
  | .hbm, ⟨37, _⟩ => ⟨S16x4096x256, .f32⟩
  | .hbm, ⟨38, _⟩ => ⟨S16x4096x256, .f32⟩
  | .hbm, ⟨39, _⟩ => ⟨S16x4096x128, .f32⟩
  | .hbm, ⟨40, _⟩ => ⟨S16x4096x4x128, .f32⟩
  | .hbm, ⟨41, _⟩ => ⟨S16x4096x128, .f32⟩
  | .hbm, ⟨42, _⟩ => ⟨S16x4096x1x128, .f32⟩
  | .hbm, ⟨43, _⟩ => ⟨S16x4096x5x128, .f32⟩
  | .hbm, ⟨44, _⟩ => ⟨S16x4096x1x16, .f32⟩
  | .hbm, ⟨45, _⟩ => ⟨S16x4096x1x16, .f32⟩
  | .hbm, ⟨46, _⟩ => ⟨S16x4096x5x16, .f32⟩
  | .hbm, ⟨47, _⟩ => ⟨S16x4096x5x16, .f32⟩
  | .hbm, ⟨48, _⟩ => ⟨S16x4096x5x16, .f32⟩
  | .hbm, ⟨49, _⟩ => ⟨S16x4096x5x16, .f32⟩
  | .hbm, ⟨50, _⟩ => ⟨S16x4096x5x16, .f32⟩
  | .hbm, ⟨51, _⟩ => ⟨S16x4096x5x16, .f32⟩
  | .hbm, ⟨52, _⟩ => ⟨S16x4096x5x16, .f32⟩
  | .hbm, ⟨53, _⟩ => ⟨S16x4096x5x16, .f32⟩
  | .hbm, ⟨54, _⟩ => ⟨S16x4096x5x16, .f32⟩
  | .hbm, ⟨55, _⟩ => ⟨S16x4096x5x16, .f32⟩
  | .hbm, ⟨56, _⟩ => ⟨S16x4096x5x16, .f32⟩
  | .hbm, ⟨57, _⟩ => ⟨S16x4096x5x16, .f32⟩
  | .hbm, ⟨58, _⟩ => ⟨S16x4096x5x96, .f32⟩
  | .hbm, ⟨59, _⟩ => ⟨S16x4096x5x128, .f32⟩
  | .hbm, ⟨60, _⟩ => ⟨S16x4096x4x128, .f32⟩
  | .hbm, ⟨61, _⟩ => ⟨S_, .f32⟩
  | .hbm, ⟨62, _⟩ => ⟨S16x4096x4x128, .f32⟩
  | .hbm, ⟨63, _⟩ => ⟨S16x4096x4x128, .f32⟩
  | .hbm, ⟨64, _⟩ => ⟨S16x4096x1x128, .f32⟩
  | .hbm, ⟨65, _⟩ => ⟨S16x4096x8x64, .f32⟩
  | .hbm, ⟨66, _⟩ => ⟨S16x4096x1x64, .f32⟩
  | .hbm, ⟨67, _⟩ => ⟨S16x4096x8x64, .f32⟩
  | .hbm, ⟨68, _⟩ => ⟨S16x4096x8x64, .f32⟩
  | .hbm, ⟨69, _⟩ => ⟨S16x4096x25x64, .f32⟩
  | .hbm, ⟨70, _⟩ => ⟨S16x4096x1x8, .f32⟩
  | .hbm, ⟨71, _⟩ => ⟨S16x4096x1x8, .f32⟩
  | .hbm, ⟨72, _⟩ => ⟨S16x4096x25x8, .f32⟩
  | .hbm, ⟨73, _⟩ => ⟨S16x4096x25x8, .f32⟩
  | .hbm, ⟨74, _⟩ => ⟨S16x4096x25x8, .f32⟩
  | .hbm, ⟨75, _⟩ => ⟨S16x4096x25x8, .f32⟩
  | .hbm, ⟨76, _⟩ => ⟨S16x4096x25x8, .f32⟩
  | .hbm, ⟨77, _⟩ => ⟨S16x4096x25x8, .f32⟩
  | .hbm, ⟨78, _⟩ => ⟨S16x4096x25x8, .f32⟩
  | .hbm, ⟨79, _⟩ => ⟨S16x4096x25x8, .f32⟩
  | .hbm, ⟨80, _⟩ => ⟨S16x4096x25x8, .f32⟩
  | .hbm, ⟨81, _⟩ => ⟨S16x4096x25x8, .f32⟩
  | .hbm, ⟨82, _⟩ => ⟨S16x4096x25x8, .f32⟩
  | .hbm, ⟨83, _⟩ => ⟨S16x4096x25x8, .f32⟩
  | .hbm, ⟨84, _⟩ => ⟨S16x4096x25x48, .f32⟩
  | .hbm, ⟨85, _⟩ => ⟨S16x4096x25x64, .f32⟩
  | .hbm, ⟨86, _⟩ => ⟨S16x4096x8x64, .f32⟩
  | .hbm, ⟨87, _⟩ => ⟨S_, .f32⟩
  | .hbm, ⟨88, _⟩ => ⟨S16x4096x8x64, .f32⟩
  | .hbm, ⟨89, _⟩ => ⟨S16x4096x8x64, .f32⟩
  | .hbm, ⟨90, _⟩ => ⟨S16x4096x1x64, .f32⟩
  | .hbm, ⟨91, _⟩ => ⟨S16x4096x8x64, .f32⟩
  | .hbm, ⟨92, _⟩ => ⟨S_, .f32⟩
  | .hbm, ⟨93, _⟩ => ⟨S16x4096x8x64, .f32⟩
  | .hbm, ⟨94, _⟩ => ⟨S16x4096x8x64, .f32⟩
  | .hbm, ⟨95, _⟩ => ⟨S16x4096x8x64, .f32⟩
  | .hbm, ⟨96, _⟩ => ⟨S_, .f32⟩
  | .hbm, ⟨97, _⟩ => ⟨S16x4096x512, .f32⟩
  | .hbm, ⟨98, _⟩ => ⟨S16x4096x512, .f32⟩
  | .hbm, ⟨99, _⟩ => ⟨S65536x512, .f32⟩
  | .hbm, ⟨100, _⟩ => ⟨S65536x512, .bf16⟩
  | .hbm, ⟨101, _⟩ => ⟨S65536x512, .f32⟩
  | .hbm, ⟨102, _⟩ => ⟨S65536x512, .bf16⟩
  | .hbm, ⟨103, _⟩ => ⟨S512x65536, .bf16⟩
  | .hbm, ⟨104, _⟩ => ⟨S65536x512, .f32⟩
  | .hbm, ⟨105, _⟩ => ⟨S65536x512, .bf16⟩
  | .hbm, ⟨106, _⟩ => ⟨S65536x128, .f32⟩
  | .hbm, ⟨107, _⟩ => ⟨S65536x128, .bf16⟩
  | .hbm, ⟨108, _⟩ => ⟨S65536x128, .f32⟩
  | .hbm, ⟨109, _⟩ => ⟨S65536x128, .bf16⟩
  | .hbm, ⟨110, _⟩ => ⟨S128x65536, .bf16⟩
  | .hbm, ⟨111, _⟩ => ⟨S65536x512, .f32⟩
  | .hbm, ⟨112, _⟩ => ⟨S65536x512, .bf16⟩
  | .hbm, ⟨113, _⟩ => ⟨S16x4096x1x128, .f32⟩
  | .hbm, ⟨114, _⟩ => ⟨S65536x128, .f32⟩
  | .hbm, ⟨115, _⟩ => ⟨S65536x128, .bf16⟩
  | .hbm, ⟨116, _⟩ => ⟨S65536x512, .f32⟩
  | .hbm, ⟨117, _⟩ => ⟨S65536x512, .bf16⟩
  | .hbm, ⟨118, _⟩ => ⟨S65536x512, .f32⟩
  | .hbm, ⟨119, _⟩ => ⟨S65536x512, .bf16⟩
  | .hbm, ⟨120, _⟩ => ⟨S65536x512, .f32⟩
  | .hbm, ⟨121, _⟩ => ⟨S65536x512, .bf16⟩
  | .hbm, ⟨122, _⟩ => ⟨S512x65536, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_3 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_4 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_5 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩

abbrev nD : Nat := 1
abbrev τ : Topo := Topo.v7x

variable {F : FTy → Type} [FloatOps F]
-- ==== Proof.Fox.Struct.lean ====
/- The attention kernel's body, written by its steps: the reset of the running state, the transposed queries, one block of
   logits per head (`issue`), and one block absorbed per head (`absorb`), each once for every place the kernel uses it. -/
module

public import proofs.«01_k».proof.Proof.Gen.KernelIdeal

@[expose] public section

set_option maxRecDepth 16384

noncomputable section

namespace Cert.KernelIdeal.Fox

open Idealize.ShloMosaic Idealize.SL.Sem Cert.KernelIdeal Cert.KernelIdeal.Gen

variable {F : FTy → Type} [FloatOps F]

/-- Programs of the kernel's core. -/
abbrev PR (F : FTy → Type) [FloatOps F] (α : Type) : Type _ := Prog (TpuEff nD τ sig (Elt F) Λ₀ .tc) α

/-- The memrefs the body is called with. -/
structure Refs where
  a3 : Memref sig .tc .vmem S1x256x512 .bf16
  h3 : a3.IsWhole
  a4 : Memref sig .tc .vmem S1x4096x1024 .bf16
  h4 : a4.IsWhole
  a5 : Memref sig .tc .vmem S512x4096 .bf16
  h5 : a5.IsWhole
  a6 : Memref sig .tc .vmem S1x256x512 .bf16
  h6 : a6.IsWhole
  a7 : Memref sig .tc .vmem S4x256x256 .bf16
  h7 : a7.IsWhole
  a8 : Memref sig .tc .vmem S2x4x256x256 .f32
  h8 : a8.IsWhole
  a9 : Memref sig .tc .vmem S2x4x8x256 .f32
  h9 : a9.IsWhole
  a10 : Memref sig .tc .vmem S4x256x256 .bf16
  h10 : a10.IsWhole
  a11 : Memref sig .tc .vmem S4x1x256 .f32
  h11 : a11.IsWhole
  a12 : Memref sig .tc .vmem S4x144x256 .f32
  h12 : a12.IsWhole

/-! ## Bounds of the accesses -/

theorem inb6 {g : ℕ} (hg : g < 4) : ∀ a, (![0, 0, 128 * g] : Fin 3 → ℕ) a + S1x256x128.size a ≤ S1x256x512.size a := by
  intro a; fin_cases a <;> simp <;> omega
theorem inb7 {g r : ℕ} (hg : g < 4) (hr : r + 128 ≤ 256) : ∀ a, (![g, r, 0] : Fin 3 → ℕ) a + S1x128x256.size a ≤ S4x256x256.size a := by
  intro a; fin_cases a <;> simp <;> omega
theorem inb7f {g : ℕ} (hg : g < 4) : ∀ a, (![g, 0, 0] : Fin 3 → ℕ) a + S1x256x256.size a ≤ S4x256x256.size a := by
  intro a; fin_cases a <;> simp <;> omega
theorem inb8 {b g : ℕ} (hb : b < 2) (hg : g < 4) : ∀ a, (![b, g, 0, 0] : Fin 4 → ℕ) a + S1x1x256x256.size a ≤ S2x4x256x256.size a := by
  intro a; fin_cases a <;> simp <;> omega
theorem inb8s {b g r : ℕ} (hb : b < 2) (hg : g < 4) (hr : r + 32 ≤ 256) :
    ∀ a, (![b, g, r, 0] : Fin 4 → ℕ) a + S1x1x32x256.size a ≤ S2x4x256x256.size a := by
  intro a; fin_cases a <;> simp <;> omega
theorem inb9 {b g : ℕ} (hb : b < 2) (hg : g < 4) : ∀ a, (![b, g, 0, 0] : Fin 4 → ℕ) a + S1x1x8x256.size a ≤ S2x4x8x256.size a := by
  intro a; fin_cases a <;> simp <;> omega
theorem inb10 {g r : ℕ} (hg : g < 4) (hr : r + 32 ≤ 256) : ∀ a, (![g, r, 0] : Fin 3 → ℕ) a + S1x32x256.size a ≤ S4x256x256.size a := by
  intro a; fin_cases a <;> simp <;> omega
theorem inb11 {g : ℕ} (hg : g < 4) : ∀ a, (![g, 0, 0] : Fin 3 → ℕ) a + S1x1x256.size a ≤ S4x1x256.size a := by
  intro a; fin_cases a <;> simp <;> omega
theorem inb12 {g : ℕ} (hg : g < 4) : ∀ a, (![g, 0, 0] : Fin 3 → ℕ) a + S1x144x256.size a ≤ S4x144x256.size a := by
  intro a; fin_cases a <;> simp <;> omega
theorem inb12v {g : ℕ} (hg : g < 4) : ∀ a, (![g, 0, 0] : Fin 3 → ℕ) a + S1x128x256.size a ≤ S4x144x256.size a := by
  intro a; fin_cases a <;> simp <;> omega
theorem inb12l {g : ℕ} (hg : g < 4) : ∀ a, (![g, 128, 0] : Fin 3 → ℕ) a + S1x1x256.size a ≤ S4x144x256.size a := by
  intro a; fin_cases a <;> simp <;> omega

theorem pk10 {g r : ℕ} (hg : g < 4) (hr : r + 32 ≤ 256) (h : r % 32 = 0) :
    (Rect.unit (s := S4x256x256) ![g, r, 0] S1x32x256.size (inb10 hg hr)).PackedRows (EltTy.packing .bf16) := by
  have key : ∀ (g : Fin 4) (j : Fin 8) (hi), (Rect.unit (s := S4x256x256) ![g.val, 32 * j.val, 0] S1x32x256.size hi).PackedRows (EltTy.packing .bf16) := by
    decide +kernel
  obtain ⟨j, rfl⟩ : ∃ j, r = 32 * j := ⟨r / 32, by omega⟩
  exact key ⟨g, hg⟩ ⟨j, by omega⟩ _
theorem pk7 {g r : ℕ} (hg : g < 4) (hr : r + 128 ≤ 256) (h : r % 128 = 0) :
    (Rect.unit (s := S4x256x256) ![g, r, 0] S1x128x256.size (inb7 hg hr)).PackedRows (EltTy.packing .bf16) := by
  have key : ∀ (g : Fin 4) (j : Fin 2) (hi), (Rect.unit (s := S4x256x256) ![g.val, 128 * j.val, 0] S1x128x256.size hi).PackedRows (EltTy.packing .bf16) := by
    decide +kernel
  obtain ⟨j, rfl⟩ : ∃ j, r = 128 * j := ⟨r / 128, by omega⟩
  exact key ⟨g, hg⟩ ⟨j, by omega⟩ _
theorem pk6 {g : ℕ} (hg : g < 4) :
    (Rect.unit (s := S1x256x512) ![0, 0, 128 * g] S1x256x128.size (inb6 hg)).PackedRows (EltTy.packing .bf16) := by
  have key : ∀ (g : Fin 4) (hi), (Rect.unit (s := S1x256x512) ![0, 0, 128 * g.val] S1x256x128.size hi).PackedRows (EltTy.packing .bf16) := by
    decide +kernel
  exact key ⟨g, hg⟩ _

variable (R : Refs)

/-! ## The pure steps -/

/-- The largest of eight rows each, of one strip of 32 rows. -/
def stripMax (x : FVec F S32x256 .f32) : FVec F S8x256 .f32 :=
  multiReduction .maximumf [0] S8x256 (shapeCast S4x8x256 x shapeCasts_S32x256_S4x8x256) 0xFF800000#32 reduces_S4x8x256_S8x256 (.inl rfl) rfl

/-- The strip with its keys after the query's position at negative infinity. -/
def diagMask (r : ℕ) (x : FVec F S32x256 .f32) : FVec F S32x256 .f32 :=
  select (cmpi .sle (addi (broadcast S32x256 (BitVec.ofNat 32 r)) (iota .tc S32x256 32 [0] iota_S32x256_d0_w32)) (iota .tc S32x256 32 [1] iota_S32x256_d1_w32))
    x (broadcast S32x256 (Scalar.ofBits .f32 0xFF800000#32))

/-- The new running maximum, from the old one and the block's partial maxima. -/
def mNew (mold : FVec F S1x256 .f32) (mp : FVec F S8x256 .f32) : FVec F S1x256 .f32 :=
  maximumf mold (shapeCast S1x256 (multiReduction .maximumf [0] S256 mp 0xFF800000#32 reduces_S8x256_S256 (.inl rfl) rfl) shapeCasts_S256_S1x256)

/-- The factor the old sums are rescaled by. -/
def alphaOf (mold mnew : FVec F S1x256 .f32) : FVec F S1x256 .f32 := exp2 (subf mold mnew)

/-- The weights of a strip. -/
def pStrip (mnew : FVec F S1x256 .f32) (x : FVec F S32x256 .f32) : FVec F S32x256 .bf16 :=
  truncf .bf16 (exp2 (subf x (broadcastTo S32x256 mnew broadcasts_S1x256_S32x256))) bitsLt_bf16_f32

/-- Rows of ones, under the values. -/
def ones16 : FVec F S16x256 .bf16 := broadcast S16x256 (Scalar.ofBits .bf16 0x3F80#16)

/-- The new sums of a head. -/
def accNew (acc : FVec F S144x256 .f32) (alpha : FVec F S1x256 .f32) (v : FVec F S128x256 .bf16) (p : FVec F S256x256 .bf16) : FVec F S144x256 .f32 :=
  addf (mulf (broadcastTo S144x256 alpha broadcasts_S1x256_S144x256) acc)
    (matmul dot_S144x256_S256x256_S144x256_1_0_0_1_n_n none
      (concatenate S144x256 0 [⟨S128x256, shapeCast S128x256 v shapeCasts_S128x256_S128x256⟩, ⟨S16x256, ones16⟩] concatenates_S128x256_S16x256_S144x256_d0)
      p (constant S144x256 .f32 0x00000000#32))

/-- A block of logits, keys by queries. -/
def logits (k : FVec F S1x256x256 .bf16) (q : FVec F S1x256x256 .bf16) : FVec F S256x256 .f32 :=
  matmul dot_S256x256_S256x256_S256x256_1_0_0_1_n_n none (shapeCast S256x256 k shapeCasts_S1x256x256_S256x256)
    (shapeCast S256x256 q shapeCasts_S1x256x256_S256x256) (constant S256x256 .f32 0x00000000#32)

/-- The partial maxima of a block of logits. -/
def blockMax (x : FVec F S256x256 .f32) : FVec F S8x256 .f32 :=
  maximumf (maximumf (maximumf (maximumf (maximumf (maximumf (maximumf
    (stripMax (extractStridedSlice S32x256 ![0, 0] x slices_S256x256_o0_0_S32x256))
    (stripMax (extractStridedSlice S32x256 ![32, 0] x slices_S256x256_o32_0_S32x256)))
    (stripMax (extractStridedSlice S32x256 ![64, 0] x slices_S256x256_o64_0_S32x256)))
    (stripMax (extractStridedSlice S32x256 ![96, 0] x slices_S256x256_o96_0_S32x256)))
    (stripMax (extractStridedSlice S32x256 ![128, 0] x slices_S256x256_o128_0_S32x256)))
    (stripMax (extractStridedSlice S32x256 ![160, 0] x slices_S256x256_o160_0_S32x256)))
    (stripMax (extractStridedSlice S32x256 ![192, 0] x slices_S256x256_o192_0_S32x256)))
    (stripMax (extractStridedSlice S32x256 ![224, 0] x slices_S256x256_o224_0_S32x256))

/-- The output strip of a head: its sums over their last row's weight. -/
def outStrip (v : FVec F S1x128x256 .f32) (l : FVec F S1x1x256 .f32) : FVec F S256x128 .bf16 :=
  truncf .bf16 (transpose S256x128 [1, 0]
    (divf (shapeCast S128x256 v shapeCasts_S1x128x256_S128x256)
      (broadcastTo S128x256 (shapeCast S1x256 l shapeCasts_S1x1x256_S1x256) broadcasts_S1x256_S128x256))
    transposes_S128x256_p1_0_S256x128) bitsLt_bf16_f32

/-- A head's queries, transposed. -/
def qT (q : FVec F S1x256x128 .bf16) : FVec F S128x256 .bf16 :=
  truncf .bf16 (transpose S128x256 [1, 0] (extf .f32 (shapeCast S256x128 q shapeCasts_S1x256x128_S256x128) bitsLt_bf16_f32)
    transposes_S256x128_p1_0_S128x256) bitsLt_bf16_f32

/-! ## The steps -/

/-- Head `g`'s logits at slot `b` from the keys at `ko`. -/
def issueHead (b g : ℕ) (hb : b < 2) (hg : g < 4) (ko : Fin 3 → ℕ) (hko : ∀ a, ko a + S1x256x256.size a ≤ S1x4096x1024.size a) : PR F PUnit := do
  let k : Vec F S1x256x256 .bf16 ← Prog.lift (.load R.a4 (Rect.unit (s := S1x4096x1024) ko S1x256x256.size hko).toLoadRect (View.loadsAt_vmem h_S1x256x256))
  let q : Vec F S1x256x256 .bf16 ← Prog.lift (.load R.a7 (Rect.unit (s := S4x256x256) ![g, 0, 0] S1x256x256.size (inb7f hg)).toLoadRect (View.loadsAt_vmem h_S1x256x256))
  let _d : Vec F S1x1x256x256 .f32 ← Prog.lift (.load R.a8 (Rect.unit (s := S2x4x256x256) ![b, g, 0, 0] S1x1x256x256.size (inb8 hb hg)).toLoadRect (View.loadsAt_vmem h_S1x1x256x256))
  Prog.lift (.store R.a8 (Rect.unit (s := S2x4x256x256) ![b, g, 0, 0] S1x1x256x256.size (inb8 hb hg)) (shapeCast S1x1x256x256 (logits k q) shapeCasts_S256x256_S1x1x256x256) Finset.univ (View.stores_vmem_bits_univ h_S1x1x256x256 rfl) (.inl rfl))
  let _d : Vec F S1x1x8x256 .f32 ← Prog.lift (.load R.a9 (Rect.unit (s := S2x4x8x256) ![b, g, 0, 0] S1x1x8x256.size (inb9 hb hg)).toLoadRect (View.loadsAt_vmem h_S1x1x8x256))
  Prog.lift (.store R.a9 (Rect.unit (s := S2x4x8x256) ![b, g, 0, 0] S1x1x8x256.size (inb9 hb hg)) (shapeCast S1x1x8x256 (blockMax (logits k q)) shapeCasts_S8x256_S1x1x8x256) Finset.univ (View.stores_vmem_bits_univ h_S1x1x8x256 rfl) (.inl rfl))

/-- One strip of logits. -/
def loadStrip (b g r : ℕ) (hb : b < 2) (hg : g < 4) (hr : r + 32 ≤ 256) : PR F (Vec F S1x1x32x256 .f32) :=
  Prog.lift (.load R.a8 (Rect.unit (s := S2x4x256x256) ![b, g, r, 0] S1x1x32x256.size (inb8s hb hg hr)).toLoadRect (View.loadsAt_vmem h_S1x1x32x256))

/-- One strip of weights stored. -/
def storeStrip (g r : ℕ) (hg : g < 4) (hr : r + 32 ≤ 256) (h : r % 32 = 0) (w : FVec F S32x256 .bf16) : PR F PUnit := do
  let _d : Vec F S1x32x256 .bf16 ← Prog.lift (.load R.a10 (Rect.unit (s := S4x256x256) ![g, r, 0] S1x32x256.size (inb10 hg hr)).toLoadRect (View.loadsAt_vmem h_S1x32x256))
  Prog.lift (.store R.a10 (Rect.unit (s := S4x256x256) ![g, r, 0] S1x32x256.size (inb10 hg hr)) (shapeCast S1x32x256 w shapeCasts_S32x256_S1x32x256) Finset.univ (View.stores_vmem h_S1x32x256 (R.h10.storeExact_slice rfl _ (pk10 hg hr h)) (fun _ => rfl)) (.inl rfl))

/-- One strip's weights. -/
def expStrip (b g r : ℕ) (hb : b < 2) (hg : g < 4) (hr : r + 32 ≤ 256) (h : r % 32 = 0) (mnew : FVec F S1x256 .f32) : PR F PUnit := do
  let x ← loadStrip R b g r hb hg hr
  storeStrip R g r hg hr h (pStrip mnew (shapeCast S32x256 x shapeCasts_S1x1x32x256_S32x256))

/-- One strip's weights on the diagonal. -/
def expStripD (b g r : ℕ) (hb : b < 2) (hg : g < 4) (hr : r + 32 ≤ 256) (h : r % 32 = 0) (mnew : FVec F S1x256 .f32) : PR F PUnit := do
  let x ← loadStrip R b g r hb hg hr
  storeStrip R g r hg hr h (pStrip mnew (diagMask r (shapeCast S32x256 x shapeCasts_S1x1x32x256_S32x256)))

/-- The running maximum stored. -/
def storeM (g : ℕ) (hg : g < 4) (mnew : FVec F S1x256 .f32) : PR F PUnit := do
  let _d : Vec F S1x1x256 .f32 ← Prog.lift (.load R.a11 (Rect.unit (s := S4x1x256) ![g, 0, 0] S1x1x256.size (inb11 hg)).toLoadRect (View.loadsAt_vmem h_S1x1x256))
  Prog.lift (.store R.a11 (Rect.unit (s := S4x1x256) ![g, 0, 0] S1x1x256.size (inb11 hg)) (shapeCast S1x1x256 mnew shapeCasts_S1x256_S1x1x256) Finset.univ (View.stores_vmem_bits_univ h_S1x1x256 rfl) (.inl rfl))

/-- The running maximum loaded. -/
def loadM (g : ℕ) (hg : g < 4) : PR F (Vec F S1x1x256 .f32) :=
  Prog.lift (.load R.a11 (Rect.unit (s := S4x1x256) ![g, 0, 0] S1x1x256.size (inb11 hg)).toLoadRect (View.loadsAt_vmem h_S1x1x256))

/-- Head `g`'s maximum and weights of the block at slot `b`; the rescaling factor is returned. -/
def absorb1 (b g : ℕ) (hb : b < 2) (hg : g < 4) : PR F (FVec F S1x256 .f32) := do
  let mp : Vec F S1x1x8x256 .f32 ← Prog.lift (.load R.a9 (Rect.unit (s := S2x4x8x256) ![b, g, 0, 0] S1x1x8x256.size (inb9 hb hg)).toLoadRect (View.loadsAt_vmem h_S1x1x8x256))
  let m ← loadM R g hg
  let mold := shapeCast S1x256 m shapeCasts_S1x1x256_S1x256
  let mnew := mNew mold (shapeCast S8x256 mp shapeCasts_S1x1x8x256_S8x256)
  storeM R g hg mnew
  expStrip R b g 0 hb hg (by omega) (by omega) mnew
  expStrip R b g 32 hb hg (by omega) (by omega) mnew
  expStrip R b g 64 hb hg (by omega) (by omega) mnew
  expStrip R b g 96 hb hg (by omega) (by omega) mnew
  expStrip R b g 128 hb hg (by omega) (by omega) mnew
  expStrip R b g 160 hb hg (by omega) (by omega) mnew
  expStrip R b g 192 hb hg (by omega) (by omega) mnew
  expStrip R b g 224 hb hg (by omega) (by omega) mnew
  pure (alphaOf mold mnew)

/-- The same on the diagonal, where the maximum is taken over the masked logits. -/
def absorb1D (b g : ℕ) (hb : b < 2) (hg : g < 4) : PR F (FVec F S1x256 .f32) := do
  let x0 ← loadStrip R b g 0 hb hg (by omega)
  let x1 ← loadStrip R b g 32 hb hg (by omega)
  let x2 ← loadStrip R b g 64 hb hg (by omega)
  let x3 ← loadStrip R b g 96 hb hg (by omega)
  let x4 ← loadStrip R b g 128 hb hg (by omega)
  let x5 ← loadStrip R b g 160 hb hg (by omega)
  let x6 ← loadStrip R b g 192 hb hg (by omega)
  let x7 ← loadStrip R b g 224 hb hg (by omega)
  let m ← loadM R g hg
  let mold := shapeCast S1x256 m shapeCasts_S1x1x256_S1x256
  let mnew := mNew mold ((maximumf (maximumf (maximumf (maximumf (maximumf (maximumf (maximumf (stripMax (diagMask 0 (shapeCast S32x256 x0 shapeCasts_S1x1x32x256_S32x256))) (stripMax (diagMask 32 (shapeCast S32x256 x1 shapeCasts_S1x1x32x256_S32x256)))) (stripMax (diagMask 64 (shapeCast S32x256 x2 shapeCasts_S1x1x32x256_S32x256)))) (stripMax (diagMask 96 (shapeCast S32x256 x3 shapeCasts_S1x1x32x256_S32x256)))) (stripMax (diagMask 128 (shapeCast S32x256 x4 shapeCasts_S1x1x32x256_S32x256)))) (stripMax (diagMask 160 (shapeCast S32x256 x5 shapeCasts_S1x1x32x256_S32x256)))) (stripMax (diagMask 192 (shapeCast S32x256 x6 shapeCasts_S1x1x32x256_S32x256)))) (stripMax (diagMask 224 (shapeCast S32x256 x7 shapeCasts_S1x1x32x256_S32x256)))))
  storeM R g hg mnew
  expStripD R b g 0 hb hg (by omega) (by omega) mnew
  expStripD R b g 32 hb hg (by omega) (by omega) mnew
  expStripD R b g 64 hb hg (by omega) (by omega) mnew
  expStripD R b g 96 hb hg (by omega) (by omega) mnew
  expStripD R b g 128 hb hg (by omega) (by omega) mnew
  expStripD R b g 160 hb hg (by omega) (by omega) mnew
  expStripD R b g 192 hb hg (by omega) (by omega) mnew
  expStripD R b g 224 hb hg (by omega) (by omega) mnew
  pure (alphaOf mold mnew)

/-- Head `g`'s sums. -/
def absorb2 (g : ℕ) (hg : g < 4) (vo : Fin 2 → ℕ) (hvo : ∀ a, vo a + S128x256.size a ≤ S512x4096.size a) (alpha : FVec F S1x256 .f32) : PR F PUnit := do
  let acc : Vec F S1x144x256 .f32 ← Prog.lift (.load R.a12 (Rect.unit (s := S4x144x256) ![g, 0, 0] S1x144x256.size (inb12 hg)).toLoadRect (View.loadsAt_vmem h_S1x144x256))
  let v : Vec F S128x256 .bf16 ← Prog.lift (.load R.a5 (Rect.unit (s := S512x4096) vo S128x256.size hvo).toLoadRect (View.loadsAt_vmem h_S128x256))
  let p : Vec F S1x256x256 .bf16 ← Prog.lift (.load R.a10 (Rect.unit (s := S4x256x256) ![g, 0, 0] S1x256x256.size (inb7f hg)).toLoadRect (View.loadsAt_vmem h_S1x256x256))
  let _d : Vec F S1x144x256 .f32 ← Prog.lift (.load R.a12 (Rect.unit (s := S4x144x256) ![g, 0, 0] S1x144x256.size (inb12 hg)).toLoadRect (View.loadsAt_vmem h_S1x144x256))
  Prog.lift (.store R.a12 (Rect.unit (s := S4x144x256) ![g, 0, 0] S1x144x256.size (inb12 hg)) (shapeCast S1x144x256 (accNew (shapeCast S144x256 acc shapeCasts_S1x144x256_S144x256) alpha v (shapeCast S256x256 p shapeCasts_S1x256x256_S256x256)) shapeCasts_S144x256_S1x144x256) Finset.univ (View.stores_vmem_bits_univ h_S1x144x256 rfl) (.inl rfl))

/-- A block's logits, head by head. -/
def issue (b : ℕ) (hb : b < 2) (k0 k1 k2 k3 : Fin 3 → ℕ)
    (h0 : ∀ a, k0 a + S1x256x256.size a ≤ S1x4096x1024.size a) (h1 : ∀ a, k1 a + S1x256x256.size a ≤ S1x4096x1024.size a)
    (h2 : ∀ a, k2 a + S1x256x256.size a ≤ S1x4096x1024.size a) (h3 : ∀ a, k3 a + S1x256x256.size a ≤ S1x4096x1024.size a) : PR F PUnit := do
  issueHead R b 0 hb (by omega) k0 h0
  issueHead R b 1 hb (by omega) k1 h1
  issueHead R b 2 hb (by omega) k2 h2
  issueHead R b 3 hb (by omega) k3 h3

/-- A block absorbed, head by head. -/
def absorb (b : ℕ) (hb : b < 2) (v0 v1 v2 v3 : Fin 2 → ℕ)
    (h0 : ∀ a, v0 a + S128x256.size a ≤ S512x4096.size a) (h1 : ∀ a, v1 a + S128x256.size a ≤ S512x4096.size a)
    (h2 : ∀ a, v2 a + S128x256.size a ≤ S512x4096.size a) (h3 : ∀ a, v3 a + S128x256.size a ≤ S512x4096.size a) : PR F PUnit := do
  let a0 ← absorb1 R b 0 hb (by omega)
  let a1 ← absorb1 R b 1 hb (by omega)
  let a2 ← absorb1 R b 2 hb (by omega)
  let a3 ← absorb1 R b 3 hb (by omega)
  absorb2 R 0 (by omega) v0 h0 a0
  absorb2 R 1 (by omega) v1 h1 a1
  absorb2 R 2 (by omega) v2 h2 a2
  absorb2 R 3 (by omega) v3 h3 a3

/-- The diagonal block absorbed. -/
def absorbD (b : ℕ) (hb : b < 2) (v0 v1 v2 v3 : Fin 2 → ℕ)
    (h0 : ∀ a, v0 a + S128x256.size a ≤ S512x4096.size a) (h1 : ∀ a, v1 a + S128x256.size a ≤ S512x4096.size a)
    (h2 : ∀ a, v2 a + S128x256.size a ≤ S512x4096.size a) (h3 : ∀ a, v3 a + S128x256.size a ≤ S512x4096.size a) : PR F PUnit := do
  let a0 ← absorb1D R b 0 hb (by omega)
  let a1 ← absorb1D R b 1 hb (by omega)
  let a2 ← absorb1D R b 2 hb (by omega)
  let a3 ← absorb1D R b 3 hb (by omega)
  absorb2 R 0 (by omega) v0 h0 a0
  absorb2 R 1 (by omega) v1 h1 a1
  absorb2 R 2 (by omega) v2 h2 a2
  absorb2 R 3 (by omega) v3 h3 a3

/-- The running maximum and the sums reset. -/
def reset : PR F PUnit := do
  let _d : Vec F S4x1x256 .f32 ← Prog.lift (.load R.a11 (Rect.unit (s := S4x1x256) ![0, 0, 0] S4x1x256.size inb_S4x1x256_S4x1x256_0_0_0).toLoadRect (View.loadsAt_vmem h_S4x1x256))
  Prog.lift (.store R.a11 (Rect.unit (s := S4x1x256) ![0, 0, 0] S4x1x256.size inb_S4x1x256_S4x1x256_0_0_0) (shapeCast S4x1x256 (broadcast S4x1x256 (Scalar.ofBits .f32 0xFF800000#32 : F .f32)) shapeCasts_S4x1x256_S4x1x256) Finset.univ (View.stores_vmem_bits_univ h_S4x1x256 rfl) (.inl rfl))
  let _d : Vec F S4x144x256 .f32 ← Prog.lift (.load R.a12 (Rect.unit (s := S4x144x256) ![0, 0, 0] S4x144x256.size inb_S4x144x256_S4x144x256_0_0_0).toLoadRect (View.loadsAt_vmem h_S4x144x256))
  Prog.lift (.store R.a12 (Rect.unit (s := S4x144x256) ![0, 0, 0] S4x144x256.size inb_S4x144x256_S4x144x256_0_0_0) (shapeCast S4x144x256 (broadcast S4x144x256 (Scalar.ofBits .f32 0x00000000#32 : F .f32)) shapeCasts_S4x144x256_S4x144x256) Finset.univ (View.stores_vmem_bits_univ h_S4x144x256 rfl) (.inl rfl))

/-- Head `g`'s transposed queries over rows of ones; `o` is the head's first column. -/
def setQ (g o : ℕ) (hg : g < 4) (ho : ∀ a, (![0, 0, o] : Fin 3 → ℕ) a + S1x256x128.size a ≤ S1x256x512.size a) : PR F PUnit := do
  let q : Vec F S1x256x128 .bf16 ← Prog.lift (.load R.a3 (Rect.unit (s := S1x256x512) ![0, 0, o] S1x256x128.size ho).toLoadRect (View.loadsAt_vmem h_S1x256x128))
  let _d : Vec F S1x128x256 .bf16 ← Prog.lift (.load R.a7 (Rect.unit (s := S4x256x256) ![g, 0, 0] S1x128x256.size (inb7 hg (by omega))).toLoadRect (View.loadsAt_vmem h_S1x128x256))
  Prog.lift (.store R.a7 (Rect.unit (s := S4x256x256) ![g, 0, 0] S1x128x256.size (inb7 hg (by omega))) (shapeCast S1x128x256 (qT q) shapeCasts_S128x256_S1x128x256) Finset.univ (View.stores_vmem h_S1x128x256 (R.h7.storeExact_slice rfl _ (pk7 hg (by omega) (by omega))) (fun _ => rfl)) (.inl rfl))
  let _d : Vec F S1x128x256 .bf16 ← Prog.lift (.load R.a7 (Rect.unit (s := S4x256x256) ![g, 128, 0] S1x128x256.size (inb7 hg (by omega))).toLoadRect (View.loadsAt_vmem h_S1x128x256))
  Prog.lift (.store R.a7 (Rect.unit (s := S4x256x256) ![g, 128, 0] S1x128x256.size (inb7 hg (by omega))) (shapeCast S1x128x256 (broadcast S128x256 (Scalar.ofBits .bf16 0x3F80#16 : F .bf16)) shapeCasts_S128x256_S1x128x256) Finset.univ (View.stores_vmem h_S1x128x256 (R.h7.storeExact_slice rfl _ (pk7 hg (by omega) (by omega))) (fun _ => rfl)) (.inl rfl))

/-- Head `g`'s output strip stored at column `o`. -/
def outHead (g o : ℕ) (hg : g < 4) (ho : ∀ a, (![0, 0, o] : Fin 3 → ℕ) a + S1x256x128.size a ≤ S1x256x512.size a)
    (hp : (Rect.unit (s := S1x256x512) ![0, 0, o] S1x256x128.size ho).PackedRows (EltTy.packing .bf16)) : PR F PUnit := do
  let v : Vec F S1x128x256 .f32 ← Prog.lift (.load R.a12 (Rect.unit (s := S4x144x256) ![g, 0, 0] S1x128x256.size (inb12v hg)).toLoadRect (View.loadsAt_vmem h_S1x128x256))
  let l : Vec F S1x1x256 .f32 ← Prog.lift (.load R.a12 (Rect.unit (s := S4x144x256) ![g, 128, 0] S1x1x256.size (inb12l hg)).toLoadRect (View.loadsAt_vmem h_S1x1x256))
  let _d : Vec F S1x256x128 .bf16 ← Prog.lift (.load R.a6 (Rect.unit (s := S1x256x512) ![0, 0, o] S1x256x128.size ho).toLoadRect (View.loadsAt_vmem h_S1x256x128))
  Prog.lift (.store R.a6 (Rect.unit (s := S1x256x512) ![0, 0, o] S1x256x128.size ho) (shapeCast S1x256x128 (outStrip v l) shapeCasts_S256x128_S1x256x128) Finset.univ (View.stores_vmem h_S1x256x128 (R.h6.storeExact_slice rfl _ hp) (fun _ => rfl)) (.inl rfl))

/-- What comes before the loop. -/
def prologue (i : grid0.Coords) : PR F PUnit := do
  reset R
  setQ R 0 0 (by omega) inb_S1x256x512_S1x256x128_0_0_0
  setQ R 1 128 (by omega) inb_S1x256x512_S1x256x128_0_0_128
  setQ R 2 256 (by omega) inb_S1x256x512_S1x256x128_0_0_256
  setQ R 3 384 (by omega) inb_S1x256x512_S1x256x128_0_0_384
  issue R 0 (by omega) (k0_off1 i) (k0_off2 i) (k0_off3 i) (k0_off4 i) (k0_off1_inb i) (k0_off2_inb i) (k0_off3_inb i) (k0_off4_inb i)
  issue R 1 (by omega) ![0, 0, 0] ![0, 0, 256] ![0, 0, 512] ![0, 0, 768] inb_S1x4096x1024_S1x256x256_0_0_0 inb_S1x4096x1024_S1x256x256_0_0_256 inb_S1x4096x1024_S1x256x256_0_0_512 inb_S1x4096x1024_S1x256x256_0_0_768
  absorbD R 0 (by omega) (k0_off5 i) (k0_off6 i) (k0_off7 i) (k0_off8 i) (k0_off5_inb i) (k0_off6_inb i) (k0_off7_inb i) (k0_off8_inb i)

/-- One trip of the loop: two blocks. -/
def trip (i : grid0.Coords) (k : Fin (k0_t1_loop i).trips) : PR F (BitVec 32) := do
  issue R 0 (by omega) (k0_off9 i k) (k0_off10 i k) (k0_off11 i k) (k0_off12 i k) (k0_off9_inb i k) (k0_off10_inb i k) (k0_off11_inb i k) (k0_off12_inb i k)
  absorb R 1 (by omega) (k0_off13 i k) (k0_off14 i k) (k0_off15 i k) (k0_off16 i k) (k0_off13_inb i k) (k0_off14_inb i k) (k0_off15_inb i k) (k0_off16_inb i k)
  issue R 1 (by omega) (k0_off17 i k) (k0_off18 i k) (k0_off19 i k) (k0_off20 i k) (k0_off17_inb i k) (k0_off18_inb i k) (k0_off19_inb i k) (k0_off20_inb i k)
  absorb R 0 (by omega) (k0_off21 i k) (k0_off22 i k) (k0_off23 i k) (k0_off24 i k) (k0_off21_inb i k) (k0_off22_inb i k) (k0_off23_inb i k) (k0_off24_inb i k)
  pure 0#32

/-- What comes after the conditional. -/
def epilogue : PR F PUnit := do
  outHead R 0 0 (by omega) inb_S1x256x512_S1x256x128_0_0_0 packedbf16_S1x256x512_S1x256x128_0_0_0
  outHead R 1 128 (by omega) inb_S1x256x512_S1x256x128_0_0_128 packedbf16_S1x256x512_S1x256x128_0_0_128
  outHead R 2 256 (by omega) inb_S1x256x512_S1x256x128_0_0_256 packedbf16_S1x256x512_S1x256x128_0_0_256
  outHead R 3 384 (by omega) inb_S1x256x512_S1x256x128_0_0_384 packedbf16_S1x256x512_S1x256x128_0_0_384
  pure ⟨⟩

end Cert.KernelIdeal.Fox

end
-- ==== Proof.Fox.Asm.lean ====
/- Scratch buffers assembled from their heads' parts: a window that is one part reads it, and a store over one part replaces it. -/
module

public import Idealize.ShloMosaic.Lib.VecWindow
public import Idealize.ShloMosaic.Lib.ValueLayout
public import Idealize.ShloMosaic.Lib.Pipeline.Value
public import Idealize.ShloMosaic.Lib.ValueIdxCore
public import Mathlib.Tactic.Ring

@[expose] public section

set_option maxRecDepth 16384

noncomputable section

namespace Cert.KernelIdeal.Fox

open Idealize.ShloMosaic Idealize.ShloMosaic.ValueIdx

variable {α : Type}

/-- `f` with `w` at `(a, b)`. -/
def upd2 {A B : ℕ} (f : Fin A → Fin B → α) (a : Fin A) (b : Fin B) (w : α) : Fin A → Fin B → α :=
  fun a' b' => if a' = a ∧ b' = b then w else f a' b'

/-- `f` with `w` at `a`. -/
def upd1 {A : ℕ} (f : Fin A → α) (a : Fin A) (w : α) : Fin A → α := fun a' => if a' = a then w else f a'

/-- Four entries replaced are a row replaced. -/
theorem upd2_four {A : ℕ} (f : Fin A → Fin 4 → α) (a : Fin A) (w : Fin 4 → α) :
    upd2 (upd2 (upd2 (upd2 f a 0 (w 0)) a 1 (w 1)) a 2 (w 2)) a 3 (w 3) = upd1 f a w := by
  funext a' b'
  by_cases h : a' = a
  · fin_cases b' <;> simp [upd2, upd1, h]
  · simp [upd2, upd1, h]

/-- Eight entries replaced are a row replaced. -/
theorem upd2_eight {A : ℕ} (f : Fin A → Fin 8 → α) (a : Fin A) (w : Fin 8 → α) :
    upd2 (upd2 (upd2 (upd2 (upd2 (upd2 (upd2 (upd2 f a 0 (w 0)) a 1 (w 1)) a 2 (w 2)) a 3 (w 3)) a 4 (w 4)) a 5 (w 5)) a 6 (w 6)) a 7 (w 7)
      = upd1 f a w := by
  funext a' b'
  by_cases h : a' = a
  · fin_cases b' <;> simp [upd2, upd1, h]
  · simp [upd2, upd1, h]

/-- Two entries replaced are a row replaced. -/
theorem upd2_two {A : ℕ} (f : Fin A → Fin 2 → α) (a : Fin A) (w : Fin 2 → α) :
    upd2 (upd2 f a 0 (w 0)) a 1 (w 1) = upd1 f a w := by
  funext a' b'
  by_cases h : a' = a
  · fin_cases b' <;> simp [upd2, upd1, h]
  · simp [upd2, upd1, h]

/-- All four entries replaced. -/
theorem upd1_four (f : Fin 4 → α) (w : Fin 4 → α) : upd1 (upd1 (upd1 (upd1 f 0 (w 0)) 1 (w 1)) 2 (w 2)) 3 (w 3) = w := by
  funext b'
  fin_cases b' <;> simp [upd1]

section Three

variable {G N R B A : ℕ}

/-- A stack of `G` matrices of `N` bands of `R` rows, from the bands. -/
def asm3 (hA : A = R * N) (hR : 0 < R) (f : Fin G → Fin N → (⟨2, ![R, B]⟩ : Shape).Idx → α) : (⟨3, ![G, A, B]⟩ : Shape).Idx → α :=
  fun i => f (i 0) ⟨(i 1).val / R, Nat.div_lt_of_lt_mul (hA ▸ (i 1).isLt)⟩ (ix2 ⟨(i 1).val % R, Nat.mod_lt _ hR⟩ (i 2))

/-- The bands of a stack of matrices. -/
def dis3 (hA : A = R * N) (X : (⟨3, ![G, A, B]⟩ : Shape).Idx → α) : Fin G → Fin N → (⟨2, ![R, B]⟩ : Shape).Idx → α :=
  fun g j i => X (ix3 g ⟨R * j.val + (i 0).val, by
    have h0 : (i 0).val < R := (i 0).isLt
    have := j.isLt
    calc R * j.val + (i 0).val < R * j.val + R := by omega
      _ = R * (j.val + 1) := by ring
      _ ≤ R * N := Nat.mul_le_mul_left _ (by omega)
      _ = A := hA.symm⟩ (i 1))

theorem asm3_dis3 (hA : A = R * N) (hR : 0 < R) (X : (⟨3, ![G, A, B]⟩ : Shape).Idx → α) : asm3 hA hR (dis3 hA X) = X := by
  funext i
  unfold asm3 dis3
  refine congrArg X (funext fun a => ?_)
  match a with
  | ⟨0, _⟩ => rfl
  | ⟨1, _⟩ => exact Fin.ext (Nat.div_add_mod _ _)
  | ⟨2, _⟩ => rfl

/-- A band's window. -/
theorem window_asm3 (hA : A = R * N) (hR : 0 < R) (f : Fin G → Fin N → (⟨2, ![R, B]⟩ : Shape).Idx → α) (g r : ℕ) (hg : g < G) (j : Fin N) (hr : r = R * j.val)
    (inb : ∀ a, (![g, r, 0] : Fin 3 → ℕ) a + (![1, R, B] : Fin 3 → ℕ) a ≤ (⟨3, ![G, A, B]⟩ : Shape).size a)
    (h : (⟨2, ![R, B]⟩ : Shape).ShapeCasts ⟨3, ![1, R, B]⟩) :
    VecWindow.window (asm3 hA hR f) ![g, r, 0] ![1, R, B] inb = shapeCast (⟨3, ![1, R, B]⟩ : Shape) (f ⟨g, hg⟩ j) h := by
  funext y
  have hy : (y : (⟨3, ![1, R, B]⟩ : Shape).Idx) = ix3 (0 : Fin 1) (y 1) (y 2) := by
    funext a
    match a with
    | ⟨0, _⟩ => exact Subsingleton.elim (α := Fin 1) _ _
    | ⟨1, _⟩ => rfl
    | ⟨2, _⟩ => rfl
  have e := shapeCast_ab_1ab_apply (f ⟨g, hg⟩ j) h (0 : Fin 1) (y 1) (y 2)
  have e2 : shapeCast (⟨3, ![1, R, B]⟩ : Shape) (f ⟨g, hg⟩ j) h y = f ⟨g, hg⟩ j (ix2 (y 1) (y 2)) := (congrArg _ hy).trans e
  rw [e2]
  have hy1 : (y 1).val < R := (y 1).isLt
  have hy0 : (y 0).val < 1 := (y 0).isLt
  unfold VecWindow.window asm3
  have v0 : (((Rect.unit (s := (⟨3, ![G, A, B]⟩ : Shape)) ![g, r, 0] ![1, R, B] inb).emb y) 0).val = g + 1 * (y 0).val := rfl
  have v1 : (((Rect.unit (s := (⟨3, ![G, A, B]⟩ : Shape)) ![g, r, 0] ![1, R, B] inb).emb y) 1).val = r + 1 * (y 1).val := rfl
  have v2 : (((Rect.unit (s := (⟨3, ![G, A, B]⟩ : Shape)) ![g, r, 0] ![1, R, B] inb).emb y) 2).val = 0 + 1 * (y 2).val := rfl
  have e0 : (((Rect.unit (s := (⟨3, ![G, A, B]⟩ : Shape)) ![g, r, 0] ![1, R, B] inb).emb y) 0) = (⟨g, hg⟩ : Fin G) := Fin.ext (by rw [v0]; show g + 1 * (y 0).val = g; omega)
  have e1 : (((Rect.unit (s := (⟨3, ![G, A, B]⟩ : Shape)) ![g, r, 0] ![1, R, B] inb).emb y) 1).val = R * j.val + (y 1).val := by rw [v1]; omega
  have e3 : (⟨(((Rect.unit (s := (⟨3, ![G, A, B]⟩ : Shape)) ![g, r, 0] ![1, R, B] inb).emb y) 1).val / R, Nat.div_lt_of_lt_mul (hA ▸ (((Rect.unit (s := (⟨3, ![G, A, B]⟩ : Shape)) ![g, r, 0] ![1, R, B] inb).emb y) 1).isLt)⟩ : Fin N) = j :=
    Fin.ext (by
      show _ / R = j.val
      rw [e1, Nat.mul_add_div hR, Nat.div_eq_of_lt hy1, Nat.add_zero])
  rw [e0, e3]
  refine congrArg (f ⟨g, hg⟩ j) (funext fun a => ?_)
  match a with
  | ⟨0, _⟩ => exact Fin.ext (by show _ % R = (y 1).val; rw [e1, Nat.mul_add_mod, Nat.mod_eq_of_lt hy1])
  | ⟨1, _⟩ => exact Fin.ext (by show _ = (y 2).val; rw [v2]; omega)

/-- A band replaced. -/
theorem put_asm3 (hA : A = R * N) (hR : 0 < R) (f : Fin G → Fin N → (⟨2, ![R, B]⟩ : Shape).Idx → α) (g r : ℕ) (hg : g < G) (j : Fin N) (hr : r = R * j.val)
    (w : (⟨2, ![R, B]⟩ : Shape).Idx → α) (h : (⟨2, ![R, B]⟩ : Shape).ShapeCasts ⟨3, ![1, R, B]⟩) :
    VecWindow.put (asm3 hA hR f) ![g, r, 0] ![1, R, B] (shapeCast (⟨3, ![1, R, B]⟩ : Shape) w h) = asm3 hA hR (upd2 f ⟨g, hg⟩ j w) := by
  funext y
  have hy1 : (y 1).val < A := (y 1).isLt
  have hy2 : (y 2).val < B := (y 2).isLt
  have hdm := Nat.div_add_mod (y 1).val R
  have hml := Nat.mod_lt (y 1).val hR
  by_cases hin : (y 0).val = g ∧ (y 1).val / R = j.val
  · have hc : ∀ a, (![g, r, 0] : Fin 3 → ℕ) a ≤ (y a).val ∧ (y a).val < (![g, r, 0] : Fin 3 → ℕ) a + (![1, R, B] : Fin 3 → ℕ) a := by
      intro a
      rw [hin.2] at hdm
      match a with
      | ⟨0, _⟩ => show g ≤ (y 0).val ∧ (y 0).val < g + 1; omega
      | ⟨1, _⟩ => show r ≤ (y 1).val ∧ (y 1).val < r + R; omega
      | ⟨2, _⟩ => show 0 ≤ (y 2).val ∧ (y 2).val < 0 + B; omega
    have l : VecWindow.put (asm3 hA hR f) ![g, r, 0] ![1, R, B] (shapeCast (⟨3, ![1, R, B]⟩ : Shape) w h) y
        = shapeCast (⟨3, ![1, R, B]⟩ : Shape) w h (Rect.unitLocal (s := (⟨3, ![G, A, B]⟩ : Shape)) (off := ![g, r, 0]) (size := ![1, R, B]) y hc) := dif_pos hc
    rw [l]
    have hk : (Rect.unitLocal (s := (⟨3, ![G, A, B]⟩ : Shape)) (off := ![g, r, 0]) (size := ![1, R, B]) y hc)
        = (ix3 (0 : Fin 1) (⟨(y 1).val % R, hml⟩ : Fin R) (y 2) : (⟨3, ![1, R, B]⟩ : Shape).Idx) := by
      funext a
      rw [hin.2] at hdm
      match a with
      | ⟨0, _⟩ => exact Subsingleton.elim (α := Fin 1) _ _
      | ⟨1, _⟩ => exact Fin.ext (by show (y 1).val - r = (y 1).val % R; omega)
      | ⟨2, _⟩ => exact Fin.ext (by show (y 2).val - 0 = (y 2).val; omega)
    have e := shapeCast_ab_1ab_apply w h (0 : Fin 1) (⟨(y 1).val % R, hml⟩ : Fin R) (y 2)
    refine (congrArg _ hk).trans (e.trans ?_)
    unfold asm3 upd2
    rw [if_pos ⟨Fin.ext hin.1, Fin.ext hin.2⟩]
  · have hc : ¬ ∀ a, (![g, r, 0] : Fin 3 → ℕ) a ≤ (y a).val ∧ (y a).val < (![g, r, 0] : Fin 3 → ℕ) a + (![1, R, B] : Fin 3 → ℕ) a := by
      intro hall
      have a0 : g ≤ (y 0).val ∧ (y 0).val < g + 1 := hall 0
      have a1 : r ≤ (y 1).val ∧ (y 1).val < r + R := hall 1
      refine hin ⟨by omega, ?_⟩
      have : (y 1).val = R * j.val + ((y 1).val - r) := by omega
      rw [this, Nat.mul_add_div hR, Nat.div_eq_of_lt (by omega), Nat.add_zero]
    have l : VecWindow.put (asm3 hA hR f) ![g, r, 0] ![1, R, B] (shapeCast (⟨3, ![1, R, B]⟩ : Shape) w h) y = asm3 hA hR f y := dif_neg hc
    rw [l]
    unfold asm3 upd2
    rw [if_neg (fun hh => hin ⟨congrArg Fin.val hh.1, congrArg Fin.val hh.2⟩)]

/-- One entry of the stack. -/
theorem window_asm3_apply (hA : A = R * N) (hR : 0 < R) (f : Fin G → Fin N → (⟨2, ![R, B]⟩ : Shape).Idx → α) (g o n : ℕ) (hg : g < G)
    (inb : ∀ a, (![g, o, 0] : Fin 3 → ℕ) a + (![1, n, B] : Fin 3 → ℕ) a ≤ (⟨3, ![G, A, B]⟩ : Shape).size a)
    (u : Fin 1) (x : Fin n) (y : Fin B) (j : Fin N) (i : Fin R) (hx : o + x.val = R * j.val + i.val) :
    VecWindow.window (asm3 hA hR f) ![g, o, 0] ![1, n, B] inb (ix3 u x y : (⟨3, ![1, n, B]⟩ : Shape).Idx) = f ⟨g, hg⟩ j (ix2 i y) := by
  have v1 : (((Rect.unit (s := (⟨3, ![G, A, B]⟩ : Shape)) ![g, o, 0] ![1, n, B] inb).emb (ix3 u x y : (⟨3, ![1, n, B]⟩ : Shape).Idx)) 1).val = R * j.val + i.val := by
    rw [← hx]; show o + 1 * x.val = _; omega
  unfold VecWindow.window asm3
  have e0 : (((Rect.unit (s := (⟨3, ![G, A, B]⟩ : Shape)) ![g, o, 0] ![1, n, B] inb).emb (ix3 u x y : (⟨3, ![1, n, B]⟩ : Shape).Idx)) 0) = (⟨g, hg⟩ : Fin G) :=
    Fin.ext (by show g + 1 * u.val = g; omega)
  have e3 : (⟨(((Rect.unit (s := (⟨3, ![G, A, B]⟩ : Shape)) ![g, o, 0] ![1, n, B] inb).emb (ix3 u x y : (⟨3, ![1, n, B]⟩ : Shape).Idx)) 1).val / R, Nat.div_lt_of_lt_mul (hA ▸ (((Rect.unit (s := (⟨3, ![G, A, B]⟩ : Shape)) ![g, o, 0] ![1, n, B] inb).emb (ix3 u x y : (⟨3, ![1, n, B]⟩ : Shape).Idx)) 1).isLt)⟩ : Fin N) = j :=
    Fin.ext (by
      show _ / R = j.val
      rw [v1, Nat.mul_add_div hR, Nat.div_eq_of_lt i.isLt, Nat.add_zero])
  rw [e0, e3]
  refine congrArg (f ⟨g, hg⟩ j) (funext fun a => ?_)
  match a with
  | ⟨0, _⟩ => exact Fin.ext (by show _ % R = i.val; rw [v1, Nat.mul_add_mod, Nat.mod_eq_of_lt i.isLt])
  | ⟨1, _⟩ => exact Fin.ext (by show 0 + 1 * y.val = y.val; omega)

end Three

section Four

variable {P G A B : ℕ}

/-- A stack of stacks of matrices, from the matrices. -/
def asm4 (f : Fin P → Fin G → (⟨2, ![A, B]⟩ : Shape).Idx → α) : (⟨4, ![P, G, A, B]⟩ : Shape).Idx → α :=
  fun i => f (i 0) (i 1) (ix2 (i 2) (i 3))

/-- The matrices of a stack of stacks. -/
def dis4 (X : (⟨4, ![P, G, A, B]⟩ : Shape).Idx → α) : Fin P → Fin G → (⟨2, ![A, B]⟩ : Shape).Idx → α :=
  fun b g i => X (ix4 b g (i 0) (i 1))

theorem asm4_dis4 (X : (⟨4, ![P, G, A, B]⟩ : Shape).Idx → α) : asm4 (dis4 X) = X := by
  funext i
  unfold asm4 dis4
  refine congrArg X (funext fun a => ?_)
  match a with
  | ⟨0, _⟩ => rfl
  | ⟨1, _⟩ => rfl
  | ⟨2, _⟩ => rfl
  | ⟨3, _⟩ => rfl

/-- Rows `r` to `r + n` of a matrix. -/
def rows (n r : ℕ) (hr : r + n ≤ A) (x : (⟨2, ![A, B]⟩ : Shape).Idx → α) : (⟨2, ![n, B]⟩ : Shape).Idx → α :=
  fun i => x (ix2 ⟨r + (i 0).val, by have : (i 0).val < n := (i 0).isLt; omega⟩ (i 1))

theorem rows_all (x : (⟨2, ![A, B]⟩ : Shape).Idx → α) : rows A 0 (by omega) x = x := by
  funext i
  unfold rows
  refine congrArg x (funext fun a => ?_)
  match a with
  | ⟨0, _⟩ => exact Fin.ext (Nat.zero_add _)
  | ⟨1, _⟩ => rfl

/-- A matrix of one entry each in two leading axes, and back. -/
theorem cast_11ab {a b : ℕ} (x : (⟨2, ![a, b]⟩ : Shape).Idx → α) (h : (⟨2, ![a, b]⟩ : Shape).ShapeCasts ⟨4, ![1, 1, a, b]⟩) (u v : Fin 1) (i : Fin a) (j : Fin b) :
    shapeCast (⟨4, ![1, 1, a, b]⟩ : Shape) x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := by omega
    have hv : v.val = 0 := by omega
    rw [hu, hv]; ring)

/-- A window of some rows of one matrix. -/
theorem window_asm4 (f : Fin P → Fin G → (⟨2, ![A, B]⟩ : Shape).Idx → α) (b g r n : ℕ) (hb : b < P) (hg : g < G) (hr : r + n ≤ A)
    (inb : ∀ a, (![b, g, r, 0] : Fin 4 → ℕ) a + (![1, 1, n, B] : Fin 4 → ℕ) a ≤ (⟨4, ![P, G, A, B]⟩ : Shape).size a)
    (h : (⟨2, ![n, B]⟩ : Shape).ShapeCasts ⟨4, ![1, 1, n, B]⟩) :
    VecWindow.window (asm4 f) ![b, g, r, 0] ![1, 1, n, B] inb = shapeCast (⟨4, ![1, 1, n, B]⟩ : Shape) (rows n r hr (f ⟨b, hb⟩ ⟨g, hg⟩)) h := by
  funext y
  have hy : (y : (⟨4, ![1, 1, n, B]⟩ : Shape).Idx) = ix4 (0 : Fin 1) (0 : Fin 1) (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have e := cast_11ab (rows n r hr (f ⟨b, hb⟩ ⟨g, hg⟩)) h (0 : Fin 1) (0 : Fin 1) (y 2) (y 3)
  refine Eq.trans ?_ ((congrArg _ hy).trans e).symm
  have hy0 : (y 0).val < 1 := (y 0).isLt
  have hy1 : (y 1).val < 1 := (y 1).isLt
  unfold VecWindow.window asm4 rows
  have e0 : (((Rect.unit (s := (⟨4, ![P, G, A, B]⟩ : Shape)) ![b, g, r, 0] ![1, 1, n, B] inb).emb y) 0) = (⟨b, hb⟩ : Fin P) :=
    Fin.ext (by show b + 1 * (y 0).val = b; omega)
  have e1 : (((Rect.unit (s := (⟨4, ![P, G, A, B]⟩ : Shape)) ![b, g, r, 0] ![1, 1, n, B] inb).emb y) 1) = (⟨g, hg⟩ : Fin G) :=
    Fin.ext (by show g + 1 * (y 1).val = g; omega)
  rw [e0, e1]
  refine congrArg (f ⟨b, hb⟩ ⟨g, hg⟩) (funext fun a => ?_)
  match a with
  | ⟨0, _⟩ => exact Fin.ext (by show r + 1 * (y 2).val = r + (y 2).val; omega)
  | ⟨1, _⟩ => exact Fin.ext (by show 0 + 1 * (y 3).val = (y 3).val; omega)

/-- A matrix replaced. -/
theorem put_asm4 (f : Fin P → Fin G → (⟨2, ![A, B]⟩ : Shape).Idx → α) (b g : ℕ) (hb : b < P) (hg : g < G)
    (w : (⟨2, ![A, B]⟩ : Shape).Idx → α) (h : (⟨2, ![A, B]⟩ : Shape).ShapeCasts ⟨4, ![1, 1, A, B]⟩) :
    VecWindow.put (asm4 f) ![b, g, 0, 0] ![1, 1, A, B] (shapeCast (⟨4, ![1, 1, A, B]⟩ : Shape) w h) = asm4 (upd2 f ⟨b, hb⟩ ⟨g, hg⟩ w) := by
  funext y
  have hy2 : (y 2).val < A := (y 2).isLt
  have hy3 : (y 3).val < B := (y 3).isLt
  by_cases hin : (y 0).val = b ∧ (y 1).val = g
  · have hc : ∀ a, (![b, g, 0, 0] : Fin 4 → ℕ) a ≤ (y a).val ∧ (y a).val < (![b, g, 0, 0] : Fin 4 → ℕ) a + (![1, 1, A, B] : Fin 4 → ℕ) a := by
      intro a
      match a with
      | ⟨0, _⟩ => show b ≤ (y 0).val ∧ (y 0).val < b + 1; omega
      | ⟨1, _⟩ => show g ≤ (y 1).val ∧ (y 1).val < g + 1; omega
      | ⟨2, _⟩ => show 0 ≤ (y 2).val ∧ (y 2).val < 0 + A; omega
      | ⟨3, _⟩ => show 0 ≤ (y 3).val ∧ (y 3).val < 0 + B; omega
    have l : VecWindow.put (asm4 f) ![b, g, 0, 0] ![1, 1, A, B] (shapeCast (⟨4, ![1, 1, A, B]⟩ : Shape) w h) y
        = shapeCast (⟨4, ![1, 1, A, B]⟩ : Shape) w h (Rect.unitLocal (s := (⟨4, ![P, G, A, B]⟩ : Shape)) (off := ![b, g, 0, 0]) (size := ![1, 1, A, B]) y hc) := dif_pos hc
    rw [l]
    have hk : (Rect.unitLocal (s := (⟨4, ![P, G, A, B]⟩ : Shape)) (off := ![b, g, 0, 0]) (size := ![1, 1, A, B]) y hc)
        = (ix4 (0 : Fin 1) (0 : Fin 1) (y 2) (y 3) : (⟨4, ![1, 1, A, B]⟩ : Shape).Idx) := by
      funext a
      match a with
      | ⟨0, _⟩ => exact Subsingleton.elim (α := Fin 1) _ _
      | ⟨1, _⟩ => exact Subsingleton.elim (α := Fin 1) _ _
      | ⟨2, _⟩ => exact Fin.ext (by show (y 2).val - 0 = (y 2).val; omega)
      | ⟨3, _⟩ => exact Fin.ext (by show (y 3).val - 0 = (y 3).val; omega)
    have e := cast_11ab w h (0 : Fin 1) (0 : Fin 1) (y 2) (y 3)
    refine (congrArg _ hk).trans (e.trans ?_)
    unfold asm4 upd2
    rw [if_pos ⟨Fin.ext hin.1, Fin.ext hin.2⟩]
  · have hc : ¬ ∀ a, (![b, g, 0, 0] : Fin 4 → ℕ) a ≤ (y a).val ∧ (y a).val < (![b, g, 0, 0] : Fin 4 → ℕ) a + (![1, 1, A, B] : Fin 4 → ℕ) a := by
      intro hall
      have a0 : b ≤ (y 0).val ∧ (y 0).val < b + 1 := hall 0
      have a1 : g ≤ (y 1).val ∧ (y 1).val < g + 1 := hall 1
      exact hin ⟨by omega, by omega⟩
    have l : VecWindow.put (asm4 f) ![b, g, 0, 0] ![1, 1, A, B] (shapeCast (⟨4, ![1, 1, A, B]⟩ : Shape) w h) y = asm4 f y := dif_neg hc
    rw [l]
    unfold asm4 upd2
    rw [if_neg (fun hh => hin ⟨congrArg Fin.val hh.1, congrArg Fin.val hh.2⟩)]

end Four

section Six

variable {A G C D : ℕ}

/-- A matrix from bands of columns. -/
def asm6 (hD : D = C * G) (hC : 0 < C) (f : Fin G → (⟨2, ![A, C]⟩ : Shape).Idx → α) : (⟨3, ![1, A, D]⟩ : Shape).Idx → α :=
  fun i => f ⟨(i 2).val / C, Nat.div_lt_of_lt_mul (hD ▸ (i 2).isLt)⟩ (ix2 (i 1) ⟨(i 2).val % C, Nat.mod_lt _ hC⟩)

/-- The bands of columns of a matrix. -/
def dis6 (hD : D = C * G) (X : (⟨3, ![1, A, D]⟩ : Shape).Idx → α) : Fin G → (⟨2, ![A, C]⟩ : Shape).Idx → α :=
  fun g i => X (ix3 (0 : Fin 1) (i 0) ⟨C * g.val + (i 1).val, by
    have h0 : (i 1).val < C := (i 1).isLt
    have := g.isLt
    calc C * g.val + (i 1).val < C * g.val + C := by omega
      _ = C * (g.val + 1) := by ring
      _ ≤ C * G := Nat.mul_le_mul_left _ (by omega)
      _ = D := hD.symm⟩)

theorem asm6_dis6 (hD : D = C * G) (hC : 0 < C) (X : (⟨3, ![1, A, D]⟩ : Shape).Idx → α) : asm6 hD hC (dis6 hD X) = X := by
  funext i
  unfold asm6 dis6
  refine congrArg X (funext fun a => ?_)
  match a with
  | ⟨0, _⟩ => exact Subsingleton.elim (α := Fin 1) _ _
  | ⟨1, _⟩ => rfl
  | ⟨2, _⟩ => exact Fin.ext (Nat.div_add_mod _ _)

/-- A band of columns replaced. -/
theorem put_asm6 (hD : D = C * G) (hC : 0 < C) (f : Fin G → (⟨2, ![A, C]⟩ : Shape).Idx → α) (o : ℕ) (g : Fin G) (ho : o = C * g.val)
    (w : (⟨2, ![A, C]⟩ : Shape).Idx → α) (h : (⟨2, ![A, C]⟩ : Shape).ShapeCasts ⟨3, ![1, A, C]⟩) :
    VecWindow.put (asm6 hD hC f) ![0, 0, o] ![1, A, C] (shapeCast (⟨3, ![1, A, C]⟩ : Shape) w h) = asm6 hD hC (upd1 f g w) := by
  funext y
  have hy0 : (y 0).val < 1 := (y 0).isLt
  have hy1 : (y 1).val < A := (y 1).isLt
  have hdm := Nat.div_add_mod (y 2).val C
  have hml := Nat.mod_lt (y 2).val hC
  by_cases hin : (y 2).val / C = g.val
  · have hc : ∀ a, (![0, 0, o] : Fin 3 → ℕ) a ≤ (y a).val ∧ (y a).val < (![0, 0, o] : Fin 3 → ℕ) a + (![1, A, C] : Fin 3 → ℕ) a := by
      intro a
      rw [hin] at hdm
      match a with
      | ⟨0, _⟩ => show 0 ≤ (y 0).val ∧ (y 0).val < 0 + 1; omega
      | ⟨1, _⟩ => show 0 ≤ (y 1).val ∧ (y 1).val < 0 + A; omega
      | ⟨2, _⟩ => show o ≤ (y 2).val ∧ (y 2).val < o + C; omega
    have l : VecWindow.put (asm6 hD hC f) ![0, 0, o] ![1, A, C] (shapeCast (⟨3, ![1, A, C]⟩ : Shape) w h) y
        = shapeCast (⟨3, ![1, A, C]⟩ : Shape) w h (Rect.unitLocal (s := (⟨3, ![1, A, D]⟩ : Shape)) (off := ![0, 0, o]) (size := ![1, A, C]) y hc) := dif_pos hc
    rw [l]
    have hk : (Rect.unitLocal (s := (⟨3, ![1, A, D]⟩ : Shape)) (off := ![0, 0, o]) (size := ![1, A, C]) y hc)
        = (ix3 (0 : Fin 1) (y 1) (⟨(y 2).val % C, hml⟩ : Fin C) : (⟨3, ![1, A, C]⟩ : Shape).Idx) := by
      funext a
      rw [hin] at hdm
      match a with
      | ⟨0, _⟩ => exact Subsingleton.elim (α := Fin 1) _ _
      | ⟨1, _⟩ => exact Fin.ext (by show (y 1).val - 0 = (y 1).val; omega)
      | ⟨2, _⟩ => exact Fin.ext (by show (y 2).val - o = (y 2).val % C; omega)
    have e := shapeCast_ab_1ab_apply w h (0 : Fin 1) (y 1) (⟨(y 2).val % C, hml⟩ : Fin C)
    refine (congrArg _ hk).trans (e.trans ?_)
    unfold asm6 upd1
    rw [if_pos (Fin.ext hin)]
  · have hc : ¬ ∀ a, (![0, 0, o] : Fin 3 → ℕ) a ≤ (y a).val ∧ (y a).val < (![0, 0, o] : Fin 3 → ℕ) a + (![1, A, C] : Fin 3 → ℕ) a := by
      intro hall
      have a2 : o ≤ (y 2).val ∧ (y 2).val < o + C := hall 2
      refine hin ?_
      have : (y 2).val = C * g.val + ((y 2).val - o) := by omega
      rw [this, Nat.mul_add_div hC, Nat.div_eq_of_lt (by omega), Nat.add_zero]
    have l : VecWindow.put (asm6 hD hC f) ![0, 0, o] ![1, A, C] (shapeCast (⟨3, ![1, A, C]⟩ : Shape) w h) y = asm6 hD hC f y := dif_neg hc
    rw [l]
    unfold asm6 upd1
    rw [if_neg (fun hh => hin (congrArg Fin.val hh))]

end Six

/-- A store of the whole array. -/
theorem put_whole3 {A B C : ℕ} (X w : (⟨3, ![A, B, C]⟩ : Shape).Idx → α) : VecWindow.put X ![0, 0, 0] ![A, B, C] w = w := by
  funext y
  have hc : ∀ a, (![0, 0, 0] : Fin 3 → ℕ) a ≤ (y a).val ∧ (y a).val < (![0, 0, 0] : Fin 3 → ℕ) a + (![A, B, C] : Fin 3 → ℕ) a := by
    intro a
    match a with
    | ⟨0, _⟩ => have : (y 0).val < A := (y 0).isLt; show 0 ≤ (y 0).val ∧ (y 0).val < 0 + A; omega
    | ⟨1, _⟩ => have : (y 1).val < B := (y 1).isLt; show 0 ≤ (y 1).val ∧ (y 1).val < 0 + B; omega
    | ⟨2, _⟩ => have : (y 2).val < C := (y 2).isLt; show 0 ≤ (y 2).val ∧ (y 2).val < 0 + C; omega
  have l : VecWindow.put X ![0, 0, 0] ![A, B, C] w y = w (Rect.unitLocal (s := (⟨3, ![A, B, C]⟩ : Shape)) (off := ![0, 0, 0]) (size := ![A, B, C]) y hc) := dif_pos hc
  rw [l]
  refine congrArg w (funext fun a => ?_)
  match a with
  | ⟨0, _⟩ => exact Fin.ext (Nat.sub_zero _)
  | ⟨1, _⟩ => exact Fin.ext (Nat.sub_zero _)
  | ⟨2, _⟩ => exact Fin.ext (Nat.sub_zero _)

end Cert.KernelIdeal.Fox

end
-- ==== Proof.Fox.Steps.lean ====
/- What each step of the attention kernel's body does to its buffers, held whole: the queries, keys and values read, the
   scratch buffers by their heads' parts. -/
module

public import proofs.«01_k».proof.Proof.Fox.Struct
public import proofs.«01_k».proof.Proof.Fox.Asm
public import proofs.«01_k».proof.Proof.Gen.KernelIdeal.Frame.Runs

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The buffers' contents: the inputs, and the rest by heads, slots and strips. -/
structure St (F : FTy → Type) [FloatOps F] where
  xq : Vec F S1x256x512 .bf16
  xk : Vec F S1x4096x1024 .bf16
  xv : Vec F S512x4096 .bf16
  out : Fin 4 → Vec F S256x128 .bf16
  qt : Fin 4 → Fin 2 → Vec F S128x256 .bf16
  s : Fin 2 → Fin 4 → Vec F S256x256 .f32
  mp : Fin 2 → Fin 4 → Vec F S8x256 .f32
  p : Fin 4 → Fin 8 → Vec F S32x256 .bf16
  m : Fin 4 → Vec F S1x256 .f32
  acc : Fin 4 → Vec F S144x256 .f32

/-- The output block from its heads. -/
def asmO (f : Fin 4 → Vec F S256x128 .bf16) : Vec F S1x256x512 .bf16 := asm6 (A := 256) (C := 128) (D := 512) (by omega) (by omega) f
/-- The transposed queries from their halves. -/
def asmQ (f : Fin 4 → Fin 2 → Vec F S128x256 .bf16) : Vec F S4x256x256 .bf16 := asm3 (R := 128) (B := 256) (A := 256) (by omega) (by omega) f
/-- The weights from their strips. -/
def asmP (f : Fin 4 → Fin 8 → Vec F S32x256 .bf16) : Vec F S4x256x256 .bf16 := asm3 (R := 32) (B := 256) (A := 256) (by omega) (by omega) f
/-- The running maxima from their heads. -/
def asmM (f : Fin 4 → Vec F S1x256 .f32) : Vec F S4x1x256 .f32 := asm3 (N := 1) (R := 1) (B := 256) (A := 1) (by omega) (by omega) (fun g _ => f g)
/-- The sums from their heads. -/
def asmA (f : Fin 4 → Vec F S144x256 .f32) : Vec F S4x144x256 .f32 := asm3 (N := 1) (R := 144) (B := 256) (A := 144) (by omega) (by omega) (fun g _ => f g)

/-- Every buffer held at its contents. -/
def OWN (c : Dev nD) (R : Refs) (σ : St F) : sProp 𝕄 :=
  iprop(owns c.tc R.a3 fullShare (σ.xq) ∗ owns c.tc R.a4 fullShare (σ.xk) ∗ owns c.tc R.a5 fullShare (σ.xv) ∗ owns c.tc R.a6 fullShare (asmO σ.out) ∗ owns c.tc R.a7 fullShare (asmQ σ.qt) ∗ owns c.tc R.a8 fullShare (asm4 σ.s) ∗ owns c.tc R.a9 fullShare (asm4 σ.mp) ∗ owns c.tc R.a10 fullShare (asmP σ.p) ∗ owns c.tc R.a11 fullShare (asmM σ.m) ∗ owns c.tc R.a12 fullShare (asmA σ.acc))

/-- From `σ`, the program returns `a` and leaves `σ'`. -/
def T (R : Refs) {α : Type} (p : PR F α) (σ : St F) (a : α) (σ' : St F) : Prop :=
  ∀ (c : Dev nD) (E : Set ℕ) (Q : α → sProp 𝕄),
    OWN c R σ ⊢ iprop((OWN c R σ' -∗ Q a) -∗ wp frame (wpE (defs₀ (F := F)) Variants.none c none) E p Q)

variable {R : Refs}

theorem T.pure {α : Type} (σ : St F) (a : α) : T R (pure a : PR F α) σ a σ := by
  intro c E Q
  show OWN c R σ ⊢ iprop((OWN c R σ -∗ Q a) -∗ wp frame (wpE (defs₀ (F := F)) Variants.none c none) E (.ret a) Q)
  rw [wp_ret]
  iintro H W
  imodintro
  iapply W $$ H

theorem T.bind {α β : Type} {p : PR F α} {k : α → PR F β} {σ σ' σ'' : St F} {a : α} {b : β}
    (h : T R p σ a σ') (hk : T R (k a) σ' b σ'') : T R (p >>= k) σ b σ'' := by
  intro c E Q
  rw [wp_bind]
  iintro H W
  iapply (h c E _) $$ H
  iintro H
  iapply (hk c E Q) $$ H W

/-- A state restated. -/
theorem T.of_eq {α : Type} {p : PR F α} {σ σ' τ' : St F} {a b : α} (h : T R p σ a σ') (hs : σ' = τ') (ha : a = b) : T R p σ b τ' := by
  subst hs; subst ha; exact h

/-- A load of a held buffer. -/
theorem load1 (c : Dev nD) (E : Set ℕ) {s : Shape} {e : EltTy} (m : Memref sig .tc .vmem s e) (X : s.Idx → Elt F e)
    (off size : Fin s.rank → ℕ) (inb : ∀ a, off a + size a ≤ s.size a) (hl : m.view.LoadsAt (Rect.unit off size inb).toLoadRect)
    (Q : ((Rect.unit off size inb).toLoadRect.shape.Idx → Elt F e) → sProp 𝕄) :
    (owns c.tc m fullShare X : sProp 𝕄) ⊢ iprop((owns c.tc m fullShare X -∗ Q (VecWindow.window X off size inb))
      -∗ wp frame (wpE (defs₀ (F := F)) Variants.none c none) E (Prog.lift (.load m (Rect.unit off size inb).toLoadRect hl)) Q) := by
  unfold owns
  iintro ⟨%f, %hf, H⟩ W
  iapply (wp_load Variants.none c.tc none E (S := m.view.set) (m.view.setOn_subset_set _)) $$ H
  iintro H
  rw [wp_ret]
  imodintro
  rw [View.readAt_unit m.view f inb rfl inb, hf]
  iapply W
  iexists f
  isplitr
  · ipureintro; exact hf
  · iexact H

/-- A store to a held buffer. -/
theorem store1 (c : Dev nD) (E : Set ℕ) {s : Shape} {e : EltTy} (m : Memref sig .tc .vmem s e) (X : s.Idx → Elt F e)
    (off size : Fin s.rank → ℕ) (inb : ∀ a, off a + size a ≤ s.size a) (w : (Rect.unit off size inb).shape.Idx → Elt F e)
    (hx : (m.access (Rect.unit off size inb)).Stores Finset.univ) (hm : (Finset.univ : Finset (Rect.unit off size inb).shape.Idx) = Finset.univ ∨ ∀ a, (Rect.unit off size inb).stride a = 1)
    (Q : PUnit → sProp 𝕄) :
    (owns c.tc m fullShare X : sProp 𝕄) ⊢ iprop((owns c.tc m fullShare (VecWindow.put X off size w) -∗ Q ⟨⟩)
      -∗ wp frame (wpE (defs₀ (F := F)) Variants.none c none) E (Prog.lift (.store m (Rect.unit off size inb) w Finset.univ hx hm)) Q) := by
  unfold owns
  iintro ⟨%f, %hf, H⟩ W
  iapply (wp_store_writes₀ Variants.none c.tc none E (S := m.view.set) (m.view.set_slice_subset _)) $$ H
  iintro H
  rw [wp_ret]
  imodintro
  iapply W
  iexists (m.view.writes (Elt F) f [⟨Rect.unit off size inb, w⟩])
  isplitr
  · ipureintro
    rw [View.read_writes_cons_put m.view f inb w [] rfl]
    exact congrArg (fun Y => VecWindow.put Y off size w) hf
  · iexact H

theorem T.load3 (σ : St F) (off size : Fin S1x256x512.rank → ℕ) (inb : ∀ a, off a + size a ≤ S1x256x512.size a)
    (hl : R.a3.view.LoadsAt (Rect.unit off size inb).toLoadRect) :
    T R (Prog.lift (.load R.a3 (Rect.unit off size inb).toLoadRect hl)) σ (VecWindow.window (σ.xq) off size inb) σ := by
  intro c E Q
  unfold OWN
  iintro ⟨H3, H4, H5, H6, H7, H8, H9, H10, H11, H12⟩ W
  iapply (load1 c E R.a3 _ off size inb hl Q) $$ H3
  iintro H3
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load4 (σ : St F) (off size : Fin S1x4096x1024.rank → ℕ) (inb : ∀ a, off a + size a ≤ S1x4096x1024.size a)
    (hl : R.a4.view.LoadsAt (Rect.unit off size inb).toLoadRect) :
    T R (Prog.lift (.load R.a4 (Rect.unit off size inb).toLoadRect hl)) σ (VecWindow.window (σ.xk) off size inb) σ := by
  intro c E Q
  unfold OWN
  iintro ⟨H3, H4, H5, H6, H7, H8, H9, H10, H11, H12⟩ W
  iapply (load1 c E R.a4 _ off size inb hl Q) $$ H4
  iintro H4
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load5 (σ : St F) (off size : Fin S512x4096.rank → ℕ) (inb : ∀ a, off a + size a ≤ S512x4096.size a)
    (hl : R.a5.view.LoadsAt (Rect.unit off size inb).toLoadRect) :
    T R (Prog.lift (.load R.a5 (Rect.unit off size inb).toLoadRect hl)) σ (VecWindow.window (σ.xv) off size inb) σ := by
  intro c E Q
  unfold OWN
  iintro ⟨H3, H4, H5, H6, H7, H8, H9, H10, H11, H12⟩ W
  iapply (load1 c E R.a5 _ off size inb hl Q) $$ H5
  iintro H5
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load6 (σ : St F) (off size : Fin S1x256x512.rank → ℕ) (inb : ∀ a, off a + size a ≤ S1x256x512.size a)
    (hl : R.a6.view.LoadsAt (Rect.unit off size inb).toLoadRect) :
    T R (Prog.lift (.load R.a6 (Rect.unit off size inb).toLoadRect hl)) σ (VecWindow.window (asmO σ.out) off size inb) σ := by
  intro c E Q
  unfold OWN
  iintro ⟨H3, H4, H5, H6, H7, H8, H9, H10, H11, H12⟩ W
  iapply (load1 c E R.a6 _ off size inb hl Q) $$ H6
  iintro H6
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load7 (σ : St F) (off size : Fin S4x256x256.rank → ℕ) (inb : ∀ a, off a + size a ≤ S4x256x256.size a)
    (hl : R.a7.view.LoadsAt (Rect.unit off size inb).toLoadRect) :
    T R (Prog.lift (.load R.a7 (Rect.unit off size inb).toLoadRect hl)) σ (VecWindow.window (asmQ σ.qt) off size inb) σ := by
  intro c E Q
  unfold OWN
  iintro ⟨H3, H4, H5, H6, H7, H8, H9, H10, H11, H12⟩ W
  iapply (load1 c E R.a7 _ off size inb hl Q) $$ H7
  iintro H7
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load8 (σ : St F) (off size : Fin S2x4x256x256.rank → ℕ) (inb : ∀ a, off a + size a ≤ S2x4x256x256.size a)
    (hl : R.a8.view.LoadsAt (Rect.unit off size inb).toLoadRect) :
    T R (Prog.lift (.load R.a8 (Rect.unit off size inb).toLoadRect hl)) σ (VecWindow.window (asm4 σ.s) off size inb) σ := by
  intro c E Q
  unfold OWN
  iintro ⟨H3, H4, H5, H6, H7, H8, H9, H10, H11, H12⟩ W
  iapply (load1 c E R.a8 _ off size inb hl Q) $$ H8
  iintro H8
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load9 (σ : St F) (off size : Fin S2x4x8x256.rank → ℕ) (inb : ∀ a, off a + size a ≤ S2x4x8x256.size a)
    (hl : R.a9.view.LoadsAt (Rect.unit off size inb).toLoadRect) :
    T R (Prog.lift (.load R.a9 (Rect.unit off size inb).toLoadRect hl)) σ (VecWindow.window (asm4 σ.mp) off size inb) σ := by
  intro c E Q
  unfold OWN
  iintro ⟨H3, H4, H5, H6, H7, H8, H9, H10, H11, H12⟩ W
  iapply (load1 c E R.a9 _ off size inb hl Q) $$ H9
  iintro H9
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load10 (σ : St F) (off size : Fin S4x256x256.rank → ℕ) (inb : ∀ a, off a + size a ≤ S4x256x256.size a)
    (hl : R.a10.view.LoadsAt (Rect.unit off size inb).toLoadRect) :
    T R (Prog.lift (.load R.a10 (Rect.unit off size inb).toLoadRect hl)) σ (VecWindow.window (asmP σ.p) off size inb) σ := by
  intro c E Q
  unfold OWN
  iintro ⟨H3, H4, H5, H6, H7, H8, H9, H10, H11, H12⟩ W
  iapply (load1 c E R.a10 _ off size inb hl Q) $$ H10
  iintro H10
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load11 (σ : St F) (off size : Fin S4x1x256.rank → ℕ) (inb : ∀ a, off a + size a ≤ S4x1x256.size a)
    (hl : R.a11.view.LoadsAt (Rect.unit off size inb).toLoadRect) :
    T R (Prog.lift (.load R.a11 (Rect.unit off size inb).toLoadRect hl)) σ (VecWindow.window (asmM σ.m) off size inb) σ := by
  intro c E Q
  unfold OWN
  iintro ⟨H3, H4, H5, H6, H7, H8, H9, H10, H11, H12⟩ W
  iapply (load1 c E R.a11 _ off size inb hl Q) $$ H11
  iintro H11
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.load12 (σ : St F) (off size : Fin S4x144x256.rank → ℕ) (inb : ∀ a, off a + size a ≤ S4x144x256.size a)
    (hl : R.a12.view.LoadsAt (Rect.unit off size inb).toLoadRect) :
    T R (Prog.lift (.load R.a12 (Rect.unit off size inb).toLoadRect hl)) σ (VecWindow.window (asmA σ.acc) off size inb) σ := by
  intro c E Q
  unfold OWN
  iintro ⟨H3, H4, H5, H6, H7, H8, H9, H10, H11, H12⟩ W
  iapply (load1 c E R.a12 _ off size inb hl Q) $$ H12
  iintro H12
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.store6 (σ : St F) (off size : Fin S1x256x512.rank → ℕ) (inb : ∀ a, off a + size a ≤ S1x256x512.size a)
    (w : (Rect.unit off size inb).shape.Idx → Elt F .bf16) (hx : (R.a6.access (Rect.unit off size inb)).Stores Finset.univ)
    (hm : (Finset.univ : Finset (Rect.unit off size inb).shape.Idx) = Finset.univ ∨ ∀ a, (Rect.unit off size inb).stride a = 1)
    (y) (h : VecWindow.put (asmO σ.out) off size w = asmO y) :
    T R (Prog.lift (.store R.a6 (Rect.unit off size inb) w Finset.univ hx hm)) σ ⟨⟩ { σ with out := y } := by
  intro c E Q
  unfold OWN
  dsimp only
  rw [← h]
  iintro ⟨H3, H4, H5, H6, H7, H8, H9, H10, H11, H12⟩ W
  iapply (store1 c E R.a6 _ off size inb w hx hm Q) $$ H6
  iintro H6
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.store7 (σ : St F) (off size : Fin S4x256x256.rank → ℕ) (inb : ∀ a, off a + size a ≤ S4x256x256.size a)
    (w : (Rect.unit off size inb).shape.Idx → Elt F .bf16) (hx : (R.a7.access (Rect.unit off size inb)).Stores Finset.univ)
    (hm : (Finset.univ : Finset (Rect.unit off size inb).shape.Idx) = Finset.univ ∨ ∀ a, (Rect.unit off size inb).stride a = 1)
    (y) (h : VecWindow.put (asmQ σ.qt) off size w = asmQ y) :
    T R (Prog.lift (.store R.a7 (Rect.unit off size inb) w Finset.univ hx hm)) σ ⟨⟩ { σ with qt := y } := by
  intro c E Q
  unfold OWN
  dsimp only
  rw [← h]
  iintro ⟨H3, H4, H5, H6, H7, H8, H9, H10, H11, H12⟩ W
  iapply (store1 c E R.a7 _ off size inb w hx hm Q) $$ H7
  iintro H7
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.store8 (σ : St F) (off size : Fin S2x4x256x256.rank → ℕ) (inb : ∀ a, off a + size a ≤ S2x4x256x256.size a)
    (w : (Rect.unit off size inb).shape.Idx → Elt F .f32) (hx : (R.a8.access (Rect.unit off size inb)).Stores Finset.univ)
    (hm : (Finset.univ : Finset (Rect.unit off size inb).shape.Idx) = Finset.univ ∨ ∀ a, (Rect.unit off size inb).stride a = 1)
    (y) (h : VecWindow.put (asm4 σ.s) off size w = asm4 y) :
    T R (Prog.lift (.store R.a8 (Rect.unit off size inb) w Finset.univ hx hm)) σ ⟨⟩ { σ with s := y } := by
  intro c E Q
  unfold OWN
  dsimp only
  rw [← h]
  iintro ⟨H3, H4, H5, H6, H7, H8, H9, H10, H11, H12⟩ W
  iapply (store1 c E R.a8 _ off size inb w hx hm Q) $$ H8
  iintro H8
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.store9 (σ : St F) (off size : Fin S2x4x8x256.rank → ℕ) (inb : ∀ a, off a + size a ≤ S2x4x8x256.size a)
    (w : (Rect.unit off size inb).shape.Idx → Elt F .f32) (hx : (R.a9.access (Rect.unit off size inb)).Stores Finset.univ)
    (hm : (Finset.univ : Finset (Rect.unit off size inb).shape.Idx) = Finset.univ ∨ ∀ a, (Rect.unit off size inb).stride a = 1)
    (y) (h : VecWindow.put (asm4 σ.mp) off size w = asm4 y) :
    T R (Prog.lift (.store R.a9 (Rect.unit off size inb) w Finset.univ hx hm)) σ ⟨⟩ { σ with mp := y } := by
  intro c E Q
  unfold OWN
  dsimp only
  rw [← h]
  iintro ⟨H3, H4, H5, H6, H7, H8, H9, H10, H11, H12⟩ W
  iapply (store1 c E R.a9 _ off size inb w hx hm Q) $$ H9
  iintro H9
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.store10 (σ : St F) (off size : Fin S4x256x256.rank → ℕ) (inb : ∀ a, off a + size a ≤ S4x256x256.size a)
    (w : (Rect.unit off size inb).shape.Idx → Elt F .bf16) (hx : (R.a10.access (Rect.unit off size inb)).Stores Finset.univ)
    (hm : (Finset.univ : Finset (Rect.unit off size inb).shape.Idx) = Finset.univ ∨ ∀ a, (Rect.unit off size inb).stride a = 1)
    (y) (h : VecWindow.put (asmP σ.p) off size w = asmP y) :
    T R (Prog.lift (.store R.a10 (Rect.unit off size inb) w Finset.univ hx hm)) σ ⟨⟩ { σ with p := y } := by
  intro c E Q
  unfold OWN
  dsimp only
  rw [← h]
  iintro ⟨H3, H4, H5, H6, H7, H8, H9, H10, H11, H12⟩ W
  iapply (store1 c E R.a10 _ off size inb w hx hm Q) $$ H10
  iintro H10
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.store11 (σ : St F) (off size : Fin S4x1x256.rank → ℕ) (inb : ∀ a, off a + size a ≤ S4x1x256.size a)
    (w : (Rect.unit off size inb).shape.Idx → Elt F .f32) (hx : (R.a11.access (Rect.unit off size inb)).Stores Finset.univ)
    (hm : (Finset.univ : Finset (Rect.unit off size inb).shape.Idx) = Finset.univ ∨ ∀ a, (Rect.unit off size inb).stride a = 1)
    (y) (h : VecWindow.put (asmM σ.m) off size w = asmM y) :
    T R (Prog.lift (.store R.a11 (Rect.unit off size inb) w Finset.univ hx hm)) σ ⟨⟩ { σ with m := y } := by
  intro c E Q
  unfold OWN
  dsimp only
  rw [← h]
  iintro ⟨H3, H4, H5, H6, H7, H8, H9, H10, H11, H12⟩ W
  iapply (store1 c E R.a11 _ off size inb w hx hm Q) $$ H11
  iintro H11
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem T.store12 (σ : St F) (off size : Fin S4x144x256.rank → ℕ) (inb : ∀ a, off a + size a ≤ S4x144x256.size a)
    (w : (Rect.unit off size inb).shape.Idx → Elt F .f32) (hx : (R.a12.access (Rect.unit off size inb)).Stores Finset.univ)
    (hm : (Finset.univ : Finset (Rect.unit off size inb).shape.Idx) = Finset.univ ∨ ∀ a, (Rect.unit off size inb).stride a = 1)
    (y) (h : VecWindow.put (asmA σ.acc) off size w = asmA y) :
    T R (Prog.lift (.store R.a12 (Rect.unit off size inb) w Finset.univ hx hm)) σ ⟨⟩ { σ with acc := y } := by
  intro c E Q
  unfold OWN
  dsimp only
  rw [← h]
  iintro ⟨H3, H4, H5, H6, H7, H8, H9, H10, H11, H12⟩ W
  iapply (store1 c E R.a12 _ off size inb w hx hm Q) $$ H12
  iintro H12
  iapply W
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Fox

end
-- ==== Proof.Fox.Triples.lean ====
/- What the parts of the attention kernel's body do: the logits of a block, its absorption, the reset and the output. -/
module

public import proofs.«01_k».proof.Proof.Fox.Steps

@[expose] public section

set_option maxRecDepth 16384

noncomputable section

namespace Cert.KernelIdeal.Fox

open Idealize.ShloMosaic Idealize.ShloMosaic.TcCoe
open Cert.KernelIdeal Cert.KernelIdeal.Gen

variable {F : FTy → Type} [FloatOps F] {R : Refs}

theorem sc_strip4 : S32x256.ShapeCasts S1x1x32x256 := rfl

/-- The keys a block of logits is computed from. -/
def kWin (σ : St F) (o : Fin 3 → ℕ) (h : ∀ a, o a + S1x256x256.size a ≤ S1x4096x1024.size a) : Vec F S1x256x256 .bf16 :=
  VecWindow.window σ.xk o S1x256x256.size h
/-- Head `g`'s transposed queries over rows of ones. -/
def qWin (qt : Fin 4 → Fin 2 → Vec F S128x256 .bf16) (g : Fin 4) : Vec F S1x256x256 .bf16 :=
  VecWindow.window (asmQ qt) ![g.val, 0, 0] S1x256x256.size (inb7f g.isLt)
/-- The values a block is absorbed with. -/
def vWin (σ : St F) (o : Fin 2 → ℕ) (h : ∀ a, o a + S128x256.size a ≤ S512x4096.size a) : Vec F S128x256 .bf16 :=
  VecWindow.window σ.xv o S128x256.size h
/-- Head `g`'s weights. -/
def pWin (p : Fin 4 → Fin 8 → Vec F S32x256 .bf16) (g : Fin 4) : FVec F S256x256 .bf16 :=
  shapeCast S256x256 (VecWindow.window (asmP p) ![g.val, 0, 0] S1x256x256.size (inb7f g.isLt)) shapeCasts_S1x256x256_S256x256

/-! ## A block's logits -/

def issue1St (b : Fin 2) (g : Fin 4) (k : Vec F S1x256x256 .bf16) (σ : St F) : St F :=
  { σ with s := upd2 σ.s b g (logits k (qWin σ.qt g)), mp := upd2 σ.mp b g (blockMax (logits k (qWin σ.qt g))) }

theorem T_issue1 (σ : St F) (b : Fin 2) (g : Fin 4) (o h hb hg) :
    T R (issueHead R b.val g.val hb hg o h) σ ⟨⟩ (issue1St b g (kWin σ o h) σ) := by
  unfold issueHead
  refine T.bind (T.load4 σ _ _ _ _) ?_
  refine T.bind (T.load7 σ _ _ _ _) ?_
  refine T.bind (T.load8 σ _ _ _ _) ?_
  refine T.bind (T.store8 σ _ _ _ _ _ _ (upd2 σ.s b g (logits (kWin σ o h) (qWin σ.qt g))) (put_asm4 σ.s b.val g.val b.isLt g.isLt _ _)) ?_
  refine T.bind (T.load9 _ _ _ _ _) ?_
  exact T.store9 _ _ _ _ _ _ _ (upd2 σ.mp b g (blockMax (logits (kWin σ o h) (qWin σ.qt g)))) (put_asm4 σ.mp b.val g.val b.isLt g.isLt _ _)

/-- A block's logits at slot `b`, from the heads' keys. -/
def issueSt (b : Fin 2) (k : Fin 4 → Vec F S1x256x256 .bf16) (σ : St F) : St F :=
  { σ with s := upd1 σ.s b (fun g => logits (k g) (qWin σ.qt g)), mp := upd1 σ.mp b (fun g => blockMax (logits (k g) (qWin σ.qt g))) }

theorem T_issue (σ : St F) (b : Fin 2) (o : Fin 4 → Fin 3 → ℕ) (h : ∀ g a, o g a + S1x256x256.size a ≤ S1x4096x1024.size a) (hb h0 h1 h2 h3) :
    T R (issue R b.val hb (o 0) (o 1) (o 2) (o 3) h0 h1 h2 h3) σ ⟨⟩ (issueSt b (fun g => kWin σ (o g) (h g)) σ) := by
  unfold issue
  refine T.of_eq (T.bind (T_issue1 σ b 0 _ _ _ _) (T.bind (T_issue1 _ b 1 _ _ _ _) (T.bind (T_issue1 _ b 2 _ _ _ _) (T_issue1 _ b 3 _ _ _ _)))) ?_ rfl
  exact congrArg₂ (fun s mp => ({ σ with s := s, mp := mp } : St F)) (upd2_four σ.s b (fun g => logits (kWin σ (o g) (h g)) (qWin σ.qt g)))
    (upd2_four σ.mp b (fun g => blockMax (logits (kWin σ (o g) (h g)) (qWin σ.qt g))))

/-! ## Strips -/

theorem T_loadStrip (σ : St F) (b : Fin 2) (g : Fin 4) (r : ℕ) (hb hg hr) :
    T R (loadStrip R b.val g.val r hb hg hr) σ (shapeCast S1x1x32x256 (rows 32 r hr (σ.s b g)) sc_strip4) σ :=
  T.of_eq (T.load8 σ _ _ _ _) rfl (window_asm4 σ.s b.val g.val r 32 b.isLt g.isLt hr _ _)

theorem T_storeStrip (σ : St F) (g : Fin 4) (r : ℕ) (j : Fin 8) (hj : r = 32 * j.val) (hg hr h) (w : FVec F S32x256 .bf16) :
    T R (storeStrip R g.val r hg hr h w) σ ⟨⟩ { σ with p := upd2 σ.p g j w } := by
  unfold storeStrip
  refine T.bind (T.load10 σ _ _ _ _) ?_
  exact T.store10 σ _ _ _ _ _ _ (upd2 σ.p g j w) (put_asm3 (R := 32) (B := 256) (A := 256) (by omega) (by omega) σ.p g.val r g.isLt j hj _ _)

theorem T_expStrip (σ : St F) (b : Fin 2) (g : Fin 4) (r : ℕ) (j : Fin 8) (hj : r = 32 * j.val) (hb hg hr h) (mnew : FVec F S1x256 .f32) :
    T R (expStrip R b.val g.val r hb hg hr h mnew) σ ⟨⟩ { σ with p := upd2 σ.p g j (pStrip mnew (rows 32 r hr (σ.s b g))) } := by
  unfold expStrip
  refine T.bind (T_loadStrip σ b g r _ _ _) ?_
  rw [shapeCast_shapeCast]
  exact T_storeStrip σ g r j hj _ _ _ _

theorem T_expStripD (σ : St F) (b : Fin 2) (g : Fin 4) (r : ℕ) (j : Fin 8) (hj : r = 32 * j.val) (hb hg hr h) (mnew : FVec F S1x256 .f32) :
    T R (expStripD R b.val g.val r hb hg hr h mnew) σ ⟨⟩ { σ with p := upd2 σ.p g j (pStrip mnew (diagMask r (rows 32 r hr (σ.s b g)))) } := by
  unfold expStripD
  refine T.bind (T_loadStrip σ b g r _ _ _) ?_
  rw [shapeCast_shapeCast]
  exact T_storeStrip σ g r j hj _ _ _ _

theorem T_loadM (σ : St F) (g : Fin 4) (hg) :
    T R (loadM R g.val hg) σ (shapeCast S1x1x256 (σ.m g) shapeCasts_S1x256_S1x1x256) σ :=
  T.of_eq (T.load11 σ _ _ _ _) rfl (window_asm3 (N := 1) (R := 1) (B := 256) (A := 1) (by omega) (by omega) (fun g _ => σ.m g) g.val 0 g.isLt 0 rfl _ _)

theorem upd2_col {α : Type} (f : Fin 4 → α) (g : Fin 4) (w : α) :
    upd2 (fun g (_ : Fin 1) => f g) g 0 w = fun g' _ => upd1 f g w g' := by
  funext a b
  have : b = 0 := Subsingleton.elim _ _
  simp [upd2, upd1, this]

theorem T_storeM (σ : St F) (g : Fin 4) (hg) (w : FVec F S1x256 .f32) :
    T R (storeM R g.val hg w) σ ⟨⟩ { σ with m := upd1 σ.m g w } := by
  unfold storeM
  refine T.bind (T.load11 σ _ _ _ _) ?_
  refine T.store11 σ _ _ _ _ _ _ (upd1 σ.m g w) ?_
  refine (put_asm3 (N := 1) (R := 1) (B := 256) (A := 1) (by omega) (by omega) (fun g _ => σ.m g) g.val 0 g.isLt 0 rfl _ _).trans ?_
  exact congrArg (asm3 (N := 1) (R := 1) (B := 256) (A := 1) (by omega) (by omega)) (upd2_col σ.m g w)

/-! ## The maximum and the weights of a block -/

/-- Rows `32 j` on. -/
def strip (x : Vec F S256x256 .f32) (j : Fin 8) : Vec F S32x256 .f32 := rows 32 (32 * j.val) (by omega) x

def ph1St (g : Fin 4) (mnew : FVec F S1x256 .f32) (p : Fin 8 → FVec F S32x256 .bf16) (σ : St F) : St F :=
  { σ with m := upd1 σ.m g mnew, p := upd1 σ.p g p }

theorem T_absorb1 (σ : St F) (b : Fin 2) (g : Fin 4) (hb hg) :
    T R (absorb1 R b.val g.val hb hg) σ (alphaOf (σ.m g) (mNew (σ.m g) (σ.mp b g)))
      (ph1St g (mNew (σ.m g) (σ.mp b g)) (fun j => pStrip (mNew (σ.m g) (σ.mp b g)) (strip (σ.s b g) j)) σ) := by
  unfold absorb1
  refine T.bind (T.of_eq (T.load9 σ _ _ _ _) rfl (window_asm4 σ.mp b.val g.val 0 8 b.isLt g.isLt (by omega) _ shapeCasts_S8x256_S1x1x8x256)) ?_
  refine T.bind (T_loadM σ g _) ?_
  dsimp only
  rw [rows_all, shapeCast_shapeCast, shapeCast_shapeCast]
  refine T.bind (T_storeM σ g _ _) ?_
  refine T.bind (T_expStrip _ b g 0 0 rfl _ _ _ _ _) ?_
  refine T.bind (T_expStrip _ b g 32 1 rfl _ _ _ _ _) ?_
  refine T.bind (T_expStrip _ b g 64 2 rfl _ _ _ _ _) ?_
  refine T.bind (T_expStrip _ b g 96 3 rfl _ _ _ _ _) ?_
  refine T.bind (T_expStrip _ b g 128 4 rfl _ _ _ _ _) ?_
  refine T.bind (T_expStrip _ b g 160 5 rfl _ _ _ _ _) ?_
  refine T.bind (T_expStrip _ b g 192 6 rfl _ _ _ _ _) ?_
  refine T.bind (T_expStrip _ b g 224 7 rfl _ _ _ _ _) ?_
  refine T.of_eq (T.pure _ _) ?_ rfl
  exact congrArg (fun p => ({ σ with m := upd1 σ.m g (mNew (σ.m g) (σ.mp b g)), p := p } : St F))
    (upd2_eight σ.p g (fun j => pStrip (mNew (σ.m g) (σ.mp b g)) (strip (σ.s b g) j)))

/-- The partial maxima of a block's masked logits. -/
def diagMax (x : Vec F S256x256 .f32) : FVec F S8x256 .f32 := (maximumf (maximumf (maximumf (maximumf (maximumf (maximumf (maximumf (stripMax (diagMask 0 (rows 32 0 (by omega) x))) (stripMax (diagMask 32 (rows 32 32 (by omega) x)))) (stripMax (diagMask 64 (rows 32 64 (by omega) x)))) (stripMax (diagMask 96 (rows 32 96 (by omega) x)))) (stripMax (diagMask 128 (rows 32 128 (by omega) x)))) (stripMax (diagMask 160 (rows 32 160 (by omega) x)))) (stripMax (diagMask 192 (rows 32 192 (by omega) x)))) (stripMax (diagMask 224 (rows 32 224 (by omega) x))))

theorem T_absorb1D (σ : St F) (b : Fin 2) (g : Fin 4) (hb hg) :
    T R (absorb1D R b.val g.val hb hg) σ (alphaOf (σ.m g) (mNew (σ.m g) (diagMax (σ.s b g))))
      (ph1St g (mNew (σ.m g) (diagMax (σ.s b g))) (fun j => pStrip (mNew (σ.m g) (diagMax (σ.s b g))) (diagMask (32 * j.val) (strip (σ.s b g) j))) σ) := by
  unfold absorb1D
  refine T.bind (T_loadStrip σ b g 0 _ _ _) ?_
  refine T.bind (T_loadStrip σ b g 32 _ _ _) ?_
  refine T.bind (T_loadStrip σ b g 64 _ _ _) ?_
  refine T.bind (T_loadStrip σ b g 96 _ _ _) ?_
  refine T.bind (T_loadStrip σ b g 128 _ _ _) ?_
  refine T.bind (T_loadStrip σ b g 160 _ _ _) ?_
  refine T.bind (T_loadStrip σ b g 192 _ _ _) ?_
  refine T.bind (T_loadStrip σ b g 224 _ _ _) ?_
  refine T.bind (T_loadM σ g _) ?_
  dsimp only
  simp only [shapeCast_shapeCast]
  refine T.bind (T_storeM σ g _ _) ?_
  refine T.bind (T_expStripD _ b g 0 0 rfl _ _ _ _ _) ?_
  refine T.bind (T_expStripD _ b g 32 1 rfl _ _ _ _ _) ?_
  refine T.bind (T_expStripD _ b g 64 2 rfl _ _ _ _ _) ?_
  refine T.bind (T_expStripD _ b g 96 3 rfl _ _ _ _ _) ?_
  refine T.bind (T_expStripD _ b g 128 4 rfl _ _ _ _ _) ?_
  refine T.bind (T_expStripD _ b g 160 5 rfl _ _ _ _ _) ?_
  refine T.bind (T_expStripD _ b g 192 6 rfl _ _ _ _ _) ?_
  refine T.bind (T_expStripD _ b g 224 7 rfl _ _ _ _ _) ?_
  refine T.of_eq (T.pure _ _) ?_ rfl
  exact congrArg (fun p => ({ σ with m := upd1 σ.m g (mNew (σ.m g) (diagMax (σ.s b g))), p := p } : St F))
    (upd2_eight σ.p g (fun j => pStrip (mNew (σ.m g) (diagMax (σ.s b g))) (diagMask (32 * j.val) (strip (σ.s b g) j))))

theorem T_absorb2 (σ : St F) (g : Fin 4) (hg) (o : Fin 2 → ℕ) (h) (alpha : FVec F S1x256 .f32) :
    T R (absorb2 R g.val hg o h alpha) σ ⟨⟩ { σ with acc := upd1 σ.acc g (accNew (σ.acc g) alpha (vWin σ o h) (pWin σ.p g)) } := by
  unfold absorb2
  refine T.bind (T.of_eq (T.load12 σ _ _ _ _) rfl (window_asm3 (N := 1) (R := 144) (B := 256) (A := 144) (by omega) (by omega) (fun g _ => σ.acc g) g.val 0 g.isLt 0 rfl _ shapeCasts_S144x256_S1x144x256)) ?_
  refine T.bind (T.load5 σ _ _ _ _) ?_
  refine T.bind (T.load10 σ _ _ _ _) ?_
  refine T.bind (T.load12 σ _ _ _ _) ?_
  rw [shapeCast_shapeCast]
  refine T.store12 σ _ _ _ _ _ _ (upd1 σ.acc g (accNew (σ.acc g) alpha (vWin σ o h) (pWin σ.p g))) ?_
  refine (put_asm3 (N := 1) (R := 144) (B := 256) (A := 144) (by omega) (by omega) (fun g _ => σ.acc g) g.val 0 g.isLt 0 rfl _ _).trans ?_
  exact congrArg (asm3 (N := 1) (R := 144) (B := 256) (A := 144) (by omega) (by omega)) (upd2_col σ.acc g _)

/-- A block absorbed: the new maxima, the weights and the sums, from the heads' new maxima, weights and values. -/
def absSt (mn : Fin 4 → FVec F S1x256 .f32) (p : Fin 4 → Fin 8 → FVec F S32x256 .bf16) (v : Fin 4 → Vec F S128x256 .bf16) (σ : St F) : St F :=
  { σ with m := mn, p := p, acc := fun g => accNew (σ.acc g) (alphaOf (σ.m g) (mn g)) (v g) (pWin p g) }

/-- The block at slot `b` absorbed. -/
def absorbSt (b : Fin 2) (v : Fin 4 → Vec F S128x256 .bf16) (σ : St F) : St F :=
  absSt (fun g => mNew (σ.m g) (σ.mp b g)) (fun g j => pStrip (mNew (σ.m g) (σ.mp b g)) (strip (σ.s b g) j)) v σ

/-- The diagonal block, at slot `b`, absorbed. -/
def absorbDSt (b : Fin 2) (v : Fin 4 → Vec F S128x256 .bf16) (σ : St F) : St F :=
  absSt (fun g => mNew (σ.m g) (diagMax (σ.s b g))) (fun g j => pStrip (mNew (σ.m g) (diagMax (σ.s b g))) (diagMask (32 * j.val) (strip (σ.s b g) j))) v σ

theorem ph2 (σ : St F) (mn : Fin 4 → FVec F S1x256 .f32) (p : Fin 4 → Fin 8 → FVec F S32x256 .bf16) (o : Fin 4 → Fin 2 → ℕ)
    (h : ∀ g a, o g a + S128x256.size a ≤ S512x4096.size a) (hg0 hg1 hg2 hg3 h0 h1 h2 h3) :
    T R (do
        absorb2 R 0 hg0 (o 0) h0 (alphaOf (σ.m 0) (mn 0))
        absorb2 R 1 hg1 (o 1) h1 (alphaOf (σ.m 1) (mn 1))
        absorb2 R 2 hg2 (o 2) h2 (alphaOf (σ.m 2) (mn 2))
        absorb2 R 3 hg3 (o 3) h3 (alphaOf (σ.m 3) (mn 3)))
      ({ σ with m := mn, p := p } : St F) ⟨⟩ (absSt mn p (fun g => vWin σ (o g) (h g)) σ) := by
  refine T.of_eq (T.bind (T_absorb2 _ 0 _ _ _ _) (T.bind (T_absorb2 _ 1 _ _ _ _) (T.bind (T_absorb2 _ 2 _ _ _ _) (T_absorb2 _ 3 _ _ _ _)))) ?_ rfl
  exact congrArg (fun acc => ({ σ with m := mn, p := p, acc := acc } : St F))
    (upd1_four σ.acc (fun g => accNew (σ.acc g) (alphaOf (σ.m g) (mn g)) (vWin σ (o g) (h g)) (pWin p g)))

theorem T_absorb (σ : St F) (b : Fin 2) (o : Fin 4 → Fin 2 → ℕ) (h : ∀ g a, o g a + S128x256.size a ≤ S512x4096.size a) (hb h0 h1 h2 h3) :
    T R (absorb R b.val hb (o 0) (o 1) (o 2) (o 3) h0 h1 h2 h3) σ ⟨⟩ (absorbSt b (fun g => vWin σ (o g) (h g)) σ) := by
  unfold absorb
  refine T.bind (T_absorb1 σ b 0 _ _) (T.bind (T_absorb1 _ b 1 _ _) (T.bind (T_absorb1 _ b 2 _ _) (T.bind (T_absorb1 _ b 3 _ _) ?_)))
  have e := congrArg₂ (fun m p => ({ σ with m := m, p := p } : St F)) (upd1_four σ.m (fun g => mNew (σ.m g) (σ.mp b g)))
    (upd1_four σ.p (fun g j => pStrip (mNew (σ.m g) (σ.mp b g)) (strip (σ.s b g) j)))
  have t := ph2 (R := R) σ (fun g => mNew (σ.m g) (σ.mp b g)) (fun g j => pStrip (mNew (σ.m g) (σ.mp b g)) (strip (σ.s b g) j)) o h
    (by omega) (by omega) (by omega) (by omega) h0 h1 h2 h3
  rw [← e] at t
  exact t

theorem T_absorbD (σ : St F) (b : Fin 2) (o : Fin 4 → Fin 2 → ℕ) (h : ∀ g a, o g a + S128x256.size a ≤ S512x4096.size a) (hb h0 h1 h2 h3) :
    T R (absorbD R b.val hb (o 0) (o 1) (o 2) (o 3) h0 h1 h2 h3) σ ⟨⟩ (absorbDSt b (fun g => vWin σ (o g) (h g)) σ) := by
  unfold absorbD
  refine T.bind (T_absorb1D σ b 0 _ _) (T.bind (T_absorb1D _ b 1 _ _) (T.bind (T_absorb1D _ b 2 _ _) (T.bind (T_absorb1D _ b 3 _ _) ?_)))
  have e := congrArg₂ (fun m p => ({ σ with m := m, p := p } : St F)) (upd1_four σ.m (fun g => mNew (σ.m g) (diagMax (σ.s b g))))
    (upd1_four σ.p (fun g j => pStrip (mNew (σ.m g) (diagMax (σ.s b g))) (diagMask (32 * j.val) (strip (σ.s b g) j))))
  have t := ph2 (R := R) σ (fun g => mNew (σ.m g) (diagMax (σ.s b g))) (fun g j => pStrip (mNew (σ.m g) (diagMax (σ.s b g))) (diagMask (32 * j.val) (strip (σ.s b g) j))) o h
    (by omega) (by omega) (by omega) (by omega) h0 h1 h2 h3
  rw [← e] at t
  exact t

/-! ## The reset, the queries and the output -/

/-- The state after the reset. -/
def resetSt (σ : St F) : St F :=
  { σ with m := fun _ => broadcast S1x256 (Scalar.ofBits .f32 0xFF800000#32 : F .f32), acc := fun _ => broadcast S144x256 (Scalar.ofBits .f32 0x00000000#32 : F .f32) }

theorem T_reset (σ : St F) : T R (reset R) σ ⟨⟩ (resetSt σ) := by
  unfold reset
  refine T.bind (T.load11 σ _ _ _ _) ?_
  refine T.bind (T.store11 σ _ _ _ _ _ _ (fun _ => broadcast S1x256 (Scalar.ofBits .f32 0xFF800000#32 : F .f32)) ((put_whole3 _ _).trans rfl)) ?_
  refine T.bind (T.load12 _ _ _ _ _) ?_
  exact T.store12 _ _ _ _ _ _ _ (fun _ => broadcast S144x256 (Scalar.ofBits .f32 0x00000000#32 : F .f32)) ((put_whole3 _ _).trans rfl)

/-- A head's queries. -/
def xqWin (xq : Vec F S1x256x512 .bf16) (g : Fin 4) : Vec F S1x256x128 .bf16 := VecWindow.window xq ![0, 0, 128 * g.val] S1x256x128.size (inb6 g.isLt)

/-- Rows of ones, under the queries. -/
def ones128 : FVec F S128x256 .bf16 := broadcast S128x256 (Scalar.ofBits .bf16 0x3F80#16 : F .bf16)

/-- A head's transposed queries and the ones under them. -/
def qHalf (xq : Vec F S1x256x512 .bf16) (g : Fin 4) : Fin 2 → FVec F S128x256 .bf16 := ![qT (xqWin xq g), ones128]

theorem T_setQ (σ : St F) (g : Fin 4) (o : ℕ) (ho : o = 128 * g.val) (hg h) :
    T R (setQ R g.val o hg h) σ ⟨⟩ { σ with qt := upd1 σ.qt g (qHalf σ.xq g) } := by
  subst ho
  unfold setQ
  refine T.bind (T.load3 σ _ _ _ _) ?_
  refine T.bind (T.load7 σ _ _ _ _) ?_
  refine T.bind (T.store7 σ _ _ _ _ _ _ (upd2 σ.qt g 0 (qT (xqWin σ.xq g))) (put_asm3 (R := 128) (B := 256) (A := 256) (by omega) (by omega) σ.qt g.val 0 g.isLt 0 rfl _ _)) ?_
  refine T.bind (T.load7 _ _ _ _ _) ?_
  refine T.of_eq (T.store7 _ _ _ _ _ _ _ (upd2 (upd2 σ.qt g 0 (qT (xqWin σ.xq g))) g 1 ones128) (put_asm3 (R := 128) (B := 256) (A := 256) (by omega) (by omega) _ g.val 128 g.isLt 1 rfl _ _)) ?_ rfl
  exact congrArg (fun q => ({ σ with qt := q } : St F)) (upd2_two σ.qt g (qHalf σ.xq g))

/-- Head `g`'s output strip. -/
def outOf (acc : Fin 4 → Vec F S144x256 .f32) (g : Fin 4) : FVec F S256x128 .bf16 :=
  outStrip (VecWindow.window (asmA acc) ![g.val, 0, 0] S1x128x256.size (inb12v g.isLt)) (VecWindow.window (asmA acc) ![g.val, 128, 0] S1x1x256.size (inb12l g.isLt))

theorem T_out (σ : St F) (g : Fin 4) (o : ℕ) (ho : o = 128 * g.val) (hg h hp) :
    T R (outHead R g.val o hg h hp) σ ⟨⟩ { σ with out := upd1 σ.out g (outOf σ.acc g) } := by
  unfold outHead
  refine T.bind (T.load12 σ _ _ _ _) ?_
  refine T.bind (T.load12 σ _ _ _ _) ?_
  refine T.bind (T.load6 σ _ _ _ _) ?_
  exact T.store6 σ _ _ _ _ _ _ (upd1 σ.out g (outOf σ.acc g)) (put_asm6 (A := 256) (C := 128) (D := 512) (by omega) (by omega) σ.out o g ho _ _)

theorem T_epilogue (σ : St F) : T R (epilogue R) σ ⟨⟩ { σ with out := outOf σ.acc } := by
  unfold epilogue
  refine T.of_eq (T.bind (T_out σ 0 _ rfl _ _ _) (T.bind (T_out _ 1 _ rfl _ _ _) (T.bind (T_out _ 2 _ rfl _ _ _) (T.bind (T_out _ 3 _ rfl _ _ _) (T.pure _ _))))) ?_ rfl
  exact congrArg (fun q => ({ σ with out := q } : St F)) (upd1_four σ.out (outOf σ.acc))

theorem T_setQ4 (σ : St F) (hg0 hg1 hg2 hg3 h0 h1 h2 h3) {α : Type} {k : PR F α} {a : α} {σ' : St F}
    (hk : T R k { σ with qt := qHalf σ.xq } a σ') :
    T R (do
      setQ R 0 0 hg0 h0
      setQ R 1 128 hg1 h1
      setQ R 2 256 hg2 h2
      setQ R 3 384 hg3 h3
      k) σ a σ' := by
  refine T.bind (T_setQ σ 0 _ rfl _ _) (T.bind (T_setQ _ 1 _ rfl _ _) (T.bind (T_setQ _ 2 _ rfl _ _) (T.bind (T_setQ _ 3 _ rfl _ _) ?_)))
  have e := congrArg (fun q => ({ σ with qt := q } : St F)) (upd1_four σ.qt (qHalf σ.xq))
  rw [← e] at hk
  exact hk

end Cert.KernelIdeal.Fox

end
-- ==== Proof.Fox.Body.lean ====
/- The attention kernel's body is the sequence of its steps. -/
module

public import proofs.«01_k».proof.Proof.Fox.Struct
public import Idealize.ShloMosaic.Lib.Tactic.ProgEq
public import Idealize.ShloMosaic.PureOps.Ideal
public import Idealize.ShloMosaic.PureOps.BitExact

@[expose] public section

set_option maxRecDepth 16384

noncomputable section

namespace Cert.KernelIdeal.Fox

open Idealize.ShloMosaic Idealize.SL.Sem Cert.KernelIdeal Cert.KernelIdeal.Gen
open scoped Idealize.ShloMosaic.ProgEq

variable {F : FTy → Type} [FloatOps F]

/-- A trip of the second loop, which is never made. -/
def trip2 (R : Refs) (i : grid0.Coords) (k : Fin (k0_t2_loop i).trips) : PR F (BitVec 32) := do
  issue R 0 (by omega) (k0_off25 i k) (k0_off26 i k) (k0_off27 i k) (k0_off28 i k) (k0_off25_inb i k) (k0_off26_inb i k) (k0_off27_inb i k) (k0_off28_inb i k)
  absorb R 1 (by omega) (k0_off29 i k) (k0_off30 i k) (k0_off31 i k) (k0_off32 i k) (k0_off29_inb i k) (k0_off30_inb i k) (k0_off31_inb i k) (k0_off32_inb i k)
  issue R 1 (by omega) (k0_off33 i k) (k0_off34 i k) (k0_off35 i k) (k0_off36 i k) (k0_off33_inb i k) (k0_off34_inb i k) (k0_off35_inb i k) (k0_off36_inb i k)
  absorb R 0 (by omega) (k0_off37 i k) (k0_off38 i k) (k0_off39 i k) (k0_off40 i k) (k0_off37_inb i k) (k0_off38_inb i k) (k0_off39_inb i k) (k0_off40_inb i k)
  pure 0#32

/-- The block left over where the number of blocks before the diagonal is odd. -/
def tail (R : Refs) (i : grid0.Coords) : PR F PUnit :=
  if h : k0_cond1 i = 1#1 then do
    absorb R 1 (by omega) (k0_off41 i) (k0_off42 i) (k0_off43 i) (k0_off44 i) (k0_off41_inb i h) (k0_off42_inb i h) (k0_off43_inb i h) (k0_off44_inb i h)
    pure ⟨⟩
  else do
    pure ⟨⟩

/-- The body by its steps. -/
def body (R : Refs) (i : grid0.Coords) : PR F PUnit := do
  prologue R i
  let v ← Scf.Loop.for (k0_t1_loop i) (k0_t1_ok i) 0#32 fun k _ => trip R i k
  let _v ← Scf.Loop.for (k0_t2_loop i) (k0_t2_ok i) v fun k _ => trip2 R i k
  tail R i
  epilogue R

/-- The body as printed. -/
def printed (R : Refs) (i : grid0.Coords) : PR F PUnit :=
  cc0_fox_attention i R.a3 R.h3 R.a4 R.h4 R.a5 R.h5 R.a6 R.h6 R.a7 R.h7 R.a8 R.h8 R.a9 R.h9 R.a10 R.h10 R.a11 R.h11 R.a12 R.h12

set_option maxHeartbeats 0 in
prog_eq Cert.KernelIdeal.Fox.eqIdeal : Cert.KernelIdeal.Fox.printed Cert.KernelIdeal.Fox.body from Cert.KernelIdeal to Cert.KernelIdeal.Fox at Ideal inferInstance by
  intros; rfl

set_option maxHeartbeats 0 in
prog_eq Cert.KernelIdeal.Fox.eqBits : Cert.KernelIdeal.Fox.printed Cert.KernelIdeal.Fox.body from Cert.KernelIdeal to Cert.KernelIdeal.Fox at Bits inferInstance by
  intros; rfl

end Cert.KernelIdeal.Fox

end
-- ==== Proof.Fox.Offs.lean ====
/- The offsets and the trip count of the attention kernel's loop, in closed form. -/
module

public import proofs.«01_k».proof.Proof.Gen.KernelIdeal

@[expose] public section

set_option maxRecDepth 16384

namespace Cert.KernelIdeal.Fox

open Idealize.ShloMosaic Idealize.SL.Sem Cert.KernelIdeal Cert.KernelIdeal.Gen

theorem trips_eq : ∀ i : grid0.Coords, (k0_t1_loop i).trips = (i 2).val / 2 := by decide +kernel
theorem trips2_eq : ∀ i : grid0.Coords, (k0_t2_loop i).trips = 0 := fun i => Nat.le_zero.mp (k0_t2_abs i).2.1
theorem cond_iff : ∀ i : grid0.Coords, k0_cond1 i = 1#1 ↔ (i 2).val % 2 = 1 := by decide +kernel

/-- Where head `g`'s keys of block `c` begin. -/
abbrev ko (c g : ℕ) : Fin 3 → ℕ := ![0, 256 * c, 256 * g]
/-- Where head `g`'s values of block `c` begin. -/
abbrev vo (c g : ℕ) : Fin 2 → ℕ := ![128 * g, 256 * c]

theorem off1_c : ∀ i : grid0.Coords, k0_off1 i = ko (i 2).val 0 := by decide +kernel
theorem off5_c : ∀ i : grid0.Coords, k0_off5 i = vo (i 2).val 0 := by decide +kernel
theorem off9_c : ∀ (i : grid0.Coords) (k : Fin (k0_t1_loop i).trips), k0_off9 i k = ko (2 * k.val + 1) 0 := by decide +kernel
theorem off13_c : ∀ (i : grid0.Coords) (k : Fin (k0_t1_loop i).trips), k0_off13 i k = vo (2 * k.val) 0 := by decide +kernel
theorem off17_c : ∀ (i : grid0.Coords) (k : Fin (k0_t1_loop i).trips), k0_off17 i k = ko (2 * k.val + 2) 0 := by decide +kernel
theorem off21_c : ∀ (i : grid0.Coords) (k : Fin (k0_t1_loop i).trips), k0_off21 i k = vo (2 * k.val + 1) 0 := by decide +kernel
theorem off41_c : ∀ i : grid0.Coords, k0_cond1 i = 1#1 → k0_off41 i = vo ((i 2).val - 1) 0 := by decide +kernel
theorem off2_c : ∀ i : grid0.Coords, k0_off2 i = ko (i 2).val 1 := by decide +kernel
theorem off6_c : ∀ i : grid0.Coords, k0_off6 i = vo (i 2).val 1 := by decide +kernel
theorem off10_c : ∀ (i : grid0.Coords) (k : Fin (k0_t1_loop i).trips), k0_off10 i k = ko (2 * k.val + 1) 1 := by decide +kernel
theorem off14_c : ∀ (i : grid0.Coords) (k : Fin (k0_t1_loop i).trips), k0_off14 i k = vo (2 * k.val) 1 := by decide +kernel
theorem off18_c : ∀ (i : grid0.Coords) (k : Fin (k0_t1_loop i).trips), k0_off18 i k = ko (2 * k.val + 2) 1 := by decide +kernel
theorem off22_c : ∀ (i : grid0.Coords) (k : Fin (k0_t1_loop i).trips), k0_off22 i k = vo (2 * k.val + 1) 1 := by decide +kernel
theorem off42_c : ∀ i : grid0.Coords, k0_cond1 i = 1#1 → k0_off42 i = vo ((i 2).val - 1) 1 := by decide +kernel
theorem off3_c : ∀ i : grid0.Coords, k0_off3 i = ko (i 2).val 2 := by decide +kernel
theorem off7_c : ∀ i : grid0.Coords, k0_off7 i = vo (i 2).val 2 := by decide +kernel
theorem off11_c : ∀ (i : grid0.Coords) (k : Fin (k0_t1_loop i).trips), k0_off11 i k = ko (2 * k.val + 1) 2 := by decide +kernel
theorem off15_c : ∀ (i : grid0.Coords) (k : Fin (k0_t1_loop i).trips), k0_off15 i k = vo (2 * k.val) 2 := by decide +kernel
theorem off19_c : ∀ (i : grid0.Coords) (k : Fin (k0_t1_loop i).trips), k0_off19 i k = ko (2 * k.val + 2) 2 := by decide +kernel
theorem off23_c : ∀ (i : grid0.Coords) (k : Fin (k0_t1_loop i).trips), k0_off23 i k = vo (2 * k.val + 1) 2 := by decide +kernel
theorem off43_c : ∀ i : grid0.Coords, k0_cond1 i = 1#1 → k0_off43 i = vo ((i 2).val - 1) 2 := by decide +kernel
theorem off4_c : ∀ i : grid0.Coords, k0_off4 i = ko (i 2).val 3 := by decide +kernel
theorem off8_c : ∀ i : grid0.Coords, k0_off8 i = vo (i 2).val 3 := by decide +kernel
theorem off12_c : ∀ (i : grid0.Coords) (k : Fin (k0_t1_loop i).trips), k0_off12 i k = ko (2 * k.val + 1) 3 := by decide +kernel
theorem off16_c : ∀ (i : grid0.Coords) (k : Fin (k0_t1_loop i).trips), k0_off16 i k = vo (2 * k.val) 3 := by decide +kernel
theorem off20_c : ∀ (i : grid0.Coords) (k : Fin (k0_t1_loop i).trips), k0_off20 i k = ko (2 * k.val + 2) 3 := by decide +kernel
theorem off24_c : ∀ (i : grid0.Coords) (k : Fin (k0_t1_loop i).trips), k0_off24 i k = vo (2 * k.val + 1) 3 := by decide +kernel
theorem off44_c : ∀ i : grid0.Coords, k0_cond1 i = 1#1 → k0_off44 i = vo ((i 2).val - 1) 3 := by decide +kernel

end Cert.KernelIdeal.Fox
-- ==== Proof.Fox.BodyRun.lean ====
/- What the whole body of the attention kernel does, at any point. -/
module

public import proofs.«01_k».proof.Proof.Fox.Triples
public import proofs.«01_k».proof.Proof.Fox.Body
public import proofs.«01_k».proof.Proof.Fox.Offs

@[expose] public section

set_option maxRecDepth 16384

noncomputable section

namespace Cert.KernelIdeal.Fox

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {R : Refs}

local notation "𝕄" => MT nD τ sig Unit (Elt F) ℕ (UR sig nD τ) ℕ

theorem ko_inb (c g : ℕ) (hg : g < 4) : ∀ a, ko (c % 16) g a + S1x256x256.size a ≤ S1x4096x1024.size a := by
  intro a; fin_cases a
  · show 0 + 1 ≤ 1; omega
  · show 256 * (c % 16) + 256 ≤ 4096; omega
  · show 256 * g + 256 ≤ 1024; omega

theorem vo_inb (c g : ℕ) (hg : g < 4) : ∀ a, vo (c % 16) g a + S128x256.size a ≤ S512x4096.size a := by
  intro a; fin_cases a
  · show 128 * g + 128 ≤ 512; omega
  · show 256 * (c % 16) + 256 ≤ 4096; omega

/-- Block `c` of head `g`'s augmented keys. -/
def kB (xk : Vec F S1x4096x1024 .bf16) (c : ℕ) (g : Fin 4) : Vec F S1x256x256 .bf16 :=
  VecWindow.window xk (ko (c % 16) g.val) S1x256x256.size (ko_inb c g.val g.isLt)
/-- Block `c` of head `g`'s transposed values. -/
def vB (xv : Vec F S512x4096 .bf16) (c : ℕ) (g : Fin 4) : Vec F S128x256 .bf16 :=
  VecWindow.window xv (vo (c % 16) g.val) S128x256.size (vo_inb c g.val g.isLt)

theorem issue_at (σ : St F) (b : Fin 2) (c : ℕ) (hc : c < 16) (o0 o1 o2 o3 : Fin 3 → ℕ) (hb h0 h1 h2 h3)
    (e0 : o0 = ko c 0) (e1 : o1 = ko c 1) (e2 : o2 = ko c 2) (e3 : o3 = ko c 3) :
    T R (issue R b.val hb o0 o1 o2 o3 h0 h1 h2 h3) σ ⟨⟩ (issueSt b (kB σ.xk c) σ) := by
  subst e0 e1 e2 e3
  have hm : c % 16 = c := Nat.mod_eq_of_lt hc
  have key : ∀ d, d = c → ∀ h0 h1 h2 h3, T R (issue R b.val hb (ko d 0) (ko d 1) (ko d 2) (ko d 3) h0 h1 h2 h3) σ ⟨⟩ (issueSt b (kB σ.xk c) σ) := by
    rintro d hd h0 h1 h2 h3
    rw [← hm] at hd
    subst hd
    exact T_issue σ b (fun g => ko (c % 16) g.val) (fun g => ko_inb c g.val g.isLt) hb h0 h1 h2 h3
  exact key c rfl h0 h1 h2 h3

theorem absorb_at (σ : St F) (b : Fin 2) (c : ℕ) (hc : c < 16) (o0 o1 o2 o3 : Fin 2 → ℕ) (hb h0 h1 h2 h3)
    (e0 : o0 = vo c 0) (e1 : o1 = vo c 1) (e2 : o2 = vo c 2) (e3 : o3 = vo c 3) :
    T R (absorb R b.val hb o0 o1 o2 o3 h0 h1 h2 h3) σ ⟨⟩ (absorbSt b (vB σ.xv c) σ) := by
  subst e0 e1 e2 e3
  have hm : c % 16 = c := Nat.mod_eq_of_lt hc
  have key : ∀ d, d = c → ∀ h0 h1 h2 h3, T R (absorb R b.val hb (vo d 0) (vo d 1) (vo d 2) (vo d 3) h0 h1 h2 h3) σ ⟨⟩ (absorbSt b (vB σ.xv c) σ) := by
    rintro d hd h0 h1 h2 h3
    rw [← hm] at hd
    subst hd
    exact T_absorb σ b (fun g => vo (c % 16) g.val) (fun g => vo_inb c g.val g.isLt) hb h0 h1 h2 h3
  exact key c rfl h0 h1 h2 h3

theorem absorbD_at (σ : St F) (b : Fin 2) (c : ℕ) (hc : c < 16) (o0 o1 o2 o3 : Fin 2 → ℕ) (hb h0 h1 h2 h3)
    (e0 : o0 = vo c 0) (e1 : o1 = vo c 1) (e2 : o2 = vo c 2) (e3 : o3 = vo c 3) :
    T R (absorbD R b.val hb o0 o1 o2 o3 h0 h1 h2 h3) σ ⟨⟩ (absorbDSt b (vB σ.xv c) σ) := by
  subst e0 e1 e2 e3
  have hm : c % 16 = c := Nat.mod_eq_of_lt hc
  have key : ∀ d, d = c → ∀ h0 h1 h2 h3, T R (absorbD R b.val hb (vo d 0) (vo d 1) (vo d 2) (vo d 3) h0 h1 h2 h3) σ ⟨⟩ (absorbDSt b (vB σ.xv c) σ) := by
    rintro d hd h0 h1 h2 h3
    rw [← hm] at hd
    subst hd
    exact T_absorbD σ b (fun g => vo (c % 16) g.val) (fun g => vo_inb c g.val g.isLt) hb h0 h1 h2 h3
  exact key c rfl h0 h1 h2 h3

/-! ## The states -/

/-- The state before the loop, at query block `n`: block `n` absorbed, block `0` issued at slot 1. -/
def proSt (n : ℕ) (xq : Vec F S1x256x512 .bf16) (xk : Vec F S1x4096x1024 .bf16) (xv : Vec F S512x4096 .bf16) (out : Fin 4 → Vec F S256x128 .bf16) : St F :=
  absorbDSt 0 (vB xv n)
    { xq := xq, xk := xk, xv := xv, out := out, qt := qHalf xq
      s := ![fun g => logits (kB xk n g) (qWin (qHalf xq) g), fun g => logits (kB xk 0 g) (qWin (qHalf xq) g)]
      mp := ![fun g => blockMax (logits (kB xk n g) (qWin (qHalf xq) g)), fun g => blockMax (logits (kB xk 0 g) (qWin (qHalf xq) g))]
      p := fun _ _ => broadcast S32x256 (Scalar.ofBits .bf16 0x3F80#16 : F .bf16)
      m := fun _ => broadcast S1x256 (Scalar.ofBits .f32 0xFF800000#32 : F .f32)
      acc := fun _ => broadcast S144x256 (Scalar.ofBits .f32 0x00000000#32 : F .f32) }

/-- One trip: blocks `2 k` and `2 k + 1` absorbed, `2 k + 2` issued. -/
def tripSt (k : ℕ) (σ : St F) : St F :=
  absorbSt 0 (vB σ.xv (2 * k + 1)) (issueSt 1 (kB σ.xk (2 * k + 2)) (absorbSt 1 (vB σ.xv (2 * k)) (issueSt 0 (kB σ.xk (2 * k + 1)) σ)))

/-- `k` trips. -/
def loopSt (σ : St F) : ℕ → St F
  | 0 => σ
  | k + 1 => tripSt k (loopSt σ k)

/-- The block left over at an odd query block. -/
def tailSt (n : ℕ) (σ : St F) : St F := if n % 2 = 1 then absorbSt 1 (vB σ.xv (n - 1)) σ else σ

/-- All of query block `n`'s blocks absorbed. -/
def allSt (n : ℕ) (xq : Vec F S1x256x512 .bf16) (xk : Vec F S1x4096x1024 .bf16) (xv : Vec F S512x4096 .bf16) (out : Fin 4 → Vec F S256x128 .bf16) : St F :=
  tailSt n (loopSt (proSt n xq xk xv out) (n / 2))

theorem loopSt_out (σ : St F) (o : Fin 4 → Vec F S256x128 .bf16) (k : ℕ) : loopSt { σ with out := o } k = { loopSt σ k with out := o } := by
  induction k with
  | zero => rfl
  | succ k ih => show tripSt k _ = _; rw [ih]; rfl

theorem tailSt_out (n : ℕ) (σ : St F) (o : Fin 4 → Vec F S256x128 .bf16) : tailSt n { σ with out := o } = { tailSt n σ with out := o } := by
  unfold tailSt
  split <;> rfl

theorem allSt_out (n : ℕ) (xq : Vec F S1x256x512 .bf16) (xk : Vec F S1x4096x1024 .bf16) (xv : Vec F S512x4096 .bf16) (o o' : Fin 4 → Vec F S256x128 .bf16) :
    allSt n xq xk xv o = { allSt n xq xk xv o' with out := o } := by
  unfold allSt
  rw [show proSt n xq xk xv o = { proSt n xq xk xv o' with out := o } from rfl, loopSt_out, tailSt_out]

theorem loopSt_xk (σ : St F) (k : ℕ) : (loopSt σ k).xk = σ.xk ∧ (loopSt σ k).xv = σ.xv ∧ (loopSt σ k).xq = σ.xq := by
  induction k with
  | zero => exact ⟨rfl, rfl, rfl⟩
  | succ k ih => exact ih

/-! ## The body -/

theorem upd1_zero_one {α : Type} (f : Fin 2 → α) (a b : α) : upd1 (upd1 f 0 a) 1 b = ![a, b] := by
  funext j; fin_cases j <;> rfl

theorem coord_lt (i : grid0.Coords) : (i 2).val < 16 := (i 2).isLt

theorem T_prologue (σ : St F) (i : grid0.Coords) : T R (prologue R i) σ ⟨⟩ (proSt (i 2).val σ.xq σ.xk σ.xv σ.out) := by
  unfold prologue
  have hi := coord_lt i
  refine T.bind (T_reset σ) (T_setQ4 _ _ _ _ _ _ _ _ _ ?_)
  refine T.bind (issue_at _ 0 (i 2).val hi _ _ _ _ _ _ _ _ _ (off1_c i) (off2_c i) (off3_c i) (off4_c i)) ?_
  refine T.bind (issue_at _ 1 0 (by omega) _ _ _ _ _ _ _ _ _ rfl rfl rfl rfl) ?_
  refine T.of_eq (absorbD_at _ 0 (i 2).val hi _ _ _ _ _ _ _ _ _ (off5_c i) (off6_c i) (off7_c i) (off8_c i)) ?_ rfl
  simp only [issueSt, upd1_zero_one]
  rfl

theorem T_trip (σ : St F) (i : grid0.Coords) (k : Fin (k0_t1_loop i).trips) : T R (trip R i k) σ 0#32 (tripSt k.val σ) := by
  unfold trip
  have hi := coord_lt i
  have hk : k.val < (i 2).val / 2 := lt_of_lt_of_eq k.isLt (trips_eq i)
  refine T.bind (issue_at _ 0 (2 * k.val + 1) (by omega) _ _ _ _ _ _ _ _ _ (off9_c i k) (off10_c i k) (off11_c i k) (off12_c i k)) ?_
  refine T.bind (absorb_at _ 1 (2 * k.val) (by omega) _ _ _ _ _ _ _ _ _ (off13_c i k) (off14_c i k) (off15_c i k) (off16_c i k)) ?_
  refine T.bind (issue_at _ 1 (2 * k.val + 2) (by omega) _ _ _ _ _ _ _ _ _ (off17_c i k) (off18_c i k) (off19_c i k) (off20_c i k)) ?_
  refine T.bind (absorb_at _ 0 (2 * k.val + 1) (by omega) _ _ _ _ _ _ _ _ _ (off21_c i k) (off22_c i k) (off23_c i k) (off24_c i k)) ?_
  exact T.pure _ _

theorem T_for (n : ℕ) (L : Scf.Loop 32) (hok : L.OK) (hn : L.trips = n) (f : Fin L.trips → BitVec 32 → PR F (BitVec 32)) (σ : St F) (st : ℕ → St F) (h0 : st 0 = σ)
    (hf : ∀ k a, T R (f k a) (st k.val) 0#32 (st (k.val + 1))) : T R (Scf.Loop.for L hok 0#32 f) σ 0#32 (st n) := by
  subst h0 hn
  intro c E Q
  iintro H W
  iapply (Scf.wp_for frame (wpE (defs₀ (F := F)) Variants.none c none) E L.lb L.ub L.st hok 0#32 f
    (fun k a => iprop(⌜a = 0#32⌝ ∗ OWN c R (st k))) (fun k a => by
      iintro ⟨%ha, H⟩
      iapply (hf k a c E _) $$ H
      iintro H
      isplitr
      · ipureintro; rfl
      · iexact H))
  isplitl [H]
  · isplitr
    · ipureintro; rfl
    · iexact H
  iintro %a ⟨%ha, H⟩
  subst ha
  iapply W $$ H

theorem T_tail (σ : St F) (i : grid0.Coords) : T R (tail R i) σ ⟨⟩ (tailSt (i 2).val σ) := by
  unfold tail tailSt
  have hi := coord_lt i
  by_cases h : k0_cond1 i = 1#1
  · rw [dif_pos h, if_pos ((cond_iff i).mp h)]
    exact T.bind (absorb_at _ 1 ((i 2).val - 1) (by omega) _ _ _ _ _ _ _ _ _ (off41_c i h) (off42_c i h) (off43_c i h) (off44_c i h)) (T.pure _ _)
  · rw [dif_neg h, if_neg (fun h' => h ((cond_iff i).mpr h'))]
    exact T.pure _ _

/-- A filler for the output's buffer. -/
def noOut : Fin 4 → Vec F S256x128 .bf16 := fun _ => broadcast S256x128 (Scalar.ofBits .bf16 0x3F80#16 : F .bf16)

/-- What the body leaves in the output's buffer, from the blocks it is given. -/
def outSt (n : ℕ) (xq : Vec F S1x256x512 .bf16) (xk : Vec F S1x4096x1024 .bf16) (xv : Vec F S512x4096 .bf16) : Fin 4 → Vec F S256x128 .bf16 :=
  outOf (allSt n xq xk xv noOut).acc

theorem T_body (σ : St F) (i : grid0.Coords) :
    T R (body R i) σ ⟨⟩ { allSt (i 2).val σ.xq σ.xk σ.xv noOut with out := outSt (i 2).val σ.xq σ.xk σ.xv } := by
  unfold body
  refine T.bind (T_prologue σ i) ?_
  refine T.bind (T_for ((i 2).val / 2) _ _ (trips_eq i) _ _ (loopSt (proSt (i 2).val σ.xq σ.xk σ.xv σ.out)) rfl fun k a => T_trip _ i k) ?_
  refine T.bind (T_for 0 _ _ (trips2_eq i) _ _ (fun _ => loopSt (proSt (i 2).val σ.xq σ.xk σ.xv σ.out) ((i 2).val / 2)) rfl
    fun k a => absurd (lt_of_lt_of_eq k.isLt (trips2_eq i)) (Nat.not_lt_zero _)) ?_
  refine T.bind (T_tail _ i) ?_
  refine T.of_eq (T_epilogue _) ?_ rfl
  show { allSt (i 2).val σ.xq σ.xk σ.xv σ.out with out := outOf (allSt (i 2).val σ.xq σ.xk σ.xv σ.out).acc } = _
  rw [allSt_out (i 2).val σ.xq σ.xk σ.xv σ.out noOut]
  rfl

end Cert.KernelIdeal.Fox

end
-- ==== Proof.Fox.Run.lean ====
/- The run of the attention kernel: its body at every grid point, the launch, the frame, and what the output array ends with. -/
module

public import proofs.«01_k».proof.Proof.Fox.BodyRun
public import proofs.«01_k».proof.Proof.Gen.KernelIdeal.Frame.Runs
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of grid point `t`. -/
def RAt (t : Fin cfg0.N) : Refs where
  a3 := ms0_0 t
  h3 := hs0_0 t
  a4 := ms0_1 t
  h4 := hs0_1 t
  a5 := ms0_2 t
  h5 := hs0_2 t
  a6 := ms0_3 t
  h6 := hs0_3 t
  a7 := scM0_0
  h7 := Memref.isWhole_whole _
  a8 := scM0_1
  h8 := Memref.isWhole_whole _
  a9 := scM0_2
  h9 := Memref.isWhole_whole _
  a10 := scM0_3
  h10 := Memref.isWhole_whole _
  a11 := scM0_4
  h11 := Memref.isWhole_whole _
  a12 := scM0_5
  h12 := Memref.isWhole_whole _

theorem bodyAt_eq (t : Fin cfg0.N) : bodyAt0 (F := F) t = printed (RAt t) (grid0.coords t) := rfl

/-- What the body leaves in the output's buffer at point `t`. -/
def outAt (c : Dev nD) (t : Fin cfg0.N) : Vec F S1x256x512 .bf16 :=
  asmO (outSt (grid0.coords t 2).val (iblk m c 0 t) (iblk m c 1 t) (iblk m c 2 t))

/-- The pipeline's data: the inputs' buffers at their blocks, the output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The state a point starts from, given what the buffers hold. -/
def stOf (xq : Vec F S1x256x512 .bf16) (xk : Vec F S1x4096x1024 .bf16) (xv : Vec F S512x4096 .bf16) (x3 : Vec F S1x256x512 .bf16)
    (y0 : Vec F S4x256x256 .bf16) (y1 : Vec F S2x4x256x256 .f32) (y2 : Vec F S2x4x8x256 .f32) (y3 : Vec F S4x256x256 .bf16) (y4 : Vec F S4x1x256 .f32) (y5 : Vec F S4x144x256 .f32) : St F where
  xq := xq
  xk := xk
  xv := xv
  out := dis6 (A := 256) (C := 128) (D := 512) (by omega) x3
  qt := dis3 (R := 128) (A := 256) (by omega) y0
  s := dis4 y1
  mp := dis4 y2
  p := dis3 (R := 32) (A := 256) (by omega) y3
  m := fun g => dis3 (G := 4) (N := 1) (R := 1) (A := 1) (B := 256) (by omega) y4 g 0
  acc := fun g => dis3 (G := 4) (N := 1) (R := 144) (A := 144) (B := 256) (by omega) y5 g 0

theorem own_stOf (R : Refs) (c : Dev nD) (xq : Vec F S1x256x512 .bf16) (xk : Vec F S1x4096x1024 .bf16) (xv : Vec F S512x4096 .bf16) (x3 : Vec F S1x256x512 .bf16)
    (y0 : Vec F S4x256x256 .bf16) (y1 : Vec F S2x4x256x256 .f32) (y2 : Vec F S2x4x8x256 .f32) (y3 : Vec F S4x256x256 .bf16) (y4 : Vec F S4x1x256 .f32) (y5 : Vec F S4x144x256 .f32) :
    OWN c R (stOf xq xk xv x3 y0 y1 y2 y3 y4 y5) = iprop(owns c.tc R.a3 fullShare xq ∗ owns c.tc R.a4 fullShare xk ∗ owns c.tc R.a5 fullShare xv ∗ owns c.tc R.a6 fullShare x3
      ∗ owns c.tc R.a7 fullShare y0 ∗ owns c.tc R.a8 fullShare y1 ∗ owns c.tc R.a9 fullShare y2 ∗ owns c.tc R.a10 fullShare y3 ∗ owns c.tc R.a11 fullShare y4 ∗ owns c.tc R.a12 fullShare y5) := by
  have e6 : asmO (dis6 (A := 256) (C := 128) (D := 512) (G := 4) (by omega) x3) = x3 := asm6_dis6 _ _ _
  have e7 : asmQ (dis3 (G := 4) (N := 2) (R := 128) (A := 256) (B := 256) (by omega) y0) = y0 := asm3_dis3 _ _ _
  have e8 : asm4 (dis4 y1) = y1 := asm4_dis4 _
  have e9 : asm4 (dis4 y2) = y2 := asm4_dis4 _
  have e10 : asmP (dis3 (G := 4) (N := 8) (R := 32) (A := 256) (B := 256) (by omega) y3) = y3 := asm3_dis3 _ _ _
  have one : ∀ {A : ℕ} (hA : A = A * 1) (hR : 0 < A) (y : (⟨3, ![4, A, 256]⟩ : Shape).Idx → Elt F .f32),
      asm3 (N := 1) (R := A) hA hR (fun g _ => dis3 (G := 4) (N := 1) (R := A) (A := A) (B := 256) hA y g 0) = y := fun hA hR y => by
    have e : (fun (g : Fin 4) (_ : Fin 1) => dis3 (G := 4) (N := 1) (B := 256) hA y g 0) = dis3 hA y := by
      funext g j; rw [Subsingleton.elim j 0]
    rw [e]; exact asm3_dis3 _ _ _
  have e11 : asmM (fun g => dis3 (G := 4) (N := 1) (R := 1) (A := 1) (B := 256) (by omega) y4 g 0) = y4 := one _ _ _
  have e12 : asmA (fun g => dis3 (G := 4) (N := 1) (R := 144) (A := 144) (B := 256) (by omega) y5 g 0) = y5 := one _ _ _
  unfold OWN
  show iprop(owns c.tc R.a3 fullShare xq ∗ owns c.tc R.a4 fullShare xk ∗ owns c.tc R.a5 fullShare xv ∗ owns c.tc R.a6 fullShare (asmO (dis6 (A := 256) (C := 128) (D := 512) (G := 4) (by omega) x3))
      ∗ owns c.tc R.a7 fullShare (asmQ (dis3 (G := 4) (N := 2) (R := 128) (A := 256) (B := 256) (by omega) y0)) ∗ owns c.tc R.a8 fullShare (asm4 (dis4 y1)) ∗ owns c.tc R.a9 fullShare (asm4 (dis4 y2))
      ∗ owns c.tc R.a10 fullShare (asmP (dis3 (G := 4) (N := 8) (R := 32) (A := 256) (B := 256) (by omega) y3))
      ∗ owns c.tc R.a11 fullShare (asmM (fun g => dis3 (G := 4) (N := 1) (R := 1) (A := 1) (B := 256) (by omega) y4 g 0))
      ∗ owns c.tc R.a12 fullShare (asmA (fun g => dis3 (G := 4) (N := 1) (R := 144) (A := 144) (B := 256) (by omega) y5 g 0))) = _
  rw [e6, e7, e8, e9, e10, e11, e12]

theorem allSt_in (n : ℕ) (xq : Vec F S1x256x512 .bf16) (xk : Vec F S1x4096x1024 .bf16) (xv : Vec F S512x4096 .bf16) (o : Fin 4 → Vec F S256x128 .bf16) :
    (allSt n xq xk xv o).xq = xq ∧ (allSt n xq xk xv o).xk = xk ∧ (allSt n xq xk xv o).xv = xv := by
  obtain ⟨h1, h2, h3⟩ := loopSt_xk (proSt n xq xk xv o) (n / 2)
  unfold allSt tailSt
  split
  · exact ⟨h3, h1, h2⟩
  · exact ⟨h3, h1, h2⟩

theorem sound_body (hb : ∀ (R : Refs) (i : grid0.Coords), printed (F := F) R i = body R i) (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq, bodyAt_eq, hb]
  iintro ⟨⟨⟨⟨%y0, HS0⟩, ⟨%y1, HS1⟩, ⟨%y2, HS2⟩, ⟨%y3, HS3⟩, ⟨%y4, HS4⟩, ⟨%y5, HS5⟩⟩, Hg⟩, Ho, ⟨%d0, H0⟩, ⟨%d1, H1⟩, ⟨%d2, H2⟩, ⟨%d3, H3⟩⟩
  iapply (T_body (R := RAt t) (stOf (iblk m c 0 t) (iblk m c 1 t) (iblk m c 2 t) ((dats m 0 c).before 3 t d3) y0 y1 y2 y3 y4 y5) (grid0.coords t) c Set.univ _) $$ [H0 H1 H2 H3 HS0 HS1 HS2 HS3 HS4 HS5]
  · rw [own_stOf]
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [HS4]; · iexact HS4
    iexact HS5
  unfold OWN
  dsimp only [stOf]
  rw [(allSt_in _ _ _ _ _).1, (allSt_in _ _ _ _ _).2.1, (allSt_in _ _ _ _ _).2.2]
  iintro ⟨H0, H1, H2, H3, HS0, HS1, HS2, HS3, HS4, HS5⟩
  isplitl [HS0 HS1 HS2 HS3 HS4 HS5 Hg]
  · isplitl [HS0 HS1 HS2 HS3 HS4 HS5]
    · isplitl [HS0]
      · iexists _; iexact HS0
      isplitl [HS1]
      · iexists _; iexact HS1
      isplitl [HS2]
      · iexists _; iexact HS2
      isplitl [HS3]
      · iexists _; iexact HS3
      isplitl [HS4]
      · iexists _; iexact HS4
      iexists _; iexact HS5
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (hb : ∀ (R : Refs) (i : grid0.Coords), printed (F := F) R i = body R i) (c : Dev nD) : BodyObligation (dats (F := F) m 0 c) (defs₀ (F := F)) Variants.none () Set.univ := fun t => by
  rw [bigSep_W0, bigSep_W0, defs₀_row]
  exact triple_restated (sound_body m hb c t) rfl .rfl fun _ => .rfl

set_option backward.isDefEq.respectTransparency.types false in
/-- The launch: every array of the pipeline ends at what the data say, every other buffer as the region found it, every counter at zero. -/
theorem run_main (hb : ∀ (R : Refs) (i : grid0.Coords), printed (F := F) R i = body R i) :
    θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hb c).loose) (hshare := fun c => (dats m 0 c).share_full fun _ => rfl)
    (howed := fun _ _ => rfl) (V := V m) (hmain := hmain m Variants.none) (hA := A_eq m) (hΦ := fun _ _ => rfl)

/-- The arguments end as they were and the counters at zero. -/
theorem frame_gen (hb : ∀ (R : Refs) (i : grid0.Coords), printed (F := F) R i = body R i) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ hb))) ((θ_run defs _ _).mono (fun _ h => h.2) (run_main m ρ hb))

end Cert.KernelIdeal.Fox

end
-- ==== Proof.Fox.Same.lean ====
/- The kernel over words and the idealized kernel have the same text. -/
module

public import proofs.«01_k».proof.Proof.Gen.Kernel
public import proofs.«01_k».proof.Proof.Gen.KernelIdeal
public import Idealize.ShloMosaic.PureOps.BitExact

@[expose] public section

set_option maxRecDepth 16384

noncomputable section

namespace Cert.KernelIdeal.Fox

open Idealize.ShloMosaic Idealize.SL.Sem

set_option maxHeartbeats 0 in
theorem same_body : @Cert.Kernel.cc0_fox_attention Bits _ _ = @Cert.KernelIdeal.cc0_fox_attention Bits _ _ := rfl

set_option maxHeartbeats 0 in
theorem same_defs₀ : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _

set_option maxHeartbeats 0 in
theorem same_defs : Cert.Kernel.defs (F := Bits) = Cert.KernelIdeal.defs (F := Bits) := by
  unfold Cert.Kernel.defs Cert.KernelIdeal.defs
  exact congrArg (Pipeline.defs Cert.KernelIdeal.pcfgs) same_defs₀

set_option maxHeartbeats 0 in
theorem same_main : Cert.Kernel.main (F := Bits) = Cert.KernelIdeal.main (F := Bits) := by
  funext c
  unfold Cert.Kernel.main Cert.KernelIdeal.main
  rfl

end Cert.KernelIdeal.Fox

end
-- ==== Proof.Fox.Val.lean ====
/- The attention kernel's steps over the extended reals, entry by entry. -/
module

public import proofs.«01_k».proof.Proof.Fox.BodyRun
public import Idealize.ShloMosaic.Lib.Pipeline.ValueKit

@[expose] public section

set_option maxRecDepth 16384

noncomputable section

open Idealize.ShloMosaic Idealize.ShloMosaic.TcCoe Idealize.SL.Sem

namespace Cert.KernelIdeal.Fox

open Cert.KernelIdeal Cert.KernelIdeal.Gen

theorem negInf : Ideal.ofBits .f32 0xFF800000#32 = ⊥ := by simp [Ideal.ofBits, Ideal.ieee]

theorem fold_max_le {ι : Type} (s : Finset ι) (f : ι → EReal) (B : EReal) :
    Finset.fold max (Ideal.ofBits .f32 4286578688#32) f s ≤ B ↔ ∀ i ∈ s, f i ≤ B := by
  rw [show Ideal.ofBits .f32 4286578688#32 = ⊥ from negInf, Finset.fold_max_le]
  simp

theorem logits_at (k q : FVec Ideal S1x256x256 .bf16) (i y : Fin 256) :
    logits k q (ix2 i y) = ∑ e : Fin 256, k (ix3 0 i e) * q (ix3 0 e y) := by
  pointwise [logits]

theorem pStrip_at (mn : FVec Ideal S1x256 .f32) (x : FVec Ideal S32x256 .f32) (i : Fin 32) (y : Fin 256) :
    pStrip mn x (ix2 i y) = Ideal.exp2 (x (ix2 i y) - mn (ix2 0 y)) := by
  pointwise [pStrip]
  rfl

theorem accNew_at (acc : FVec Ideal S144x256 .f32) (al : FVec Ideal S1x256 .f32) (v : FVec Ideal S128x256 .bf16) (p : FVec Ideal S256x256 .bf16)
    (d : Fin 144) (y : Fin 256) :
    accNew acc al v p (ix2 d y) = al (ix2 0 y) * acc (ix2 d y) + ∑ i : Fin 256, (if h : d.val < 128 then v (ix2 ⟨d.val, h⟩ i) else 1) * p (ix2 i y) := by
  pointwise [accNew, ones16]

theorem mNew_le (mold : FVec Ideal S1x256 .f32) (mp : FVec Ideal S8x256 .f32) (y : Fin 256) (B : EReal) :
    mNew mold mp (ix2 0 y) ≤ B ↔ mold (ix2 0 y) ≤ B ∧ ∀ i : Fin 8, mp (ix2 i y) ≤ B := by
  have e : mNew mold mp (ix2 0 y) = max (mold (ix2 0 y)) (Finset.univ.fold max (Ideal.ofBits .f32 4286578688#32) fun i : Fin 8 => mp (ix2 i y)) := by
    pointwise [mNew]
  rw [e, max_le_iff, fold_max_le]
  simp

theorem stripMax_le (x : FVec Ideal S32x256 .f32) (i : Fin 8) (y : Fin 256) (B : EReal) :
    stripMax x (ix2 i y) ≤ B ↔ ∀ a : Fin 4, x (ix2 ⟨a.val * 8 + i.val, by omega⟩ y) ≤ B := by
  have e : stripMax x (ix2 i y) = Finset.univ.fold max (Ideal.ofBits .f32 4286578688#32) fun a : Fin 4 => x (ix2 ⟨a.val * 8 + i.val, by omega⟩ y) := by
    pointwise [stripMax]
  rw [e, fold_max_le]
  simp

/-- A block's maximum from its strips' maxima. -/
theorem strips_le (f : Fin 8 → FVec Ideal S32x256 .f32) (y : Fin 256) (B : EReal) :
    (∀ i : Fin 8, maximumf (maximumf (maximumf (maximumf (maximumf (maximumf (maximumf (stripMax (f 0)) (stripMax (f 1))) (stripMax (f 2))) (stripMax (f 3)))
      (stripMax (f 4))) (stripMax (f 5))) (stripMax (f 6))) (stripMax (f 7)) (ix2 i y) ≤ B)
    ↔ ∀ (j : Fin 8) (a : Fin 32), f j (ix2 a y) ≤ B := by
  have e : ∀ i : Fin 8, (maximumf (maximumf (maximumf (maximumf (maximumf (maximumf (maximumf (stripMax (f 0)) (stripMax (f 1))) (stripMax (f 2))) (stripMax (f 3)))
      (stripMax (f 4))) (stripMax (f 5))) (stripMax (f 6))) (stripMax (f 7)) (ix2 i y) ≤ B) ↔ ∀ j : Fin 8, stripMax (f j) (ix2 i y) ≤ B := by
    intro i
    show max (max (max (max (max (max (max (stripMax (f 0) (ix2 i y)) (stripMax (f 1) (ix2 i y))) (stripMax (f 2) (ix2 i y))) (stripMax (f 3) (ix2 i y)))
      (stripMax (f 4) (ix2 i y))) (stripMax (f 5) (ix2 i y))) (stripMax (f 6) (ix2 i y))) (stripMax (f 7) (ix2 i y)) ≤ B ↔ _
    simp only [max_le_iff, Fin.forall_fin_succ]
    simp [and_assoc]
  simp only [e, stripMax_le]
  constructor
  · intro h j a
    have := h ⟨a.val % 8, by omega⟩ j ⟨a.val / 8, by omega⟩
    rwa [show (⟨(⟨a.val / 8, by omega⟩ : Fin 4).val * 8 + (⟨a.val % 8, by omega⟩ : Fin 8).val, by omega⟩ : Fin 32) = a from Fin.ext (by show a.val / 8 * 8 + a.val % 8 = a.val; omega)] at this
  · intro h i j a
    exact h j _

theorem slice_eq (x : FVec Ideal S256x256 .f32) (r : ℕ) (hr : r + 32 ≤ 256) (h) :
    extractStridedSlice S32x256 ![r, 0] x h = rows 32 r hr x := by
  funext i
  refine congrArg x (funext fun a => ?_)
  match a with
  | ⟨0, _⟩ => rfl
  | ⟨1, _⟩ => exact Fin.ext (Nat.zero_add _)

theorem strips_all {P : Fin 256 → Prop} : (∀ (j : Fin 8) (a : Fin 32), P ⟨32 * j.val + a.val, by omega⟩) ↔ ∀ i, P i := by
  constructor
  · intro h i
    have := h ⟨i.val / 32, by omega⟩ ⟨i.val % 32, by omega⟩
    rwa [show (⟨32 * (⟨i.val / 32, by omega⟩ : Fin 8).val + (⟨i.val % 32, by omega⟩ : Fin 32).val, by omega⟩ : Fin 256) = i from Fin.ext (by show 32 * (i.val / 32) + i.val % 32 = i.val; omega)] at this
  · intro h j a
    exact h _

theorem blockMax_le (x : FVec Ideal S256x256 .f32) (y : Fin 256) (B : EReal) :
    (∀ i : Fin 8, blockMax x (ix2 i y) ≤ B) ↔ ∀ i : Fin 256, x (ix2 i y) ≤ B := by
  rw [← strips_all (P := fun i => x (ix2 i y) ≤ B)]
  have e : blockMax x = maximumf (maximumf (maximumf (maximumf (maximumf (maximumf (maximumf (stripMax (strip (F := Ideal) x 0)) (stripMax (strip (F := Ideal) x 1))) (stripMax (strip (F := Ideal) x 2)))
      (stripMax (strip (F := Ideal) x 3))) (stripMax (strip (F := Ideal) x 4))) (stripMax (strip (F := Ideal) x 5))) (stripMax (strip (F := Ideal) x 6))) (stripMax (strip (F := Ideal) x 7)) := by
    unfold blockMax
    rw [slice_eq x 0 (by omega), slice_eq x 32 (by omega), slice_eq x 64 (by omega), slice_eq x 96 (by omega), slice_eq x 128 (by omega), slice_eq x 160 (by omega),
      slice_eq x 192 (by omega), slice_eq x 224 (by omega)]
    rfl
  rw [e]
  exact strips_le (fun j => strip (F := Ideal) x j) y B

theorem diagMask_at (r : ℕ) (hr : r + 32 ≤ 256) (x : FVec Ideal S32x256 .f32) (i : Fin 32) (y : Fin 256) :
    diagMask r x (ix2 i y) = if r + i.val ≤ y.val then x (ix2 i y) else ⊥ := by
  have e : diagMask r x (ix2 i y) = Scalar.select (IntOp.cmpi CmpIPredicate.sle (IntOp.addi (BitVec.ofNat 32 r) (BitVec.ofNat 32 i.val)) (BitVec.ofNat 32 y.val))
      (x (ix2 i y)) (Ideal.ofBits FTy.f32 4286578688#32) := by
    pointwise [diagMask]
  rw [e, show IntOp.addi (BitVec.ofNat 32 r) (BitVec.ofNat 32 i.val) = BitVec.ofNat 32 (r + i.val) from (BitVec.ofNat_add ..).symm,
    WordCmp.cmpi_sle_ofNat (by omega) (by omega), show Ideal.ofBits .f32 4286578688#32 = ⊥ from negInf]
  by_cases h : r + i.val ≤ y.val
  · simp [Scalar.select, h]
  · simp [Scalar.select, h]

theorem diagMax_le (x : FVec Ideal S256x256 .f32) (y : Fin 256) (B : EReal) :
    (∀ i : Fin 8, diagMax (F := Ideal) x (ix2 i y) ≤ B) ↔ ∀ i : Fin 256, i.val ≤ y.val → x (ix2 i y) ≤ B := by
  rw [← strips_all (P := fun i => i.val ≤ y.val → x (ix2 i y) ≤ B)]
  refine (strips_le (fun j => diagMask (F := Ideal) (32 * j.val) (strip (F := Ideal) x j)) y B).trans ?_
  refine forall_congr' fun j => forall_congr' fun a => ?_
  rw [diagMask_at (32 * j.val) (by omega)]
  by_cases h : 32 * j.val + a.val ≤ y.val
  · rw [if_pos h]; exact ⟨fun k _ => k, fun k => k h⟩
  · rw [if_neg h]; exact ⟨fun _ k => absurd k h, fun _ => bot_le⟩

theorem outStrip_at (v : FVec Ideal S1x128x256 .f32) (l : FVec Ideal S1x1x256 .f32) (y : Fin 256) (d : Fin 128) :
    outStrip v l (ix2 y d) = Ideal.div (v (ix3 0 d y)) (l (ix3 0 0 y)) := by
  pointwise [outStrip]

theorem qT_at (q : FVec Ideal S1x256x128 .bf16) (e : Fin 128) (y : Fin 256) :
    qT q (ix2 e y) = q (ix3 0 y e) := by
  pointwise [qT]

theorem sc_at (x : FVec Ideal S1x256x256 .bf16) (i y : Fin 256) :
    shapeCast S256x256 x shapeCasts_S1x256x256_S256x256 (ix2 i y) = x (ix3 0 i y) := by
  pointwise

theorem pWin_at (p : Fin 4 → Fin 8 → FVec Ideal S32x256 .bf16) (g : Fin 4) (i y : Fin 256) :
    pWin (F := Ideal) p g (ix2 i y) = p g ⟨i.val / 32, by omega⟩ (ix2 ⟨i.val % 32, by omega⟩ y) := by
  have e : pWin (F := Ideal) p g (ix2 i y) = VecWindow.window (asmP (F := Ideal) p) ![g.val, 0, 0] S1x256x256.size (inb7f g.isLt) (ix3 0 i y) := by
    exact sc_at _ i y
  rw [e]
  exact window_asm3_apply (R := 32) (B := 256) (A := 256) (by omega) (by omega) p g.val 0 256 g.isLt _ 0 i y ⟨i.val / 32, by omega⟩ ⟨i.val % 32, by omega⟩
    (by show 0 + i.val = 32 * (i.val / 32) + i.val % 32; omega)

theorem qWin_at (xq : FVec Ideal S1x256x512 .bf16) (g : Fin 4) (e y : Fin 256) :
    qWin (F := Ideal) (qHalf (F := Ideal) xq) g (ix3 0 e y) = if h : e.val < 128 then xq (ix3 0 y ⟨128 * g.val + e.val, by omega⟩) else 1 := by
  by_cases h : e.val < 128
  · rw [dif_pos h]
    refine (window_asm3_apply (R := 128) (B := 256) (A := 256) (by omega) (by omega) (qHalf (F := Ideal) xq) g.val 0 256 g.isLt _ 0 e y 0 ⟨e.val, h⟩ (by show 0 + e.val = 128 * 0 + e.val; omega)).trans ?_
    refine (qT_at (xqWin (F := Ideal) xq g) ⟨e.val, h⟩ y).trans ?_
    refine congrArg xq (funext fun a => ?_)
    match a with
    | ⟨0, _⟩ => rfl
    | ⟨1, _⟩ => exact Fin.ext (by show 0 + 1 * y.val = y.val; omega)
    | ⟨2, _⟩ => exact Fin.ext (by show 128 * g.val + 1 * e.val = 128 * g.val + e.val; omega)
  · rw [dif_neg h]
    refine (window_asm3_apply (R := 128) (B := 256) (A := 256) (by omega) (by omega) (qHalf (F := Ideal) xq) g.val 0 256 g.isLt _ 0 e y 1 ⟨e.val - 128, by omega⟩ (by show 0 + e.val = 128 * 1 + (e.val - 128); omega)).trans ?_
    exact (by simp : Ideal.ofBits .bf16 0x3F80#16 = 1)

theorem kB_at (xk : FVec Ideal S1x4096x1024 .bf16) (c : ℕ) (hc : c < 16) (g : Fin 4) (i e : Fin 256) :
    kB (F := Ideal) xk c g (ix3 0 i e) = xk (ix3 0 ⟨256 * c + i.val, by omega⟩ ⟨256 * g.val + e.val, by omega⟩) := by
  refine congrArg xk (funext fun a => ?_)
  have : c % 16 = c := Nat.mod_eq_of_lt hc
  match a with
  | ⟨0, _⟩ => rfl
  | ⟨1, _⟩ => exact Fin.ext (by show 256 * (c % 16) + 1 * i.val = _; show _ = 256 * c + i.val; omega)
  | ⟨2, _⟩ => exact Fin.ext (by show 256 * g.val + 1 * e.val = _; show _ = 256 * g.val + e.val; omega)

theorem vB_at (xv : FVec Ideal S512x4096 .bf16) (c : ℕ) (hc : c < 16) (g : Fin 4) (d : Fin 128) (i : Fin 256) :
    vB (F := Ideal) xv c g (ix2 d i) = xv (ix2 ⟨128 * g.val + d.val, by omega⟩ ⟨256 * c + i.val, by omega⟩) := by
  refine congrArg xv (funext fun a => ?_)
  have : c % 16 = c := Nat.mod_eq_of_lt hc
  match a with
  | ⟨0, _⟩ => exact Fin.ext (by show 128 * g.val + 1 * d.val = _; show _ = 128 * g.val + d.val; omega)
  | ⟨1, _⟩ => exact Fin.ext (by show 256 * (c % 16) + 1 * i.val = _; show _ = 256 * c + i.val; omega)

theorem outOf_at (acc : Fin 4 → FVec Ideal S144x256 .f32) (g : Fin 4) (y : Fin 256) (d : Fin 128) :
    outOf (F := Ideal) acc g (ix2 y d) = Ideal.div (acc g (ix2 ⟨d.val, by omega⟩ y)) (acc g (ix2 128 y)) := by
  refine (outStrip_at _ _ y d).trans ?_
  congr 1
  · exact window_asm3_apply (N := 1) (R := 144) (B := 256) (A := 144) (by omega) (by omega) (fun g _ => acc g) g.val 0 128 g.isLt _ 0 d y 0 ⟨d.val, by omega⟩ (by show 0 + d.val = 144 * 0 + d.val; omega)
  · exact window_asm3_apply (N := 1) (R := 144) (B := 256) (A := 144) (by omega) (by omega) (fun g _ => acc g) g.val 128 1 g.isLt _ 0 0 y 0 128 (by show 128 + 0 = 144 * 0 + 128; omega)

end Cert.KernelIdeal.Fox

end
-- ==== Proof.Fox.Chain.lean ====
/- The chain of absorbed blocks over the extended reals: the running maximum stays a real number, and the sums are the weighted
   sums of the keys absorbed so far, each weight shifted by the running maximum. -/
module

public import proofs.«01_k».proof.Proof.Fox.Val

@[expose] public section

set_option maxRecDepth 16384

noncomputable section

open Idealize.ShloMosaic Idealize.ShloMosaic.TcCoe Idealize.SL.Sem

namespace Cert.KernelIdeal.Fox

open Cert.KernelIdeal Cert.KernelIdeal.Gen

/-- A key's weight at the shift `M`. -/
def wgt (l M : ℝ) : EReal := ((Real.rpow 2 (l - M) : ℝ) : EReal)

theorem exp2_sub (l M : ℝ) : Ideal.exp2 ((l : EReal) - (M : EReal)) = wgt l M := by
  rw [← EReal.coe_sub, Ideal.exp2_coe]; rfl

theorem wgt_shift (l M M' : ℝ) : wgt M M' * wgt l M = wgt l M' := by
  unfold wgt
  rw [← EReal.coe_mul]
  congr 1
  show (2 : ℝ) ^ (M - M') * (2 : ℝ) ^ (l - M) = (2 : ℝ) ^ (l - M')
  rw [← Real.rpow_add (by norm_num)]
  congr 1; ring

theorem pos_mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (EReal.coe_nonneg.2 ha) (EReal.coe_ne_top _), ih]

theorem wgt_nonneg (l M : ℝ) : 0 ≤ Real.rpow 2 (l - M) := Real.rpow_nonneg (by norm_num) _

/-- A weighted sum at the shift `M`. -/
def wsum {ι : Type} [Fintype ι] (on : ι → Prop) [DecidablePred on] (l : ι → ℝ) (v : ι → EReal) (M : ℝ) : EReal :=
  ∑ i, v i * (if on i then wgt (l i) M else 0)

theorem wsum_shift {ι : Type} [Fintype ι] (on : ι → Prop) [DecidablePred on] (l : ι → ℝ) (v : ι → EReal) (M M' : ℝ) :
    wgt M M' * wsum on l v M = wsum on l v M' := by
  unfold wsum
  rw [show wgt M M' = ((Real.rpow 2 (M - M') : ℝ) : EReal) from rfl, pos_mul_sum _ _ (wgt_nonneg _ _)]
  refine Finset.sum_congr rfl fun i _ => ?_
  rw [mul_left_comm]
  split
  · exact congrArg _ (wgt_shift _ _ _)
  · rw [mul_zero]

/-- The sums of query block `n` and of the first `k` blocks below it, at the shift `M`. -/
def part (n k : ℕ) (y : Fin 256) (l : ℕ → ℝ) (v : ℕ → EReal) (M : ℝ) : EReal :=
  wsum (fun i : Fin 256 => i.val ≤ y.val) (fun i => l (256 * n + i.val)) (fun i => v (256 * n + i.val)) M
    + ∑ c ∈ Finset.range k, wsum (fun _ : Fin 256 => True) (fun i => l (256 * c + i.val)) (fun i => v (256 * c + i.val)) M

theorem part_shift (n k : ℕ) (y : Fin 256) (l : ℕ → ℝ) (v : ℕ → EReal) (M M' : ℝ) :
    wgt M M' * part n k y l v M = part n k y l v M' := by
  unfold part
  rw [show wgt M M' = ((Real.rpow 2 (M - M') : ℝ) : EReal) from rfl, EReal.left_distrib_of_nonneg_of_ne_top (EReal.coe_nonneg.2 (wgt_nonneg _ _)) (EReal.coe_ne_top _), pos_mul_sum _ _ (wgt_nonneg _ _)]
  congr 1
  · exact wsum_shift _ _ _ _ _
  · exact Finset.sum_congr rfl fun c _ => wsum_shift _ _ _ _ _

theorem part_succ (n k : ℕ) (y : Fin 256) (l : ℕ → ℝ) (v : ℕ → EReal) (M : ℝ) :
    part n (k + 1) y l v M = part n k y l v M + ∑ i : Fin 256, v (256 * k + i.val) * wgt (l (256 * k + i.val)) M := by
  unfold part
  rw [Finset.sum_range_succ, ← add_assoc]
  refine congrArg₂ (· + ·) rfl ?_
  unfold wsum
  exact Finset.sum_congr rfl fun i _ => by rw [if_pos trivial]

theorem real_of_le {e : EReal} (h1 : e < ⊤) (r : ℝ) (h2 : (r : EReal) ≤ e) : ∃ M : ℝ, e = M :=
  ⟨e.toReal, (EReal.coe_toReal h1.ne (fun h => by rw [h] at h2; exact absurd h2 (by simp))).symm⟩

/-- A bound below the top, of finitely many values below it. -/
theorem lt_top_of {ι : Type} [Fintype ι] (e a : EReal) (f : ι → EReal) (ha : a < ⊤) (hf : ∀ i, f i < ⊤)
    (h : ∀ B, e ≤ B ↔ a ≤ B ∧ ∀ i, f i ≤ B) : e < ⊤ := by
  have h1 : e ≤ max a (Finset.univ.sup f) := (h _).2 ⟨le_max_left _ _, fun i => (Finset.le_sup (Finset.mem_univ i)).trans (le_max_right _ _)⟩
  refine lt_of_le_of_lt h1 (max_lt ha ?_)
  rw [Finset.sup_lt_iff bot_lt_top]
  exact fun i _ => hf i

variable (xq : FVec Ideal S1x256x512 .bf16) (xk : FVec Ideal S1x4096x1024 .bf16) (xv : FVec Ideal S512x4096 .bf16)

/-- Head `g`'s logits of block `c`. -/
def lgB (c : ℕ) (g : Fin 4) : FVec Ideal S256x256 .f32 := logits (kB (F := Ideal) xk c g) (qWin (F := Ideal) (qHalf (F := Ideal) xq) g)

/-- The values of block `c`, the row sums' ones under them. -/
def vRow (c : ℕ) (g : Fin 4) (d : Fin 144) (i : Fin 256) : EReal :=
  if h : d.val < 128 then vB (F := Ideal) xv c g (ix2 ⟨d.val, h⟩ i) else 1

theorem absorb_acc (b : Fin 2) (v : Fin 4 → Vec Ideal S128x256 .bf16) (σ : St Ideal) (g : Fin 4) :
    (absorbSt b v σ).acc g = accNew (F := Ideal) (σ.acc g) (alphaOf (F := Ideal) (σ.m g) (mNew (F := Ideal) (σ.m g) (σ.mp b g))) (v g)
      (pWin (F := Ideal) (fun g j => pStrip (F := Ideal) (mNew (F := Ideal) (σ.m g) (σ.mp b g)) (strip (F := Ideal) (σ.s b g) j)) g) := rfl

theorem absorbD_acc (b : Fin 2) (v : Fin 4 → Vec Ideal S128x256 .bf16) (σ : St Ideal) (g : Fin 4) :
    (absorbDSt b v σ).acc g = accNew (F := Ideal) (σ.acc g) (alphaOf (F := Ideal) (σ.m g) (mNew (F := Ideal) (σ.m g) (diagMax (F := Ideal) (σ.s b g)))) (v g)
      (pWin (F := Ideal) (fun g j => pStrip (F := Ideal) (mNew (F := Ideal) (σ.m g) (diagMax (F := Ideal) (σ.s b g))) (diagMask (32 * j.val) (strip (F := Ideal) (σ.s b g) j))) g) := rfl

theorem alpha_at (mo mn : FVec Ideal S1x256 .f32) (y : Fin 256) : alphaOf mo mn (ix2 0 y) = Ideal.exp2 (mo (ix2 0 y) - mn (ix2 0 y)) := rfl

theorem strip_div (x : FVec Ideal S256x256 .f32) (i y : Fin 256) :
    strip (F := Ideal) x ⟨i.val / 32, by omega⟩ (ix2 ⟨i.val % 32, by omega⟩ y) = x (ix2 i y) := by
  refine congrArg (fun i : Fin 256 => x (ix2 i y)) (Fin.ext ?_)
  show 32 * (i.val / 32) + i.val % 32 = i.val
  omega

/-- One block absorbed, at one head and lane. -/
theorem absorb_step (b : Fin 2) (σ : St Ideal) (g : Fin 4) (y : Fin 256) (l : ℕ → ℝ) (v : Fin 144 → ℕ → EReal) (n k : ℕ) (M : ℝ)
    (hs : σ.s b g = lgB xq xk k g) (hmp : σ.mp b g = blockMax (lgB xq xk k g))
    (hl : ∀ i : Fin 256, lgB xq xk k g (ix2 i y) = (l (256 * k + i.val) : EReal))
    (hv : ∀ d (i : Fin 256), vRow xv k g d i = v d (256 * k + i.val))
    (hm : σ.m g (ix2 0 y) = (M : EReal)) (ha : ∀ d, σ.acc g (ix2 d y) = part n k y l (v d) M) :
    ∃ M' : ℝ, (absorbSt b (vB (F := Ideal) xv k) σ).m g (ix2 0 y) = (M' : EReal)
      ∧ ∀ d, (absorbSt b (vB (F := Ideal) xv k) σ).acc g (ix2 d y) = part n (k + 1) y l (v d) M' := by
  have hle : ∀ B : EReal, mNew (F := Ideal) (σ.m g) (σ.mp b g) (ix2 0 y) ≤ B ↔ (M : EReal) ≤ B ∧ ∀ i : Fin 256, (l (256 * k + i.val) : EReal) ≤ B := by
    intro B
    rw [mNew_le, hm, hmp, blockMax_le]
    simp only [hl]
  obtain ⟨M', hM'⟩ := real_of_le (lt_top_of _ _ _ (EReal.coe_lt_top M) (fun i => EReal.coe_lt_top _) hle) M ((hle _).1 le_rfl).1
  refine ⟨M', hM', fun d => ?_⟩
  rw [absorb_acc, accNew_at, ha d, part_succ, ← part_shift n k y l (v d) M M', alpha_at, hm, hM', exp2_sub]
  refine congrArg₂ (· + ·) rfl (Finset.sum_congr rfl fun i _ => ?_)
  rw [pWin_at, pStrip_at, hM', strip_div, hs, hl, exp2_sub, ← hv d i]
  rfl

/-- Query block `n`'s own block, absorbed first. -/
theorem absorbD_step (σ : St Ideal) (g : Fin 4) (y : Fin 256) (l : ℕ → ℝ) (v : Fin 144 → ℕ → EReal) (n : ℕ)
    (hs : σ.s 0 g = lgB xq xk n g)
    (hl : ∀ i : Fin 256, lgB xq xk n g (ix2 i y) = (l (256 * n + i.val) : EReal))
    (hv : ∀ d (i : Fin 256), vRow xv n g d i = v d (256 * n + i.val))
    (hm : σ.m g (ix2 0 y) = ⊥) (ha : ∀ d, σ.acc g (ix2 d y) = 0) :
    ∃ M' : ℝ, (absorbDSt 0 (vB (F := Ideal) xv n) σ).m g (ix2 0 y) = (M' : EReal)
      ∧ ∀ d, (absorbDSt 0 (vB (F := Ideal) xv n) σ).acc g (ix2 d y) = part n 0 y l (v d) M' := by
  have hle : ∀ B : EReal, mNew (F := Ideal) (σ.m g) (diagMax (F := Ideal) (σ.s 0 g)) (ix2 0 y) ≤ B ↔ (⊥ : EReal) ≤ B ∧ ∀ i : Fin 256, (if i.val ≤ y.val then (l (256 * n + i.val) : EReal) else ⊥) ≤ B := by
    intro B
    rw [mNew_le, hm, hs, diagMax_le]
    refine and_congr_right fun _ => forall_congr' fun i => ?_
    rw [hl]
    by_cases h : i.val ≤ y.val
    · rw [if_pos h]; exact ⟨fun k => k h, fun k _ => k⟩
    · rw [if_neg h]; exact ⟨fun _ => bot_le, fun _ k => absurd k h⟩
  obtain ⟨M', hM'⟩ := real_of_le (lt_top_of _ _ _ bot_lt_top (fun i => by split; exacts [EReal.coe_lt_top _, bot_lt_top]) hle) (l (256 * n + (0 : Fin 256).val))
    (by have := ((hle _).1 le_rfl).2 0; rwa [if_pos (show (0 : Fin 256).val ≤ y.val from Nat.zero_le _)] at this)
  refine ⟨M', hM', fun d => ?_⟩
  rw [absorbD_acc, accNew_at, ha d, mul_zero, zero_add]
  unfold part wsum
  rw [Finset.range_zero, Finset.sum_empty, add_zero]
  refine Finset.sum_congr rfl fun i _ => ?_
  dsimp only
  rw [pWin_at, pStrip_at, hM', diagMask_at _ (by show 32 * (i.val / 32) + 32 ≤ 256; omega), strip_div, hs, hl, ← hv d i,
    show 32 * (i.val / 32) + i.val % 32 = i.val by omega]
  refine congrArg₂ (· * ·) rfl ?_
  by_cases h : i.val ≤ y.val
  · rw [if_pos h, if_pos h, exp2_sub]
  · rw [if_neg h, if_neg h]
    rfl

/-- What holds when the query block's own block and the first `2 k` blocks are absorbed. -/
structure At (n k : ℕ) (g : Fin 4) (y : Fin 256) (l : ℕ → ℝ) (v : Fin 144 → ℕ → EReal) (σ : St Ideal) : Prop where
  hk : σ.xk = xk
  hv : σ.xv = xv
  hq : σ.qt = qHalf (F := Ideal) xq
  hs : σ.s 1 g = lgB xq xk (2 * k) g
  hp : σ.mp 1 g = blockMax (lgB xq xk (2 * k) g)
  ha : ∃ M : ℝ, σ.m g (ix2 0 y) = (M : EReal) ∧ ∀ d, σ.acc g (ix2 d y) = part n (2 * k) y l (v d) M

variable (g : Fin 4) (y : Fin 256) (l : ℕ → ℝ) (v : Fin 144 → ℕ → EReal)
variable (hl : ∀ c < 16, ∀ i : Fin 256, lgB xq xk c g (ix2 i y) = (l (256 * c + i.val) : EReal))
variable (hv : ∀ c < 16, ∀ d (i : Fin 256), vRow xv c g d i = v d (256 * c + i.val))

include hl hv

theorem at_zero (n : ℕ) (hn : n < 16) (out) : At xq xk xv n 0 g y l v (proSt (F := Ideal) n xq xk xv out) := by
  refine ⟨rfl, rfl, rfl, rfl, rfl, ?_⟩
  exact absorbD_step xq xk xv _ g y l v n rfl (hl n hn) (hv n hn) negInf (fun d => by simp [broadcast])

theorem at_succ (n k : ℕ) (hk : 2 * k + 1 < 16) (σ : St Ideal) (h : At xq xk xv n k g y l v σ) : At xq xk xv n (k + 1) g y l v (tripSt k σ) := by
  obtain ⟨h1, h2, h3, h4, h5, M, h6, h7⟩ := h
  refine ⟨h1, h2, h3, ?_, ?_, ?_⟩
  · show logits (F := Ideal) (kB (F := Ideal) σ.xk (2 * k + 2) g) (qWin (F := Ideal) σ.qt g) = _
    rw [h1, h3]; rfl
  · show blockMax (F := Ideal) (logits (F := Ideal) (kB (F := Ideal) σ.xk (2 * k + 2) g) (qWin (F := Ideal) σ.qt g)) = _
    rw [h1, h3]; rfl
  · obtain ⟨M1, hm1, ha1⟩ := absorb_step xq xk xv 1 (issueSt 0 (kB σ.xk (2 * k + 1)) σ) g y l v n (2 * k) M h4 h5 (hl _ (by omega)) (hv _ (by omega)) h6 h7
    rw [← h2] at hm1 ha1
    obtain ⟨M2, hm2, ha2⟩ := absorb_step xq xk xv 0 (issueSt 1 (kB σ.xk (2 * k + 2)) (absorbSt 1 (vB σ.xv (2 * k)) (issueSt 0 (kB σ.xk (2 * k + 1)) σ))) g y l v n (2 * k + 1) M1
      (by show logits (F := Ideal) (kB (F := Ideal) σ.xk (2 * k + 1) g) (qWin (F := Ideal) σ.qt g) = _; rw [h1, h3]; rfl)
      (by show blockMax (F := Ideal) (logits (F := Ideal) (kB (F := Ideal) σ.xk (2 * k + 1) g) (qWin (F := Ideal) σ.qt g)) = _; rw [h1, h3]; rfl)
      (hl _ hk) (hv _ hk) hm1 ha1
    rw [← h2] at hm2 ha2
    exact ⟨M2, hm2, ha2⟩

theorem at_loop (n : ℕ) (hn : n < 16) (out) (k : ℕ) (hk : k ≤ n / 2) : At xq xk xv n k g y l v (loopSt (proSt (F := Ideal) n xq xk xv out) k) := by
  induction k with
  | zero => exact at_zero xq xk xv g y l v hl hv n hn out
  | succ k ih => exact at_succ xq xk xv g y l v hl hv n k (by omega) _ (ih (by omega))

/-- All blocks absorbed. -/
theorem at_all (n : ℕ) (hn : n < 16) (out) :
    ∃ M : ℝ, ∀ d, (allSt (F := Ideal) n xq xk xv out).acc g (ix2 d y) = part n n y l (v d) M := by
  obtain ⟨h1, h2, h3, h4, h5, M, h6, h7⟩ := at_loop xq xk xv g y l v hl hv n hn out (n / 2) le_rfl
  unfold allSt tailSt
  split
  · rename_i hodd
    have e : 2 * (n / 2) = n - 1 := by omega
    rw [e] at h4 h5 h7
    obtain ⟨M1, hm1, ha1⟩ := absorb_step xq xk xv 1 (loopSt (proSt (F := Ideal) n xq xk xv out) (n / 2)) g y l v n (n - 1) M h4 h5 (hl _ (by omega)) (hv _ (by omega)) h6 h7
    rw [h2]
    rw [show n - 1 + 1 = n by omega] at ha1
    exact ⟨M1, ha1⟩
  · have e : 2 * (n / 2) = n := by omega
    rw [e] at h7
    exact ⟨M, h7⟩

end Cert.KernelIdeal.Fox

end
-- ==== Proof.Fox.Soft.lean ====
/- A causal softmax over the extended reals: the weighted sums' ratio, whatever the weights are shifted by. -/
module

public import proofs.«01_k».proof.Proof.Fox.Chain

@[expose] public section

set_option maxRecDepth 16384

noncomputable section

open Idealize.ShloMosaic

namespace Cert.KernelIdeal.Fox

theorem sum_blocks (f : ℕ → EReal) (k : ℕ) :
    ∑ j ∈ Finset.range (256 * k), f j = ∑ c ∈ Finset.range k, ∑ i : Fin 256, f (256 * c + i.val) := by
  induction k with
  | zero => rfl
  | succ k ih => rw [Nat.mul_succ, Finset.sum_range_add, ih, Finset.sum_range_succ (n := k), Finset.sum_range (fun x => f (256 * k + x))]

theorem part_eq (n : ℕ) (hn : n < 16) (y : Fin 256) (l : ℕ → ℝ) (v : ℕ → EReal) (M : ℝ) :
    part n n y l v M = ∑ j : Fin 4096, v j.val * (if j.val ≤ 256 * n + y.val then wgt (l j.val) M else 0) := by
  have e : 4096 = 256 * (n + 1) + (4096 - 256 * (n + 1)) := by omega
  rw [← Finset.sum_range (fun j => v j * (if j ≤ 256 * n + y.val then wgt (l j) M else 0)), e, Finset.sum_range_add]
  have z : ∑ x ∈ Finset.range (4096 - 256 * (n + 1)), v (256 * (n + 1) + x) * (if 256 * (n + 1) + x ≤ 256 * n + y.val then wgt (l (256 * (n + 1) + x)) M else 0) = 0 := by
    refine Finset.sum_eq_zero fun x _ => ?_
    rw [if_neg (by omega), mul_zero]
  rw [z, add_zero, sum_blocks, Finset.sum_range_succ, add_comm]
  unfold part wsum
  refine congrArg₂ (· + ·) (Finset.sum_congr rfl fun i _ => ?_) (Finset.sum_congr rfl fun c hc => Finset.sum_congr rfl fun i _ => ?_)
  · dsimp only
    by_cases h : i.val ≤ y.val
    · rw [if_pos h, if_pos (by omega)]
    · rw [if_neg h, if_neg (by omega)]
  · have := Finset.mem_range.1 hc
    dsimp only
    rw [if_pos trivial, if_pos (by omega)]

theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The ratio of the weighted sums at any common factor. -/
theorem ratio {ι : Type} [Fintype ι] (W : ι → ℝ) (v : ι → EReal) (a : ℝ) (ha : 0 < a) (hW : 0 < ∑ i, W i) :
    Ideal.div (∑ i, v i * ((W i * a : ℝ) : EReal)) (∑ i, ((W i * a : ℝ) : EReal)) = ∑ i, v i * ((W i / ∑ k, W k : ℝ) : EReal) := by
  rw [coe_sum, ← Finset.sum_mul, Ideal.div_coe (mul_pos hW ha).ne', mul_comm, pos_mul_sum _ _ (by positivity)]
  refine Finset.sum_congr rfl fun i _ => ?_
  rw [mul_left_comm, ← EReal.coe_mul]
  congr 2
  field_simp

/-- The causal weights of the scores `z` at position `t`. -/
def cw (z : Fin 4096 → ℝ) (t : Fin 4096) (j : Fin 4096) : ℝ := if j.val ≤ t.val then Real.exp (z j) else 0

theorem cw_pos (z : Fin 4096 → ℝ) (t : Fin 4096) : 0 < ∑ j, cw z t j := by
  refine Finset.sum_pos' (fun j _ => ?_) ⟨t, Finset.mem_univ _, ?_⟩
  · unfold cw; split; exacts [(Real.exp_pos _).le, le_rfl]
  · unfold cw; rw [if_pos le_rfl]; exact Real.exp_pos _

/-- The causal softmax's weighted sum. -/
def soft (z : Fin 4096 → ℝ) (t : Fin 4096) (v : Fin 4096 → EReal) : EReal := ∑ j, v j * ((cw z t j / ∑ k, cw z t k : ℝ) : EReal)

theorem wgt_log (z M : ℝ) : wgt (z / Real.log 2) M = ((Real.exp z * (2 : ℝ) ^ (-M) : ℝ) : EReal) := by
  unfold wgt
  congr 1
  show (2 : ℝ) ^ (z / Real.log 2 - M) = _
  rw [sub_eq_add_neg, Real.rpow_add (by norm_num)]
  congr 1
  rw [Real.rpow_def_of_pos (by norm_num)]
  congr 1
  have : Real.log 2 ≠ 0 := (Real.log_pos (by norm_num)).ne'
  field_simp

/-- The score of key `j` for query `t`, less the query's own running sum, which every key of the query shares. -/
def score (qr kr : (⟨4, ![16, 4096, 4, 128]⟩ : Shape).Idx → ℝ) (cr : (⟨3, ![16, 4096, 4]⟩ : Shape).Idx → ℝ) (S : ℝ) (b : Fin 16) (h : Fin 4) (t j : Fin 4096) : ℝ :=
  (∑ e : Fin 128, qr (ix4 b t h e) * kr (ix4 b j h e)) * S - cr (ix3 b j h)

/-- The kernel's ratio of sums. -/
theorem kernel_soft (z : Fin 4096 → ℝ) (t : Fin 4096) (v : Fin 4096 → EReal) (M : ℝ) :
    Ideal.div (∑ j : Fin 4096, v j * (if j.val ≤ t.val then wgt (z j / Real.log 2) M else 0)) (∑ j : Fin 4096, 1 * (if j.val ≤ t.val then wgt (z j / Real.log 2) M else 0))
      = soft z t v := by
  have e : ∀ j : Fin 4096, (if j.val ≤ t.val then wgt (z j / Real.log 2) M else 0) = ((cw z t j * (2 : ℝ) ^ (-M) : ℝ) : EReal) := by
    intro j
    unfold cw
    split
    · exact wgt_log _ _
    · rw [zero_mul]; rfl
  simp only [e, one_mul]
  exact ratio (cw z t) v _ (Real.rpow_pos_of_pos (by norm_num) _) (cw_pos z t)

/-- The reference's softmax, shifted by the row's maximum. -/
theorem ref_soft (z : Fin 4096 → ℝ) (a : ℝ) (t : Fin 4096) (v x : Fin 4096 → EReal) (hx : ∀ j, x j = if j.val ≤ t.val then ((z j + a : ℝ) : EReal) else ⊥) :
    ∑ j, v j * Ideal.div (Ideal.exp (x j - max (Ideal.ofBits .f32 4286578688#32) (Finset.univ.fold max (Ideal.ofBits .f32 4286578688#32) x)))
        (∑ k, Ideal.exp (x k - max (Ideal.ofBits .f32 4286578688#32) (Finset.univ.fold max (Ideal.ofBits .f32 4286578688#32) x)))
      = soft z t v := by
  have hle : ∀ B : EReal, max (Ideal.ofBits .f32 4286578688#32) (Finset.univ.fold max (Ideal.ofBits .f32 4286578688#32) x) ≤ B ↔ (⊥ : EReal) ≤ B ∧ ∀ j, x j ≤ B := by
    intro B
    rw [max_le_iff, fold_max_le, show Ideal.ofBits .f32 4286578688#32 = ⊥ from negInf]
    simp
  obtain ⟨R, hR⟩ := real_of_le (lt_top_of _ _ _ bot_lt_top (fun j => by rw [hx]; split; exacts [EReal.coe_lt_top _, bot_lt_top]) hle) (z t + a)
    (by have := ((hle _).1 le_rfl).2 t; rwa [hx, if_pos le_rfl] at this)
  rw [hR]
  have e : ∀ j, Ideal.exp (x j - (R : EReal)) = ((cw z t j * Real.exp (a - R) : ℝ) : EReal) := by
    intro j
    rw [hx]
    unfold cw
    split
    · rw [← EReal.coe_sub, ← Real.exp_add, Ideal.exp_coe]
      congr 2
      ring
    · rw [zero_mul]; rfl
  simp only [e]
  unfold soft
  rw [coe_sum, ← Finset.sum_mul]
  have h1 := cw_pos z t
  have h2 := Real.exp_pos (a - R)
  refine Finset.sum_congr rfl fun j _ => congrArg _ ?_
  rw [Ideal.div_coe (mul_pos h1 h2).ne', ← EReal.coe_mul]
  congr 1
  field_simp

end Cert.KernelIdeal.Fox

end

end
-- ==== Proof.Fox.Lane.lean ====
/- One lane of the attention kernel's output block, from its operands' entries. -/
module

public import proofs.«01_k».proof.Proof.Fox.Soft

@[expose] public section

set_option maxRecDepth 16384

noncomputable section

open Idealize.ShloMosaic Idealize.ShloMosaic.TcCoe Idealize.SL.Sem

namespace Cert.KernelIdeal.Fox

open Cert.KernelIdeal Cert.KernelIdeal.Gen

/-- A sum over twice 128 lanes whose upper half has one term. -/
theorem sum_halves (f : Fin 256 → EReal) (h : ∀ e : Fin 256, 128 < e.val → f e = 0) :
    ∑ e, f e = (∑ e : Fin 128, f ⟨e.val, by omega⟩) + f 128 := by
  refine (Fin.sum_univ_add (a := 128) (b := 128) f).trans (congrArg₂ (· + ·) rfl ?_)
  rw [Finset.sum_eq_single (0 : Fin 128)]
  · rfl
  · intro e _ he
    refine h _ ?_
    have : e.val ≠ 0 := fun h => he (Fin.ext h)
    show 128 < 128 + e.val
    omega
  · intro h; exact absurd (Finset.mem_univ _) h

variable (xq : FVec Ideal S1x256x512 .bf16) (xk : FVec Ideal S1x4096x1024 .bf16) (xv : FVec Ideal S512x4096 .bf16)
variable (g : Fin 4) (y : Fin 256) (qv : Fin 128 → ℝ) (kv : Fin 4096 → Fin 128 → ℝ) (cv : Fin 4096 → ℝ) (vv : Fin 4096 → Fin 128 → EReal) (S : ℝ)
variable (hq : ∀ (e : Fin 128) (h : 128 * g.val + e.val < 512), xq (ix3 0 y ⟨128 * g.val + e.val, h⟩) = ((qv e * (S * (1 / Real.log 2)) : ℝ) : EReal))
variable (hk : ∀ (j : Fin 4096) (e : Fin 256) (h : 256 * g.val + e.val < 1024), xk (ix3 0 j ⟨256 * g.val + e.val, h⟩) = if h : e.val < 128 then (kv j ⟨e.val, h⟩ : EReal)
  else if e.val - 128 = 0 then ((cv j * -(1 / Real.log 2) : ℝ) : EReal) else 0)
variable (hv : ∀ (d : Fin 128) (j : Fin 4096) (h : 128 * g.val + d.val < 512), xv (ix2 ⟨128 * g.val + d.val, h⟩ j) = vv j d)

include hq hk

theorem lgB_at (c : ℕ) (hc : c < 16) (i : Fin 256) :
    lgB xq xk c g (ix2 i y) = ((((∑ e, qv e * kv ⟨256 * c + i.val, by omega⟩ e) * S - cv ⟨256 * c + i.val, by omega⟩) / Real.log 2 : ℝ) : EReal) := by
  unfold lgB
  rw [logits_at]
  have e1 : ∀ e : Fin 256, kB (F := Ideal) xk c g (ix3 0 i e) * qWin (F := Ideal) (qHalf (F := Ideal) xq) g (ix3 0 e y)
      = if h : e.val < 128 then ((kv ⟨256 * c + i.val, by omega⟩ ⟨e.val, h⟩ * (qv ⟨e.val, h⟩ * (S * (1 / Real.log 2))) : ℝ) : EReal)
        else if e.val - 128 = 0 then ((cv ⟨256 * c + i.val, by omega⟩ * -(1 / Real.log 2) : ℝ) : EReal) else 0 := by
    intro e
    refine (congrArg₂ (· * ·) ((kB_at xk c hc g i e).trans (hk ⟨256 * c + i.val, by omega⟩ e _)) (qWin_at xq g e y)).trans ?_
    by_cases h : e.val < 128
    · simp only [dif_pos h]
      refine (congrArg₂ (· * ·) rfl (hq ⟨e.val, h⟩ _)).trans ?_
      exact (EReal.coe_mul _ _).symm
    · simp only [dif_neg h]
      exact mul_one _
  refine (Finset.sum_congr rfl fun e _ => e1 e).trans ?_
  rw [sum_halves]
  · rw [dif_neg (by show ¬ (128 : ℕ) < 128; omega), if_pos (by rfl)]
    refine (congrArg₂ (· + ·) ((Finset.sum_congr rfl fun e _ => dif_pos e.isLt).trans (coe_sum _ _)) rfl).trans ?_
    rw [← EReal.coe_add]
    congr 1
    rw [sub_div, Finset.sum_mul, Finset.sum_div]
    rw [sub_eq_add_neg]
    refine congrArg₂ (· + ·) (Finset.sum_congr rfl fun e _ => ?_) ?_
    · ring
    · ring
  · intro e he
    rw [dif_neg (by omega), if_neg (by omega)]

include hv

/-- One entry of a head's output. -/
theorem lane (n : ℕ) (hn : n < 16) (d : Fin 128) (t : Fin 4096) (ht : t.val = 256 * n + y.val) :
    outSt (F := Ideal) n xq xk xv g (ix2 y d)
      = soft (fun j => (∑ e, qv e * kv j e) * S - cv j) t (fun j => vv j d) := by
  have hlt : 256 * n + y.val < 4096 := by omega
  rw [show t = ⟨256 * n + y.val, hlt⟩ from Fin.ext ht]
  obtain ⟨M, hM⟩ := at_all xq xk xv g y
    (fun j => if h : j < 4096 then ((∑ e, qv e * kv ⟨j, h⟩ e) * S - cv ⟨j, h⟩) / Real.log 2 else 0)
    (fun d j => if hd : d.val < 128 then (if h : j < 4096 then vv ⟨j, h⟩ ⟨d.val, hd⟩ else 0) else 1)
    (fun c hc i => by rw [lgB_at xq xk g y qv kv cv S hq hk c hc i, dif_pos (by omega)])
    (fun c hc d i => by
      unfold vRow
      by_cases hd : d.val < 128
      · rw [dif_pos hd, dif_pos hd, dif_pos (by omega)]
        exact (vB_at xv c hc g ⟨d.val, hd⟩ i).trans (hv ⟨d.val, hd⟩ ⟨256 * c + i.val, by omega⟩ _)
      · rw [dif_neg hd, dif_neg hd]) n hn noOut
  refine (outOf_at _ g y d).trans ?_
  refine (congrArg₂ Ideal.div ((hM _).trans (part_eq n hn y _ _ M)) ((hM _).trans (part_eq n hn y _ _ M))).trans ?_
  refine Eq.trans (congrArg₂ Ideal.div (Finset.sum_congr rfl fun j _ => ?_) (Finset.sum_congr rfl fun j _ => ?_)) (kernel_soft (fun j => (∑ e, qv e * kv j e) * S - cv j) ⟨256 * n + y.val, by omega⟩ (fun j => vv j d) M)
  · rw [dif_pos j.isLt, dif_pos d.isLt, dif_pos j.isLt]
  · rw [dif_pos j.isLt, dif_neg (by show ¬ (128 : ℕ) < 128; omega)]

end Cert.KernelIdeal.Fox

end

end
-- ==== Proof.Fox.Host.lean ====
/- What the host lines hand the attention's call, over the extended reals, entry by entry. -/
module

public import proofs.«01_k».proof.Proof.Fox.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Fox

open Cert.KernelIdeal Cert.KernelIdeal.Gen

variable (m : (ℓ : Loc nD τ sig) → Buf (Elt Ideal) ℓ) (c : Dev nD)

/-- The arguments. -/
abbrev Xq : FVec Ideal S16x4096x4x128 .f32 := m ((c : Thread nD τ).loc main_arg0)
abbrev Xk : FVec Ideal S16x4096x4x128 .f32 := m ((c : Thread nD τ).loc main_arg1)
abbrev Xv : FVec Ideal S16x4096x4x128 .f32 := m ((c : Thread nD τ).loc main_arg2)
abbrev Xc : FVec Ideal S16x4096x4 .f32 := m ((c : Thread nD τ).loc main_arg3)

/-- The call's operands. -/
def Aq : FVec Ideal S16x4096x512 .bf16 := V m c main_v6
def Ak : FVec Ideal S16x4096x1024 .bf16 := V m c main_v31
def Av : FVec Ideal S512x65536 .bf16 := V m c main_v34

/-- The reciprocal of the logarithm of two, as the host computes it. -/
def ln2inv : EReal := Ideal.div 1 (Ideal.log (Ideal.ofBits .f32 0x40000000#32))

theorem ln2inv_eq : ln2inv = ((1 / Real.log 2 : ℝ) : EReal) := by
  unfold ln2inv
  rw [show Ideal.ofBits .f32 0x40000000#32 = ((2 : ℝ) : EReal) by simp [Ideal.ofBits, Ideal.ieee]; rw [← EReal.coe_mul]; norm_num]
  rw [Ideal.log_coe, if_neg (by norm_num), Ideal.div_coe (Real.log_pos (by norm_num)).ne', one_mul]

theorem scale_real : ∃ S : ℝ, Ideal.ofBits .f32 0x3DB504F3#32 = (S : EReal) := by
  refine ⟨_, (EReal.coe_toReal ?_ ?_).symm⟩
  · simp [Ideal.ofBits, Ideal.ieee, ← EReal.coe_mul]
  · simp [Ideal.ofBits, Ideal.ieee, ← EReal.coe_mul]

theorem Aq_at (b : Fin 16) (t : Fin 4096) (e : Fin 512) :
    Aq m c (ix3 b t e) = Xq m c (ix4 b t ⟨e.val / 128, by omega⟩ ⟨e.val % 128, by omega⟩) * (Ideal.ofBits .f32 0x3DB504F3#32 * ln2inv) := by
  unfold Aq
  simp only [V, hostOps0, hostOps0_1, hostOps0_2, hostOps0_3, hostOps0_4, List.flatten_cons, List.flatten_nil, List.cons_append, List.nil_append, List.append_nil]
  entry_read
  pointwise
  rfl

theorem Av_at (e : Fin 512) (t : Fin 65536) :
    Av m c (ix2 e t) = Xv m c (ix4 ⟨t.val / 4096, by omega⟩ ⟨t.val % 4096, by omega⟩ ⟨e.val / 128, by omega⟩ ⟨e.val % 128, by omega⟩) := by
  unfold Av
  simp only [V, hostOps0, hostOps0_1, hostOps0_2, hostOps0_3, hostOps0_4, List.flatten_cons, List.flatten_nil, List.cons_append, List.nil_append, List.append_nil]
  entry_read
  pointwise

theorem pieces_eq (n : ℕ) (hn : n < 128) (x : EReal) (r : ℝ) (hx : x = (r : EReal)) :
    Scalar.select (IntOp.cmpi CmpIPredicate.eq (BitVec.ofNat 32 n) 0#32) x
      (Scalar.select (IntOp.cmpi CmpIPredicate.eq (BitVec.ofNat 32 n) 1#32) (x - x)
        (Scalar.select (IntOp.cmpi CmpIPredicate.eq (BitVec.ofNat 32 n) 2#32) (x - x - (x - x)) 0))
    = if n = 0 then (r : EReal) else 0 := by
  have z : x - x = 0 := by rw [hx, ← EReal.coe_sub, sub_self]; rfl
  have zz : ∀ w : BitVec 1, Scalar.select w (0 : EReal) 0 = 0 := fun w => by unfold Scalar.select; split <;> rfl
  rw [z, sub_zero, zz, zz, show (0#32) = BitVec.ofNat 32 0 from rfl]
  by_cases h : n = 0
  · subst h; exact hx
  · rw [if_neg h]
    have : ¬ IntOp.cmpi CmpIPredicate.eq (BitVec.ofNat 32 n) (BitVec.ofNat 32 0) = 1 := by
      rw [show (1 : BitVec 1) = 1#1 from rfl, WordCmp.cmpi_eq_ofNat_eq_one_iff (by omega) (by omega)]; exact h
    exact if_neg this

theorem Ak_at (cr : S16x4096x4.Idx → ℝ) (hc : ∀ i, Xc m c i = (cr i : EReal)) (b : Fin 16) (t : Fin 4096) (e : Fin 1024) :
    Ak m c (ix3 b t e) = if h : e.val % 256 < 128 then Xk m c (ix4 b t ⟨e.val / 256, by omega⟩ ⟨e.val % 256, h⟩)
      else if e.val % 256 - 128 = 0 then ((cr (ix3 b t ⟨e.val / 256, by omega⟩) * -(1 / Real.log 2) : ℝ) : EReal) else 0 := by
  unfold Ak
  simp only [V, hostOps0, hostOps0_1, hostOps0_2, hostOps0_3, hostOps0_4, List.flatten_cons, List.flatten_nil, List.cons_append, List.nil_append, List.append_nil]
  entry_read
  simp only [StableHlo.TRef.ofBuf_toBuf, StableHlo.TRef.ofBuf, StableHlo.TRef.toBuf, StableHlo.TRef.of, cast_eq, eq_rec_constant, id_eq]
  pointwise
  split
  · rfl
  · refine pieces_eq _ (by omega) _ _ ?_
    refine (congrArg₂ (· * ·) (hc _) (congrArg Neg.neg ln2inv_eq)).trans ?_
    exact (EReal.coe_mul _ _).symm

end Cert.KernelIdeal.Fox

end

end
-- ==== Proof.Fox.Out.lean ====
/- What the attention kernel's output array ends with, over the extended reals. -/
module

public import proofs.«01_k».proof.Proof.Fox.Lane
public import proofs.«01_k».proof.Proof.Fox.Host

@[expose] public section

set_option maxRecDepth 16384

noncomputable section

open Idealize.ShloMosaic Idealize.ShloMosaic.TcCoe Idealize.SL.Sem
open Idealize.ShloMosaic.Pipeline (Dat Cfg Window BodyObligation cellOf)

namespace Cert.KernelIdeal.Fox

open Cert.KernelIdeal Cert.KernelIdeal.Gen

variable (m : (ℓ : Loc nD τ sig) → Buf (Elt Ideal) ℓ) (c : Dev nD)

/-- The windows' blocks at every grid point. -/
theorem idx : ∀ t : Fin cfg0.N, win0_0.index t = ![t.val / 16, t.val % 16, 0] ∧ win0_1.index t = ![t.val / 16, 0, 0]
    ∧ win0_2.index t = ![0, t.val / 16] ∧ win0_3.index t = ![t.val / 16, t.val % 16, 0] ∧ (grid0.coords t 2).val = t.val % 16 :=
  (by decide +kernel : ∀ t : Fin grid0.N, _)

theorem lt_N (t : Fin cfg0.N) : t.val < 256 := lt_of_lt_of_eq t.isLt (show cfg0.N = 256 from N_0)

theorem rd0 (A : FVec Ideal S16x4096x512 .bf16) (t : Fin cfg0.N) (r : Fin 256) (e : Fin 512) (b : Fin 16) (i : Fin 4096) (hb : b.val = t.val / 16) (hi : i.val = 256 * (t.val % 16) + r.val) :
    (((cfg0.win 0).blk t).view.read (Elt Ideal) A : FVec Ideal S1x256x512 .bf16) (ix3 0 r e) = A (ix3 b i e) := by
  blk_ext [idx t]

theorem rd1 (A : FVec Ideal S16x4096x1024 .bf16) (t : Fin cfg0.N) (j : Fin 4096) (e : Fin 1024) (b : Fin 16) (hb : b.val = t.val / 16) :
    (((cfg0.win 1).blk t).view.read (Elt Ideal) A : FVec Ideal S1x4096x1024 .bf16) (ix3 0 j e) = A (ix3 b j e) := by
  blk_ext [idx t]

theorem rd2 (A : FVec Ideal S512x65536 .bf16) (t : Fin cfg0.N) (e : Fin 512) (j : Fin 4096) (i : Fin 65536) (hi : i.val = 4096 * (t.val / 16) + j.val) :
    (((cfg0.win 2).blk t).view.read (Elt Ideal) A : FVec Ideal S512x4096 .bf16) (ix2 e j) = A (ix2 e i) := by
  blk_ext [idx t]

variable (qr kr : (⟨4, ![16, 4096, 4, 128]⟩ : Shape).Idx → ℝ) (cr : (⟨3, ![16, 4096, 4]⟩ : Shape).Idx → ℝ) (S : ℝ)

/-- What the output ends with. -/
def G : FVec Ideal S16x4096x512 .bf16 := fun i =>
  soft (score qr kr cr S (i 0) ⟨(i 2).val / 128, by have : (i 2).val < 512 := (i 2).isLt; omega⟩ (i 1)) (i 1)
    (fun j => Xv m c (ix4 (i 0) j ⟨(i 2).val / 128, by have : (i 2).val < 512 := (i 2).isLt; omega⟩ ⟨(i 2).val % 128, by omega⟩))

theorem Aq_lane (hS : Ideal.ofBits .f32 0x3DB504F3#32 = (S : EReal)) (hq : ∀ i, Xq m c i = (qr i : EReal)) (b : Fin 16) (t : Fin 4096) (g : Fin 4) (x : Fin 128) (h : 128 * g.val + x.val < 512) :
    Aq m c (ix3 b t ⟨128 * g.val + x.val, h⟩) = ((qr (ix4 b t g x) * (S * (1 / Real.log 2)) : ℝ) : EReal) := by
  refine (Aq_at m c _ _ _).trans ?_
  refine (congrArg₂ (· * ·) ((hq _).trans (congrArg _ (congrArg₂ (fun a d => qr (ix4 b t a d)) (Fin.ext (?_ : (128 * g.val + x.val) / 128 = g.val)) (Fin.ext (?_ : (128 * g.val + x.val) % 128 = x.val)))))
    ((congrArg₂ (· * ·) hS ln2inv_eq).trans (EReal.coe_mul _ _).symm)).trans (EReal.coe_mul _ _).symm
  · omega
  · omega

theorem Ak_lane (hk : ∀ i, Xk m c i = (kr i : EReal)) (hc : ∀ i, Xc m c i = (cr i : EReal)) (b : Fin 16) (j : Fin 4096) (g : Fin 4) (x : Fin 256) (h : 256 * g.val + x.val < 1024) :
    Ak m c (ix3 b j ⟨256 * g.val + x.val, h⟩) = if h : x.val < 128 then (kr (ix4 b j g ⟨x.val, h⟩) : EReal)
      else if x.val - 128 = 0 then ((cr (ix3 b j g) * -(1 / Real.log 2) : ℝ) : EReal) else 0 := by
  have h1 : (256 * g.val + x.val) / 256 = g.val := by omega
  have h2 : (256 * g.val + x.val) % 256 = x.val := by omega
  refine (Ak_at m c cr hc _ _ _).trans ?_
  by_cases hx : x.val < 128
  · rw [dif_pos hx]
    refine (dif_pos (h2.trans_lt hx)).trans ?_
    exact (hk _).trans (congrArg _ (congrArg₂ (fun a d => kr (ix4 b j a d)) (Fin.ext h1) (Fin.ext h2)))
  · rw [dif_neg hx]
    refine (dif_neg (fun h => hx (h2.symm.trans_lt h))).trans ?_
    by_cases h0 : x.val - 128 = 0
    · rw [if_pos h0]
      refine (if_pos ((congrArg (· - 128) h2).trans h0)).trans ?_
      exact congrArg (fun a => ((cr (ix3 b j a) * -(1 / Real.log 2) : ℝ) : EReal)) (Fin.ext h1)
    · rw [if_neg h0]
      exact if_neg (fun h => h0 ((congrArg (· - 128) h2).symm.trans h))

theorem Av_lane (b : Fin 16) (j : Fin 4096) (i : Fin 65536) (hi : i.val = 4096 * b.val + j.val) (g : Fin 4) (d : Fin 128) (h : 128 * g.val + d.val < 512) :
    Av m c (ix2 ⟨128 * g.val + d.val, h⟩ i) = Xv m c (ix4 b j g d) := by
  refine (Av_at m c _ _).trans ?_
  have e1 : i.val / 4096 = b.val := by omega
  have e2 : i.val % 4096 = j.val := by omega
  have e3 : (128 * g.val + d.val) / 128 = g.val := by omega
  have e4 : (128 * g.val + d.val) % 128 = d.val := by omega
  exact (congrArg₂ (fun b j => Xv m c (ix4 b j ⟨(128 * g.val + d.val) / 128, by omega⟩ ⟨(128 * g.val + d.val) % 128, by omega⟩)) (Fin.ext e1) (Fin.ext e2)).trans
    (congrArg₂ (fun g d => Xv m c (ix4 b j g d)) (Fin.ext e3) (Fin.ext e4))

variable (hS : Ideal.ofBits .f32 0x3DB504F3#32 = (S : EReal))
variable (hq : ∀ i, Xq m c i = (qr i : EReal)) (hk : ∀ i, Xk m c i = (kr i : EReal)) (hc : ∀ i, Xc m c i = (cr i : EReal))

include hS hq hk hc

theorem point (t : Fin cfg0.N) (r : Fin 256) (e : Fin 512) (b : Fin 16) (i : Fin 4096) (hb : b.val = t.val / 16) (hi : i.val = 256 * (t.val % 16) + r.val) :
    outAt m c t (ix3 0 r e) = G m c qr kr cr S (ix3 b i e) := by
  have ht := lt_N t
  have hj : ∀ j : Fin 4096, 4096 * (t.val / 16) + j.val < 65536 := fun j => by omega
  have hg : e.val / 128 < 4 := by omega
  have hd : e.val % 128 < 128 := by omega
  unfold outAt
  show outSt (F := Ideal) (grid0.coords t 2).val (iblk m c 0 t) (iblk m c 1 t) (iblk m c 2 t) ⟨e.val / 128, hg⟩ (ix2 r ⟨e.val % 128, hd⟩) = _
  rw [(idx t).2.2.2.2]
  exact lane _ _ _ ⟨e.val / 128, hg⟩ r (fun x => qr (ix4 b i ⟨e.val / 128, hg⟩ x))
    (fun j x => kr (ix4 b j ⟨e.val / 128, hg⟩ x)) (fun j => cr (ix3 b j ⟨e.val / 128, hg⟩))
    (fun j d => Xv m c (ix4 b j ⟨e.val / 128, hg⟩ d)) S
    (fun x h => (rd0 (Aq m c) t r _ b i hb hi).trans (Aq_lane m c qr S hS hq b i _ x h))
    (fun j x h => (rd1 (Ak m c) t j _ b hb).trans (Ak_lane m c kr cr hk hc b j _ x h))
    (fun d j h => (rd2 (Av m c) t _ j ⟨_, hj j⟩ rfl).trans (Av_lane m c b j _ (by rw [hb]) _ d h))
    (t.val % 16) (by omega) ⟨e.val % 128, hd⟩ i hi

omit hS hq hk hc in
theorem emb3 (t : Fin cfg0.N) (r : Fin 256) (e : Fin 512) (b : Fin 16) (i : Fin 4096) (hb : b.val = t.val / 16) (hi : i.val = 256 * (t.val % 16) + r.val) :
    (((cfg0.win 3).blk t).view.emb (ix3 0 r e : S1x256x512.Idx) : S16x4096x512.Idx) = ix3 b i e := by
  blk_ext [idx t]

/-- What the output array ends with. -/
theorem final : (dats m 0 c).arrAt 3 cfg0.N = G m c qr kr cr S := by
  refine (dats m 0 c).arrAt_eq_of_covers 3 _ (by decide +kernel) fun t _ y => ?_
  blk_simp
  rw [after0_3]
  have ht := lt_N t
  obtain ⟨r, e, rfl⟩ : ∃ (r : Fin 256) (e : Fin 512), y = (ix3 0 r e : S1x256x512.Idx) := ⟨y 1, y 2, by blk_ext⟩
  refine (point m c qr kr cr S hS hq hk hc t r e ⟨t.val / 16, by omega⟩ ⟨256 * (t.val % 16) + r.val, by omega⟩ rfl rfl).trans ?_
  exact congrArg _ (emb3 t r e _ _ rfl rfl).symm

end Cert.KernelIdeal.Fox

end

end
-- ==== Proof.Fox.RefVal.lean ====
/- What the reference computes, over the extended reals, entry by entry. -/
module

public import proofs.«01_k».proof.Proof.Gen.ReferenceIdeal.Run
public import proofs.«01_k».proof.Proof.Fox.Soft

@[expose] public section

set_option maxRecDepth 16384

noncomputable section

open Idealize.ShloMosaic Idealize.ShloMosaic.TcCoe Idealize.SL.Sem

namespace Cert.ReferenceIdeal.Fox

open Cert.ReferenceIdeal Cert.ReferenceIdeal.Gen

variable (m : (ℓ : Loc nD τ sig) → Buf (Elt Ideal) ℓ) (c : Dev nD)

/-- The mask of the keys a query may read. -/
def mkF : IVec S4096x4096 1 :=
  cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))

/-- The logits. -/
def dtF (Q K : FVec Ideal S16x4096x4x128 .f32) (C : FVec Ideal S16x4096x4 .f32) : FVec Ideal S16x4x4096x4096 .f32 :=
  subf (addf (mulf (Host.dotGeneral dot_S16x4096x4x128_S16x4096x4x128_S16x4x4096x4096_3_3_1_1_02_02 none Q K) (broadcastInDim S16x4x4096x4096 ![] bcast_S_S16x4x4096x4096 (constant S_ .f32 0x3DB504F3#32)))
      (broadcastInDim S16x4x4096x4096 ![0, 1, 2, 3] bcast_S16x4x4096x1_S16x4x4096x4096_0_1_2_3 (broadcastInDim S16x4x4096x1 ![0, 1, 2] bcast_S16x4x4096_S16x4x4096x1_0_1_2 (transpose S16x4x4096 [0, 2, 1] C transposes_S16x4096x4_S16x4x4096_0_2_1))))
      (broadcastInDim S16x4x4096x4096 ![0, 1, 2, 3] bcast_S16x4x1x4096_S16x4x4096x4096_0_1_2_3 (broadcastInDim S16x4x1x4096 ![0, 1, 3] bcast_S16x4x4096_S16x4x1x4096_0_1_3 (transpose S16x4x4096 [0, 2, 1] C transposes_S16x4096x4_S16x4x4096_0_2_1)))

/-- The masked logits. -/
def lgF (M : IVec S4096x4096 1) (d : FVec Ideal S16x4x4096x4096 .f32) : FVec Ideal S16x4x4096x4096 .f32 :=
  select (broadcastInDim S16x4x4096x4096 ![2, 3] bcast_S4096x4096_S16x4x4096x4096_2_3 M) d
    (broadcastInDim S16x4x4096x4096 ![] bcast_S_S16x4x4096x4096 (id (constant S_ .f32 0xFF800000#32)))

/-- The rows' maxima. -/
def mxF (x : FVec Ideal S16x4x4096x4096 .f32) : FVec Ideal S16x4x4096 .f32 :=
  Host.reduce FloatOps.maximumf x (constant S_ .f32 0xFF800000#32) reducesTo_S16x4x4096x4096_S16x4x4096_d3 h_S_

/-- The exponentials of the logits less their row's maximum. -/
def exF (x : FVec Ideal S16x4x4096x4096 .f32) (y : FVec Ideal S16x4x4096 .f32) : FVec Ideal S16x4x4096x4096 .f32 :=
  Host.exp (subf x (broadcastInDim S16x4x4096x4096 ![0, 1, 2, 3] bcast_S16x4x4096x1_S16x4x4096x4096_0_1_2_3 (broadcastInDim S16x4x4096x1 ![0, 1, 2] bcast_S16x4x4096_S16x4x4096x1_0_1_2 (maximumf (broadcastInDim S16x4x4096 ![] bcast_S_S16x4x4096 (constant S_ .f32 0xFF800000#32)) y))))

/-- The weighted mean of the values. -/
def outF (v : FVec Ideal S16x4096x4x128 .f32) (p : FVec Ideal S16x4x4096x4096 .f32) : FVec Ideal S16x4096x512 .bf16 :=
  truncf .bf16 (shapeCast _ (transpose S16x4096x4x128 [0, 3, 1, 2] (Host.dotGeneral dot_S16x4096x4x128_S16x4x4096x4096_S16x4x128x4096_1_3_3_2_02_01 none v (Host.divf p (broadcastInDim S16x4x4096x4096 ![0, 1, 2, 3] bcast_S16x4x4096x1_S16x4x4096x4096_0_1_2_3 (broadcastInDim S16x4x4096x1 ![0, 1, 2] bcast_S16x4x4096_S16x4x4096x1_0_1_2 (Host.reduceAdd p (constant S_ .f32 0x00000000#32) reducesTo_S16x4x4096x4096_S16x4x4096_d3 h_S_))))) transposes_S16x4x128x4096_S16x4096x4x128_0_3_1_2) shapeCasts_S16x4096x4x128_S16x4096x512) bitsLt_bf16_f32

theorem mkF_at (t j : Fin 4096) : mkF (ix2 t j) = IntOp.cmpi .sge (BitVec.ofNat 32 t.val) (BitVec.ofNat 32 j.val) := by
  pointwise [mkF]

theorem dtF_at (Q K : FVec Ideal S16x4096x4x128 .f32) (C : FVec Ideal S16x4096x4 .f32) (b : Fin 16) (h : Fin 4) (t j : Fin 4096) :
    dtF Q K C (ix4 b h t j) = (((∑ e : Fin 128, Q (ix4 b t h e) * K (ix4 b j h e)) * Ideal.ofBits .f32 0x3DB504F3#32 + C (ix3 b t h) - C (ix3 b j h) : EReal)) := by
  pointwise [dtF]

theorem lgF_at (M : IVec S4096x4096 1) (d : FVec Ideal S16x4x4096x4096 .f32) (b : Fin 16) (h : Fin 4) (t j : Fin 4096) :
    lgF M d (ix4 b h t j) = Scalar.select (M (ix2 t j)) (d (ix4 b h t j)) (Ideal.ofBits .f32 0xFF800000#32) := by
  pointwise [lgF]
  rfl

theorem mxF_at (x : FVec Ideal S16x4x4096x4096 .f32) (b : Fin 16) (h : Fin 4) (t : Fin 4096) :
    mxF x (ix3 b h t) = Finset.fold max (Ideal.ofBits .f32 4286578688#32) (fun k : Fin 4096 => x (ix4 b h t k)) Finset.univ := by
  pointwise [mxF]

theorem exF_at (x : FVec Ideal S16x4x4096x4096 .f32) (y : FVec Ideal S16x4x4096 .f32) (b : Fin 16) (h : Fin 4) (t j : Fin 4096) :
    exF x y (ix4 b h t j) = Ideal.exp (x (ix4 b h t j) - max (Ideal.ofBits .f32 4286578688#32) (y (ix3 b h t))) := by
  pointwise [exF]

theorem outF_at (v : FVec Ideal S16x4096x4x128 .f32) (p : FVec Ideal S16x4x4096x4096 .f32) (b : Fin 16) (t : Fin 4096) (e : Fin 512) :
    outF v p (ix3 b t e) = ∑ j : Fin 4096, v (ix4 b j ⟨e.val / 128, by omega⟩ ⟨e.val % 128, by omega⟩) * Ideal.div (p (ix4 b ⟨e.val / 128, by omega⟩ t j)) (∑ k : Fin 4096, p (ix4 b ⟨e.val / 128, by omega⟩ t k)) := by
  pointwise [outF]

variable (m : (ℓ : Loc nD τ sig) → Buf (Elt Ideal) ℓ) (c : Dev nD)

/-- The reference's queries. -/
def Rq : FVec Ideal S16x4096x4x128 .f32 := m ((c.tc : Thread nD τ).loc main_arg0)
/-- The reference's keys. -/
def Rk : FVec Ideal S16x4096x4x128 .f32 := m ((c.tc : Thread nD τ).loc main_arg1)
/-- The reference's values. -/
def Rv : FVec Ideal S16x4096x4x128 .f32 := m ((c.tc : Thread nD τ).loc main_arg2)
/-- The reference's running sums. -/
def Rc : FVec Ideal S16x4096x4 .f32 := m ((c.tc : Thread nD τ).loc main_arg3)
/-- The reference's result. -/
def Ro : FVec Ideal S16x4096x512 .bf16 := Value.res_main_v32 m c

/-- The reference's masked logits. -/
def Rl : FVec Ideal S16x4x4096x4096 .f32 := lgF mkF (dtF (Rq m c) (Rk m c) (Rc m c))

theorem Ro_eq : Ro m c = outF (Rv m c) (exF (Rl m c) (mxF (Rl m c))) := rfl

variable (qr kr : (⟨4, ![16, 4096, 4, 128]⟩ : Shape).Idx → ℝ) (cr : (⟨3, ![16, 4096, 4]⟩ : Shape).Idx → ℝ) (S : ℝ)

theorem lgF_real (hS : Ideal.ofBits .f32 0x3DB504F3#32 = (S : EReal)) (Q K : FVec Ideal S16x4096x4x128 .f32) (C : FVec Ideal S16x4096x4 .f32)
    (hq : ∀ i, Q i = (qr i : EReal)) (hk : ∀ i, K i = (kr i : EReal)) (hc : ∀ i, C i = (cr i : EReal)) (b : Fin 16) (h : Fin 4) (t j : Fin 4096) :
    lgF mkF (dtF Q K C) (ix4 b h t j) = if j.val ≤ t.val then ((Cert.KernelIdeal.Fox.score qr kr cr S b h t j + cr (ix3 b t h) : ℝ) : EReal) else ⊥ := by
  rw [lgF_at, mkF_at, dtF_at, WordCmp.cmpi_sge_ofNat (by omega) (by omega)]
  by_cases h : j.val ≤ t.val
  · rw [if_pos h]
    refine (if_pos (by simp [h])).trans ?_
    simp only [hq, hk, hc, hS, ← EReal.coe_mul]
    rw [Cert.KernelIdeal.Fox.coe_sum, ← EReal.coe_mul, ← EReal.coe_add, ← EReal.coe_sub]
    unfold Cert.KernelIdeal.Fox.score
    congr 1
    ring
  · rw [if_neg h]
    refine (if_neg (by simp [h])).trans ?_
    exact Cert.KernelIdeal.Fox.negInf

theorem ref_at (hS : Ideal.ofBits .f32 0x3DB504F3#32 = (S : EReal))
    (hq : ∀ i, Rq m c i = (qr i : EReal)) (hk : ∀ i, Rk m c i = (kr i : EReal)) (hc : ∀ i, Rc m c i = (cr i : EReal)) (b : Fin 16) (t : Fin 4096) (e : Fin 512) :
    Ro m c (ix3 b t e) = Cert.KernelIdeal.Fox.soft (Cert.KernelIdeal.Fox.score qr kr cr S b ⟨e.val / 128, by omega⟩ t) t
      (fun j => Rv m c (ix4 b j ⟨e.val / 128, by omega⟩ ⟨e.val % 128, by omega⟩)) := by
  rw [Ro_eq, outF_at]
  simp only [exF_at, mxF_at]
  exact Cert.KernelIdeal.Fox.ref_soft _ (cr (ix3 b t ⟨e.val / 128, by omega⟩)) t _ (fun j => Rl m c (ix4 b ⟨e.val / 128, by omega⟩ t j))
    (fun j => lgF_real qr kr cr S hS _ _ _ hq hk hc b _ t j)

end Cert.ReferenceIdeal.Fox

end

end
-- ==== Proof.Fox.Finite.lean ====
/- The precondition, read entry by entry. -/
module

public import proofs.«01_k».proof.Pre_finite
public import Idealize.ShloMosaic.Lib.Pipeline.ValueKit

@[expose] public section

set_option maxRecDepth 16384

noncomputable section

open Idealize.ShloMosaic

namespace Cert.Pre_finite.Fox

open Cert.Pre_finite

theorem facts : Cert.Pre_finite.Facts where
  bcast_S_S16x4096x4x128 := by decide
  bcast_S_S16x4096x4 := by decide

theorem inf_eq : Ideal.ofBits .f32 0x7F800000#32 = ⊤ := by
  simp [Ideal.ofBits, Ideal.ieee]

/-- An extended real whose absolute value is below infinity is a real. -/
theorem real_of (x : EReal) (h : FloatOps.cmpf (F := Ideal) (φ := .f32) .olt (FloatOps.absf (F := Ideal) (φ := .f32) x) (Ideal.ofBits .f32 0x7F800000#32) = 1#1) : ∃ r : ℝ, x = (r : EReal) := by
  rw [inf_eq] at h
  induction x with
  | bot => exfalso; revert h; simp [FloatOps.cmpf, FloatOps.absf, Ideal.cmp]
  | coe r => exact ⟨r, rfl⟩
  | top => exfalso; revert h; simp [FloatOps.cmpf, FloatOps.absf, Ideal.cmp]

variable [Facts] (q k v : FVec Ideal S16x4096x4x128 .f32) (s : FVec Ideal S16x4096x4 .f32)

theorem real4 (h : (Cert.Pre_finite.fn (F := Ideal) q k v s).1 = fun _ => 1#1) (i : S16x4096x4x128.Idx) : ∃ r : ℝ, q i = (r : EReal) :=
  real_of _ (congrFun h i)

theorem real4' (h : (Cert.Pre_finite.fn (F := Ideal) q k v s).2.1 = fun _ => 1#1) (i : S16x4096x4x128.Idx) : ∃ r : ℝ, k i = (r : EReal) :=
  real_of _ (congrFun h i)

theorem real3 (h : (Cert.Pre_finite.fn (F := Ideal) q k v s).2.2 = fun _ => 1#1) (i : S16x4096x4.Idx) : ∃ r : ℝ, s i = (r : EReal) :=
  real_of _ (congrFun h i)

end Cert.Pre_finite.Fox

end

end
-- ==== Proof.Fox.Meet.lean ====
/- The kernel's output and the reference's result are the same array. -/
module

public import proofs.«01_k».proof.Proof.Fox.Out
public import proofs.«01_k».proof.Proof.Fox.RefVal
public import proofs.«01_k».proof.Proof.Fox.Finite

@[expose] public section

set_option maxRecDepth 16384

noncomputable section

open Idealize.ShloMosaic Idealize.ShloMosaic.TcCoe Idealize.SL.Sem

namespace Cert.Meet

open Cert.KernelIdeal.Fox (Xq Xk Xv Xc)
open Cert.ReferenceIdeal.Fox (Rq Rk Rv Rc Ro)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem meet (h0 : Rq m' c = Xq m c) (h1 : Rk m' c = Xk m c) (h2 : Rv m' c = Xv m c) (h3 : Rc m' c = Xc m c)
    (hq : ∀ i, ∃ r : ℝ, Xq m c i = (r : EReal)) (hk : ∀ i, ∃ r : ℝ, Xk m c i = (r : EReal)) (hc : ∀ i, ∃ r : ℝ, Xc m c i = (r : EReal)) :
    (Cert.KernelIdeal.Fox.dats m 0 c).arrAt 3 Cert.KernelIdeal.cfg0.N = Ro m' c := by
  choose qr hq using hq
  choose kr hk using hk
  choose cr hc using hc
  obtain ⟨S, hS⟩ := Cert.KernelIdeal.Fox.scale_real
  refine (Cert.KernelIdeal.Fox.final m c qr kr cr S hS hq hk hc).trans ?_
  funext i
  obtain ⟨b, t, e, rfl⟩ : ∃ (b : Fin 16) (t : Fin 4096) (e : Fin 512), i = (ix3 b t e : Cert.KernelIdeal.S16x4096x512.Idx) := ⟨i 0, i 1, i 2, by blk_ext⟩
  refine Eq.trans ?_ (Cert.ReferenceIdeal.Fox.ref_at m' c qr kr cr S hS (fun i => (congrFun h0 i).trans (hq i)) (fun i => (congrFun h1 i).trans (hk i)) (fun i => (congrFun h3 i).trans (hc i)) b t e).symm
  rw [h2]
  rfl

end Cert.Meet

end

end
-- ==== Proof.Merge.Norm.lean ====
/- The row normalisation the kernels and the references share, over the extended reals. -/
module

public import Idealize.ShloMosaic.Lib.Pipeline.ValueKit
public import Idealize.ShloMosaic.Lib.Claim

@[expose] public section

noncomputable section

open Idealize.ShloMosaic

namespace Cert.Norm

/-- A row's mean. -/
def mean (p : Fin 1024 → EReal) : EReal := Ideal.div (∑ k, p k) (Ideal.ofBits .f32 0x44800000#32)

/-- A row's mean squared deviation. -/
def dev (p : Fin 1024 → EReal) : EReal := Ideal.div (∑ k, (p k - mean p) * (p k - mean p)) (Ideal.ofBits .f32 0x44800000#32)

/-- An entry of the normalised row, scaled by `g` and moved by `b`. -/
def lnorm (p : Fin 1024 → EReal) (g b : EReal) (j : Fin 1024) : EReal :=
  (p j - mean p) * Ideal.rsqrt (dev p + Ideal.ofBits .f32 0x3727C5AC#32) * g + b

/-- The gate of a logit. -/
def gate (x : EReal) : EReal := Ideal.div 1 (1 + Ideal.exp (-x))

end Cert.Norm

end

end
-- ==== Proof.Merge.Pay.lean ====
/- The merge's row block, entry by entry, over the extended reals. -/
module

public import proofs.«01_k».proof.Proof.Gen.Kernel2Ideal.Value
public import proofs.«01_k».proof.Proof.Merge.Norm

@[expose] public section

set_option maxRecDepth 16384

noncomputable section

open Idealize.ShloMosaic Idealize.ShloMosaic.TcCoe Idealize.SL.Sem
open Cert.Norm

namespace Cert.Kernel2Ideal.Merge

open Cert.Kernel2Ideal Cert.Kernel2Ideal.Gen

theorem pay2_at (x : FVec Ideal S512x1024 .f32) (r : Fin 512) (k : Fin 1024) : k0_pay2 x (ix2 r k) = x (ix2 r k) := by
  pointwise [k0_pay2]

theorem pay3_at (x : FVec Ideal S512x1024 .f32) (wg : FVec Ideal S1024x3072 .bf16) (a b c : FVec Ideal S512x512 .bf16)
    (wa wb wc : FVec Ideal S512x1024 .bf16) (r : Fin 512) (l : Fin 1024) :
    (k0_pay3 x wg a wa b wb c wc : FVec Ideal S512x1024 .f32) (ix2 r l) =
      gate (∑ k : Fin 1024, x (ix2 r k) * wg (ix2 k ⟨l.val, by omega⟩)) * (∑ e : Fin 512, a (ix2 r e) * wa (ix2 e l))
      + gate (∑ k : Fin 1024, x (ix2 r k) * wg (ix2 k ⟨1024 + l.val, by omega⟩)) * (∑ e : Fin 512, b (ix2 r e) * wb (ix2 e l))
      + gate (∑ k : Fin 1024, x (ix2 r k) * wg (ix2 k ⟨2048 + l.val, by omega⟩)) * (∑ e : Fin 512, c (ix2 r e) * wc (ix2 e l)) := by
  pointwise [k0_pay3, k0_pay2]
  simp only [zero_sub]
  rfl

theorem pay1_at (x y : FVec Ideal S512x1024 .f32) (w : FVec Ideal S1024x1024 .bf16) (g b : FVec Ideal S1x1024 .f32) (r : Fin 512) (j : Fin 1024) :
    (k0_pay1 x y w g b : FVec Ideal S512x1024 .f32) (ix2 r j) =
      lnorm (fun k => Ideal.ofBits .f32 0x3FD744FD#32 * x (ix2 r k) + ∑ l : Fin 1024, y (ix2 r l) * w (ix2 l k)) (g (ix2 0 j)) (b (ix2 0 j)) j := by
  pointwise [k0_pay1]
  rfl

end Cert.Kernel2Ideal.Merge

end

end
-- ==== Proof.Merge.Host.lean ====
/- What the host lines hand the merge's call, over the extended reals, entry by entry. -/
module

public import proofs.«01_k».proof.Proof.Gen.Kernel2Ideal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel2Ideal.Merge

open Cert.Kernel2Ideal Cert.Kernel2Ideal.Gen

variable (m : (ℓ : Loc nD τ sig) → Buf (Elt Ideal) ℓ) (c : Dev nD)

/-- The arguments. -/
abbrev Xh : FVec Ideal S16x4096x1024 .f32 := m ((c : Thread nD τ).loc main_arg0)
abbrev Xa : FVec Ideal S16x4096x512 .f32 := m ((c : Thread nD τ).loc main_arg1)
abbrev Xb : FVec Ideal S16x4096x512 .f32 := m ((c : Thread nD τ).loc main_arg2)
abbrev Xd : FVec Ideal S16x4096x512 .f32 := m ((c : Thread nD τ).loc main_arg3)
abbrev Xwg : FVec Ideal S1024x3072 .f32 := m ((c : Thread nD τ).loc main_arg4)
abbrev Xwa : FVec Ideal S512x1024 .f32 := m ((c : Thread nD τ).loc main_arg5)
abbrev Xwb : FVec Ideal S512x1024 .f32 := m ((c : Thread nD τ).loc main_arg6)
abbrev Xwd : FVec Ideal S512x1024 .f32 := m ((c : Thread nD τ).loc main_arg7)
abbrev Xwo : FVec Ideal S1024x1024 .f32 := m ((c : Thread nD τ).loc main_arg8)
abbrev Xlg : FVec Ideal S1024 .f32 := m ((c : Thread nD τ).loc main_arg9)
abbrev Xlb : FVec Ideal S1024 .f32 := m ((c : Thread nD τ).loc main_arg10)

/-- The call's operands. -/
def Ah : FVec Ideal S65536x1024 .f32 := V m c main_v7
def Aa : FVec Ideal S65536x512 .bf16 := V m c main_v9
def Ab : FVec Ideal S65536x512 .bf16 := V m c main_v11
def Ad : FVec Ideal S65536x512 .bf16 := V m c main_v13
def Awg : FVec Ideal S1024x3072 .bf16 := V m c main_v0
def Awa : FVec Ideal S512x1024 .bf16 := V m c main_v1
def Awb : FVec Ideal S512x1024 .bf16 := V m c main_v2
def Awd : FVec Ideal S512x1024 .bf16 := V m c main_v3
def Awo : FVec Ideal S1024x1024 .bf16 := V m c main_v4
def Alg : FVec Ideal S1x1024 .f32 := V m c main_v5
def Alb : FVec Ideal S1x1024 .f32 := V m c main_v6

theorem Ah_at (t : Fin 65536) (j : Fin 1024) : Ah m c (ix2 t j) = Xh m c (ix3 ⟨t.val / 4096, by omega⟩ ⟨t.val % 4096, by omega⟩ j) := by
  unfold Ah
  simp only [V, hostOps0, List.flatten_cons, List.flatten_nil, List.cons_append, List.nil_append, List.append_nil]
  entry_read
  pointwise

theorem Aa_at (t : Fin 65536) (j : Fin 512) : Aa m c (ix2 t j) = Xa m c (ix3 ⟨t.val / 4096, by omega⟩ ⟨t.val % 4096, by omega⟩ j) := by
  unfold Aa
  simp only [V, hostOps0, List.flatten_cons, List.flatten_nil, List.cons_append, List.nil_append, List.append_nil]
  entry_read
  pointwise

theorem Ab_at (t : Fin 65536) (j : Fin 512) : Ab m c (ix2 t j) = Xb m c (ix3 ⟨t.val / 4096, by omega⟩ ⟨t.val % 4096, by omega⟩ j) := by
  unfold Ab
  simp only [V, hostOps0, List.flatten_cons, List.flatten_nil, List.cons_append, List.nil_append, List.append_nil]
  entry_read
  pointwise

theorem Ad_at (t : Fin 65536) (j : Fin 512) : Ad m c (ix2 t j) = Xd m c (ix3 ⟨t.val / 4096, by omega⟩ ⟨t.val % 4096, by omega⟩ j) := by
  unfold Ad
  simp only [V, hostOps0, List.flatten_cons, List.flatten_nil, List.cons_append, List.nil_append, List.append_nil]
  entry_read
  pointwise

theorem Awg_at (k : Fin 1024) (j : Fin 3072) : Awg m c (ix2 k j) = Xwg m c (ix2 k j) := by
  unfold Awg
  simp only [V, hostOps0, List.flatten_cons, List.flatten_nil, List.cons_append, List.nil_append, List.append_nil]
  entry_read
  pointwise

theorem Awa_at (k : Fin 512) (j : Fin 1024) : Awa m c (ix2 k j) = Xwa m c (ix2 k j) := by
  unfold Awa
  simp only [V, hostOps0, List.flatten_cons, List.flatten_nil, List.cons_append, List.nil_append, List.append_nil]
  entry_read
  pointwise

theorem Awb_at (k : Fin 512) (j : Fin 1024) : Awb m c (ix2 k j) = Xwb m c (ix2 k j) := by
  unfold Awb
  simp only [V, hostOps0, List.flatten_cons, List.flatten_nil, List.cons_append, List.nil_append, List.append_nil]
  entry_read
  pointwise

theorem Awd_at (k : Fin 512) (j : Fin 1024) : Awd m c (ix2 k j) = Xwd m c (ix2 k j) := by
  unfold Awd
  simp only [V, hostOps0, List.flatten_cons, List.flatten_nil, List.cons_append, List.nil_append, List.append_nil]
  entry_read
  pointwise

theorem Awo_at (k : Fin 1024) (j : Fin 1024) : Awo m c (ix2 k j) = Xwo m c (ix2 k j) := by
  unfold Awo
  simp only [V, hostOps0, List.flatten_cons, List.flatten_nil, List.cons_append, List.nil_append, List.append_nil]
  entry_read
  pointwise

theorem Alg_at (j : Fin 1024) : Alg m c (ix2 0 j) = Xlg m c (ix1 j) := by
  unfold Alg
  simp only [V, hostOps0, List.flatten_cons, List.flatten_nil, List.cons_append, List.nil_append, List.append_nil]
  entry_read
  pointwise

theorem Alb_at (j : Fin 1024) : Alb m c (ix2 0 j) = Xlb m c (ix1 j) := by
  unfold Alb
  simp only [V, hostOps0, List.flatten_cons, List.flatten_nil, List.cons_append, List.nil_append, List.append_nil]
  entry_read
  pointwise

end Cert.Kernel2Ideal.Merge

end

end
-- ==== Proof.Merge.Out.lean ====
/- What the merge's output array ends with, over the extended reals. -/
module

public import proofs.«01_k».proof.Proof.Merge.Pay
public import proofs.«01_k».proof.Proof.Merge.Host

@[expose] public section

set_option maxRecDepth 16384

noncomputable section

open Idealize.ShloMosaic Idealize.ShloMosaic.TcCoe Idealize.SL.Sem
open Cert.Norm

namespace Cert.Kernel2Ideal.Merge

open Cert.Kernel2Ideal Cert.Kernel2Ideal.Gen

variable (m : (ℓ : Loc nD τ sig) → Buf (Elt Ideal) ℓ) (c : Dev nD)

/-- The windows' blocks at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

theorem lt_N (t : Fin cfg0.N) : t.val < 128 := lt_of_lt_of_eq t.isLt (show cfg0.N = 128 from N_0)

theorem rd0 (A : FVec Ideal S65536x1024 .f32) (t : Fin cfg0.N) (r : Fin 512) (k : Fin 1024) (i : Fin 65536) (hi : i.val = 512 * t.val + r.val) :
    (((cfg0.win 0).blk t).view.read (Elt Ideal) A : FVec Ideal S512x1024 .f32) (ix2 r k) = A (ix2 i k) := by
  blk_ext [idx t]
theorem rd1 (A : FVec Ideal S65536x512 .bf16) (t : Fin cfg0.N) (r : Fin 512) (k : Fin 512) (i : Fin 65536) (hi : i.val = 512 * t.val + r.val) :
    (((cfg0.win 1).blk t).view.read (Elt Ideal) A : FVec Ideal S512x512 .bf16) (ix2 r k) = A (ix2 i k) := by
  blk_ext [idx t]
theorem rd2 (A : FVec Ideal S65536x512 .bf16) (t : Fin cfg0.N) (r : Fin 512) (k : Fin 512) (i : Fin 65536) (hi : i.val = 512 * t.val + r.val) :
    (((cfg0.win 2).blk t).view.read (Elt Ideal) A : FVec Ideal S512x512 .bf16) (ix2 r k) = A (ix2 i k) := by
  blk_ext [idx t]
theorem rd3 (A : FVec Ideal S65536x512 .bf16) (t : Fin cfg0.N) (r : Fin 512) (k : Fin 512) (i : Fin 65536) (hi : i.val = 512 * t.val + r.val) :
    (((cfg0.win 3).blk t).view.read (Elt Ideal) A : FVec Ideal S512x512 .bf16) (ix2 r k) = A (ix2 i k) := by
  blk_ext [idx t]
theorem rd4 (A : FVec Ideal S1024x3072 .bf16) (t : Fin cfg0.N) (k : Fin 1024) (j : Fin 3072) :
    (((cfg0.win 4).blk t).view.read (Elt Ideal) A : FVec Ideal S1024x3072 .bf16) (ix2 k j) = A (ix2 k j) := by
  blk_ext [idx t]
theorem rd5 (A : FVec Ideal S512x1024 .bf16) (t : Fin cfg0.N) (k : Fin 512) (j : Fin 1024) :
    (((cfg0.win 5).blk t).view.read (Elt Ideal) A : FVec Ideal S512x1024 .bf16) (ix2 k j) = A (ix2 k j) := by
  blk_ext [idx t]
theorem rd6 (A : FVec Ideal S512x1024 .bf16) (t : Fin cfg0.N) (k : Fin 512) (j : Fin 1024) :
    (((cfg0.win 6).blk t).view.read (Elt Ideal) A : FVec Ideal S512x1024 .bf16) (ix2 k j) = A (ix2 k j) := by
  blk_ext [idx t]
theorem rd7 (A : FVec Ideal S512x1024 .bf16) (t : Fin cfg0.N) (k : Fin 512) (j : Fin 1024) :
    (((cfg0.win 7).blk t).view.read (Elt Ideal) A : FVec Ideal S512x1024 .bf16) (ix2 k j) = A (ix2 k j) := by
  blk_ext [idx t]
theorem rd8 (A : FVec Ideal S1024x1024 .bf16) (t : Fin cfg0.N) (k : Fin 1024) (j : Fin 1024) :
    (((cfg0.win 8).blk t).view.read (Elt Ideal) A : FVec Ideal S1024x1024 .bf16) (ix2 k j) = A (ix2 k j) := by
  blk_ext [idx t]
theorem rd9 (A : FVec Ideal S1x1024 .f32) (t : Fin cfg0.N) (j : Fin 1024) :
    (((cfg0.win 9).blk t).view.read (Elt Ideal) A : FVec Ideal S1x1024 .f32) (ix2 0 j) = A (ix2 0 j) := by
  blk_ext [idx t]
theorem rd10 (A : FVec Ideal S1x1024 .f32) (t : Fin cfg0.N) (j : Fin 1024) :
    (((cfg0.win 10).blk t).view.read (Elt Ideal) A : FVec Ideal S1x1024 .f32) (ix2 0 j) = A (ix2 0 j) := by
  blk_ext [idx t]

theorem emb11 (t : Fin cfg0.N) (r : Fin 512) (k : Fin 1024) (i : Fin 65536) (hi : i.val = 512 * t.val + r.val) :
    (((cfg0.win 11).blk t).view.emb (ix2 r k : S512x1024.Idx) : S65536x1024.Idx) = ix2 i k := by
  blk_ext [idx t]

/-- The gated sum of the branches at one row. -/
def merged (h : FVec Ideal S16x4096x1024 .f32) (a b d : FVec Ideal S16x4096x512 .f32) (wg : FVec Ideal S1024x3072 .f32) (wa wb wd : FVec Ideal S512x1024 .f32)
    (i : Fin 16) (s : Fin 4096) (l : Fin 1024) : EReal :=
  gate (∑ k : Fin 1024, h (ix3 i s k) * wg (ix2 k ⟨l.val, by omega⟩)) * (∑ e : Fin 512, a (ix3 i s e) * wa (ix2 e l))
  + gate (∑ k : Fin 1024, h (ix3 i s k) * wg (ix2 k ⟨1024 + l.val, by omega⟩)) * (∑ e : Fin 512, b (ix3 i s e) * wb (ix2 e l))
  + gate (∑ k : Fin 1024, h (ix3 i s k) * wg (ix2 k ⟨2048 + l.val, by omega⟩)) * (∑ e : Fin 512, d (ix3 i s e) * wd (ix2 e l))

/-- The stream at one row before its normalisation. -/
def stream (h : FVec Ideal S16x4096x1024 .f32) (a b d : FVec Ideal S16x4096x512 .f32) (wg : FVec Ideal S1024x3072 .f32) (wa wb wd : FVec Ideal S512x1024 .f32)
    (wo : FVec Ideal S1024x1024 .f32) (i : Fin 16) (s : Fin 4096) (k : Fin 1024) : EReal :=
  Ideal.ofBits .f32 0x3FD744FD#32 * h (ix3 i s k) + ∑ l : Fin 1024, merged h a b d wg wa wb wd i s l * wo (ix2 l k)

/-- An entry of the result. -/
def entry (h : FVec Ideal S16x4096x1024 .f32) (a b d : FVec Ideal S16x4096x512 .f32) (wg : FVec Ideal S1024x3072 .f32) (wa wb wd : FVec Ideal S512x1024 .f32)
    (wo : FVec Ideal S1024x1024 .f32) (lg lb : FVec Ideal S1024 .f32) (t : Fin 65536) (j : Fin 1024) : EReal :=
  lnorm (stream h a b d wg wa wb wd wo ⟨t.val / 4096, by omega⟩ ⟨t.val % 4096, by omega⟩) (lg (ix1 j)) (lb (ix1 j)) j

/-- What the output ends with. -/
def G : FVec Ideal S65536x1024 .f32 := fun i =>
  entry (Xh m c) (Xa m c) (Xb m c) (Xd m c) (Xwg m c) (Xwa m c) (Xwb m c) (Xwd m c) (Xwo m c) (Xlg m c) (Xlb m c) (i 0) (i 1)

theorem block (t : Fin cfg0.N) (r : Fin 512) (j : Fin 1024) (i : Fin 65536) (hi : i.val = 512 * t.val + r.val) :
    (k0_pay1 (k0_pay2 (iblk m c 0 t)) (k0_pay3 (iblk m c 0 t) (iblk m c 4 t) (iblk m c 1 t) (iblk m c 5 t) (iblk m c 2 t) (iblk m c 6 t) (iblk m c 3 t) (iblk m c 7 t)) (iblk m c 8 t) (iblk m c 9 t) (iblk m c 10 t) : FVec Ideal S512x1024 .f32) (ix2 r j)
      = G m c (ix2 i j) := by
  refine (pay1_at _ _ _ _ _ r j).trans ?_
  have e0 : ∀ k : Fin 1024, (iblk m c 0 t : FVec Ideal S512x1024 .f32) (ix2 r k) = Xh m c (ix3 ⟨i.val / 4096, by omega⟩ ⟨i.val % 4096, by omega⟩ k) :=
    fun k => (rd0 (Ah m c) t r k i hi).trans (Ah_at m c i k)
  have e1 : ∀ e : Fin 512, (iblk m c 1 t : FVec Ideal S512x512 .bf16) (ix2 r e) = Xa m c (ix3 ⟨i.val / 4096, by omega⟩ ⟨i.val % 4096, by omega⟩ e) :=
    fun k => (rd1 (Aa m c) t r k i hi).trans (Aa_at m c i k)
  have e2 : ∀ e : Fin 512, (iblk m c 2 t : FVec Ideal S512x512 .bf16) (ix2 r e) = Xb m c (ix3 ⟨i.val / 4096, by omega⟩ ⟨i.val % 4096, by omega⟩ e) :=
    fun k => (rd2 (Ab m c) t r k i hi).trans (Ab_at m c i k)
  have e3 : ∀ e : Fin 512, (iblk m c 3 t : FVec Ideal S512x512 .bf16) (ix2 r e) = Xd m c (ix3 ⟨i.val / 4096, by omega⟩ ⟨i.val % 4096, by omega⟩ e) :=
    fun k => (rd3 (Ad m c) t r k i hi).trans (Ad_at m c i k)
  have e4 : ∀ (k : Fin 1024) (l : Fin 3072), (iblk m c 4 t : FVec Ideal S1024x3072 .bf16) (ix2 k l) = Xwg m c (ix2 k l) :=
    fun k l => (rd4 (Awg m c) t k l).trans (Awg_at m c k l)
  have e5 : ∀ (k : Fin 512) (l : Fin 1024), (iblk m c 5 t : FVec Ideal S512x1024 .bf16) (ix2 k l) = Xwa m c (ix2 k l) :=
    fun k l => (rd5 (Awa m c) t k l).trans (Awa_at m c k l)
  have e6 : ∀ (k : Fin 512) (l : Fin 1024), (iblk m c 6 t : FVec Ideal S512x1024 .bf16) (ix2 k l) = Xwb m c (ix2 k l) :=
    fun k l => (rd6 (Awb m c) t k l).trans (Awb_at m c k l)
  have e7 : ∀ (k : Fin 512) (l : Fin 1024), (iblk m c 7 t : FVec Ideal S512x1024 .bf16) (ix2 k l) = Xwd m c (ix2 k l) :=
    fun k l => (rd7 (Awd m c) t k l).trans (Awd_at m c k l)
  have e8 : ∀ (k : Fin 1024) (l : Fin 1024), (iblk m c 8 t : FVec Ideal S1024x1024 .bf16) (ix2 k l) = Xwo m c (ix2 k l) :=
    fun k l => (rd8 (Awo m c) t k l).trans (Awo_at m c k l)
  have e9 : (iblk m c 9 t : FVec Ideal S1x1024 .f32) (ix2 0 j) = Xlg m c (ix1 j) := (rd9 (Alg m c) t j).trans (Alg_at m c j)
  have e10 : (iblk m c 10 t : FVec Ideal S1x1024 .f32) (ix2 0 j) = Xlb m c (ix1 j) := (rd10 (Alb m c) t j).trans (Alb_at m c j)
  show _ = entry (Xh m c) (Xa m c) (Xb m c) (Xd m c) (Xwg m c) (Xwa m c) (Xwb m c) (Xwd m c) (Xwo m c) (Xlg m c) (Xlb m c) i j
  unfold entry
  refine congr (congr (congr (congrArg lnorm (funext fun k => ?_)) e9) e10) rfl
  unfold stream
  refine congrArg₂ (· + ·) (congrArg (_ * ·) ((pay2_at _ r k).trans (e0 k))) (Finset.sum_congr rfl fun l _ => congrArg₂ (· * ·) ?_ (e8 l k))
  refine (pay3_at _ _ _ _ _ _ _ _ r l).trans ?_
  unfold merged
  refine congrArg₂ (· + ·) (congrArg₂ (· + ·) (congrArg₂ (· * ·) (congrArg gate (Finset.sum_congr rfl fun k _ => congrArg₂ (· * ·) (e0 k) (e4 k _))) (Finset.sum_congr rfl fun e _ => congrArg₂ (· * ·) (e1 e) (e5 e l)))
    (congrArg₂ (· * ·) (congrArg gate (Finset.sum_congr rfl fun k _ => congrArg₂ (· * ·) (e0 k) (e4 k _))) (Finset.sum_congr rfl fun e _ => congrArg₂ (· * ·) (e2 e) (e6 e l))))
    (congrArg₂ (· * ·) (congrArg gate (Finset.sum_congr rfl fun k _ => congrArg₂ (· * ·) (e0 k) (e4 k _))) (Finset.sum_congr rfl fun e _ => congrArg₂ (· * ·) (e3 e) (e7 e l)))

/-- What the output array ends with. -/
theorem final : (dats m 0 c).arrAt 11 cfg0.N = G m c := by
  refine (dats m 0 c).arrAt_eq_of_covers 11 _ (by decide +kernel) fun t _ y => ?_
  blk_simp
  rw [after0_11]
  frame_out
  have ht := lt_N t
  obtain ⟨r, k, rfl⟩ : ∃ (r : Fin 512) (k : Fin 1024), y = (ix2 r k : S512x1024.Idx) := ⟨y 0, y 1, by blk_ext⟩
  refine (block m c t r k ⟨512 * t.val + r.val, by omega⟩ rfl).trans ?_
  exact congrArg (G m c) (emb11 t r k ⟨512 * t.val + r.val, by omega⟩ rfl).symm

end Cert.Kernel2Ideal.Merge

end

end
-- ==== Proof.Merge.Ref.lean ====
/- What the merge's reference computes, over the extended reals, entry by entry. -/
module

public import proofs.«01_k».proof.Proof.Gen.Reference2Ideal.Run
public import proofs.«01_k».proof.Proof.Merge.Norm

@[expose] public section

set_option maxRecDepth 16384

noncomputable section

open Idealize.ShloMosaic Idealize.ShloMosaic.TcCoe Idealize.SL.Sem
open Cert.Norm

namespace Cert.Reference2Ideal.Merge

open Cert.Reference2Ideal Cert.Reference2Ideal.Gen

/-- The gates. -/
def gtF (x : FVec Ideal S16x4096x1024 .f32) (w : FVec Ideal S1024x3072 .f32) : FVec Ideal S16x4096x3072 .f32 :=
  Host.divf (broadcastInDim S16x4096x3072 ![] bcast_S_S16x4096x3072 (constant S_ .f32 0x3F800000#32)) (addf (broadcastInDim S16x4096x3072 ![] bcast_S_S16x4096x3072 (constant S_ .f32 0x3F800000#32)) (Host.exp (Host.negf (Host.dotGeneral dot_S16x4096x1024_S1024x3072_S16x4096x3072_2_0_01_1_n_n none x w))))

/-- A branch's projection. -/
def brF (o : FVec Ideal S16x4096x512 .f32) (w : FVec Ideal S512x1024 .f32) : FVec Ideal S16x4096x1024 .f32 :=
  Host.dotGeneral dot_S16x4096x512_S512x1024_S16x4096x1024_2_0_01_1_n_n none o w

/-- The gated sum of the branches. -/
def mgF (g : FVec Ideal S16x4096x3072 .f32) (a b d : FVec Ideal S16x4096x1024 .f32) : FVec Ideal S16x4096x1024 .f32 :=
  addf (addf (mulf (extractStridedSlice S16x4096x1024 ![0, 0, 0] g slices_S16x4096x3072_S16x4096x1024_0_0_0) a) (mulf (extractStridedSlice S16x4096x1024 ![0, 0, 1024] g slices_S16x4096x3072_S16x4096x1024_0_0_1024) b)) (mulf (extractStridedSlice S16x4096x1024 ![0, 0, 2048] g slices_S16x4096x3072_S16x4096x1024_0_0_2048) d)

/-- The stream before its normalisation. -/
def prF (x y : FVec Ideal S16x4096x1024 .f32) (w : FVec Ideal S1024x1024 .f32) : FVec Ideal S16x4096x1024 .f32 :=
  addf (mulf (broadcastInDim S16x4096x1024 ![] bcast_S_S16x4096x1024 (constant S_ .f32 0x3FD744FD#32)) x) (Host.dotGeneral dot_S16x4096x1024_S1024x1024_S16x4096x1024_2_0_01_1_n_n none y w)

/-- The rows' means. -/
def mnF (p : FVec Ideal S16x4096x1024 .f32) : FVec Ideal S16x4096x1 .f32 :=
  Host.divf (broadcastInDim S16x4096x1 ![0, 1] bcast_S16x4096_S16x4096x1_0_1 (Host.reduceAdd p (constant S_ .f32 0x00000000#32) reducesTo_S16x4096x1024_S16x4096_d2 h_S_)) (broadcastInDim S16x4096x1 ![] bcast_S_S16x4096x1 (constant S_ .f32 0x44800000#32))

/-- The rows' deviations. -/
def sbF (p : FVec Ideal S16x4096x1024 .f32) (n : FVec Ideal S16x4096x1 .f32) : FVec Ideal S16x4096x1024 .f32 :=
  subf p (broadcastInDim S16x4096x1024 ![0, 1, 2] bcast_S16x4096x1_S16x4096x1024_0_1_2 n)

/-- The normalised rows. -/
def nmF (d : FVec Ideal S16x4096x1024 .f32) (v : FVec Ideal S16x4096x1 .f32) (g b : FVec Ideal S1024 .f32) : FVec Ideal S65536x1024 .f32 :=
  shapeCast _ (addf (mulf (mulf d (broadcastInDim S16x4096x1024 ![0, 1, 2] bcast_S16x4096x1_S16x4096x1024_0_1_2 (Host.rsqrt (addf v (broadcastInDim S16x4096x1 ![] bcast_S_S16x4096x1 (constant S_ .f32 0x3727C5AC#32)))))) (broadcastInDim S16x4096x1024 ![0, 1, 2] bcast_S1x1x1024_S16x4096x1024_0_1_2 (broadcastInDim S1x1x1024 ![2] bcast_S1024_S1x1x1024_2 g))) (broadcastInDim S16x4096x1024 ![0, 1, 2] bcast_S1x1x1024_S16x4096x1024_0_1_2 (broadcastInDim S1x1x1024 ![2] bcast_S1024_S1x1x1024_2 b))) shapeCasts_S16x4096x1024_S65536x1024

theorem gtF_at (x : FVec Ideal S16x4096x1024 .f32) (w : FVec Ideal S1024x3072 .f32) (b : Fin 16) (s : Fin 4096) (j : Fin 3072) :
    gtF x w (ix3 b s j) = gate (∑ k : Fin 1024, x (ix3 b s k) * w (ix2 k j)) := by
  pointwise [gtF]
  rfl

theorem brF_at (o : FVec Ideal S16x4096x512 .f32) (w : FVec Ideal S512x1024 .f32) (b : Fin 16) (s : Fin 4096) (j : Fin 1024) :
    brF o w (ix3 b s j) = ∑ e : Fin 512, o (ix3 b s e) * w (ix2 e j) := by
  pointwise [brF]

theorem mgF_at (g : FVec Ideal S16x4096x3072 .f32) (a b d : FVec Ideal S16x4096x1024 .f32) (i : Fin 16) (s : Fin 4096) (j : Fin 1024) :
    mgF g a b d (ix3 i s j) = g (ix3 i s ⟨j.val, by omega⟩) * a (ix3 i s j) + g (ix3 i s ⟨1024 + j.val, by omega⟩) * b (ix3 i s j)
      + g (ix3 i s ⟨2048 + j.val, by omega⟩) * d (ix3 i s j) := by
  pointwise [mgF]

theorem prF_at (x y : FVec Ideal S16x4096x1024 .f32) (w : FVec Ideal S1024x1024 .f32) (b : Fin 16) (s : Fin 4096) (j : Fin 1024) :
    prF x y w (ix3 b s j) = Ideal.ofBits .f32 0x3FD744FD#32 * x (ix3 b s j) + ∑ l : Fin 1024, y (ix3 b s l) * w (ix2 l j) := by
  pointwise [prF]

theorem mnF_at (p : FVec Ideal S16x4096x1024 .f32) (b : Fin 16) (s : Fin 4096) :
    mnF p (ix3 b s 0) = mean (fun k => p (ix3 b s k)) := by
  pointwise [mnF]
  rfl

theorem sbF_at (p : FVec Ideal S16x4096x1024 .f32) (n : FVec Ideal S16x4096x1 .f32) (b : Fin 16) (s : Fin 4096) (j : Fin 1024) :
    sbF p n (ix3 b s j) = p (ix3 b s j) - n (ix3 b s 0) := by
  pointwise [sbF]

theorem nmF_at (d : FVec Ideal S16x4096x1024 .f32) (v : FVec Ideal S16x4096x1 .f32) (g b : FVec Ideal S1024 .f32) (t : Fin 65536) (j : Fin 1024) :
    nmF d v g b (ix2 t j) = d (ix3 ⟨t.val / 4096, by omega⟩ ⟨t.val % 4096, by omega⟩ j)
      * Ideal.rsqrt (v (ix3 ⟨t.val / 4096, by omega⟩ ⟨t.val % 4096, by omega⟩ 0) + Ideal.ofBits .f32 0x3727C5AC#32) * g (ix1 j) + b (ix1 j) := by
  pointwise [nmF]

theorem row_lnorm (p : FVec Ideal S16x4096x1024 .f32) (g b : FVec Ideal S1024 .f32) (t : Fin 65536) (j : Fin 1024) :
    nmF (sbF p (mnF p)) (mnF (mulf (sbF p (mnF p)) (sbF p (mnF p)))) g b (ix2 t j)
      = lnorm (fun k => p (ix3 ⟨t.val / 4096, by omega⟩ ⟨t.val % 4096, by omega⟩ k)) (g (ix1 j)) (b (ix1 j)) j := by
  have hd : ∀ (i : Fin 16) (s : Fin 4096) (k : Fin 1024), sbF p (mnF p) (ix3 i s k) = p (ix3 i s k) - mean (fun k => p (ix3 i s k)) :=
    fun i s k => (sbF_at _ _ _ _ _).trans (by rw [mnF_at])
  rw [nmF_at, hd, mnF_at]
  unfold lnorm dev
  refine congrArg (fun z => (p (ix3 ⟨t.val / 4096, by omega⟩ ⟨t.val % 4096, by omega⟩ j) - mean fun k => p (ix3 ⟨t.val / 4096, by omega⟩ ⟨t.val % 4096, by omega⟩ k)) * Ideal.rsqrt (z + Ideal.ofBits .f32 0x3727C5AC#32) * g (ix1 j) + b (ix1 j)) ?_
  unfold mean
  refine congrArg (fun z => Ideal.div z _) (Finset.sum_congr rfl fun k _ => ?_)
  exact congrArg₂ (· * ·) (hd _ _ _) (hd _ _ _)

variable (m : (ℓ : Loc nD τ sig) → Buf (Elt Ideal) ℓ) (c : Dev nD)

/-- The reference's arguments. -/
def Rh : FVec Ideal S16x4096x1024 .f32 := m ((c.tc : Thread nD τ).loc main_arg0)
def Ra : FVec Ideal S16x4096x512 .f32 := m ((c.tc : Thread nD τ).loc main_arg1)
def Rb : FVec Ideal S16x4096x512 .f32 := m ((c.tc : Thread nD τ).loc main_arg2)
def Rd : FVec Ideal S16x4096x512 .f32 := m ((c.tc : Thread nD τ).loc main_arg3)
def Rwg : FVec Ideal S1024x3072 .f32 := m ((c.tc : Thread nD τ).loc main_arg4)
def Rwa : FVec Ideal S512x1024 .f32 := m ((c.tc : Thread nD τ).loc main_arg5)
def Rwb : FVec Ideal S512x1024 .f32 := m ((c.tc : Thread nD τ).loc main_arg6)
def Rwd : FVec Ideal S512x1024 .f32 := m ((c.tc : Thread nD τ).loc main_arg7)
def Rwo : FVec Ideal S1024x1024 .f32 := m ((c.tc : Thread nD τ).loc main_arg8)
def Rlg : FVec Ideal S1024 .f32 := m ((c.tc : Thread nD τ).loc main_arg9)
def Rlb : FVec Ideal S1024 .f32 := m ((c.tc : Thread nD τ).loc main_arg10)

/-- The reference's result. -/
def Ro : FVec Ideal S65536x1024 .f32 := Value.res_main_v46 m c

/-- The stream before its normalisation. -/
def Rp : FVec Ideal S16x4096x1024 .f32 :=
  prF (Rh m c) (mgF (gtF (Rh m c) (Rwg m c)) (brF (Ra m c) (Rwa m c)) (brF (Rb m c) (Rwb m c)) (brF (Rd m c) (Rwd m c))) (Rwo m c)

theorem Ro_eq : Ro m c = nmF (sbF (Rp m c) (mnF (Rp m c))) (mnF (mulf (sbF (Rp m c) (mnF (Rp m c))) (sbF (Rp m c) (mnF (Rp m c))))) (Rlg m c) (Rlb m c) := rfl

end Cert.Reference2Ideal.Merge

end

end
-- ==== Proof.Merge.Meet.lean ====
/- The merge's output and its reference's result are the same array. -/
module

public import proofs.«01_k».proof.Proof.Merge.Out
public import proofs.«01_k».proof.Proof.Merge.Ref

@[expose] public section

set_option maxRecDepth 16384

noncomputable section

open Idealize.ShloMosaic Idealize.ShloMosaic.TcCoe Idealize.SL.Sem
open Cert.Norm

namespace Cert.Meet2

open Cert.Kernel2Ideal.Merge (Xh Xa Xb Xd Xwg Xwa Xwb Xwd Xwo Xlg Xlb merged stream entry)
open Cert.Reference2Ideal.Merge

variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ)
variable (c : Dev Cert.Kernel2Ideal.nD)

theorem Rp_at (i : Fin 16) (s : Fin 4096) (k : Fin 1024) :
    Rp m' c (ix3 i s k) = stream (Rh m' c) (Ra m' c) (Rb m' c) (Rd m' c) (Rwg m' c) (Rwa m' c) (Rwb m' c) (Rwd m' c) (Rwo m' c) i s k := by
  unfold Rp
  refine (prF_at _ _ _ i s k).trans ?_
  unfold stream
  refine congrArg (_ + ·) (Finset.sum_congr rfl fun l _ => congrArg (· * _) ?_)
  refine (mgF_at _ _ _ _ i s l).trans ?_
  rw [gtF_at, gtF_at, gtF_at, brF_at, brF_at, brF_at]
  rfl

theorem Ro_at (t : Fin 65536) (j : Fin 1024) :
    Ro m' c (ix2 t j) = entry (Rh m' c) (Ra m' c) (Rb m' c) (Rd m' c) (Rwg m' c) (Rwa m' c) (Rwb m' c) (Rwd m' c) (Rwo m' c) (Rlg m' c) (Rlb m' c) t j := by
  rw [Ro_eq, row_lnorm]
  unfold entry
  exact congrArg (fun p => lnorm p _ _ j) (funext fun k => Rp_at m' c _ _ k)

theorem meet (h0 : Rh m' c = Xh m c) (h1 : Ra m' c = Xa m c) (h2 : Rb m' c = Xb m c) (h3 : Rd m' c = Xd m c) (h4 : Rwg m' c = Xwg m c)
    (h5 : Rwa m' c = Xwa m c) (h6 : Rwb m' c = Xwb m c) (h7 : Rwd m' c = Xwd m c) (h8 : Rwo m' c = Xwo m c) (h9 : Rlg m' c = Xlg m c) (h10 : Rlb m' c = Xlb m c) :
    (Cert.Kernel2Ideal.Gen.dats m 0 c).arrAt 11 Cert.Kernel2Ideal.cfg0.N = Ro m' c := by
  refine (Cert.Kernel2Ideal.Merge.final m c).trans ?_
  funext i
  obtain ⟨t, j, rfl⟩ : ∃ (t : Fin 65536) (j : Fin 1024), i = (ix2 t j : Cert.Kernel2Ideal.S65536x1024.Idx) := ⟨i 0, i 1, by blk_ext⟩
  refine Eq.trans ?_ (Ro_at m' c t j).symm
  rw [h0, h1, h2, h3, h4, h5, h6, h7, h8, h9, h10]
  rfl

end Cert.Meet2

end

end
-- ==== Proof.Ffn.Act.lean ====
/- The gated MLP's activation and its look-back rows, over the extended reals. -/
module

public import proofs.«01_k».proof.Proof.Merge.Norm

@[expose] public section

noncomputable section

open Idealize.ShloMosaic
open Cert.Norm

namespace Cert.Act

/-- The activation: its argument over one and the exponential of its argument's negative. -/
def silu (x : EReal) : EReal := Ideal.div x (1 + Ideal.exp (-x))

theorem exp_ge (x : EReal) : 0 ≤ Ideal.exp x := by
  induction x with
  | bot => simp
  | top => simp
  | coe r => simpa using Real.exp_nonneg r

theorem silu_eq (x : EReal) : x * gate x = silu x := by
  have h : (1 + Ideal.exp (-x) : EReal) ≠ 0 := by
    have h0 : (1 : EReal) ≤ 1 + Ideal.exp (-x) := le_add_of_nonneg_right (exp_ge _)
    exact (lt_of_lt_of_le zero_lt_one h0).ne'
  unfold gate silu Ideal.div
  rw [if_neg h, if_neg h, one_mul]

/-- The row `n` before row `r` of a tile, the rows before the tile read from the eight carried ones. -/
def back (n : ℕ) (p : Fin 8 → EReal) (g : Fin 512 → EReal) (r : Fin 512) : EReal :=
  if h : r.val < n then p ⟨(8 - n + r.val) % 8, by omega⟩ else g ⟨r.val - n, by omega⟩

/-- The convolution at one entry. -/
def conv (b w0 w1 w2 x0 x1 x2 : EReal) : EReal := b + w0 * x0 + w1 * x1 + w2 * x2

theorem conv_eq (b w0 w1 w2 x0 x1 x2 : EReal) : (w0 * x0 + w1 * x1 + w2 * x2 + b : EReal) = conv b w0 w1 w2 x0 x1 x2 := by
  unfold conv
  rw [add_comm _ b, ← add_assoc, ← add_assoc]

theorem sum_halves (f : Fin 2816 → EReal) :
    ∑ k, f k = (∑ k : Fin 1408, f ⟨k.val, by omega⟩) + ∑ k : Fin 1408, f ⟨1408 + k.val, by omega⟩ :=
  Fin.sum_univ_add (a := 1408) (b := 1408) f

end Cert.Act

end

end
-- ==== Proof.Ffn.Pay.lean ====
/- The gated MLP's payloads, entry by entry, over the extended reals. -/
module

public import proofs.«01_k».proof.Proof.Gen.Kernel3Ideal.Value
public import proofs.«01_k».proof.Proof.Ffn.Act

@[expose] public section

set_option maxRecDepth 16384

noncomputable section

open Idealize.ShloMosaic Idealize.ShloMosaic.TcCoe Idealize.SL.Sem
open Cert.Norm Cert.Act

namespace Cert.Kernel3Ideal.Ffn

open Cert.Kernel3Ideal Cert.Kernel3Ideal.Gen

theorem pay1_at (x : FVec Ideal S512x1024 .f32) (g b : FVec Ideal S1x1024 .f32) (r : Fin 512) (j : Fin 1024) :
    (k0_pay1 x g b : FVec Ideal S512x1024 .f32) (ix2 r j) = lnorm (fun k => x (ix2 r k)) (g (ix2 0 j)) (b (ix2 0 j)) j := by
  pointwise [k0_pay1]
  rfl

theorem pay2_at (x : FVec Ideal S512x1024 .f32) (r : Fin 512) (k : Fin 1024) : (k0_pay2 x : FVec Ideal S512x1024 .f32) (ix2 r k) = x (ix2 r k) := by
  pointwise [k0_pay2]

theorem pay4_at (r : Fin 8) (f : Fin 2816) : (k0_pay4 : FVec Ideal S8x2816 .f32) (ix2 r f) = (0 : EReal) := by
  pointwise [k0_pay4]

theorem pay5_at (r : Fin 512) (k : Fin 1024) : (k0_pay5 : FVec Ideal S512x1024 .f32) (ix2 r k) = (0 : EReal) := by
  pointwise [k0_pay5]

theorem pay6_at (x : FVec Ideal S512x1024 .f32) (w : FVec Ideal S1024x1408 .bf16) (r : Fin 512) (f : Fin 1408) :
    (k0_pay6 x w : FVec Ideal S512x1408 .f32) (ix2 r f) = ∑ k : Fin 1024, x (ix2 r k) * w (ix2 k f) := by
  pointwise [k0_pay6, k0_pay3, k0_pay2]

theorem pay7_at (x : FVec Ideal S512x1024 .f32) (w : FVec Ideal S1024x1408 .bf16) (r : Fin 512) (f : Fin 1408) :
    (k0_pay7 x w : FVec Ideal S512x1408 .f32) (ix2 r f) = ∑ k : Fin 1024, x (ix2 r k) * w (ix2 k f) := by
  pointwise [k0_pay7, k0_pay3, k0_pay2]

theorem pay11_at (x : FVec Ideal S512x1024 .f32) (w : FVec Ideal S1024x1408 .bf16) (r : Fin 512) (f : Fin 1408) :
    (k0_pay11 (k0_pay3 x) w : FVec Ideal S512x1408 .f32) (ix2 r f) = ∑ k : Fin 1024, x (ix2 r k) * w (ix2 k f) := by
  pointwise [k0_pay11, k0_pay3, k0_pay2]

theorem pay12_at (x : FVec Ideal S512x1024 .f32) (w : FVec Ideal S1024x1408 .bf16) (r : Fin 512) (f : Fin 1408) :
    (k0_pay12 (k0_pay3 x) w : FVec Ideal S512x1408 .f32) (ix2 r f) = ∑ k : Fin 1024, x (ix2 r k) * w (ix2 k f) := by
  pointwise [k0_pay12, k0_pay3, k0_pay2]

theorem pay14_at (x : FVec Ideal S8x2816 .f32) (r : Fin 8) (f : Fin 2816) : (k0_pay14 x : FVec Ideal S8x2816 .f32) (ix2 r f) = x (ix2 r f) := by
  pointwise [k0_pay14]

theorem pay10_at (z : FVec Ideal S512x1024 .f32) (v : FVec Ideal S512x1408 .f32) (b w0 w1 w2 : FVec Ideal S1x1408 .f32) (x0 x1 x2 : FVec Ideal S512x1408 .f32)
    (wd : FVec Ideal S1408x1024 .bf16) (r : Fin 512) (j : Fin 1024) :
    (k0_pay10 z v (k0_pay8 b) (k0_pay9 w0 x0) w1 x1 w2 x2 wd : FVec Ideal S512x1024 .f32) (ix2 r j)
      = z (ix2 r j) + ∑ f : Fin 1408, silu (conv (b (ix2 0 f)) (w0 (ix2 0 f)) (w1 (ix2 0 f)) (w2 (ix2 0 f)) (x0 (ix2 r f)) (x1 (ix2 r f)) (x2 (ix2 r f)))
          * v (ix2 r f) * wd (ix2 f j) := by
  pointwise [k0_pay10, k0_pay8, k0_pay9]
  simp only [zero_sub]
  rfl

theorem pay15_at (x z : FVec Ideal S512x1024 .f32) (v : FVec Ideal S512x1408 .f32) (b w0 w1 w2 : FVec Ideal S1x1408 .f32) (x0 x1 x2 : FVec Ideal S512x1408 .f32)
    (wd : FVec Ideal S1408x1024 .bf16) (r : Fin 512) (j : Fin 1024) :
    (k0_pay15 x z v (k0_pay13 b) w0 x0 w1 x1 w2 x2 wd : FVec Ideal S512x1024 .f32) (ix2 r j)
      = Ideal.ofBits .f32 0x3FD744FD#32 * x (ix2 r j) + (z (ix2 r j) + ∑ f : Fin 1408, silu (conv (b (ix2 0 f)) (w0 (ix2 0 f)) (w1 (ix2 0 f)) (w2 (ix2 0 f)) (x0 (ix2 r f)) (x1 (ix2 r f)) (x2 (ix2 r f)))
          * v (ix2 r f) * wd (ix2 f j)) := by
  pointwise [k0_pay15, k0_pay13]
  simp only [zero_sub]
  rfl

/-- The gate half of the up projection, at a tile's row. -/
def gt (x : FVec Ideal S512x1024 .f32) (wu : FVec Ideal S1024x5632 .bf16) (r : Fin 512) (f : Fin 2816) : EReal :=
  ∑ k : Fin 1024, x (ix2 r k) * wu (ix2 k ⟨f.val, by omega⟩)

/-- The value half. -/
def vl (x : FVec Ideal S512x1024 .f32) (wu : FVec Ideal S1024x5632 .bf16) (r : Fin 512) (f : Fin 2816) : EReal :=
  ∑ k : Fin 1024, x (ix2 r k) * wu (ix2 k ⟨2816 + f.val, by omega⟩)

/-- A term of the down projection, at a tile's row. -/
def term (x : FVec Ideal S512x1024 .f32) (wu : FVec Ideal S1024x5632 .bf16) (w : FVec Ideal S3x2816 .f32) (b : FVec Ideal S1x2816 .f32)
    (wd : FVec Ideal S2816x1024 .bf16) (p : Fin 8 → Fin 2816 → EReal) (r : Fin 512) (j : Fin 1024) (f : Fin 2816) : EReal :=
  silu (conv (b (ix2 0 f)) (w (ix2 0 f)) (w (ix2 1 f)) (w (ix2 2 f)) (back 2 (fun i => p i f) (fun i => gt x wu i f) r)
    (back 1 (fun i => p i f) (fun i => gt x wu i f) r) (gt x wu r f)) * vl x wu r f * wd (ix2 f j)

theorem ldu (wu : FVec Ideal S1024x5632 .bf16) (o : ℕ) (inb : ∀ a : Fin 2, (![0, o] : Fin 2 → ℕ) a + (![1024, 1408] : Fin 2 → ℕ) a ≤ S1024x5632.size a)
    (k : Fin 1024) (f : Fin 1408) (i : Fin 5632) (hi : i.val = o + f.val) :
    (View.ld (Val := Elt Ideal) (e' := .bf16) wu (Rect.unit (s := S1024x5632) ![0, o] ![1024, 1408] inb) : FVec Ideal S1024x1408 .bf16) (ix2 k f) = wu (ix2 k i) :=
  View.ld_unit_apply_of (S := S1024x5632) (Val := Elt Ideal) (e := .bf16) wu ![0, o] ![1024, 1408] inb (ix2 k f) (ix2 k i) (Fin.forall_fin_two.mpr ⟨(Nat.zero_add _).symm, hi⟩)

theorem ldw (w : FVec Ideal S3x2816 .f32) (a o : ℕ) (inb : ∀ i : Fin 2, (![a, o] : Fin 2 → ℕ) i + (![1, 1408] : Fin 2 → ℕ) i ≤ S3x2816.size i)
    (f : Fin 1408) (q : Fin 3) (hq : q.val = a) (i : Fin 2816) (hi : i.val = o + f.val) :
    (View.ld (Val := Elt Ideal) (e' := .f32) w (Rect.unit (s := S3x2816) ![a, o] ![1, 1408] inb) : FVec Ideal S1x1408 .f32) (ix2 0 f) = w (ix2 q i) :=
  View.ld_unit_apply_of (S := S3x2816) (Val := Elt Ideal) (e := .f32) w ![a, o] ![1, 1408] inb (ix2 (0 : Fin 1) f) (ix2 q i) (Fin.forall_fin_two.mpr ⟨hq, hi⟩)

theorem ldb (b : FVec Ideal S1x2816 .f32) (o : ℕ) (inb : ∀ i : Fin 2, (![0, o] : Fin 2 → ℕ) i + (![1, 1408] : Fin 2 → ℕ) i ≤ S1x2816.size i)
    (f : Fin 1408) (i : Fin 2816) (hi : i.val = o + f.val) :
    (View.ld (Val := Elt Ideal) (e' := .f32) b (Rect.unit (s := S1x2816) ![0, o] ![1, 1408] inb) : FVec Ideal S1x1408 .f32) (ix2 0 f) = b (ix2 0 i) :=
  View.ld_unit_apply_of (S := S1x2816) (Val := Elt Ideal) (e := .f32) b ![0, o] ![1, 1408] inb (ix2 (0 : Fin 1) f) (ix2 (0 : Fin 1) i) (Fin.forall_fin_two.mpr ⟨rfl, hi⟩)

theorem ldd (wd : FVec Ideal S2816x1024 .bf16) (o : ℕ) (inb : ∀ i : Fin 2, (![o, 0] : Fin 2 → ℕ) i + (![1408, 1024] : Fin 2 → ℕ) i ≤ S2816x1024.size i)
    (f : Fin 1408) (j : Fin 1024) (i : Fin 2816) (hi : i.val = o + f.val) :
    (View.ld (Val := Elt Ideal) (e' := .bf16) wd (Rect.unit (s := S2816x1024) ![o, 0] ![1408, 1024] inb) : FVec Ideal S1408x1024 .bf16) (ix2 f j) = wd (ix2 i j) :=
  View.ld_unit_apply_of (S := S2816x1024) (Val := Elt Ideal) (e := .bf16) wd ![o, 0] ![1408, 1024] inb (ix2 f j) (ix2 i j) (Fin.forall_fin_two.mpr ⟨hi, (Nat.zero_add _).symm⟩)

/-- A tile's output, given what its six loads of the carried rows read. -/
theorem core (x : FVec Ideal S512x1024 .f32) (wu : FVec Ideal S1024x5632 .bf16) (w : FVec Ideal S3x2816 .f32) (b : FVec Ideal S1x2816 .f32)
    (wd : FVec Ideal S2816x1024 .bf16) (lg lb : FVec Ideal S1x1024 .f32) (p : Fin 8 → Fin 2816 → EReal)
    (u0 u1 u2 y0 y1 y2 : FVec Ideal S512x1408 .f32) (r : Fin 512) (j : Fin 1024)
    (hu0 : ∀ (f : Fin 1408) (i : Fin 2816), i.val = 0 + f.val → u0 (ix2 r f) = back 2 (fun q => p q i) (fun q => gt x wu q i) r)
    (hu1 : ∀ (f : Fin 1408) (i : Fin 2816), i.val = 0 + f.val → u1 (ix2 r f) = back 1 (fun q => p q i) (fun q => gt x wu q i) r)
    (hu2 : ∀ (f : Fin 1408) (i : Fin 2816), i.val = 0 + f.val → u2 (ix2 r f) = gt x wu r i)
    (hy0 : ∀ (f : Fin 1408) (i : Fin 2816), i.val = 1408 + f.val → y0 (ix2 r f) = back 2 (fun q => p q i) (fun q => gt x wu q i) r)
    (hy1 : ∀ (f : Fin 1408) (i : Fin 2816), i.val = 1408 + f.val → y1 (ix2 r f) = back 1 (fun q => p q i) (fun q => gt x wu q i) r)
    (hy2 : ∀ (f : Fin 1408) (i : Fin 2816), i.val = 1408 + f.val → y2 (ix2 r f) = gt x wu r i) :
    (k0_pay1 (k0_pay15 (k0_pay2 x)
        (k0_pay10 k0_pay5 (k0_pay7 x (View.ld (Val := Elt Ideal) (e' := .bf16) wu (Rect.unit (s := S1024x5632) ![0, 2816] ![1024, 1408] inb_S1024x5632_S1024x1408_0_2816)))
          (k0_pay8 (View.ld (Val := Elt Ideal) (e' := .f32) b (Rect.unit (s := S1x2816) ![0, 0] ![1, 1408] inb_S1x2816_S1x1408_0_0)))
          (k0_pay9 (View.ld (Val := Elt Ideal) (e' := .f32) w (Rect.unit (s := S3x2816) ![0, 0] ![1, 1408] inb_S3x2816_S1x1408_0_0)) u0)
          (View.ld (Val := Elt Ideal) (e' := .f32) w (Rect.unit (s := S3x2816) ![1, 0] ![1, 1408] inb_S3x2816_S1x1408_1_0)) u1
          (View.ld (Val := Elt Ideal) (e' := .f32) w (Rect.unit (s := S3x2816) ![2, 0] ![1, 1408] inb_S3x2816_S1x1408_2_0)) u2
          (View.ld (Val := Elt Ideal) (e' := .bf16) wd (Rect.unit (s := S2816x1024) ![0, 0] ![1408, 1024] inb_S2816x1024_S1408x1024_0_0)))
        (k0_pay12 (k0_pay3 x) (View.ld (Val := Elt Ideal) (e' := .bf16) wu (Rect.unit (s := S1024x5632) ![0, 4224] ![1024, 1408] inb_S1024x5632_S1024x1408_0_4224)))
        (k0_pay13 (View.ld (Val := Elt Ideal) (e' := .f32) b (Rect.unit (s := S1x2816) ![0, 1408] ![1, 1408] inb_S1x2816_S1x1408_0_1408)))
        (View.ld (Val := Elt Ideal) (e' := .f32) w (Rect.unit (s := S3x2816) ![0, 1408] ![1, 1408] inb_S3x2816_S1x1408_0_1408)) y0
        (View.ld (Val := Elt Ideal) (e' := .f32) w (Rect.unit (s := S3x2816) ![1, 1408] ![1, 1408] inb_S3x2816_S1x1408_1_1408)) y1
        (View.ld (Val := Elt Ideal) (e' := .f32) w (Rect.unit (s := S3x2816) ![2, 1408] ![1, 1408] inb_S3x2816_S1x1408_2_1408)) y2
        (View.ld (Val := Elt Ideal) (e' := .bf16) wd (Rect.unit (s := S2816x1024) ![1408, 0] ![1408, 1024] inb_S2816x1024_S1408x1024_1408_0)))
      lg lb : FVec Ideal S512x1024 .f32) (ix2 r j)
      = lnorm (fun k => Ideal.ofBits .f32 0x3FD744FD#32 * x (ix2 r k) + ∑ f : Fin 2816, term x wu w b wd p r k f) (lg (ix2 0 j)) (lb (ix2 0 j)) j := by
  refine (pay1_at _ _ _ r j).trans (congrArg (fun q => lnorm q (lg (ix2 0 j)) (lb (ix2 0 j)) j) (funext fun k => ?_))
  refine (pay15_at _ _ _ _ _ _ _ _ _ _ _ r k).trans ?_
  refine congrArg₂ (· + ·) (congrArg (_ * ·) (pay2_at x r k)) ?_
  rw [sum_halves]
  refine congrArg₂ (· + ·) ((pay10_at _ _ _ _ _ _ _ _ _ _ r k).trans ?_) (Finset.sum_congr rfl fun f _ => ?_)
  · rw [pay5_at, zero_add]
    refine Finset.sum_congr rfl fun f _ => ?_
    unfold term
    rw [ldb b 0 _ f ⟨f.val, by omega⟩ (Nat.zero_add _).symm, ldw w 0 0 _ f 0 rfl ⟨f.val, by omega⟩ (Nat.zero_add _).symm,
      ldw w 1 0 _ f 1 rfl ⟨f.val, by omega⟩ (Nat.zero_add _).symm, ldw w 2 0 _ f 2 rfl ⟨f.val, by omega⟩ (Nat.zero_add _).symm,
      ldd wd 0 _ f k ⟨f.val, by omega⟩ (Nat.zero_add _).symm, hu0 f ⟨f.val, by omega⟩ (Nat.zero_add _).symm,
      hu1 f ⟨f.val, by omega⟩ (Nat.zero_add _).symm, hu2 f ⟨f.val, by omega⟩ (Nat.zero_add _).symm]
    refine congrArg (fun z => _ * z * _) ((pay7_at _ _ r f).trans ?_)
    unfold vl
    exact Finset.sum_congr rfl fun l _ => congrArg (_ * ·) (ldu wu 2816 _ l f _ rfl)
  · unfold term
    rw [ldb b 1408 _ f ⟨1408 + f.val, by omega⟩ rfl, ldw w 0 1408 _ f 0 rfl ⟨1408 + f.val, by omega⟩ rfl,
      ldw w 1 1408 _ f 1 rfl ⟨1408 + f.val, by omega⟩ rfl, ldw w 2 1408 _ f 2 rfl ⟨1408 + f.val, by omega⟩ rfl,
      ldd wd 1408 _ f k ⟨1408 + f.val, by omega⟩ rfl, hy0 f ⟨1408 + f.val, by omega⟩ rfl,
      hy1 f ⟨1408 + f.val, by omega⟩ rfl, hy2 f ⟨1408 + f.val, by omega⟩ rfl]
    refine congrArg (fun z => _ * z * _) ((pay12_at _ _ r f).trans ?_)
    unfold vl
    exact Finset.sum_congr rfl fun l _ => congrArg (_ * ·) (ldu wu 4224 _ l f _ (by show 2816 + (1408 + f.val) = 4224 + f.val; omega))

end Cert.Kernel3Ideal.Ffn

end

end
-- ==== Proof.Ffn.Read.lean ====
/- What the gated MLP's loads of its carried rows read. -/
module

public import proofs.«01_k».proof.Proof.Ffn.Pay
public import Idealize.ShloMosaic.Lib.WritesUnit

@[expose] public section

set_option maxRecDepth 16384

noncomputable section

open Idealize.ShloMosaic Idealize.ShloMosaic.TcCoe Idealize.SL.Sem
open Cert.Norm Cert.Act

namespace Cert.Kernel3Ideal.Ffn

open Cert.Kernel3Ideal Cert.Kernel3Ideal.Gen

section Reads

variable {κ : Kind} {sp : Space} (v : View sig κ sp S520x2816 .f32) (f : v.ty.Contents (Elt Ideal))
variable (P Q : FVec Ideal S512x1408 .f32) (T : List (View.Piece (Elt Ideal) S520x2816 .f32))

/-- The store of the first half's rows. -/
abbrev pc0 (P : FVec Ideal S512x1408 .f32) : View.Piece (Elt Ideal) S520x2816 .f32 := ⟨Rect.unit ![8, 0] ![512, 1408] inb_S520x2816_S512x1408_8_0, P⟩
/-- The store of the second half's rows. -/
abbrev pc1 (Q : FVec Ideal S512x1408 .f32) : View.Piece (Elt Ideal) S520x2816 .f32 := ⟨Rect.unit ![8, 1408] ![512, 1408] inb_S520x2816_S512x1408_8_1408, Q⟩
/-- A store of the eight first rows. -/
abbrev pcz (Z : FVec Ideal S8x2816 .f32) : View.Piece (Elt Ideal) S520x2816 .f32 := ⟨Rect.unit ![0, 0] ![8, 2816] inb_S520x2816_S8x2816_0_0, Z⟩

theorem cov (L : List (View.Piece (Elt Ideal) S520x2816 .f32)) (B : Rect S520x2816) (x : B.shape.Idx) :
    v.readCov (Val := Elt Ideal) L B.toLoadRect x = v.read (Elt Ideal) (v.writes (Elt Ideal) v.junk L) (B.toLoadRect.idx x) := rfl

theorem in0 (y : S520x2816.Idx) (r : Fin 512) (j : Fin 1408) (h0 : (y 0).val = 8 + r.val) (h1 : (y 1).val = j.val) :
    v.read (Elt Ideal) (v.writes (Elt Ideal) f (pc0 P :: T)) y = P (ix2 r j) :=
  View.read_writes_cons_unit_of_mem (off' := ![8, 0]) v f _ P T y (ix2 r j) rfl (Fin.forall_fin_two.mpr ⟨h0, h1.trans (Nat.zero_add _).symm⟩)

theorem in1 (y : S520x2816.Idx) (r : Fin 512) (j : Fin 1408) (h0 : (y 0).val = 8 + r.val) (h1 : (y 1).val = 1408 + j.val) :
    v.read (Elt Ideal) (v.writes (Elt Ideal) f (pc1 P :: T)) y = P (ix2 r j) :=
  View.read_writes_cons_unit_of_mem (off' := ![8, 1408]) v f _ P T y (ix2 r j) rfl (Fin.forall_fin_two.mpr ⟨h0, h1⟩)

theorem inz (Z : FVec Ideal S8x2816 .f32) (y : S520x2816.Idx) (r : Fin 8) (j : Fin 2816) (h0 : (y 0).val = r.val) (h1 : (y 1).val = j.val) :
    v.read (Elt Ideal) (v.writes (Elt Ideal) f (pcz Z :: T)) y = Z (ix2 r j) :=
  View.read_writes_cons_unit_of_mem (off' := ![0, 0]) v f _ Z T y (ix2 r j) rfl
    (Fin.forall_fin_two.mpr ⟨h0.trans (Nat.zero_add _).symm, h1.trans (Nat.zero_add _).symm⟩)

theorem above0 (y : S520x2816.Idx) (h0 : (y 0).val < 8) :
    v.read (Elt Ideal) (v.writes (Elt Ideal) f (pc0 P :: T)) y = v.read (Elt Ideal) (v.writes (Elt Ideal) f T) y :=
  View.read_writes_cons_unit_of_not_mem (off' := ![8, 0]) v f _ P T y rfl (0 : Fin 2) (Or.inl h0)

theorem above1 (y : S520x2816.Idx) (h0 : (y 0).val < 8) :
    v.read (Elt Ideal) (v.writes (Elt Ideal) f (pc1 P :: T)) y = v.read (Elt Ideal) (v.writes (Elt Ideal) f T) y :=
  View.read_writes_cons_unit_of_not_mem (off' := ![8, 1408]) v f _ P T y rfl (0 : Fin 2) (Or.inl h0)

theorem left1 (y : S520x2816.Idx) (h0 : (y 1).val < 1408) :
    v.read (Elt Ideal) (v.writes (Elt Ideal) f (pc1 P :: T)) y = v.read (Elt Ideal) (v.writes (Elt Ideal) f T) y :=
  View.read_writes_cons_unit_of_not_mem (off' := ![8, 1408]) v f _ P T y rfl (1 : Fin 2) (Or.inl h0)

variable (p : Fin 8 → Fin 2816 → EReal) (g : Fin 512 → Fin 2816 → EReal)

/-- A row up to two rows back, in the first half, the second half's rows not yet stored. -/
theorem read0 (hT : ∀ (y : S520x2816.Idx) (q : Fin 8) (i : Fin 2816), (y 0).val = q.val → (y 1).val = i.val →
      v.read (Elt Ideal) (v.writes (Elt Ideal) f T) y = p q i)
    (hP : ∀ (r : Fin 512) (j : Fin 1408), P (ix2 r j) = g r ⟨0 + j.val, by omega⟩)
    (n : ℕ) (hn : n ≤ 2) (y : S520x2816.Idx) (r : Fin 512) (j : Fin 1408) (i : Fin 2816) (hy0 : (y 0).val + n = 8 + r.val)
    (hy1 : (y 1).val = i.val) (hi : i.val = 0 + j.val) :
    v.read (Elt Ideal) (v.writes (Elt Ideal) f (pc0 P :: T)) y = back n (fun q => p q i) (fun q => g q i) r := by
  unfold back
  split
  · next h =>
    exact (above0 v f P T y (by omega)).trans (hT y _ i (by show (y 0).val = (8 - n + r.val) % 8; omega) hy1)
  · next h =>
    refine (in0 v f P T y ⟨r.val - n, by omega⟩ j (by show (y 0).val = 8 + (r.val - n); omega) (by omega)).trans ((hP _ j).trans ?_)
    exact congrArg (g _) (Fin.ext hi.symm)

/-- The same in the second half. -/
theorem read1 (hT : ∀ (y : S520x2816.Idx) (q : Fin 8) (i : Fin 2816), (y 0).val = q.val → (y 1).val = i.val →
      v.read (Elt Ideal) (v.writes (Elt Ideal) f T) y = p q i)
    (hQ : ∀ (r : Fin 512) (j : Fin 1408), Q (ix2 r j) = g r ⟨1408 + j.val, by omega⟩)
    (n : ℕ) (hn : n ≤ 2) (y : S520x2816.Idx) (r : Fin 512) (j : Fin 1408) (i : Fin 2816) (hy0 : (y 0).val + n = 8 + r.val)
    (hy1 : (y 1).val = i.val) (hi : i.val = 1408 + j.val) :
    v.read (Elt Ideal) (v.writes (Elt Ideal) f (pc1 Q :: pc0 P :: T)) y = back n (fun q => p q i) (fun q => g q i) r := by
  unfold back
  split
  · next h =>
    exact (above1 v f Q _ y (by omega)).trans ((above0 v f P T y (by omega)).trans (hT y _ i (by show (y 0).val = (8 - n + r.val) % 8; omega) hy1))
  · next h =>
    refine (in1 v f Q _ y ⟨r.val - n, by omega⟩ j (by show (y 0).val = 8 + (r.val - n); omega) (by omega)).trans ((hQ _ j).trans ?_)
    exact congrArg (g _) (Fin.ext hi.symm)

/-- A row of the tile, both halves stored. -/
theorem readg (hP : ∀ (r : Fin 512) (j : Fin 1408), P (ix2 r j) = g r ⟨0 + j.val, by omega⟩)
    (hQ : ∀ (r : Fin 512) (j : Fin 1408), Q (ix2 r j) = g r ⟨1408 + j.val, by omega⟩)
    (y : S520x2816.Idx) (r : Fin 512) (i : Fin 2816) (hy0 : (y 0).val = 8 + r.val) (hy1 : (y 1).val = i.val) :
    v.read (Elt Ideal) (v.writes (Elt Ideal) f (pc1 Q :: pc0 P :: T)) y = g r i := by
  by_cases h : i.val < 1408
  · refine (left1 v f Q _ y (by omega)).trans ((in0 v f P T y r ⟨i.val, h⟩ hy0 hy1).trans ((hP _ _).trans ?_))
    exact congrArg (g _) (Fin.ext (Nat.zero_add _))
  · refine (in1 v f Q _ y r ⟨i.val - 1408, by omega⟩ hy0 (by show (y 1).val = 1408 + (i.val - 1408); omega)).trans ((hQ _ _).trans ?_)
    exact congrArg (g _) (Fin.ext (by show 1408 + (i.val - 1408) = i.val; omega))

end Reads

theorem back_zero (p : Fin 8 → EReal) (g : Fin 512 → EReal) (r : Fin 512) : back 0 p g r = g r := by
  unfold back
  exact dif_neg (Nat.not_lt_zero _)

variable (m : (ℓ : Loc nD τ sig) → Buf (Elt Ideal) ℓ) (c : Dev nD)

theorem half0 (x : FVec Ideal S512x1024 .f32) (wu : FVec Ideal S1024x5632 .bf16) (r : Fin 512) (j : Fin 1408) :
    (k0_pay6 x (View.ld (Val := Elt Ideal) (e' := .bf16) wu (Rect.unit (s := S1024x5632) ![0, 0] ![1024, 1408] inb_S1024x5632_S1024x1408_0_0)) : FVec Ideal S512x1408 .f32) (ix2 r j)
      = gt x wu r ⟨0 + j.val, by omega⟩ :=
  (pay6_at _ _ r j).trans (Finset.sum_congr rfl fun l _ => congrArg (_ * ·) (ldu wu 0 _ l j _ rfl))

theorem half1 (x : FVec Ideal S512x1024 .f32) (wu : FVec Ideal S1024x5632 .bf16) (r : Fin 512) (j : Fin 1408) :
    (k0_pay11 (k0_pay3 x) (View.ld (Val := Elt Ideal) (e' := .bf16) wu (Rect.unit (s := S1024x5632) ![0, 1408] ![1024, 1408] inb_S1024x5632_S1024x1408_0_1408)) : FVec Ideal S512x1408 .f32) (ix2 r j)
      = gt x wu r ⟨1408 + j.val, by omega⟩ :=
  (pay11_at _ _ r j).trans (Finset.sum_congr rfl fun l _ => congrArg (_ * ·) (ldu wu 1408 _ l j _ rfl))

/-- What a tile leaves in the carried rows: the last eight rows of its gate half. -/
theorem carried (t : Fin cfg0.N) (q : Fin 8) (i : Fin 2816) (y : S520x2816.Idx) (h0 : (y 0).val = q.val) (h1 : (y 1).val = i.val) :
    (outsAt0 m c t.val t.isLt).2 y = gt (iblk m c 0 t) (iblk m c 1 t) ⟨504 + q.val, by omega⟩ i := by
  have hy : (Rect.unit (s := S520x2816) ![0, 0] ![8, 2816] inb_S520x2816_S8x2816_0_0).emb (ix2 q i) = y :=
    funext fun a => Fin.ext ((Rect.idx_unit_val (s := S520x2816) ![0, 0] ![8, 2816] inb_S520x2816_S8x2816_0_0 (ix2 q i) a).trans
      ((Fin.forall_fin_two (p := fun a : Fin 2 => (![0, 0] : Fin 2 → ℕ) a + ((ix2 q i : S8x2816.Idx) a).val = (y a).val)).mpr
        ⟨(Nat.zero_add _).trans h0.symm, (Nat.zero_add _).trans h1.symm⟩ a))
  by_cases h : t.val % 8 = 0
  · rw [outsAt0_A m c t h]
    frame_out
    refine (congrArg (View.canon _) hy.symm).trans ?_
    refine (View.canon_cons_emb _ _ _ _).trans ((pay14_at _ q i).trans ?_)
    refine (cov (View.whole cc0_scratch0) _ _ _).trans ?_
    exact readg (View.whole cc0_scratch0) _ _ _ _ (gt (iblk m c 0 t) (iblk m c 1 t)) (half0 _ _) (half1 _ _) _ _ i
      (by show 512 + 1 * q.val = 8 + (504 + q.val); omega) (by show 0 + 1 * i.val = i.val; omega)
  · rw [outsAt0_B m c t h]
    frame_out
    refine (congrArg (View.canon _) hy.symm).trans ?_
    refine (View.canon_cons_emb _ _ _ _).trans ((pay14_at _ q i).trans ?_)
    refine (cov (View.whole cc0_scratch0) _ _ _).trans ?_
    exact readg (View.whole cc0_scratch0) _ _ _ _ (gt (iblk m c 0 t) (iblk m c 1 t)) (half0 _ _) (half1 _ _) _ _ i
      (by show 512 + 1 * q.val = 8 + (504 + q.val); omega) (by show 0 + 1 * i.val = i.val; omega)

/-- A tile's output at one entry, given the rows it starts with. -/
def tile (t : Fin cfg0.N) (p : Fin 8 → Fin 2816 → EReal) (r : Fin 512) (j : Fin 1024) : EReal :=
  lnorm (fun k => Ideal.ofBits .f32 0x3FD744FD#32 * (iblk m c 0 t : FVec Ideal S512x1024 .f32) (ix2 r k)
      + ∑ f : Fin 2816, term (iblk m c 0 t) (iblk m c 1 t) (iblk m c 2 t) (iblk m c 3 t) (iblk m c 4 t) p r k f)
    ((iblk m c 5 t : FVec Ideal S1x1024 .f32) (ix2 0 j)) ((iblk m c 6 t : FVec Ideal S1x1024 .f32) (ix2 0 j)) j

theorem out_first (t : Fin cfg0.N) (h : t.val % 8 = 0) (r : Fin 512) (j : Fin 1024) :
    (outsAt0 m c t.val t.isLt).1 (ix2 r j) = tile m c t (fun _ _ => 0) r j := by
  rw [outsAt0_A m c t h]
  frame_out
  have hz : ∀ (y : S520x2816.Idx) (q : Fin 8) (i : Fin 2816), (y 0).val = q.val → (y 1).val = i.val →
      (View.whole cc0_scratch0).read (Elt Ideal) ((View.whole cc0_scratch0).writes (Elt Ideal) (View.whole cc0_scratch0).junk [pcz k0_pay4]) y = (0 : EReal) :=
    fun y q i h0 h1 => (inz (View.whole cc0_scratch0) _ [] k0_pay4 y q i h0 h1).trans (pay4_at q i)
  refine core (iblk m c 0 t) (iblk m c 1 t) (iblk m c 2 t) (iblk m c 3 t) (iblk m c 4 t) (iblk m c 5 t) (iblk m c 6 t) (fun _ _ => 0) _ _ _ _ _ _ r j ?_ ?_ ?_ ?_ ?_ ?_
  · intro f i hi
    refine (cov (View.whole cc0_scratch0) _ _ _).trans ?_
    exact read0 (View.whole cc0_scratch0) _ _ _ (fun _ _ => 0) (gt (iblk m c 0 t) (iblk m c 1 t)) hz (half0 _ _) 2 (by omega) _ r f i
      (by show 6 + 1 * r.val + 2 = 8 + r.val; omega) (by show 0 + 1 * f.val = i.val; omega) hi
  · intro f i hi
    refine (cov (View.whole cc0_scratch0) _ _ _).trans ?_
    exact read0 (View.whole cc0_scratch0) _ _ _ (fun _ _ => 0) (gt (iblk m c 0 t) (iblk m c 1 t)) hz (half0 _ _) 1 (by omega) _ r f i
      (by show 7 + 1 * r.val + 1 = 8 + r.val; omega) (by show 0 + 1 * f.val = i.val; omega) hi
  · intro f i hi
    refine (cov (View.whole cc0_scratch0) _ _ _).trans ?_
    exact (read0 (View.whole cc0_scratch0) _ _ _ (fun _ _ => 0) (gt (iblk m c 0 t) (iblk m c 1 t)) hz (half0 _ _) 0 (by omega) _ r f i
      (by show 8 + 1 * r.val + 0 = 8 + r.val; omega) (by show 0 + 1 * f.val = i.val; omega) hi).trans (back_zero _ _ r)
  · intro f i hi
    refine (cov (View.whole cc0_scratch0) _ _ _).trans ?_
    exact read1 (View.whole cc0_scratch0) _ _ _ _ (fun _ _ => 0) (gt (iblk m c 0 t) (iblk m c 1 t)) hz (half1 _ _) 2 (by omega) _ r f i
      (by show 6 + 1 * r.val + 2 = 8 + r.val; omega) (by show 1408 + 1 * f.val = i.val; omega) hi
  · intro f i hi
    refine (cov (View.whole cc0_scratch0) _ _ _).trans ?_
    exact read1 (View.whole cc0_scratch0) _ _ _ _ (fun _ _ => 0) (gt (iblk m c 0 t) (iblk m c 1 t)) hz (half1 _ _) 1 (by omega) _ r f i
      (by show 7 + 1 * r.val + 1 = 8 + r.val; omega) (by show 1408 + 1 * f.val = i.val; omega) hi
  · intro f i hi
    refine (cov (View.whole cc0_scratch0) _ _ _).trans ?_
    exact (read1 (View.whole cc0_scratch0) _ _ _ _ (fun _ _ => 0) (gt (iblk m c 0 t) (iblk m c 1 t)) hz (half1 _ _) 0 (by omega) _ r f i
      (by show 8 + 1 * r.val + 0 = 8 + r.val; omega) (by show 1408 + 1 * f.val = i.val; omega) hi).trans (back_zero _ _ r)

theorem out_later (t : Fin cfg0.N) (h : ¬ t.val % 8 = 0) (u : Fin cfg0.N) (hu : u.val = t.val - 1) (r : Fin 512) (j : Fin 1024) :
    (outsAt0 m c t.val t.isLt).1 (ix2 r j) = tile m c t (fun q i => gt (iblk m c 0 u) (iblk m c 1 u) ⟨504 + q.val, by omega⟩ i) r j := by
  obtain rfl : u = ⟨t.val - 1, lt_of_le_of_lt (Nat.sub_le _ _) t.isLt⟩ := Fin.ext hu
  rw [outsAt0_B m c t h]
  frame_out
  generalize hp : (fun (q : Fin 8) (i : Fin 2816) => gt (iblk m c 0 ⟨t.val - 1, lt_of_le_of_lt (Nat.sub_le _ _) t.isLt⟩)
    (iblk m c 1 ⟨t.val - 1, lt_of_le_of_lt (Nat.sub_le _ _) t.isLt⟩) ⟨504 + q.val, by omega⟩ i) = p
  have hz : ∀ (y : S520x2816.Idx) (q : Fin 8) (i : Fin 2816), (y 0).val = q.val → (y 1).val = i.val →
      (View.whole cc0_scratch0).read (Elt Ideal) ((View.whole cc0_scratch0).writes (Elt Ideal)
        ((Memref.isWhole_whole cc0_scratch0).unread (outsAt0 m c (t.val - 1) (lt_of_le_of_lt (Nat.sub_le _ _) t.isLt)).2) []) y = p q i := by
    intro y q i h0 h1
    rw [← hp]
    refine (congrFun ((Memref.isWhole_whole cc0_scratch0).read_unread _) y).trans ?_
    exact carried m c ⟨t.val - 1, lt_of_le_of_lt (Nat.sub_le _ _) t.isLt⟩ q i y h0 h1
  refine core (iblk m c 0 t) (iblk m c 1 t) (iblk m c 2 t) (iblk m c 3 t) (iblk m c 4 t) (iblk m c 5 t) (iblk m c 6 t) p _ _ _ _ _ _ r j ?_ ?_ ?_ ?_ ?_ ?_
  · intro f i hi
    exact read0 (View.whole cc0_scratch0) _ _ _ p (gt (iblk m c 0 t) (iblk m c 1 t)) hz (half0 _ _) 2 (by omega) _ r f i
      (by show 6 + 1 * r.val + 2 = 8 + r.val; omega) (by show 0 + 1 * f.val = i.val; omega) hi
  · intro f i hi
    exact read0 (View.whole cc0_scratch0) _ _ _ p (gt (iblk m c 0 t) (iblk m c 1 t)) hz (half0 _ _) 1 (by omega) _ r f i
      (by show 7 + 1 * r.val + 1 = 8 + r.val; omega) (by show 0 + 1 * f.val = i.val; omega) hi
  · intro f i hi
    refine (cov (View.whole cc0_scratch0) _ _ _).trans ?_
    exact in0 (View.whole cc0_scratch0) _ _ [] _ r f
      (by show 8 + 1 * r.val = 8 + r.val; omega) (by show 0 + 1 * f.val = f.val; omega) |>.trans ((half0 _ _ r f).trans (congrArg (gt _ _ r) (Fin.ext hi.symm)))
  · intro f i hi
    exact read1 (View.whole cc0_scratch0) _ _ _ _ p (gt (iblk m c 0 t) (iblk m c 1 t)) hz (half1 _ _) 2 (by omega) _ r f i
      (by show 6 + 1 * r.val + 2 = 8 + r.val; omega) (by show 1408 + 1 * f.val = i.val; omega) hi
  · intro f i hi
    exact read1 (View.whole cc0_scratch0) _ _ _ _ p (gt (iblk m c 0 t) (iblk m c 1 t)) hz (half1 _ _) 1 (by omega) _ r f i
      (by show 7 + 1 * r.val + 1 = 8 + r.val; omega) (by show 1408 + 1 * f.val = i.val; omega) hi
  · intro f i hi
    refine (cov (View.whole cc0_scratch0) _ _ _).trans ?_
    exact in1 (View.whole cc0_scratch0) _ _ _ _ r f
      (by show 8 + 1 * r.val = 8 + r.val; omega) (by show 1408 + 1 * f.val = 1408 + f.val; omega) |>.trans ((half1 _ _ r f).trans (congrArg (gt _ _ r) (Fin.ext hi.symm)))

end Cert.Kernel3Ideal.Ffn

end

end
-- ==== Proof.Ffn.Host.lean ====
/- What the host lines hand the gated MLP's call, over the extended reals, entry by entry. -/
module

public import proofs.«01_k».proof.Proof.Gen.Kernel3Ideal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

variable (m : (ℓ : Loc nD τ sig) → Buf (Elt Ideal) ℓ) (c : Dev nD)

/-- The arguments. -/
abbrev Xh : FVec Ideal S16x4096x1024 .f32 := m ((c : Thread nD τ).loc main_arg0)
abbrev Xu : FVec Ideal S1024x5632 .f32 := m ((c : Thread nD τ).loc main_arg1)
abbrev Xw : FVec Ideal S3x2816 .f32 := m ((c : Thread nD τ).loc main_arg2)
abbrev Xb : FVec Ideal S2816 .f32 := m ((c : Thread nD τ).loc main_arg3)
abbrev Xd : FVec Ideal S2816x1024 .f32 := m ((c : Thread nD τ).loc main_arg4)
abbrev Xlg : FVec Ideal S1024 .f32 := m ((c : Thread nD τ).loc main_arg5)
abbrev Xlb : FVec Ideal S1024 .f32 := m ((c : Thread nD τ).loc main_arg6)

/-- The call's operands. -/
def Ah : FVec Ideal S65536x1024 .f32 := V m c main_v5
def Au : FVec Ideal S1024x5632 .bf16 := V m c main_v0
def Aw : FVec Ideal S3x2816 .f32 := V m c main_arg2
def Ab : FVec Ideal S1x2816 .f32 := V m c main_v1
def Ad : FVec Ideal S2816x1024 .bf16 := V m c main_v2
def Alg : FVec Ideal S1x1024 .f32 := V m c main_v3
def Alb : FVec Ideal S1x1024 .f32 := V m c main_v4

theorem Ah_at (t : Fin 65536) (j : Fin 1024) : Ah m c (ix2 t j) = Xh m c (ix3 ⟨t.val / 4096, by omega⟩ ⟨t.val % 4096, by omega⟩ j) := by
  unfold Ah
  simp only [V, hostOps0, List.flatten_cons, List.flatten_nil, List.cons_append, List.nil_append, List.append_nil]
  entry_read
  pointwise

theorem Au_at (k : Fin 1024) (j : Fin 5632) : Au m c (ix2 k j) = Xu m c (ix2 k j) := by
  unfold Au
  simp only [V, hostOps0, List.flatten_cons, List.flatten_nil, List.cons_append, List.nil_append, List.append_nil]
  entry_read
  pointwise

theorem Aw_at (k : Fin 3) (j : Fin 2816) : Aw m c (ix2 k j) = Xw m c (ix2 k j) := by
  unfold Aw
  simp only [V, hostOps0, List.flatten_cons, List.flatten_nil, List.cons_append, List.nil_append, List.append_nil]
  entry_read
  rfl

theorem Ab_at (j : Fin 2816) : Ab m c (ix2 0 j) = Xb m c (ix1 j) := by
  unfold Ab
  simp only [V, hostOps0, List.flatten_cons, List.flatten_nil, List.cons_append, List.nil_append, List.append_nil]
  entry_read
  pointwise

theorem Ad_at (k : Fin 2816) (j : Fin 1024) : Ad m c (ix2 k j) = Xd m c (ix2 k j) := by
  unfold Ad
  simp only [V, hostOps0, List.flatten_cons, List.flatten_nil, List.cons_append, List.nil_append, List.append_nil]
  entry_read
  pointwise

theorem Alg_at (j : Fin 1024) : Alg m c (ix2 0 j) = Xlg m c (ix1 j) := by
  unfold Alg
  simp only [V, hostOps0, List.flatten_cons, List.flatten_nil, List.cons_append, List.nil_append, List.append_nil]
  entry_read
  pointwise

theorem Alb_at (j : Fin 1024) : Alb m c (ix2 0 j) = Xlb m c (ix1 j) := by
  unfold Alb
  simp only [V, hostOps0, List.flatten_cons, List.flatten_nil, List.cons_append, List.nil_append, List.append_nil]
  entry_read
  pointwise

end Cert.Kernel3Ideal.Ffn

end

end
-- ==== Proof.Ffn.Out.lean ====
/- What the gated MLP's output array ends with, over the extended reals. -/
module

public import proofs.«01_k».proof.Proof.Ffn.Read
public import proofs.«01_k».proof.Proof.Ffn.Host

@[expose] public section

set_option maxRecDepth 16384

noncomputable section

open Idealize.ShloMosaic Idealize.ShloMosaic.TcCoe Idealize.SL.Sem
open Cert.Norm Cert.Act

namespace Cert.Kernel3Ideal.Ffn

open Cert.Kernel3Ideal Cert.Kernel3Ideal.Gen

variable (m : (ℓ : Loc nD τ sig) → Buf (Elt Ideal) ℓ) (c : Dev nD)

/-- The windows' blocks at every grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

theorem lt_N (t : Fin cfg0.N) : t.val < 128 := lt_of_lt_of_eq t.isLt (show cfg0.N = 128 from N_0)

theorem rd0 (A : FVec Ideal S65536x1024 .f32) (t : Fin cfg0.N) (r : Fin 512) (k : Fin 1024) (i : Fin 65536) (hi : i.val = 512 * t.val + r.val) :
    (((cfg0.win 0).blk t).view.read (Elt Ideal) A : FVec Ideal S512x1024 .f32) (ix2 r k) = A (ix2 i k) := by
  blk_ext [idx t]
theorem rd1 (A : FVec Ideal S1024x5632 .bf16) (t : Fin cfg0.N) (k : Fin 1024) (j : Fin 5632) :
    (((cfg0.win 1).blk t).view.read (Elt Ideal) A : FVec Ideal S1024x5632 .bf16) (ix2 k j) = A (ix2 k j) := by
  blk_ext [idx t]
theorem rd2 (A : FVec Ideal S3x2816 .f32) (t : Fin cfg0.N) (k : Fin 3) (j : Fin 2816) :
    (((cfg0.win 2).blk t).view.read (Elt Ideal) A : FVec Ideal S3x2816 .f32) (ix2 k j) = A (ix2 k j) := by
  blk_ext [idx t]
theorem rd3 (A : FVec Ideal S1x2816 .f32) (t : Fin cfg0.N) (j : Fin 2816) :
    (((cfg0.win 3).blk t).view.read (Elt Ideal) A : FVec Ideal S1x2816 .f32) (ix2 0 j) = A (ix2 0 j) := by
  blk_ext [idx t]
theorem rd4 (A : FVec Ideal S2816x1024 .bf16) (t : Fin cfg0.N) (k : Fin 2816) (j : Fin 1024) :
    (((cfg0.win 4).blk t).view.read (Elt Ideal) A : FVec Ideal S2816x1024 .bf16) (ix2 k j) = A (ix2 k j) := by
  blk_ext [idx t]
theorem rd5 (A : FVec Ideal S1x1024 .f32) (t : Fin cfg0.N) (j : Fin 1024) :
    (((cfg0.win 5).blk t).view.read (Elt Ideal) A : FVec Ideal S1x1024 .f32) (ix2 0 j) = A (ix2 0 j) := by
  blk_ext [idx t]
theorem rd6 (A : FVec Ideal S1x1024 .f32) (t : Fin cfg0.N) (j : Fin 1024) :
    (((cfg0.win 6).blk t).view.read (Elt Ideal) A : FVec Ideal S1x1024 .f32) (ix2 0 j) = A (ix2 0 j) := by
  blk_ext [idx t]

theorem emb7 (t : Fin cfg0.N) (r : Fin 512) (k : Fin 1024) (i : Fin 65536) (hi : i.val = 512 * t.val + r.val) :
    (((cfg0.win 7).blk t).view.emb (ix2 r k : S512x1024.Idx) : S65536x1024.Idx) = ix2 i k := by
  blk_ext [idx t]

/-- The up projection at one entry. -/
def up (h : FVec Ideal S16x4096x1024 .f32) (u : FVec Ideal S1024x5632 .f32) (i : Fin 16) (s : Fin 4096) (f : Fin 5632) : EReal :=
  ∑ k : Fin 1024, h (ix3 i s k) * u (ix2 k f)

/-- Its gate half `n` positions earlier, zero before the sequence's start. -/
def past (n : ℕ) (h : FVec Ideal S16x4096x1024 .f32) (u : FVec Ideal S1024x5632 .f32) (i : Fin 16) (s : Fin 4096) (f : Fin 2816) : EReal :=
  if s.val < n then 0 else up h u i ⟨s.val - n, by omega⟩ ⟨f.val, by omega⟩

/-- The convolution and its activation, times the value half. -/
def acted (h : FVec Ideal S16x4096x1024 .f32) (u : FVec Ideal S1024x5632 .f32) (w : FVec Ideal S3x2816 .f32) (b : FVec Ideal S2816 .f32)
    (i : Fin 16) (s : Fin 4096) (f : Fin 2816) : EReal :=
  silu (conv (b (ix1 f)) (w (ix2 0 f)) (w (ix2 1 f)) (w (ix2 2 f)) (past 2 h u i s f) (past 1 h u i s f) (up h u i s ⟨f.val, by omega⟩))
    * up h u i s ⟨2816 + f.val, by omega⟩

/-- The stream at one row before its normalisation. -/
def stream (h : FVec Ideal S16x4096x1024 .f32) (u : FVec Ideal S1024x5632 .f32) (w : FVec Ideal S3x2816 .f32) (b : FVec Ideal S2816 .f32)
    (d : FVec Ideal S2816x1024 .f32) (i : Fin 16) (s : Fin 4096) (k : Fin 1024) : EReal :=
  Ideal.ofBits .f32 0x3FD744FD#32 * h (ix3 i s k) + ∑ f : Fin 2816, acted h u w b i s f * d (ix2 f k)

/-- An entry of the result. -/
def entry (h : FVec Ideal S16x4096x1024 .f32) (u : FVec Ideal S1024x5632 .f32) (w : FVec Ideal S3x2816 .f32) (b : FVec Ideal S2816 .f32)
    (d : FVec Ideal S2816x1024 .f32) (lg lb : FVec Ideal S1024 .f32) (t : Fin 65536) (j : Fin 1024) : EReal :=
  lnorm (stream h u w b d ⟨t.val / 4096, by omega⟩ ⟨t.val % 4096, by omega⟩) (lg (ix1 j)) (lb (ix1 j)) j

/-- What the output ends with. -/
def G : FVec Ideal S65536x1024 .f32 := fun i =>
  entry (Xh m c) (Xu m c) (Xw m c) (Xb m c) (Xd m c) (Xlg m c) (Xlb m c) (i 0) (i 1)

theorem row (t : Fin cfg0.N) (r : Fin 512) (i : Fin 16) (s : Fin 4096) (hs : 4096 * i.val + s.val = 512 * t.val + r.val) (k : Fin 1024) :
    (iblk m c 0 t : FVec Ideal S512x1024 .f32) (ix2 r k) = Xh m c (ix3 i s k) := by
  refine (rd0 (Ah m c) t r k ⟨4096 * i.val + s.val, by omega⟩ hs).trans ((Ah_at m c _ k).trans ?_)
  have e1 : (⟨(4096 * i.val + s.val) / 4096, by omega⟩ : Fin 16) = i := Fin.ext (by show (4096 * i.val + s.val) / 4096 = i.val; omega)
  have e2 : (⟨(4096 * i.val + s.val) % 4096, by omega⟩ : Fin 4096) = s := Fin.ext (by show (4096 * i.val + s.val) % 4096 = s.val; omega)
  exact congrArg₂ (fun a b => Xh m c (ix3 a b k)) e1 e2

theorem wup (t : Fin cfg0.N) (k : Fin 1024) (f : Fin 5632) : (iblk m c 1 t : FVec Ideal S1024x5632 .bf16) (ix2 k f) = Xu m c (ix2 k f) :=
  (rd1 (Au m c) t k f).trans (Au_at m c k f)

theorem gt_eq (t : Fin cfg0.N) (r : Fin 512) (i : Fin 16) (s : Fin 4096) (hs : 4096 * i.val + s.val = 512 * t.val + r.val) (f : Fin 2816) :
    gt (iblk m c 0 t) (iblk m c 1 t) r f = up (Xh m c) (Xu m c) i s ⟨f.val, by omega⟩ := by
  unfold gt up
  exact Finset.sum_congr rfl fun k _ => congrArg₂ (· * ·) (row m c t r i s hs k) (wup m c t k _)

theorem vl_eq (t : Fin cfg0.N) (r : Fin 512) (i : Fin 16) (s : Fin 4096) (hs : 4096 * i.val + s.val = 512 * t.val + r.val) (f : Fin 2816) :
    vl (iblk m c 0 t) (iblk m c 1 t) r f = up (Xh m c) (Xu m c) i s ⟨2816 + f.val, by omega⟩ := by
  unfold vl up
  exact Finset.sum_congr rfl fun k _ => congrArg₂ (· * ·) (row m c t r i s hs k) (wup m c t k _)

/-- A tile's output, given that its look-back rows are the sequence's. -/
theorem tile_eq (t : Fin cfg0.N) (p : Fin 8 → Fin 2816 → EReal) (r : Fin 512) (j : Fin 1024) (i : Fin 16) (s : Fin 4096)
    (hs : 4096 * i.val + s.val = 512 * t.val + r.val)
    (h2 : ∀ f : Fin 2816, back 2 (fun q => p q f) (fun q => gt (iblk m c 0 t) (iblk m c 1 t) q f) r = past 2 (Xh m c) (Xu m c) i s f)
    (h1 : ∀ f : Fin 2816, back 1 (fun q => p q f) (fun q => gt (iblk m c 0 t) (iblk m c 1 t) q f) r = past 1 (Xh m c) (Xu m c) i s f) :
    tile m c t p r j = lnorm (stream (Xh m c) (Xu m c) (Xw m c) (Xb m c) (Xd m c) i s) (Xlg m c (ix1 j)) (Xlb m c (ix1 j)) j := by
  have e2 : ∀ (k : Fin 3) (f : Fin 2816), (iblk m c 2 t : FVec Ideal S3x2816 .f32) (ix2 k f) = Xw m c (ix2 k f) :=
    fun k f => (rd2 (Aw m c) t k f).trans (Aw_at m c k f)
  have e3 : ∀ f : Fin 2816, (iblk m c 3 t : FVec Ideal S1x2816 .f32) (ix2 0 f) = Xb m c (ix1 f) :=
    fun f => (rd3 (Ab m c) t f).trans (Ab_at m c f)
  have e4 : ∀ (f : Fin 2816) (k : Fin 1024), (iblk m c 4 t : FVec Ideal S2816x1024 .bf16) (ix2 f k) = Xd m c (ix2 f k) :=
    fun f k => (rd4 (Ad m c) t f k).trans (Ad_at m c f k)
  have e5 : (iblk m c 5 t : FVec Ideal S1x1024 .f32) (ix2 0 j) = Xlg m c (ix1 j) := (rd5 (Alg m c) t j).trans (Alg_at m c j)
  have e6 : (iblk m c 6 t : FVec Ideal S1x1024 .f32) (ix2 0 j) = Xlb m c (ix1 j) := (rd6 (Alb m c) t j).trans (Alb_at m c j)
  unfold tile
  refine congr (congr (congr (congrArg lnorm (funext fun k => ?_)) e5) e6) rfl
  unfold stream
  refine congrArg₂ (· + ·) (congrArg (_ * ·) (row m c t r i s hs k)) (Finset.sum_congr rfl fun f _ => ?_)
  unfold term acted
  refine congrArg₂ (· * ·) (congrArg₂ (· * ·) (congrArg silu ?_) (vl_eq m c t r i s hs f)) (e4 f k)
  exact congr (congr (congr (congr (congr (congr (congrArg conv (e3 f)) (e2 0 f)) (e2 1 f)) (e2 2 f)) (h2 f)) (h1 f)) (gt_eq m c t r i s hs f)

theorem back_first (t : Fin cfg0.N) (h : t.val % 8 = 0) (n : ℕ) (hn : n ≤ 2) (r : Fin 512) (i : Fin 16) (s : Fin 4096)
    (hs : 4096 * i.val + s.val = 512 * t.val + r.val) (f : Fin 2816) :
    back n (fun _ => 0) (fun q => gt (iblk m c 0 t) (iblk m c 1 t) q f) r = past n (Xh m c) (Xu m c) i s f := by
  unfold back past
  by_cases hr : r.val < n
  · rw [dif_pos hr, if_pos (by omega)]
  · rw [dif_neg hr, if_neg (by omega)]
    exact gt_eq m c t _ i _ (by show 4096 * i.val + (s.val - n) = 512 * t.val + (r.val - n); omega) f

theorem back_later (t : Fin cfg0.N) (h : ¬ t.val % 8 = 0) (u : Fin cfg0.N) (hu : u.val = t.val - 1) (n : ℕ) (hn : n ≤ 2) (hn' : 1 ≤ n) (r : Fin 512)
    (i : Fin 16) (s : Fin 4096) (hs : 4096 * i.val + s.val = 512 * t.val + r.val) (f : Fin 2816) :
    back n (fun q => gt (iblk m c 0 u) (iblk m c 1 u) ⟨504 + q.val, by omega⟩ f) (fun q => gt (iblk m c 0 t) (iblk m c 1 t) q f) r
      = past n (Xh m c) (Xu m c) i s f := by
  unfold back past
  rw [if_neg (by omega)]
  by_cases hr : r.val < n
  · rw [dif_pos hr]
    exact gt_eq m c u _ i _ (by show 4096 * i.val + (s.val - n) = 512 * u.val + (504 + (8 - n + r.val) % 8); omega) f
  · rw [dif_neg hr]
    exact gt_eq m c t _ i _ (by show 4096 * i.val + (s.val - n) = 512 * t.val + (r.val - n); omega) f

theorem block (t : Fin cfg0.N) (r : Fin 512) (j : Fin 1024) (i : Fin 65536) (hi : i.val = 512 * t.val + r.val) :
    (outsAt0 m c t.val t.isLt).1 (ix2 r j) = G m c (ix2 i j) := by
  have hs : 4096 * (i.val / 4096) + i.val % 4096 = 512 * t.val + r.val := by omega
  by_cases h : t.val % 8 = 0
  · refine (out_first m c t h r j).trans ?_
    exact tile_eq m c t _ r j ⟨i.val / 4096, by omega⟩ ⟨i.val % 4096, by omega⟩ hs
      (back_first m c t h 2 (by omega) r _ _ hs) (back_first m c t h 1 (by omega) r _ _ hs)
  · have hu : t.val - 1 < cfg0.N := lt_of_le_of_lt (Nat.sub_le _ _) t.isLt
    refine (out_later m c t h ⟨t.val - 1, hu⟩ rfl r j).trans ?_
    exact tile_eq m c t _ r j ⟨i.val / 4096, by omega⟩ ⟨i.val % 4096, by omega⟩ hs
      (back_later m c t h ⟨t.val - 1, hu⟩ rfl 2 (by omega) (by omega) r _ _ hs) (back_later m c t h ⟨t.val - 1, hu⟩ rfl 1 (by omega) (by omega) r _ _ hs)

/-- What the output array ends with. -/
theorem final : (dats m 0 c).arrAt 7 cfg0.N = G m c := by
  refine (dats m 0 c).arrAt_eq_of_covers 7 _ (by decide +kernel) fun t _ y => ?_
  blk_simp
  rw [after0_7]
  have ht := lt_N t
  obtain ⟨r, k, rfl⟩ : ∃ (r : Fin 512) (k : Fin 1024), y = (ix2 r k : S512x1024.Idx) := ⟨y 0, y 1, by blk_ext⟩
  refine (block m c t r k ⟨512 * t.val + r.val, by omega⟩ rfl).trans ?_
  exact congrArg (G m c) (emb7 t r k ⟨512 * t.val + r.val, by omega⟩ rfl).symm

end Cert.Kernel3Ideal.Ffn

end

end
-- ==== Proof.Ffn.Ref.lean ====
/- What the gated MLP's reference computes, over the extended reals, entry by entry. -/
module

public import proofs.«01_k».proof.Proof.Gen.Reference3Ideal.Run
public import proofs.«01_k».proof.Proof.Ffn.Act

@[expose] public section

set_option maxRecDepth 16384

noncomputable section

open Idealize.ShloMosaic Idealize.ShloMosaic.TcCoe Idealize.SL.Sem
open Cert.Norm Cert.Act

namespace Cert.Reference3Ideal.Ffn

open Cert.Reference3Ideal Cert.Reference3Ideal.Gen

/-- The up projection. -/
def upF (x : FVec Ideal S16x4096x1024 .f32) (w : FVec Ideal S1024x5632 .f32) : FVec Ideal S16x4096x5632 .f32 :=
  Host.dotGeneral dot_S16x4096x1024_S1024x5632_S16x4096x5632_2_0_01_1_n_n none x w

/-- Its gate half, two rows of zeros before it. -/
def pdF (u : FVec Ideal S16x4096x5632 .f32) : FVec Ideal S16x4098x2816 .f32 :=
  pad S16x4098x2816 ![0, 2, 0] ![0, 0, 0] ![0, 0, 0] (extractStridedSlice S16x4096x2816 ![0, 0, 0] u slices_S16x4096x5632_S16x4096x2816_0_0_0) (sitofp .f32 (constantI S_ 32 0#32)) pads_S16x4096x2816_S16x4098x2816_000_200_000 h_S_

/-- The convolution. -/
def cvF (d : FVec Ideal S16x4098x2816 .f32) (w : FVec Ideal S3x2816 .f32) (b : FVec Ideal S2816 .f32) : FVec Ideal S16x4096x2816 .f32 :=
  addf (addf (addf (addf (broadcastInDim S16x4096x2816 ![] bcast_S_S16x4096x2816 (constant S_ .f32 0x00000000#32)) (mulf (broadcastInDim S16x4096x2816 ![0, 1, 2] bcast_S1x1x2816_S16x4096x2816_0_1_2 (broadcastInDim S1x1x2816 ![2] bcast_S2816_S1x1x2816_2 (shapeCast _ (extractStridedSlice S1x2816 ![0, 0] w slices_S3x2816_S1x2816_0_0) shapeCasts_S1x2816_S2816))) (extractStridedSlice S16x4096x2816 ![0, 0, 0] d slices_S16x4098x2816_S16x4096x2816_0_0_0))) (mulf (broadcastInDim S16x4096x2816 ![0, 1, 2] bcast_S1x1x2816_S16x4096x2816_0_1_2 (broadcastInDim S1x1x2816 ![2] bcast_S2816_S1x1x2816_2 (shapeCast _ (extractStridedSlice S1x2816 ![1, 0] w slices_S3x2816_S1x2816_1_0) shapeCasts_S1x2816_S2816))) (extractStridedSlice S16x4096x2816 ![0, 1, 0] d slices_S16x4098x2816_S16x4096x2816_0_1_0))) (mulf (broadcastInDim S16x4096x2816 ![0, 1, 2] bcast_S1x1x2816_S16x4096x2816_0_1_2 (broadcastInDim S1x1x2816 ![2] bcast_S2816_S1x1x2816_2 (shapeCast _ (extractStridedSlice S1x2816 ![2, 0] w slices_S3x2816_S1x2816_2_0) shapeCasts_S1x2816_S2816))) (extractStridedSlice S16x4096x2816 ![0, 2, 0] d slices_S16x4098x2816_S16x4096x2816_0_2_0))) (broadcastInDim S16x4096x2816 ![0, 1, 2] bcast_S1x1x2816_S16x4096x2816_0_1_2 (broadcastInDim S1x1x2816 ![2] bcast_S2816_S1x1x2816_2 b))

/-- The activated gate half times the value half. -/
def acF (v : FVec Ideal S16x4096x2816 .f32) (u : FVec Ideal S16x4096x5632 .f32) : FVec Ideal S16x4096x2816 .f32 :=
  mulf (mulf v (Host.divf (broadcastInDim S16x4096x2816 ![] bcast_S_S16x4096x2816 (constant S_ .f32 0x3F800000#32)) (addf (broadcastInDim S16x4096x2816 ![] bcast_S_S16x4096x2816 (constant S_ .f32 0x3F800000#32)) (Host.exp (Host.negf v))))) (extractStridedSlice S16x4096x2816 ![0, 0, 2816] u slices_S16x4096x5632_S16x4096x2816_0_0_2816)

/-- The stream before its normalisation. -/
def prF (x : FVec Ideal S16x4096x1024 .f32) (y : FVec Ideal S16x4096x2816 .f32) (w : FVec Ideal S2816x1024 .f32) : FVec Ideal S16x4096x1024 .f32 :=
  addf (mulf (broadcastInDim S16x4096x1024 ![] bcast_S_S16x4096x1024 (constant S_ .f32 0x3FD744FD#32)) x) (Host.dotGeneral dot_S16x4096x2816_S2816x1024_S16x4096x1024_2_0_01_1_n_n none y w)

/-- The rows' means. -/
def mnF (p : FVec Ideal S16x4096x1024 .f32) : FVec Ideal S16x4096x1 .f32 :=
  Host.divf (broadcastInDim S16x4096x1 ![0, 1] bcast_S16x4096_S16x4096x1_0_1 (Host.reduceAdd p (constant S_ .f32 0x00000000#32) reducesTo_S16x4096x1024_S16x4096_d2 h_S_)) (broadcastInDim S16x4096x1 ![] bcast_S_S16x4096x1 (constant S_ .f32 0x44800000#32))

/-- The rows' deviations. -/
def sbF (p : FVec Ideal S16x4096x1024 .f32) (n : FVec Ideal S16x4096x1 .f32) : FVec Ideal S16x4096x1024 .f32 :=
  subf p (broadcastInDim S16x4096x1024 ![0, 1, 2] bcast_S16x4096x1_S16x4096x1024_0_1_2 n)

/-- The normalised rows. -/
def nmF (d : FVec Ideal S16x4096x1024 .f32) (v : FVec Ideal S16x4096x1 .f32) (g b : FVec Ideal S1024 .f32) : FVec Ideal S65536x1024 .f32 :=
  shapeCast _ (addf (mulf (mulf d (broadcastInDim S16x4096x1024 ![0, 1, 2] bcast_S16x4096x1_S16x4096x1024_0_1_2 (Host.rsqrt (addf v (broadcastInDim S16x4096x1 ![] bcast_S_S16x4096x1 (constant S_ .f32 0x3727C5AC#32)))))) (broadcastInDim S16x4096x1024 ![0, 1, 2] bcast_S1x1x1024_S16x4096x1024_0_1_2 (broadcastInDim S1x1x1024 ![2] bcast_S1024_S1x1x1024_2 g))) (broadcastInDim S16x4096x1024 ![0, 1, 2] bcast_S1x1x1024_S16x4096x1024_0_1_2 (broadcastInDim S1x1x1024 ![2] bcast_S1024_S1x1x1024_2 b))) shapeCasts_S16x4096x1024_S65536x1024

theorem upF_at (x : FVec Ideal S16x4096x1024 .f32) (w : FVec Ideal S1024x5632 .f32) (b : Fin 16) (s : Fin 4096) (j : Fin 5632) :
    upF x w (ix3 b s j) = ∑ k : Fin 1024, x (ix3 b s k) * w (ix2 k j) := by
  pointwise [upF]

/-- Zero before the sequence's start, else the up projection's gate half `2 - n` rows back. -/
theorem pdF_at (u : FVec Ideal S16x4096x5632 .f32) (b : Fin 16) (s : Fin 4098) (j : Fin 2816) :
    pdF u (ix3 b s j) = if h : s.val < 2 then (0 : EReal) else u (ix3 b ⟨s.val - 2, by omega⟩ ⟨j.val, by omega⟩) := by
  pointwise [pdF]
  by_cases h : s.val < 2
  · rw [dif_neg (by omega), dif_pos h]
    show (((0#32 : BitVec 32).toInt : ℝ) : EReal) = 0
    simp
  · rw [dif_pos (by omega), dif_neg h]

theorem cvF_at (d : FVec Ideal S16x4098x2816 .f32) (w : FVec Ideal S3x2816 .f32) (b : FVec Ideal S2816 .f32) (i : Fin 16) (s : Fin 4096) (j : Fin 2816) :
    cvF d w b (ix3 i s j) = conv (b (ix1 j)) (w (ix2 0 j)) (w (ix2 1 j)) (w (ix2 2 j)) (d (ix3 i ⟨s.val, by omega⟩ j)) (d (ix3 i ⟨1 + s.val, by omega⟩ j))
      (d (ix3 i ⟨2 + s.val, by omega⟩ j)) := by
  rw [← conv_eq]
  pointwise [cvF]

theorem acF_at (v : FVec Ideal S16x4096x2816 .f32) (u : FVec Ideal S16x4096x5632 .f32) (i : Fin 16) (s : Fin 4096) (j : Fin 2816) :
    acF v u (ix3 i s j) = silu (v (ix3 i s j)) * u (ix3 i s ⟨2816 + j.val, by omega⟩) := by
  rw [← silu_eq]
  pointwise [acF]
  rfl

theorem prF_at (x : FVec Ideal S16x4096x1024 .f32) (y : FVec Ideal S16x4096x2816 .f32) (w : FVec Ideal S2816x1024 .f32) (b : Fin 16) (s : Fin 4096) (j : Fin 1024) :
    prF x y w (ix3 b s j) = Ideal.ofBits .f32 0x3FD744FD#32 * x (ix3 b s j) + ∑ l : Fin 2816, y (ix3 b s l) * w (ix2 l j) := by
  pointwise [prF]

theorem mnF_at (p : FVec Ideal S16x4096x1024 .f32) (b : Fin 16) (s : Fin 4096) :
    mnF p (ix3 b s 0) = mean (fun k => p (ix3 b s k)) := by
  pointwise [mnF]
  rfl

theorem sbF_at (p : FVec Ideal S16x4096x1024 .f32) (n : FVec Ideal S16x4096x1 .f32) (b : Fin 16) (s : Fin 4096) (j : Fin 1024) :
    sbF p n (ix3 b s j) = p (ix3 b s j) - n (ix3 b s 0) := by
  pointwise [sbF]

theorem nmF_at (d : FVec Ideal S16x4096x1024 .f32) (v : FVec Ideal S16x4096x1 .f32) (g b : FVec Ideal S1024 .f32) (t : Fin 65536) (j : Fin 1024) :
    nmF d v g b (ix2 t j) = d (ix3 ⟨t.val / 4096, by omega⟩ ⟨t.val % 4096, by omega⟩ j)
      * Ideal.rsqrt (v (ix3 ⟨t.val / 4096, by omega⟩ ⟨t.val % 4096, by omega⟩ 0) + Ideal.ofBits .f32 0x3727C5AC#32) * g (ix1 j) + b (ix1 j) := by
  pointwise [nmF]

theorem row_lnorm (p : FVec Ideal S16x4096x1024 .f32) (g b : FVec Ideal S1024 .f32) (t : Fin 65536) (j : Fin 1024) :
    nmF (sbF p (mnF p)) (mnF (mulf (sbF p (mnF p)) (sbF p (mnF p)))) g b (ix2 t j)
      = lnorm (fun k => p (ix3 ⟨t.val / 4096, by omega⟩ ⟨t.val % 4096, by omega⟩ k)) (g (ix1 j)) (b (ix1 j)) j := by
  have hd : ∀ (i : Fin 16) (s : Fin 4096) (k : Fin 1024), sbF p (mnF p) (ix3 i s k) = p (ix3 i s k) - mean (fun k => p (ix3 i s k)) :=
    fun i s k => (sbF_at _ _ _ _ _).trans (by rw [mnF_at])
  rw [nmF_at, hd, mnF_at]
  unfold lnorm dev
  refine congrArg (fun z => (p (ix3 ⟨t.val / 4096, by omega⟩ ⟨t.val % 4096, by omega⟩ j) - mean fun k => p (ix3 ⟨t.val / 4096, by omega⟩ ⟨t.val % 4096, by omega⟩ k)) * Ideal.rsqrt (z + Ideal.ofBits .f32 0x3727C5AC#32) * g (ix1 j) + b (ix1 j)) ?_
  unfold mean
  refine congrArg (fun z => Ideal.div z _) (Finset.sum_congr rfl fun k _ => ?_)
  exact congrArg₂ (· * ·) (hd _ _ _) (hd _ _ _)

variable (m : (ℓ : Loc nD τ sig) → Buf (Elt Ideal) ℓ) (c : Dev nD)

/-- The reference's arguments. -/
def Rh : FVec Ideal S16x4096x1024 .f32 := m ((c.tc : Thread nD τ).loc main_arg0)
def Ru : FVec Ideal S1024x5632 .f32 := m ((c.tc : Thread nD τ).loc main_arg1)
def Rw : FVec Ideal S3x2816 .f32 := m ((c.tc : Thread nD τ).loc main_arg2)
def Rb : FVec Ideal S2816 .f32 := m ((c.tc : Thread nD τ).loc main_arg3)
def Rd : FVec Ideal S2816x1024 .f32 := m ((c.tc : Thread nD τ).loc main_arg4)
def Rlg : FVec Ideal S1024 .f32 := m ((c.tc : Thread nD τ).loc main_arg5)
def Rlb : FVec Ideal S1024 .f32 := m ((c.tc : Thread nD τ).loc main_arg6)

/-- The reference's result. -/
def Ro : FVec Ideal S65536x1024 .f32 := Value.res_main_v59 m c

/-- The up projection. -/
def Rup : FVec Ideal S16x4096x5632 .f32 := upF (Rh m c) (Ru m c)

/-- The stream before its normalisation. -/
def Rp : FVec Ideal S16x4096x1024 .f32 :=
  prF (Rh m c) (acF (cvF (pdF (Rup m c)) (Rw m c) (Rb m c)) (Rup m c)) (Rd m c)

theorem Ro_eq : Ro m c = nmF (sbF (Rp m c) (mnF (Rp m c))) (mnF (mulf (sbF (Rp m c) (mnF (Rp m c))) (sbF (Rp m c) (mnF (Rp m c))))) (Rlg m c) (Rlb m c) := rfl

end Cert.Reference3Ideal.Ffn

end

end
-- ==== Proof.Ffn.Meet.lean ====
/- The gated MLP's output and its reference's result are the same array. -/
module

public import proofs.«01_k».proof.Proof.Ffn.Out
public import proofs.«01_k».proof.Proof.Ffn.Ref

@[expose] public section

set_option maxRecDepth 16384

noncomputable section

open Idealize.ShloMosaic Idealize.ShloMosaic.TcCoe Idealize.SL.Sem
open Cert.Norm Cert.Act

namespace Cert.Meet3

open Cert.Kernel3Ideal.Ffn (Xh Xu Xw Xb Xd Xlg Xlb up past acted stream entry)
open Cert.Reference3Ideal.Ffn

variable (m : (ℓ : Loc Cert.Kernel3Ideal.nD Cert.Kernel3Ideal.τ Cert.Kernel3Ideal.sig) → Buf (Elt Ideal) ℓ)
variable (m' : (ℓ : Loc Cert.Reference3Ideal.nD Cert.Reference3Ideal.τ Cert.Reference3Ideal.sig) → Buf (Elt Ideal) ℓ)
variable (c : Dev Cert.Kernel3Ideal.nD)

/-- The padded gate half, `n` rows before a position. -/
theorem pad_at (n : ℕ) (i : Fin 16) (s : Fin 4096) (f : Fin 2816) (y : Fin 4098) (hy : y.val + n = s.val + 2) :
    pdF (Rup m' c) (ix3 i y f) = past n (Rh m' c) (Ru m' c) i s f := by
  rw [pdF_at]
  unfold past
  by_cases h : y.val < 2
  · rw [dif_pos h, if_pos (by omega)]
  · rw [dif_neg h, if_neg (by omega)]
    refine (upF_at _ _ i _ _).trans ?_
    have e : (⟨y.val - 2, by omega⟩ : Fin 4096) = ⟨s.val - n, by omega⟩ := Fin.ext (by show y.val - 2 = s.val - n; omega)
    exact congrArg (fun z : Fin 4096 => ∑ k : Fin 1024, Rh m' c (ix3 i z k) * Ru m' c (ix2 k ⟨f.val, by omega⟩)) e

theorem Rp_at (i : Fin 16) (s : Fin 4096) (k : Fin 1024) :
    Rp m' c (ix3 i s k) = stream (Rh m' c) (Ru m' c) (Rw m' c) (Rb m' c) (Rd m' c) i s k := by
  unfold Rp
  refine (prF_at _ _ _ i s k).trans ?_
  unfold stream
  refine congrArg (_ + ·) (Finset.sum_congr rfl fun f _ => congrArg (· * _) ?_)
  refine (acF_at _ _ i s f).trans ?_
  unfold acted
  refine congrArg₂ (· * ·) (congrArg silu ?_) (upF_at _ _ i s _)
  refine (cvF_at _ _ _ i s f).trans ?_
  rw [pad_at m' c 2 i s f _ (by show s.val + 2 = s.val + 2; rfl), pad_at m' c 1 i s f _ (by show 1 + s.val + 1 = s.val + 2; omega),
    pad_at m' c 0 i s f _ (by show 2 + s.val + 0 = s.val + 2; omega)]
  rfl

theorem Ro_at (t : Fin 65536) (j : Fin 1024) :
    Ro m' c (ix2 t j) = entry (Rh m' c) (Ru m' c) (Rw m' c) (Rb m' c) (Rd m' c) (Rlg m' c) (Rlb m' c) t j := by
  rw [Ro_eq, row_lnorm]
  unfold entry
  exact congrArg (fun p => lnorm p _ _ j) (funext fun k => Rp_at m' c _ _ k)

theorem meet (h0 : Rh m' c = Xh m c) (h1 : Ru m' c = Xu m c) (h2 : Rw m' c = Xw m c) (h3 : Rb m' c = Xb m c) (h4 : Rd m' c = Xd m c)
    (h5 : Rlg m' c = Xlg m c) (h6 : Rlb m' c = Xlb m c) :
    (Cert.Kernel3Ideal.Gen.dats m 0 c).arrAt 7 Cert.Kernel3Ideal.cfg0.N = Ro m' c := by
  refine (Cert.Kernel3Ideal.Ffn.final m c).trans ?_
  funext i
  obtain ⟨t, j, rfl⟩ : ∃ (t : Fin 65536) (j : Fin 1024), i = (ix2 t j : Cert.Kernel3Ideal.S65536x1024.Idx) := ⟨i 0, i 1, by blk_ext⟩
  refine Eq.trans ?_ (Ro_at m' c t j).symm
  rw [h0, h1, h2, h3, h4, h5, h6]
  rfl

end Cert.Meet3

end

end
-- ==== Proof.Proj.RunA.lean ====
/- GENERATED, UNTRUSTED: the whole-body RUN of `proofs.«01_k».proof.Kernel4Ideal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.Kernel4Ideal.Frame.Runs

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE A (`scf.if` 0 taken: points 0, 8, … 120: 16 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x1536 .bf16) (harg6 : arg6.IsWhole) (arg7 : Memref sig .tc .vmem S1024x512 .bf16) (harg7 : arg7.IsWhole) (arg8 : Memref sig .tc .vmem S1024x256 .bf16) (harg8 : arg8.IsWhole) (arg9 : Memref sig .tc .vmem S1024x512 .bf16) (harg9 : arg9.IsWhole) (arg10 : Memref sig .tc .vmem S1024x1536 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x256 .f32) (harg13 : arg13.IsWhole) (arg14 : Memref sig .tc .vmem S256x256 .bf16) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x128 .bf16) (harg19 : arg19.IsWhole) (arg20 : Memref sig .tc .vmem S128x512 .bf16) (harg20 : arg20.IsWhole) (arg21 : Memref sig .tc .vmem S512x512 .bf16) (harg21 : arg21.IsWhole) (arg22 : Memref sig .tc .vmem S512x128 .bf16) (harg22 : arg22.IsWhole) (arg23 : Memref sig .tc .vmem S512x128 .f32) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S1x128 .f32) (harg27 : arg27.IsWhole) (hc0 : cond0_0 i)
    (x0 : Vec F S512x1024 .f32) (x1 : Vec F S512x128 .f32) (x2 : Vec F S512x128 .f32) (x3 : Vec F S512x128 .f32) (x4 : Vec F S512x128 .f32) (x5 : Vec F S1024x1536 .bf16) (x6 : Vec F S1024x512 .bf16) (x7 : Vec F S1024x256 .bf16) (x8 : Vec F S1024x512 .bf16) (x9 : Vec F S1024x1536 .bf16) (x10 : Vec F S1024x128 .bf16) (x11 : Vec F S1x128 .f32) (x12 : Vec F S1x256 .f32) (x13 : Vec F S256x256 .bf16) :
    Σ' (L14 : List (View.Piece (Elt F) S512x512 .bf16)), Σ' (L15 : List (View.Piece (Elt F) S512x1024 .bf16)), Σ' (L16 : List (View.Piece (Elt F) S512x512 .bf16)), Σ' (L17 : List (View.Piece (Elt F) S512x512 .bf16)), Σ' (L18 : List (View.Piece (Elt F) S512x128 .bf16)), Σ' (L19 : List (View.Piece (Elt F) S128x512 .bf16)), Σ' (L20 : List (View.Piece (Elt F) S512x512 .bf16)), Σ' (L21 : List (View.Piece (Elt F) S512x128 .bf16)), Σ' (L22 : List (View.Piece (Elt F) S512x128 .f32)), Σ' (L23 : List (View.Piece (Elt F) S512x512 .bf16)), Σ' (L24 : List (View.Piece (Elt F) S512x512 .bf16)), Σ' (L25 : List (View.Piece (Elt F) S512x512 .bf16)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LS0)) -∗ K ⟨⟩))
          ⊢ wp frame (wpE (defs₀ (F := F)) Variants.none c none) E (cc0_projections i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, fun E K => ?run⟩
  case run =>
    simp only [cc0_projections_eq_skeleton]; unfold cc0_projections_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.Kernel4Ideal.Gen

end
-- ==== Proof.Proj.RunB.lean ====
/- GENERATED, UNTRUSTED: the whole-body RUN of `proofs.«01_k».proof.Kernel4Ideal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.Kernel4Ideal.Frame.Runs

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE B (`scf.if` 0 not taken: points 1, 2, … 127: 112 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x1536 .bf16) (harg6 : arg6.IsWhole) (arg7 : Memref sig .tc .vmem S1024x512 .bf16) (harg7 : arg7.IsWhole) (arg8 : Memref sig .tc .vmem S1024x256 .bf16) (harg8 : arg8.IsWhole) (arg9 : Memref sig .tc .vmem S1024x512 .bf16) (harg9 : arg9.IsWhole) (arg10 : Memref sig .tc .vmem S1024x1536 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x256 .f32) (harg13 : arg13.IsWhole) (arg14 : Memref sig .tc .vmem S256x256 .bf16) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x128 .bf16) (harg19 : arg19.IsWhole) (arg20 : Memref sig .tc .vmem S128x512 .bf16) (harg20 : arg20.IsWhole) (arg21 : Memref sig .tc .vmem S512x512 .bf16) (harg21 : arg21.IsWhole) (arg22 : Memref sig .tc .vmem S512x128 .bf16) (harg22 : arg22.IsWhole) (arg23 : Memref sig .tc .vmem S512x128 .f32) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S1x128 .f32) (harg27 : arg27.IsWhole) (hc0 : ¬cond0_0 i)
    (x0 : Vec F S512x1024 .f32) (x1 : Vec F S512x128 .f32) (x2 : Vec F S512x128 .f32) (x3 : Vec F S512x128 .f32) (x4 : Vec F S512x128 .f32) (x5 : Vec F S1024x1536 .bf16) (x6 : Vec F S1024x512 .bf16) (x7 : Vec F S1024x256 .bf16) (x8 : Vec F S1024x512 .bf16) (x9 : Vec F S1024x1536 .bf16) (x10 : Vec F S1024x128 .bf16) (x11 : Vec F S1x128 .f32) (x12 : Vec F S1x256 .f32) (x13 : Vec F S256x256 .bf16) (xs0 : Vec F S1x128 .f32) :
    Σ' (L14 : List (View.Piece (Elt F) S512x512 .bf16)), Σ' (L15 : List (View.Piece (Elt F) S512x1024 .bf16)), Σ' (L16 : List (View.Piece (Elt F) S512x512 .bf16)), Σ' (L17 : List (View.Piece (Elt F) S512x512 .bf16)), Σ' (L18 : List (View.Piece (Elt F) S512x128 .bf16)), Σ' (L19 : List (View.Piece (Elt F) S128x512 .bf16)), Σ' (L20 : List (View.Piece (Elt F) S512x512 .bf16)), Σ' (L21 : List (View.Piece (Elt F) S512x128 .bf16)), Σ' (L22 : List (View.Piece (Elt F) S512x128 .f32)), Σ' (L23 : List (View.Piece (Elt F) S512x512 .bf16)), Σ' (L24 : List (View.Piece (Elt F) S512x512 .bf16)), Σ' (L25 : List (View.Piece (Elt F) S512x512 .bf16)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LS0)) -∗ K ⟨⟩))
          ⊢ wp frame (wpE (defs₀ (F := F)) Variants.none c none) E (cc0_projections i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, fun E K => ?run⟩
  case run =>
    simp only [cc0_projections_eq_skeleton]; unfold cc0_projections_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg27.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.Kernel4Ideal.Gen

end
-- ==== Proof.Proj.Cov.lean ====
/- What each case of the projections' body leaves in its output blocks and in the running sum. -/
module

public import proofs.«01_k».proof.Proof.Proj.RunA
public import proofs.«01_k».proof.Proof.Proj.RunB
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x1536 .bf16) (harg6 : arg6.IsWhole) (arg7 : Memref sig .tc .vmem S1024x512 .bf16) (harg7 : arg7.IsWhole) (arg8 : Memref sig .tc .vmem S1024x256 .bf16) (harg8 : arg8.IsWhole) (arg9 : Memref sig .tc .vmem S1024x512 .bf16) (harg9 : arg9.IsWhole) (arg10 : Memref sig .tc .vmem S1024x1536 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x256 .f32) (harg13 : arg13.IsWhole) (arg14 : Memref sig .tc .vmem S256x256 .bf16) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x128 .bf16) (harg19 : arg19.IsWhole) (arg20 : Memref sig .tc .vmem S128x512 .bf16) (harg20 : arg20.IsWhole) (arg21 : Memref sig .tc .vmem S512x512 .bf16) (harg21 : arg21.IsWhole) (arg22 : Memref sig .tc .vmem S512x128 .bf16) (harg22 : arg22.IsWhole) (arg23 : Memref sig .tc .vmem S512x128 .f32) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S1x128 .f32) (harg27 : arg27.IsWhole) (hc0 : cond0_0 i)
    (x0 : Vec F S512x1024 .f32) (x1 : Vec F S512x128 .f32) (x2 : Vec F S512x128 .f32) (x3 : Vec F S512x128 .f32) (x4 : Vec F S512x128 .f32) (x5 : Vec F S1024x1536 .bf16) (x6 : Vec F S1024x512 .bf16) (x7 : Vec F S1024x256 .bf16) (x8 : Vec F S1024x512 .bf16) (x9 : Vec F S1024x1536 .bf16) (x10 : Vec F S1024x128 .bf16) (x11 : Vec F S1x128 .f32) (x12 : Vec F S1x256 .f32) (x13 : Vec F S256x256 .bf16)

theorem cover0_A_14 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).1 S512x512.size (by sl_kernel_rfl) y

def out0_A_14 : Vec F S512x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).1)

theorem cover0_A_15 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.1 S512x128.size (by sl_kernel_rfl) y

def out0_A_15 : Vec F S512x1024 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.1)

theorem cover0_A_16 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.1 S512x512.size (by sl_kernel_rfl) y

def out0_A_16 : Vec F S512x512 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.1)

theorem cover0_A_17 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.1 S512x128.size (by sl_kernel_rfl) y

def out0_A_17 : Vec F S512x512 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.1)

theorem cover0_A_18 (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.1 S512x128.size (by sl_kernel_rfl) y

def out0_A_18 : Vec F S512x128 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.1)

theorem cover0_A_19 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.1 S128x512.size (by sl_kernel_rfl) y

def out0_A_19 : Vec F S128x512 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.1)

theorem cover0_A_20 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.1 S512x128.size (by sl_kernel_rfl) y

def out0_A_20 : Vec F S512x512 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.1)

theorem cover0_A_21 (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.1 S512x128.size (by sl_kernel_rfl) y

def out0_A_21 : Vec F S512x128 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.1)

theorem cover0_A_22 (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.1 S512x128.size (by sl_kernel_rfl) y

def out0_A_22 : Vec F S512x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.1)

theorem cover0_A_23 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.1 S512x128.size (by sl_kernel_rfl) y

def out0_A_23 : Vec F S512x512 .bf16 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.1)

theorem cover0_A_24 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.1 S512x128.size (by sl_kernel_rfl) y

def out0_A_24 : Vec F S512x512 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.1)

theorem cover0_A_25 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.2.1 S512x512.size (by sl_kernel_rfl) y

def out0_A_25 : Vec F S512x512 .bf16 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.2.1)

theorem scover0_A_0 (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.2.2.1 S1x128.size (by sl_kernel_rfl) y

def sout0_A_0 : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13).2.2.2.2.2.2.2.2.2.2.2.2.1)

end

section

variable (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x1536 .bf16) (harg6 : arg6.IsWhole) (arg7 : Memref sig .tc .vmem S1024x512 .bf16) (harg7 : arg7.IsWhole) (arg8 : Memref sig .tc .vmem S1024x256 .bf16) (harg8 : arg8.IsWhole) (arg9 : Memref sig .tc .vmem S1024x512 .bf16) (harg9 : arg9.IsWhole) (arg10 : Memref sig .tc .vmem S1024x1536 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x256 .f32) (harg13 : arg13.IsWhole) (arg14 : Memref sig .tc .vmem S256x256 .bf16) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x128 .bf16) (harg19 : arg19.IsWhole) (arg20 : Memref sig .tc .vmem S128x512 .bf16) (harg20 : arg20.IsWhole) (arg21 : Memref sig .tc .vmem S512x512 .bf16) (harg21 : arg21.IsWhole) (arg22 : Memref sig .tc .vmem S512x128 .bf16) (harg22 : arg22.IsWhole) (arg23 : Memref sig .tc .vmem S512x128 .f32) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S1x128 .f32) (harg27 : arg27.IsWhole) (hc0 : ¬cond0_0 i)
    (x0 : Vec F S512x1024 .f32) (x1 : Vec F S512x128 .f32) (x2 : Vec F S512x128 .f32) (x3 : Vec F S512x128 .f32) (x4 : Vec F S512x128 .f32) (x5 : Vec F S1024x1536 .bf16) (x6 : Vec F S1024x512 .bf16) (x7 : Vec F S1024x256 .bf16) (x8 : Vec F S1024x512 .bf16) (x9 : Vec F S1024x1536 .bf16) (x10 : Vec F S1024x128 .bf16) (x11 : Vec F S1x128 .f32) (x12 : Vec F S1x256 .f32) (x13 : Vec F S256x256 .bf16) (xs0 : Vec F S1x128 .f32)

theorem cover0_B_14 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).1 S512x512.size (by sl_kernel_rfl) y

def out0_B_14 : Vec F S512x512 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).1)

theorem cover0_B_15 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.1 S512x128.size (by sl_kernel_rfl) y

def out0_B_15 : Vec F S512x1024 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.1)

theorem cover0_B_16 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.1 S512x512.size (by sl_kernel_rfl) y

def out0_B_16 : Vec F S512x512 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.1)

theorem cover0_B_17 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.1 S512x128.size (by sl_kernel_rfl) y

def out0_B_17 : Vec F S512x512 .bf16 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.1)

theorem cover0_B_18 (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.1 S512x128.size (by sl_kernel_rfl) y

def out0_B_18 : Vec F S512x128 .bf16 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.1)

theorem cover0_B_19 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.1 S128x512.size (by sl_kernel_rfl) y

def out0_B_19 : Vec F S128x512 .bf16 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.1)

theorem cover0_B_20 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.1 S512x128.size (by sl_kernel_rfl) y

def out0_B_20 : Vec F S512x512 .bf16 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.1)

theorem cover0_B_21 (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.1 S512x128.size (by sl_kernel_rfl) y

def out0_B_21 : Vec F S512x128 .bf16 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.1)

theorem cover0_B_22 (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.1 S512x128.size (by sl_kernel_rfl) y

def out0_B_22 : Vec F S512x128 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.1)

theorem cover0_B_23 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.1 S512x128.size (by sl_kernel_rfl) y

def out0_B_23 : Vec F S512x512 .bf16 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.1)

theorem cover0_B_24 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.1 S512x128.size (by sl_kernel_rfl) y

def out0_B_24 : Vec F S512x512 .bf16 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.1)

theorem cover0_B_25 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.2.1 S512x512.size (by sl_kernel_rfl) y

def out0_B_25 : Vec F S512x512 .bf16 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.2.1)

theorem scover0_B_0 (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.2.2.1 S1x128.size (by sl_kernel_rfl) y

def sout0_B_0 : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 xs0).2.2.2.2.2.2.2.2.2.2.2.2.1)

end

end Cert.Kernel4Ideal.Gen

end

end
-- ==== Proof.Proj.Dats.lean ====
/- The projections' call: what its buffers hold point by point. -/
module

public import proofs.«01_k».proof.Proof.Proj.Cov
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
def outsAt0 (c : Dev nD) : (n : ℕ) → n < cfg0.N → Vec F S512x512 .bf16 × Vec F S512x1024 .bf16 × Vec F S512x512 .bf16 × Vec F S512x512 .bf16 × Vec F S512x128 .bf16 × Vec F S128x512 .bf16 × Vec F S512x512 .bf16 × Vec F S512x128 .bf16 × Vec F S512x128 .f32 × Vec F S512x512 .bf16 × Vec F S512x512 .bf16 × Vec F S512x512 .bf16 × Vec F S1x128 .f32
  | 0, hn => (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h0 : (n + 1) % 8 = 0 then
      (out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩))
    else
      (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.2.2.2.2.2.2.2)

theorem outsAt0_A (c : Dev nD) (t : Fin cfg0.N) (h0 : t.val % 8 = 0) :
    outsAt0 m c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2.1
    | ⟨19, _⟩ => (outsAt0 m c t.val t.isLt).2.2.2.2.2.1
    | ⟨20, _⟩ => (outsAt0 m c t.val t.isLt).2.2.2.2.2.2.1
    | ⟨21, _⟩ => (outsAt0 m c t.val t.isLt).2.2.2.2.2.2.2.1
    | ⟨22, _⟩ => (outsAt0 m c t.val t.isLt).2.2.2.2.2.2.2.2.1
    | ⟨23, _⟩ => (outsAt0 m c t.val t.isLt).2.2.2.2.2.2.2.2.2.1
    | ⟨24, _⟩ => (outsAt0 m c t.val t.isLt).2.2.2.2.2.2.2.2.2.2.1
    | ⟨25, _⟩ => (outsAt0 m c t.val t.isLt).2.2.2.2.2.2.2.2.2.2.2.1
    | ⟨_ + 26, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2.1 := by dsimp only [dats]
theorem after0_19 (c : Dev nD) (t : Fin cfg0.N) : (dats m 0 c).after 19 t = (outsAt0 m c t.val t.isLt).2.2.2.2.2.1 := by dsimp only [dats]
theorem after0_20 (c : Dev nD) (t : Fin cfg0.N) : (dats m 0 c).after 20 t = (outsAt0 m c t.val t.isLt).2.2.2.2.2.2.1 := by dsimp only [dats]
theorem after0_21 (c : Dev nD) (t : Fin cfg0.N) : (dats m 0 c).after 21 t = (outsAt0 m c t.val t.isLt).2.2.2.2.2.2.2.1 := by dsimp only [dats]
theorem after0_22 (c : Dev nD) (t : Fin cfg0.N) : (dats m 0 c).after 22 t = (outsAt0 m c t.val t.isLt).2.2.2.2.2.2.2.2.1 := by dsimp only [dats]
theorem after0_23 (c : Dev nD) (t : Fin cfg0.N) : (dats m 0 c).after 23 t = (outsAt0 m c t.val t.isLt).2.2.2.2.2.2.2.2.2.1 := by dsimp only [dats]
theorem after0_24 (c : Dev nD) (t : Fin cfg0.N) : (dats m 0 c).after 24 t = (outsAt0 m c t.val t.isLt).2.2.2.2.2.2.2.2.2.2.1 := by dsimp only [dats]
theorem after0_25 (c : Dev nD) (t : Fin cfg0.N) : (dats m 0 c).after 25 t = (outsAt0 m c t.val t.isLt).2.2.2.2.2.2.2.2.2.2.2.1 := by dsimp only [dats]

end Cert.Kernel4Ideal.Gen

end
-- ==== Proof.Proj.Sound.lean ====
/- The projections' call: the body's obligation at every point. -/
module

public import proofs.«01_k».proof.Proof.Proj.Dats
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases hz : t.val = 0
    · rw [PhiS_castSucc m c t, PhiS_zero m c _ _ hz, PhiA0_eq]
      rw [outsAt0_A m c t h0]
      unfold out0_A_14 out0_A_15 out0_A_16 out0_A_17 out0_A_18 out0_A_19 out0_A_20 out0_A_21 out0_A_22 out0_A_23 out0_A_24 out0_A_25 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H25
      ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_14 out0_A_15 out0_A_16 out0_A_17 out0_A_18 out0_A_19 out0_A_20 out0_A_21 out0_A_22 out0_A_23 out0_A_24 out0_A_25 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexists _; iexact HS0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H25
      ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_14 out0_B_15 out0_B_16 out0_B_17 out0_B_18 out0_B_19 out0_B_20 out0_B_21 out0_B_22 out0_B_23 out0_B_24 out0_B_25 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H25
      ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Kernel4Ideal.Gen

end
-- ==== Proof.Proj.Frame.lean ====
/- The run of the projections' call. -/
module

public import proofs.«01_k».proof.Proof.Proj.Sound
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

set_option maxHeartbeats 4000000 in
theorem run_blocks : θ_run defs (onTc (τ := τ) (main (F := F))) ⟨m, fun _ => 0, ρ⟩ fun r => ∀ c : Dev nD,
      r.2.mem ((c : Thread nD τ).loc main_v47_0) = (dats m 0 c).arrAt 14 cfg0.N
      ∧ r.2.mem ((c : Thread nD τ).loc main_v47_1) = (dats m 0 c).arrAt 15 cfg0.N
      ∧ r.2.mem ((c : Thread nD τ).loc main_v47_2) = (dats m 0 c).arrAt 16 cfg0.N
      ∧ r.2.mem ((c : Thread nD τ).loc main_v47_3) = (dats m 0 c).arrAt 17 cfg0.N
      ∧ r.2.mem ((c : Thread nD τ).loc main_v47_4) = (dats m 0 c).arrAt 18 cfg0.N
      ∧ r.2.mem ((c : Thread nD τ).loc main_v47_5) = (dats m 0 c).arrAt 19 cfg0.N
      ∧ r.2.mem ((c : Thread nD τ).loc main_v47_6) = (dats m 0 c).arrAt 20 cfg0.N
      ∧ r.2.mem ((c : Thread nD τ).loc main_v47_7) = (dats m 0 c).arrAt 21 cfg0.N
      ∧ r.2.mem ((c : Thread nD τ).loc main_v47_8) = (dats m 0 c).arrAt 22 cfg0.N
      ∧ r.2.mem ((c : Thread nD τ).loc main_v47_9) = (dats m 0 c).arrAt 23 cfg0.N
      ∧ r.2.mem ((c : Thread nD τ).loc main_v47_10) = (dats m 0 c).arrAt 24 cfg0.N
      ∧ r.2.mem ((c : Thread nD τ).loc main_v47_11) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 14, (h c).1 15, (h c).1 16, (h c).1 17, (h c).1 18, (h c).1 19, (h c).1 20, (h c).1 21, (h c).1 22, (h c).1 23, (h c).1 24, (h c).1 25,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩) (run_main m ρ)

end Cert.Kernel4Ideal.Gen

end
-- ==== Proof.Proj.Pay.lean ====
/- The projections' payloads, entry by entry, over the extended reals. -/
module

public import proofs.«01_k».proof.Proof.Gen.Kernel4Ideal.Skeleton
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen

/-- One lane of a rotated chunk: the lane times its cosine, plus its partner times its sine. The partner is brought by a rotation by `p`
    on a pair's first lane, by `q` on its second. -/
def turn (p q : ℕ) (b : BitVec 1) (c s : EReal) (y : Fin 128 → EReal) (l : Fin 128) : EReal :=
  y l * c + Scalar.select b (y ⟨(l.val + 128 - p) % 128, Nat.mod_lt _ (by omega)⟩) (y ⟨(l.val + 128 - q) % 128, Nat.mod_lt _ (by omega)⟩) * s

/-- The lanes that come first in their pair, for the rotation over 32 lanes of 128 and for the one over 16 lanes of 64. -/
abbrev fst16 (l : Fin 128) : BitVec 1 := (k0_pay4 : IVec S1x128 1) (ix2 0 l)
abbrev fst8 (l : Fin 128) : BitVec 1 := (k0_pay5 : IVec S1x128 1) (ix2 0 l)

theorem pay4_at (l : Fin 128) : fst16 l = if l.val < 16 then 1#1 else 0#1 := by
  revert l
  unfold fst16 k0_pay4
  decide +kernel

theorem pay5_at (l : Fin 128) : fst8 l = if l.val % 64 < 8 then 1#1 else 0#1 := by
  revert l
  unfold fst8 k0_pay5
  decide +kernel

variable (x : FVec Ideal S512x1024 .f32) (c s : FVec Ideal S512x128 .f32)

/-- A row of the tile times a column of a weight. -/
abbrev pj {n : ℕ} (w : FVec Ideal ⟨2, ![1024, n]⟩ .bf16) (r : Fin 512) (j : Fin n) : EReal := ∑ k : Fin 1024, x (ix2 r k) * w (ix2 k j)

/-- The normalised latent at one entry. -/
def lat (w : FVec Ideal S1024x256 .bf16) (g : FVec Ideal S1x256 .f32) (r : Fin 512) (k : Fin 256) : EReal :=
  pj x w r k * Ideal.rsqrt (Ideal.div (∑ q : Fin 256, pj x w r q * pj x w r q) (Ideal.ofBits .f32 0x43800000#32) + Ideal.ofBits .f32 0x358637BD#32) * g (ix2 0 k)

/-- The latent times a column of its second weight. -/
def kv (w : FVec Ideal S1024x256 .bf16) (g : FVec Ideal S1x256 .f32) (u : FVec Ideal S256x256 .bf16) (r : Fin 512) (j : Fin 256) : EReal :=
  ∑ k : Fin 256, lat x w g r k * u (ix2 k j)

theorem qa_at (w : FVec Ideal S1024x1536 .bf16) (r j : Fin 512) :
    (k0_pay13 (k0_pay11 x w) k0_pay12 : FVec Ideal S512x512 .bf16) (ix2 r j) = pj x w r ⟨j.val, by omega⟩ * Ideal.ofBits .f32 0x3E0293EE#32 := by
  pointwise [k0_pay13, k0_pay11, k0_pay12, k0_pay10, k0_pay3]

theorem va_at (w : FVec Ideal S1024x1536 .bf16) (r j : Fin 512) :
    (k0_pay18 (k0_pay10 x w) : FVec Ideal S512x512 .bf16) (ix2 j r) = pj x w r ⟨1024 + j.val, by omega⟩ := by
  pointwise [k0_pay18, k0_pay10, k0_pay3]

theorem vc_at (w : FVec Ideal S1024x1536 .bf16) (r j : Fin 512) :
    (k0_pay2 (k0_pay58 (k0_pay3 x) w) : FVec Ideal S512x512 .bf16) (ix2 j r) = pj x w r ⟨1024 + j.val, by omega⟩ := by
  pointwise [k0_pay2, k0_pay58, k0_pay3]

theorem kb_at (w : FVec Ideal S1024x256 .bf16) (g : FVec Ideal S1x256 .f32) (u : FVec Ideal S256x256 .bf16) (r : Fin 512) (l : Fin 128) :
    (k0_pay25 (k0_pay3 x) k0_pay4 (k0_pay6 c) (k0_pay7 s) w g u : FVec Ideal S512x128 .bf16) (ix2 r l)
      = turn 112 16 (fst16 l) (c (ix2 r l)) (s (ix2 r l)) (fun k => kv x w g u r ⟨k.val, by omega⟩) l := by
  pointwise [k0_pay25, k0_pay24, k0_pay6, k0_pay7, k0_pay3]
  rfl

theorem vb_at (w : FVec Ideal S1024x256 .bf16) (g : FVec Ideal S1x256 .f32) (u : FVec Ideal S256x256 .bf16) (r : Fin 512) (l : Fin 128) :
    (k0_pay26 (k0_pay3 x) w g u : FVec Ideal S128x512 .bf16) (ix2 l r) = kv x w g u r ⟨128 + l.val, by omega⟩ := by
  pointwise [k0_pay26, k0_pay24, k0_pay3]
  rfl

theorem ki_at (w : FVec Ideal S1024x128 .bf16) (r : Fin 512) (l : Fin 128) :
    (k0_pay36 (k0_pay3 x) (iota .tc S1x128 32 [1] iota_S1x128_d1_w32) k0_pay5 (k0_pay8 c) (k0_pay9 s) w : FVec Ideal S512x128 .bf16) (ix2 r l)
      = if l.val < 64 then turn 120 8 (fst8 ⟨(l.val + 128 - 64) % 128, Nat.mod_lt _ (by omega)⟩) (c (ix2 r ⟨(l.val + 128 - 64) % 128, Nat.mod_lt _ (by omega)⟩))
          (s (ix2 r ⟨(l.val + 128 - 64) % 128, Nat.mod_lt _ (by omega)⟩)) (fun k => pj x w r k) ⟨(l.val + 128 - 64) % 128, Nat.mod_lt _ (by omega)⟩
        else turn 120 8 (fst8 l) (c (ix2 r l)) (s (ix2 r l)) (fun k => pj x w r k) l := by
  have e : ∀ l : Fin 128, IntOp.cmpi .slt ((iota .tc S1x128 32 [1] iota_S1x128_d1_w32 : IVec S1x128 32) (ix2 0 l)) 64#32 = if l.val < 64 then 1#1 else 0#1 := by
    decide +kernel
  generalize hi : (iota .tc S1x128 32 [1] iota_S1x128_d1_w32 : IVec S1x128 32) = io at e ⊢
  pointwise [k0_pay36, k0_pay34, k0_pay8, k0_pay9, k0_pay3]
  rw [e l]
  by_cases h : l.val < 64
  · rw [if_pos h, if_pos h]
    rfl
  · rw [if_neg h, if_neg h]
    rfl

theorem qb0_at (w : FVec Ideal S1024x512 .bf16) (r : Fin 512) (l : Fin 128) :
    (k0_pay20 (k0_pay3 x) k0_pay4 (k0_pay6 c) (k0_pay7 s) w : FVec Ideal S512x128 .bf16) (ix2 r l)
      = turn 112 16 (fst16 l) (c (ix2 r l)) (s (ix2 r l)) (fun k => pj x w r ⟨k.val, by omega⟩) l * Ideal.ofBits .f32 0x3E0293EE#32 := by
  pointwise [k0_pay20, k0_pay19, k0_pay6, k0_pay7, k0_pay3]
  rfl

theorem qb1_at (w : FVec Ideal S1024x512 .bf16) (r : Fin 512) (l : Fin 128) :
    (k0_pay21 k0_pay4 (k0_pay6 c) (k0_pay7 s) (k0_pay19 (k0_pay3 x) w) : FVec Ideal S512x128 .bf16) (ix2 r l)
      = turn 112 16 (fst16 l) (c (ix2 r l)) (s (ix2 r l)) (fun k => pj x w r ⟨128 + k.val, by omega⟩) l * Ideal.ofBits .f32 0x3E0293EE#32 := by
  pointwise [k0_pay21, k0_pay19, k0_pay6, k0_pay7, k0_pay3]
  rfl

theorem qb2_at (w : FVec Ideal S1024x512 .bf16) (r : Fin 512) (l : Fin 128) :
    (k0_pay22 k0_pay4 (k0_pay6 c) (k0_pay7 s) (k0_pay19 (k0_pay3 x) w) : FVec Ideal S512x128 .bf16) (ix2 r l)
      = turn 112 16 (fst16 l) (c (ix2 r l)) (s (ix2 r l)) (fun k => pj x w r ⟨256 + k.val, by omega⟩) l * Ideal.ofBits .f32 0x3E0293EE#32 := by
  pointwise [k0_pay22, k0_pay19, k0_pay6, k0_pay7, k0_pay3]
  rfl

theorem qb3_at (w : FVec Ideal S1024x512 .bf16) (r : Fin 512) (l : Fin 128) :
    (k0_pay23 k0_pay4 (k0_pay6 c) (k0_pay7 s) (k0_pay19 (k0_pay3 x) w) : FVec Ideal S512x128 .bf16) (ix2 r l)
      = turn 112 16 (fst16 l) (c (ix2 r l)) (s (ix2 r l)) (fun k => pj x w r ⟨384 + k.val, by omega⟩) l * Ideal.ofBits .f32 0x3E0293EE#32 := by
  pointwise [k0_pay23, k0_pay19, k0_pay6, k0_pay7, k0_pay3]
  rfl

theorem qi0_at (w : FVec Ideal S1024x512 .bf16) (r : Fin 512) (l : Fin 128) :
    (k0_pay28 k0_pay5 (k0_pay8 c) (k0_pay9 s) (k0_pay27 (k0_pay3 x) w) : FVec Ideal S512x128 .bf16) (ix2 r l)
      = turn 120 8 (fst8 l) (c (ix2 r l)) (s (ix2 r l)) (fun k => pj x w r ⟨k.val, by omega⟩) l * Ideal.ofBits .f32 0x3E000000#32 := by
  pointwise [k0_pay28, k0_pay27, k0_pay8, k0_pay9, k0_pay3]
  rfl

theorem qi1_at (w : FVec Ideal S1024x512 .bf16) (r : Fin 512) (l : Fin 128) :
    (k0_pay29 k0_pay5 (k0_pay8 c) (k0_pay9 s) (k0_pay27 (k0_pay3 x) w) : FVec Ideal S512x128 .bf16) (ix2 r l)
      = turn 120 8 (fst8 l) (c (ix2 r l)) (s (ix2 r l)) (fun k => pj x w r ⟨128 + k.val, by omega⟩) l * Ideal.ofBits .f32 0x3E000000#32 := by
  pointwise [k0_pay29, k0_pay27, k0_pay8, k0_pay9, k0_pay3]
  rfl

theorem qi2_at (w : FVec Ideal S1024x512 .bf16) (r : Fin 512) (l : Fin 128) :
    (k0_pay30 k0_pay5 (k0_pay8 c) (k0_pay9 s) (k0_pay27 (k0_pay3 x) w) : FVec Ideal S512x128 .bf16) (ix2 r l)
      = turn 120 8 (fst8 l) (c (ix2 r l)) (s (ix2 r l)) (fun k => pj x w r ⟨256 + k.val, by omega⟩) l * Ideal.ofBits .f32 0x3E000000#32 := by
  pointwise [k0_pay30, k0_pay27, k0_pay8, k0_pay9, k0_pay3]
  rfl

theorem qi3_at (w : FVec Ideal S1024x512 .bf16) (r : Fin 512) (l : Fin 128) :
    (k0_pay33 k0_pay5 (k0_pay8 c) (k0_pay9 s) (k0_pay31 (k0_pay27 (k0_pay3 x) w)) (k0_pay32 (k0_pay27 (k0_pay3 x) w)) : FVec Ideal S512x128 .bf16) (ix2 r l)
      = turn 120 8 (fst8 l) (c (ix2 r l)) (s (ix2 r l)) (fun k => pj x w r ⟨384 + k.val, by omega⟩) l * Ideal.ofBits .f32 0x3E000000#32 := by
  pointwise [k0_pay33, k0_pay31, k0_pay32, k0_pay27, k0_pay8, k0_pay9, k0_pay3]
  rfl

theorem qc0_at (w : FVec Ideal S1024x1536 .bf16) (r : Fin 512) (l : Fin 128) :
    (k0_pay60 (k0_pay59 (k0_pay3 x) k0_pay5 (k0_pay8 c) (k0_pay9 s) w) : FVec Ideal S512x128 .bf16) (ix2 r l)
      = turn 120 8 (fst8 l) (c (ix2 r l)) (s (ix2 r l)) (fun k => pj x w r ⟨k.val, by omega⟩) l * Ideal.ofBits .f32 0x3E38AA3B#32 := by
  pointwise [k0_pay60, k0_pay59, k0_pay58, k0_pay8, k0_pay9, k0_pay3]
  rfl

theorem qc1_at (w : FVec Ideal S1024x1536 .bf16) (r : Fin 512) (l : Fin 128) :
    (k0_pay62 k0_pay5 (k0_pay8 c) (k0_pay9 s) (k0_pay58 (k0_pay3 x) w) : FVec Ideal S512x128 .bf16) (ix2 r l)
      = turn 120 8 (fst8 l) (c (ix2 r l)) (s (ix2 r l)) (fun k => pj x w r ⟨128 + k.val, by omega⟩) l * Ideal.ofBits .f32 0x3E38AA3B#32 := by
  pointwise [k0_pay62, k0_pay58, k0_pay8, k0_pay9, k0_pay3]
  rfl

theorem qc2_at (w : FVec Ideal S1024x1536 .bf16) (r : Fin 512) (l : Fin 128) :
    (k0_pay66 k0_pay5 (k0_pay8 c) (k0_pay9 s) (k0_pay64 (k0_pay58 (k0_pay3 x) w)) (k0_pay65 (k0_pay58 (k0_pay3 x) w)) 8#32 : FVec Ideal S512x128 .bf16) (ix2 r l)
      = turn 120 8 (fst8 l) (c (ix2 r l)) (s (ix2 r l)) (fun k => pj x w r ⟨256 + k.val, by omega⟩) l * Ideal.ofBits .f32 0x3E38AA3B#32 := by
  pointwise [k0_pay66, k0_pay64, k0_pay65, k0_pay58, k0_pay8, k0_pay9, k0_pay3]
  rfl

theorem qc3_at (w : FVec Ideal S1024x1536 .bf16) (r : Fin 512) (l : Fin 128) :
    (k0_pay68 k0_pay5 (k0_pay8 c) (k0_pay9 s) (k0_pay58 (k0_pay3 x) w) : FVec Ideal S512x128 .bf16) (ix2 r l)
      = turn 120 8 (fst8 l) (c (ix2 r l)) (s (ix2 r l)) (fun k => pj x w r ⟨384 + k.val, by omega⟩) l * Ideal.ofBits .f32 0x3E38AA3B#32 := by
  pointwise [k0_pay68, k0_pay58, k0_pay8, k0_pay9, k0_pay3]
  rfl

theorem kc0_at (w : FVec Ideal S1024x1536 .bf16) (r : Fin 512) (l : Fin 128) :
    (k0_pay61 k0_pay5 (k0_pay8 c) (k0_pay9 s) (k0_pay58 (k0_pay3 x) w) : FVec Ideal S512x128 .bf16) (ix2 r l)
      = turn 120 8 (fst8 l) (c (ix2 r l)) (s (ix2 r l)) (fun k => pj x w r ⟨512 + k.val, by omega⟩) l := by
  pointwise [k0_pay61, k0_pay58, k0_pay8, k0_pay9, k0_pay3]
  rfl

theorem kc1_at (w : FVec Ideal S1024x1536 .bf16) (r : Fin 512) (l : Fin 128) :
    (k0_pay63 k0_pay5 (k0_pay8 c) (k0_pay9 s) (k0_pay58 (k0_pay3 x) w) : FVec Ideal S512x128 .bf16) (ix2 r l)
      = turn 120 8 (fst8 l) (c (ix2 r l)) (s (ix2 r l)) (fun k => pj x w r ⟨640 + k.val, by omega⟩) l := by
  pointwise [k0_pay63, k0_pay58, k0_pay8, k0_pay9, k0_pay3]
  rfl

theorem kc2_at (w : FVec Ideal S1024x1536 .bf16) (r : Fin 512) (l : Fin 128) :
    (k0_pay67 k0_pay5 (k0_pay8 c) (k0_pay9 s) (k0_pay58 (k0_pay3 x) w) : FVec Ideal S512x128 .bf16) (ix2 r l)
      = turn 120 8 (fst8 l) (c (ix2 r l)) (s (ix2 r l)) (fun k => pj x w r ⟨768 + k.val, by omega⟩) l := by
  pointwise [k0_pay67, k0_pay58, k0_pay8, k0_pay9, k0_pay3]
  rfl

theorem kc3_at (w : FVec Ideal S1024x1536 .bf16) (r : Fin 512) (l : Fin 128) :
    (k0_pay1 (k0_pay70 (k0_pay8 c) (k0_pay58 (k0_pay3 x) w)) (k0_pay71 k0_pay5 (k0_pay9 s) (k0_pay58 (k0_pay3 x) w)) : FVec Ideal S512x128 .bf16) (ix2 r l)
      = turn 120 8 (fst8 l) (c (ix2 r l)) (s (ix2 r l)) (fun k => pj x w r ⟨896 + k.val, by omega⟩) l := by
  pointwise [k0_pay1, k0_pay69, k0_pay70, k0_pay71, k0_pay58, k0_pay8, k0_pay9, k0_pay3]
  rfl

end Cert.Kernel4Ideal.Proj

end

end
-- ==== Proof.Proj.Tile.lean ====
/- What a tile of the projections leaves in its outputs. -/
module

public import proofs.«01_k».proof.Proof.Proj.Dats
public import proofs.«01_k».proof.Proof.Proj.Pay
public import Idealize.ShloMosaic.Lib.Pipeline.ValueKit
public import Idealize.ShloMosaic.Lib.IdealHost
public import Idealize.ShloMosaic.Lib.Claim

@[expose] public section

set_option maxRecDepth 16384
set_option maxHeartbeats 4000000

noncomputable section

open Idealize.ShloMosaic Idealize.ShloMosaic.TcCoe Idealize.SL.Sem

namespace Cert.Kernel4Ideal.Proj

open Cert.Kernel4Ideal Cert.Kernel4Ideal.Gen

section Chunks

variable (Q0 Q1 Q2 Q3 : FVec Ideal S512x128 .bf16)

/-- Four stored chunks of columns, read back. -/
abbrev four : FVec Ideal S512x512 .bf16 :=
  View.canon [(⟨Rect.unit ![0, 384] ![512, 128] inb_S512x512_S512x128_0_384, Q3⟩ : View.Piece (Elt Ideal) S512x512 .bf16),
    ⟨Rect.unit ![0, 256] ![512, 128] inb_S512x512_S512x128_0_256, Q2⟩, ⟨Rect.unit ![0, 128] ![512, 128] inb_S512x512_S512x128_0_128, Q1⟩,
    ⟨Rect.unit ![0, 0] ![512, 128] inb_S512x512_S512x128_0_0, Q0⟩]

theorem hit0 (Q : FVec Ideal S512x128 .bf16) (L : List (View.Piece (Elt Ideal) S512x512 .bf16)) (r j : Fin 512) (l : Fin 128) (hj : j.val = 0 + l.val) :
    View.canon ((⟨Rect.unit ![0, 0] ![512, 128] inb_S512x512_S512x128_0_0, Q⟩ : View.Piece (Elt Ideal) S512x512 .bf16) :: L) (ix2 r j : S512x512.Idx) = Q (ix2 r l) := by
  have hy : (Rect.unit (s := S512x512) ![0, 0] ![512, 128] inb_S512x512_S512x128_0_0).emb (ix2 r l) = (ix2 r j : S512x512.Idx) :=
    funext fun a => Fin.ext ((Rect.idx_unit_val (s := S512x512) ![0, 0] ![512, 128] inb_S512x512_S512x128_0_0 (ix2 r l) a).trans
      ((Fin.forall_fin_two (p := fun a : Fin 2 => (![0, 0] : Fin 2 → ℕ) a + ((ix2 r l : S512x128.Idx) a).val = ((ix2 r j : S512x512.Idx) a).val)).mpr
        ⟨Nat.zero_add _, hj.symm⟩ a))
  exact (congrArg (View.canon _) hy.symm).trans (View.canon_cons_emb _ _ _ _)

theorem hit128 (Q : FVec Ideal S512x128 .bf16) (L : List (View.Piece (Elt Ideal) S512x512 .bf16)) (r j : Fin 512) (l : Fin 128) (hj : j.val = 128 + l.val) :
    View.canon ((⟨Rect.unit ![0, 128] ![512, 128] inb_S512x512_S512x128_0_128, Q⟩ : View.Piece (Elt Ideal) S512x512 .bf16) :: L) (ix2 r j : S512x512.Idx) = Q (ix2 r l) := by
  have hy : (Rect.unit (s := S512x512) ![0, 128] ![512, 128] inb_S512x512_S512x128_0_128).emb (ix2 r l) = (ix2 r j : S512x512.Idx) :=
    funext fun a => Fin.ext ((Rect.idx_unit_val (s := S512x512) ![0, 128] ![512, 128] inb_S512x512_S512x128_0_128 (ix2 r l) a).trans
      ((Fin.forall_fin_two (p := fun a : Fin 2 => (![0, 128] : Fin 2 → ℕ) a + ((ix2 r l : S512x128.Idx) a).val = ((ix2 r j : S512x512.Idx) a).val)).mpr
        ⟨Nat.zero_add _, hj.symm⟩ a))
  exact (congrArg (View.canon _) hy.symm).trans (View.canon_cons_emb _ _ _ _)

theorem miss128 (Q : FVec Ideal S512x128 .bf16) (L : List (View.Piece (Elt Ideal) S512x512 .bf16)) (r j : Fin 512) (hj : j.val < 128) :
    View.canon ((⟨Rect.unit ![0, 128] ![512, 128] inb_S512x512_S512x128_0_128, Q⟩ : View.Piece (Elt Ideal) S512x512 .bf16) :: L) (ix2 r j : S512x512.Idx) = View.canon L (ix2 r j : S512x512.Idx) := by
  refine View.canon_cons_of_not_mem _ _ fun hm => ?_
  have hm' : (ix2 r j : S512x512.Idx) ∈ (Rect.unit (s := S512x512) ![0, 128] ![512, 128] inb_S512x512_S512x128_0_128).set := hm
  have h1 : 128 ≤ j.val := (Rect.mem_set_unit.mp hm' (1 : Fin 2)).1
  omega

theorem hit256 (Q : FVec Ideal S512x128 .bf16) (L : List (View.Piece (Elt Ideal) S512x512 .bf16)) (r j : Fin 512) (l : Fin 128) (hj : j.val = 256 + l.val) :
    View.canon ((⟨Rect.unit ![0, 256] ![512, 128] inb_S512x512_S512x128_0_256, Q⟩ : View.Piece (Elt Ideal) S512x512 .bf16) :: L) (ix2 r j : S512x512.Idx) = Q (ix2 r l) := by
  have hy : (Rect.unit (s := S512x512) ![0, 256] ![512, 128] inb_S512x512_S512x128_0_256).emb (ix2 r l) = (ix2 r j : S512x512.Idx) :=
    funext fun a => Fin.ext ((Rect.idx_unit_val (s := S512x512) ![0, 256] ![512, 128] inb_S512x512_S512x128_0_256 (ix2 r l) a).trans
      ((Fin.forall_fin_two (p := fun a : Fin 2 => (![0, 256] : Fin 2 → ℕ) a + ((ix2 r l : S512x128.Idx) a).val = ((ix2 r j : S512x512.Idx) a).val)).mpr
        ⟨Nat.zero_add _, hj.symm⟩ a))
  exact (congrArg (View.canon _) hy.symm).trans (View.canon_cons_emb _ _ _ _)

theorem miss256 (Q : FVec Ideal S512x128 .bf16) (L : List (View.Piece (Elt Ideal) S512x512 .bf16)) (r j : Fin 512) (hj : j.val < 256) :
    View.canon ((⟨Rect.unit ![0, 256] ![512, 128] inb_S512x512_S512x128_0_256, Q⟩ : View.Piece (Elt Ideal) S512x512 .bf16) :: L) (ix2 r j : S512x512.Idx) = View.canon L (ix2 r j : S512x512.Idx) := by
  refine View.canon_cons_of_not_mem _ _ fun hm => ?_
  have hm' : (ix2 r j : S512x512.Idx) ∈ (Rect.unit (s := S512x512) ![0, 256] ![512, 128] inb_S512x512_S512x128_0_256).set := hm
  have h1 : 256 ≤ j.val := (Rect.mem_set_unit.mp hm' (1 : Fin 2)).1
  omega

theorem hit384 (Q : FVec Ideal S512x128 .bf16) (L : List (View.Piece (Elt Ideal) S512x512 .bf16)) (r j : Fin 512) (l : Fin 128) (hj : j.val = 384 + l.val) :
    View.canon ((⟨Rect.unit ![0, 384] ![512, 128] inb_S512x512_S512x128_0_384, Q⟩ : View.Piece (Elt Ideal) S512x512 .bf16) :: L) (ix2 r j : S512x512.Idx) = Q (ix2 r l) := by
  have hy : (Rect.unit (s := S512x512) ![0, 384] ![512, 128] inb_S512x512_S512x128_0_384).emb (ix2 r l) = (ix2 r j : S512x512.Idx) :=
    funext fun a => Fin.ext ((Rect.idx_unit_val (s := S512x512) ![0, 384] ![512, 128] inb_S512x512_S512x128_0_384 (ix2 r l) a).trans
      ((Fin.forall_fin_two (p := fun a : Fin 2 => (![0, 384] : Fin 2 → ℕ) a + ((ix2 r l : S512x128.Idx) a).val = ((ix2 r j : S512x512.Idx) a).val)).mpr
        ⟨Nat.zero_add _, hj.symm⟩ a))
  exact (congrArg (View.canon _) hy.symm).trans (View.canon_cons_emb _ _ _ _)

theorem miss384 (Q : FVec Ideal S512x128 .bf16) (L : List (View.Piece (Elt Ideal) S512x512 .bf16)) (r j : Fin 512) (hj : j.val < 384) :
    View.canon ((⟨Rect.unit ![0, 384] ![512, 128] inb_S512x512_S512x128_0_384, Q⟩ : View.Piece (Elt Ideal) S512x512 .bf16) :: L) (ix2 r j : S512x512.Idx) = View.canon L (ix2 r j : S512x512.Idx) := by
  refine View.canon_cons_of_not_mem _ _ fun hm => ?_
  have hm' : (ix2 r j : S512x512.Idx) ∈ (Rect.unit (s := S512x512) ![0, 384] ![512, 128] inb_S512x512_S512x128_0_384).set := hm
  have h1 : 384 ≤ j.val := (Rect.mem_set_unit.mp hm' (1 : Fin 2)).1
  omega

/-- A stored chunk's entry, by its chunk. -/
theorem four_at (r j : Fin 512) (g : Fin 4 → Fin 128 → EReal) (h0 : ∀ l, Q0 (ix2 r l) = g 0 l) (h1 : ∀ l, Q1 (ix2 r l) = g 1 l)
    (h2 : ∀ l, Q2 (ix2 r l) = g 2 l) (h3 : ∀ l, Q3 (ix2 r l) = g 3 l) (n : Fin 4) (l : Fin 128) (hj : j.val = 128 * n.val + l.val) :
    four Q0 Q1 Q2 Q3 (ix2 r j) = g n l := by
  match n, hj with
  | 0, hj => exact (miss384 _ _ r j (by omega)).trans ((miss256 _ _ r j (by omega)).trans ((miss128 _ _ r j (by omega)).trans ((hit0 _ _ r j l (by omega)).trans (h0 l))))
  | 1, hj => exact (miss384 _ _ r j (by omega)).trans ((miss256 _ _ r j (by omega)).trans ((hit128 _ _ r j l (by omega)).trans (h1 l)))
  | 2, hj => exact (miss384 _ _ r j (by omega)).trans ((hit256 _ _ r j l (by omega)).trans (h2 l))
  | 3, hj => exact (hit384 _ _ r j l (by omega)).trans (h3 l)

end Chunks

variable (m : (ℓ : Loc nD τ sig) → Buf (Elt Ideal) ℓ) (c : Dev nD) (t : Fin cfg0.N) (r : Fin 512)

theorem tqa (j : Fin 512) :
    (outsAt0 m c t.val t.isLt).1 (ix2 r j) = pj (iblk m c 0 t) (iblk m c 5 t : FVec Ideal S1024x1536 .bf16) r ⟨j.val, by omega⟩ * Ideal.ofBits .f32 0x3E0293EE#32 := by
  by_cases h : t.val % 8 = 0
  · rw [outsAt0_A m c t h]
    frame_out
    exact qa_at _ _ r j
  · rw [outsAt0_B m c t h]
    frame_out
    exact qa_at _ _ r j

theorem tva (j : Fin 512) :
    (outsAt0 m c t.val t.isLt).2.2.1 (ix2 j r) = pj (iblk m c 0 t) (iblk m c 5 t : FVec Ideal S1024x1536 .bf16) r ⟨1024 + j.val, by omega⟩ := by
  by_cases h : t.val % 8 = 0
  · rw [outsAt0_A m c t h]
    frame_out
    exact va_at _ _ r j
  · rw [outsAt0_B m c t h]
    frame_out
    exact va_at _ _ r j

theorem tvc (j : Fin 512) :
    (outsAt0 m c t.val t.isLt).2.2.2.2.2.2.2.2.2.2.2.1 (ix2 j r) = pj (iblk m c 0 t) (iblk m c 9 t : FVec Ideal S1024x1536 .bf16) r ⟨1024 + j.val, by omega⟩ := by
  by_cases h : t.val % 8 = 0
  · rw [outsAt0_A m c t h]
    frame_out
    exact vc_at _ _ r j
  · rw [outsAt0_B m c t h]
    frame_out
    exact vc_at _ _ r j

theorem tvb (l : Fin 128) :
    (outsAt0 m c t.val t.isLt).2.2.2.2.2.1 (ix2 l r) = kv (iblk m c 0 t) (iblk m c 7 t) (iblk m c 12 t) (iblk m c 13 t) r ⟨128 + l.val, by omega⟩ := by
  by_cases h : t.val % 8 = 0
  · rw [outsAt0_A m c t h]
    frame_out
    exact vb_at _ _ _ _ r l
  · rw [outsAt0_B m c t h]
    frame_out
    exact vb_at _ _ _ _ r l

theorem tkb (l : Fin 128) :
    (outsAt0 m c t.val t.isLt).2.2.2.2.1 (ix2 r l) = turn 112 16 (fst16 l) ((iblk m c 1 t : FVec Ideal S512x128 .f32) (ix2 r l)) ((iblk m c 2 t : FVec Ideal S512x128 .f32) (ix2 r l)) (fun k => kv (iblk m c 0 t) (iblk m c 7 t) (iblk m c 12 t) (iblk m c 13 t) r ⟨k.val, by omega⟩) l := by
  by_cases h : t.val % 8 = 0
  · rw [outsAt0_A m c t h]
    frame_out
    exact kb_at _ _ _ _ _ _ r l
  · rw [outsAt0_B m c t h]
    frame_out
    exact kb_at _ _ _ _ _ _ r l

theorem tki (l : Fin 128) :
    (outsAt0 m c t.val t.isLt).2.2.2.2.2.2.2.1 (ix2 r l) = if l.val < 64 then turn 120 8 (fst8 ⟨(l.val + 128 - 64) % 128, Nat.mod_lt _ (by omega)⟩) ((iblk m c 3 t : FVec Ideal S512x128 .f32) (ix2 r ⟨(l.val + 128 - 64) % 128, Nat.mod_lt _ (by omega)⟩)) ((iblk m c 4 t : FVec Ideal S512x128 .f32) (ix2 r ⟨(l.val + 128 - 64) % 128, Nat.mod_lt _ (by omega)⟩)) (fun k => pj (iblk m c 0 t) (iblk m c 10 t : FVec Ideal S1024x128 .bf16) r k) ⟨(l.val + 128 - 64) % 128, Nat.mod_lt _ (by omega)⟩
      else turn 120 8 (fst8 l) ((iblk m c 3 t : FVec Ideal S512x128 .f32) (ix2 r l)) ((iblk m c 4 t : FVec Ideal S512x128 .f32) (ix2 r l)) (fun k => pj (iblk m c 0 t) (iblk m c 10 t : FVec Ideal S1024x128 .bf16) r k) l := by
  by_cases h : t.val % 8 = 0
  · rw [outsAt0_A m c t h]
    frame_out
    exact ki_at _ _ _ _ r l
  · rw [outsAt0_B m c t h]
    frame_out
    exact ki_at _ _ _ _ r l

theorem tqb (j : Fin 512) (n : Fin 4) (l : Fin 128) (hj : j.val = 128 * n.val + l.val) :
    (outsAt0 m c t.val t.isLt).2.2.2.1 (ix2 r j) = turn 112 16 (fst16 l) ((iblk m c 1 t : FVec Ideal S512x128 .f32) (ix2 r l)) ((iblk m c 2 t : FVec Ideal S512x128 .f32) (ix2 r l)) (fun k => pj (iblk m c 0 t) (iblk m c 6 t : FVec Ideal S1024x512 .bf16) r ⟨(128 * n.val + k.val), by omega⟩) l * Ideal.ofBits .f32 0x3E0293EE#32 := by
  by_cases h : t.val % 8 = 0
  · rw [outsAt0_A m c t h]
    frame_out
    exact four_at _ _ _ _ r j
      (fun n l => turn 112 16 (fst16 l) ((iblk m c 1 t : FVec Ideal S512x128 .f32) (ix2 r l)) ((iblk m c 2 t : FVec Ideal S512x128 .f32) (ix2 r l)) (fun k => pj (iblk m c 0 t) (iblk m c 6 t : FVec Ideal S1024x512 .bf16) r ⟨(128 * n.val + k.val), by omega⟩) l * Ideal.ofBits .f32 0x3E0293EE#32)
      (fun l => (qb0_at _ _ _ _ r l).trans (congrArg (fun y => turn _ _ _ _ _ y l * _) (funext fun k => congrArg (pj _ _ r) (Fin.ext (by show _ = _; simp only []; omega)))))
      (fun l => (qb1_at _ _ _ _ r l).trans (congrArg (fun y => turn _ _ _ _ _ y l * _) (funext fun k => congrArg (pj _ _ r) (Fin.ext (by show _ = _; simp only []; omega)))))
      (fun l => (qb2_at _ _ _ _ r l).trans (congrArg (fun y => turn _ _ _ _ _ y l * _) (funext fun k => congrArg (pj _ _ r) (Fin.ext (by show _ = _; simp only []; omega)))))
      (fun l => (qb3_at _ _ _ _ r l).trans (congrArg (fun y => turn _ _ _ _ _ y l * _) (funext fun k => congrArg (pj _ _ r) (Fin.ext (by show _ = _; simp only []; omega))))) n l hj
  · rw [outsAt0_B m c t h]
    frame_out
    exact four_at _ _ _ _ r j
      (fun n l => turn 112 16 (fst16 l) ((iblk m c 1 t : FVec Ideal S512x128 .f32) (ix2 r l)) ((iblk m c 2 t : FVec Ideal S512x128 .f32) (ix2 r l)) (fun k => pj (iblk m c 0 t) (iblk m c 6 t : FVec Ideal S1024x512 .bf16) r ⟨(128 * n.val + k.val), by omega⟩) l * Ideal.ofBits .f32 0x3E0293EE#32)
      (fun l => (qb0_at _ _ _ _ r l).trans (congrArg (fun y => turn _ _ _ _ _ y l * _) (funext fun k => congrArg (pj _ _ r) (Fin.ext (by show _ = _; simp only []; omega)))))
      (fun l => (qb1_at _ _ _ _ r l).trans (congrArg (fun y => turn _ _ _ _ _ y l * _) (funext fun k => congrArg (pj _ _ r) (Fin.ext (by show _ = _; simp only []; omega)))))
      (fun l => (qb2_at _ _ _ _ r l).trans (congrArg (fun y => turn _ _ _ _ _ y l * _) (funext fun k => congrArg (pj _ _ r) (Fin.ext (by show _ = _; simp only []; omega)))))
      (fun l => (qb3_at _ _ _ _ r l).trans (congrArg (fun y => turn _ _ _ _ _ y l * _) (funext fun k => congrArg (pj _ _ r) (Fin.ext (by show _ = _; simp only []; omega))))) n l hj

theorem tqi (j : Fin 512) (n : Fin 4) (l : Fin 128) (hj : j.val = 128 * n.val + l.val) :
    (outsAt0 m c t.val t.isLt).2.2.2.2.2.2.1 (ix2 r j) = turn 120 8 (fst8 l) ((iblk m c 3 t : FVec Ideal S512x128 .f32) (ix2 r l)) ((iblk m c 4 t : FVec Ideal S512x128 .f32) (ix2 r l)) (fun k => pj (iblk m c 0 t) (iblk m c 8 t : FVec Ideal S1024x512 .bf16) r ⟨(128 * n.val + k.val), by omega⟩) l * Ideal.ofBits .f32 0x3E000000#32 := by
  by_cases h : t.val % 8 = 0
  · rw [outsAt0_A m c t h]
    frame_out
    exact four_at _ _ _ _ r j
      (fun n l => turn 120 8 (fst8 l) ((iblk m c 3 t : FVec Ideal S512x128 .f32) (ix2 r l)) ((iblk m c 4 t : FVec Ideal S512x128 .f32) (ix2 r l)) (fun k => pj (iblk m c 0 t) (iblk m c 8 t : FVec Ideal S1024x512 .bf16) r ⟨(128 * n.val + k.val), by omega⟩) l * Ideal.ofBits .f32 0x3E000000#32)
      (fun l => (qi0_at _ _ _ _ r l).trans (congrArg (fun y => turn _ _ _ _ _ y l * _) (funext fun k => congrArg (pj _ _ r) (Fin.ext (by show _ = _; simp only []; omega)))))
      (fun l => (qi1_at _ _ _ _ r l).trans (congrArg (fun y => turn _ _ _ _ _ y l * _) (funext fun k => congrArg (pj _ _ r) (Fin.ext (by show _ = _; simp only []; omega)))))
      (fun l => (qi2_at _ _ _ _ r l).trans (congrArg (fun y => turn _ _ _ _ _ y l * _) (funext fun k => congrArg (pj _ _ r) (Fin.ext (by show _ = _; simp only []; omega)))))
      (fun l => (qi3_at _ _ _ _ r l).trans (congrArg (fun y => turn _ _ _ _ _ y l * _) (funext fun k => congrArg (pj _ _ r) (Fin.ext (by show _ = _; simp only []; omega))))) n l hj
  · rw [outsAt0_B m c t h]
    frame_out
    exact four_at _ _ _ _ r j
      (fun n l => turn 120 8 (fst8 l) ((iblk m c 3 t : FVec Ideal S512x128 .f32) (ix2 r l)) ((iblk m c 4 t : FVec Ideal S512x128 .f32) (ix2 r l)) (fun k => pj (iblk m c 0 t) (iblk m c 8 t : FVec Ideal S1024x512 .bf16) r ⟨(128 * n.val + k.val), by omega⟩) l * Ideal.ofBits .f32 0x3E000000#32)
      (fun l => (qi0_at _ _ _ _ r l).trans (congrArg (fun y => turn _ _ _ _ _ y l * _) (funext fun k => congrArg (pj _ _ r) (Fin.ext (by show _ = _; simp only []; omega)))))
      (fun l => (qi1_at _ _ _ _ r l).trans (congrArg (fun y => turn _ _ _ _ _ y l * _) (funext fun k => congrArg (pj _ _ r) (Fin.ext (by show _ = _; simp only []; omega)))))
      (fun l => (qi2_at _ _ _ _ r l).trans (congrArg (fun y => turn _ _ _ _ _ y l * _) (funext fun k => congrArg (pj _ _ r) (Fin.ext (by show _ = _; simp only []; omega)))))
      (fun l => (qi3_at _ _ _ _ r l).trans (congrArg (fun y => turn _ _ _ _ _ y l * _) (funext fun k => congrArg (pj _ _ r) (Fin.ext (by show _ = _; simp only []; omega))))) n l hj

theorem tqc (j : Fin 512) (n : Fin 4) (l : Fin 128) (hj : j.val = 128 * n.val + l.val) :
    (outsAt0 m c t.val t.isLt).2.2.2.2.2.2.2.2.2.1 (ix2 r j) = turn 120 8 (fst8 l) ((iblk m c 3 t : FVec Ideal S512x128 .f32) (ix2 r l)) ((iblk m c 4 t : FVec Ideal S512x128 .f32) (ix2 r l)) (fun k => pj (iblk m c 0 t) (iblk m c 9 t : FVec Ideal S1024x1536 .bf16) r ⟨(128 * n.val + k.val), by omega⟩) l * Ideal.ofBits .f32 0x3E38AA3B#32 := by
  by_cases h : t.val % 8 = 0
  · rw [outsAt0_A m c t h]
    frame_out
    exact four_at _ _ _ _ r j
      (fun n l => turn 120 8 (fst8 l) ((iblk m c 3 t : FVec Ideal S512x128 .f32) (ix2 r l)) ((iblk m c 4 t : FVec Ideal S512x128 .f32) (ix2 r l)) (fun k => pj (iblk m c 0 t) (iblk m c 9 t : FVec Ideal S1024x1536 .bf16) r ⟨(128 * n.val + k.val), by omega⟩) l * Ideal.ofBits .f32 0x3E38AA3B#32)
      (fun l => (qc0_at _ _ _ _ r l).trans (congrArg (fun y => turn _ _ _ _ _ y l * _) (funext fun k => congrArg (pj _ _ r) (Fin.ext (by show _ = _; simp only []; omega)))))
      (fun l => (qc1_at _ _ _ _ r l).trans (congrArg (fun y => turn _ _ _ _ _ y l * _) (funext fun k => congrArg (pj _ _ r) (Fin.ext (by show _ = _; simp only []; omega)))))
      (fun l => (qc2_at _ _ _ _ r l).trans (congrArg (fun y => turn _ _ _ _ _ y l * _) (funext fun k => congrArg (pj _ _ r) (Fin.ext (by show _ = _; simp only []; omega)))))
      (fun l => (qc3_at _ _ _ _ r l).trans (congrArg (fun y => turn _ _ _ _ _ y l * _) (funext fun k => congrArg (pj _ _ r) (Fin.ext (by show _ = _; simp only []; omega))))) n l hj
  · rw [outsAt0_B m c t h]
    frame_out
    exact four_at _ _ _ _ r j
      (fun n l => turn 120 8 (fst8 l) ((iblk m c 3 t : FVec Ideal S512x128 .f32) (ix2 r l)) ((iblk m c 4 t : FVec Ideal S512x128 .f32) (ix2 r l)) (fun k => pj (iblk m c 0 t) (iblk m c 9 t : FVec Ideal S1024x1536 .bf16) r ⟨(128 * n.val + k.val), by omega⟩) l * Ideal.ofBits .f32 0x3E38AA3B#32)
      (fun l => (qc0_at _ _ _ _ r l).trans (congrArg (fun y => turn _ _ _ _ _ y l * _) (funext fun k => congrArg (pj _ _ r) (Fin.ext (by show _ = _; simp only []; omega)))))
      (fun l => (qc1_at _ _ _ _ r l).trans (congrArg (fun y => turn _ _ _ _ _ y l * _) (funext fun k => congrArg (pj _ _ r) (Fin.ext (by show _ = _; simp only []; omega)))))
      (fun l => (qc2_at _ _ _ _ r l).trans (congrArg (fun y => turn _ _ _ _ _ y l * _) (funext fun k => congrArg (pj _ _ r) (Fin.ext (by show _ = _; simp only []; omega)))))
      (fun l => (qc3_at _ _ _ _ r l).trans (congrArg (fun y => turn _ _ _ _ _ y l * _) (funext fun k => congrArg (pj _ _ r) (Fin.ext (by show _ = _; simp only []; omega))))) n l hj

theorem tkc (j : Fin 512) (n : Fin 4) (l : Fin 128) (hj : j.val = 128 * n.val + l.val) :
    (outsAt0 m c t.val t.isLt).2.2.2.2.2.2.2.2.2.2.1 (ix2 r j) = turn 120 8 (fst8 l) ((iblk m c 3 t : FVec Ideal S512x128 .f32) (ix2 r l)) ((iblk m c 4 t : FVec Ideal S512x128 .f32) (ix2 r l)) (fun k => pj (iblk m c 0 t) (iblk m c 9 t : FVec Ideal S1024x1536 .bf16) r ⟨512 + (128 * n.val + k.val), by omega⟩) l := by
  by_cases h : t.val % 8 = 0
  · rw [outsAt0_A m c t h]
    frame_out
    exact four_at _ _ _ _ r j
      (fun n l => turn 120 8 (fst8 l) ((iblk m c 3 t : FVec Ideal S512x128 .f32) (ix2 r l)) ((iblk m c 4 t : FVec Ideal S512x128 .f32) (ix2 r l)) (fun k => pj (iblk m c 0 t) (iblk m c 9 t : FVec Ideal S1024x1536 .bf16) r ⟨512 + (128 * n.val + k.val), by omega⟩) l)
      (fun l => (kc0_at _ _ _ _ r l).trans (congrArg (fun y => turn _ _ _ _ _ y l) (funext fun k => congrArg (pj _ _ r) (Fin.ext (by show _ = _; simp only []; omega)))))
      (fun l => (kc1_at _ _ _ _ r l).trans (congrArg (fun y => turn _ _ _ _ _ y l) (funext fun k => congrArg (pj _ _ r) (Fin.ext (by show _ = _; simp only []; omega)))))
      (fun l => (kc2_at _ _ _ _ r l).trans (congrArg (fun y => turn _ _ _ _ _ y l) (funext fun k => congrArg (pj _ _ r) (Fin.ext (by show _ = _; simp only []; omega)))))
      (fun l => (kc3_at _ _ _ _ r l).trans (congrArg (fun y => turn _ _ _ _ _ y l) (funext fun k => congrArg (pj _ _ r) (Fin.ext (by show _ = _; simp only []; omega))))) n l hj
  · rw [outsAt0_B m c t h]
    frame_out
    exact four_at _ _ _ _ r j
      (fun n l => turn 120 8 (fst8 l) ((iblk m c 3 t : FVec Ideal S512x128 .f32) (ix2 r l)) ((iblk m c 4 t : FVec Ideal S512x128 .f32) (ix2 r l)) (fun k => pj (iblk m c 0 t) (iblk m c 9 t : FVec Ideal S1024x1536 .bf16) r ⟨512 + (128 * n.val + k.val), by omega⟩) l)
      (fun l => (kc0_at _ _ _ _ r l).trans (congrArg (fun y => turn _ _ _ _ _ y l) (funext fun k => congrArg (pj _ _ r) (Fin.ext (by show _ = _; simp only []; omega)))))
      (fun l => (kc1_at _ _ _ _ r l).trans (congrArg (fun y => turn _ _ _ _ _ y l) (funext fun k => congrArg (pj _ _ r) (Fin.ext (by show _ = _; simp only []; omega)))))
      (fun l => (kc2_at _ _ _ _ r l).trans (congrArg (fun y => turn _ _ _ _ _ y l) (funext fun k => congrArg (pj _ _ r) (Fin.ext (by show _ = _; simp only []; omega)))))
      (fun l => (kc3_at _ _ _ _ r l).trans (congrArg (fun y => turn _ _ _ _ _ y l) (funext fun k => congrArg (pj _ _ r) (Fin.ext (by show _ = _; simp only []; omega))))) n l hj

end Cert.Kernel4Ideal.Proj

end

end
-- ==== Proof.Proj.Host.lean ====
/- What the host lines hand the projections' call, over the extended reals, entry by entry. -/
module

public import proofs.«01_k».proof.Proof.Gen.Kernel4Ideal.Frame.Runs
public import Idealize.ShloMosaic.Lib.Pipeline.ValueKit
public import Idealize.ShloMosaic.Lib.Claim
public import Idealize.ShloMosaic.Lib.StableHlo.RunRead

@[expose] public section

set_option maxRecDepth 16384
set_option maxHeartbeats 4000000

noncomputable section

open Idealize.ShloMosaic Idealize.ShloMosaic.TcCoe Idealize.SL.Sem

namespace Cert.Kernel4Ideal.Proj

open Cert.Kernel4Ideal Cert.Kernel4Ideal.Gen

variable (m : (ℓ : Loc nD τ sig) → Buf (Elt Ideal) ℓ) (c : Dev nD)

/-- The arguments. -/
abbrev Xh : FVec Ideal S16x4096x1024 .f32 := m ((c : Thread nD τ).loc main_arg0)
abbrev Xc : FVec Ideal S16x4096x16 .f32 := m ((c : Thread nD τ).loc main_arg1)
abbrev Xs : FVec Ideal S16x4096x16 .f32 := m ((c : Thread nD τ).loc main_arg2)
abbrev Xd : FVec Ideal S16x4096x8 .f32 := m ((c : Thread nD τ).loc main_arg3)
abbrev Xt : FVec Ideal S16x4096x8 .f32 := m ((c : Thread nD τ).loc main_arg4)
abbrev Xw : FVec Ideal S1024x4428 .f32 := m ((c : Thread nD τ).loc main_arg5)
abbrev Xg : FVec Ideal S256 .f32 := m ((c : Thread nD τ).loc main_arg7)
abbrev Xu : FVec Ideal S256x256 .f32 := m ((c : Thread nD τ).loc main_arg8)

/-- The call's operands. -/
def Ah : FVec Ideal S65536x1024 .f32 := V m c main_v46
def Ac16 : FVec Ideal S65536x128 .f32 := V m c main_v42
def As16 : FVec Ideal S65536x128 .f32 := V m c main_v43
def Ac8 : FVec Ideal S65536x128 .f32 := V m c main_v44
def As8 : FVec Ideal S65536x128 .f32 := V m c main_v45
def Aa : FVec Ideal S1024x1536 .bf16 := V m c main_v19
def Aq : FVec Ideal S1024x512 .bf16 := V m c main_v20
def Al : FVec Ideal S1024x256 .bf16 := V m c main_v21
def Ai : FVec Ideal S1024x512 .bf16 := V m c main_v22
def Ad : FVec Ideal S1024x1536 .bf16 := V m c main_v24
def Am : FVec Ideal S1024x128 .bf16 := V m c main_v26
def Ag : FVec Ideal S1x256 .f32 := V m c main_v27
def Au : FVec Ideal S256x256 .bf16 := V m c main_v28

theorem Ah_at (t : Fin 65536) (j : Fin 1024) :
    Ah m c (ix2 t j)
      = Xh m c (ix3 ⟨t.val / 4096, by omega⟩ ⟨t.val % 4096, by omega⟩ j) := by
  unfold Ah
  after_reads_simp
  pointwise

theorem Aa_q (k : Fin 1024) (j : Fin 512) :
    Aa m c (ix2 k ⟨j.val, by omega⟩)
      = Xw m c (ix2 k ⟨j.val, by omega⟩) := by
  unfold Aa
  after_reads_simp
  pointwise
  after_reads_simp
  pointwise

theorem Aa_v (k : Fin 1024) (j : Fin 512) :
    Aa m c (ix2 k ⟨1024 + j.val, by omega⟩)
      = Xw m c (ix2 k ⟨1024 + j.val, by omega⟩) := by
  unfold Aa
  after_reads_simp
  pointwise
  after_reads_simp
  pointwise
  (repeat' split) <;> first
    | exact False.elim (by omega)
    | exact rfl
    | exact congrArg (fun q => Xw m c (ix2 k q)) (Fin.ext (by first | exact rfl | (dsimp only; omega)))

theorem Aq_at (k : Fin 1024) (j : Fin 512) :
    Aq m c (ix2 k j)
      = Xw m c (ix2 k ⟨1540 + j.val, by omega⟩) := by
  unfold Aq
  after_reads_simp
  pointwise

theorem Al_at (k : Fin 1024) (j : Fin 256) :
    Al m c (ix2 k j)
      = Xw m c (ix2 k ⟨2052 + j.val, by omega⟩) := by
  unfold Al
  after_reads_simp
  pointwise

theorem Ai_at (k : Fin 1024) (j : Fin 512) :
    Ai m c (ix2 k j)
      = Xw m c (ix2 k ⟨2308 + j.val, by omega⟩) := by
  unfold Ai
  after_reads_simp
  pointwise

theorem Ad_at (k : Fin 1024) (j : Fin 1536) :
    Ad m c (ix2 k j)
      = Xw m c (ix2 k ⟨2892 + j.val, by omega⟩) := by
  unfold Ad
  after_reads_simp
  pointwise
  after_reads_simp
  pointwise
  (repeat' split) <;> first
    | exact False.elim (by omega)
    | exact rfl
    | exact congrArg (fun q => Xw m c (ix2 k q)) (Fin.ext (by first | exact rfl | (dsimp only; omega)))

theorem Am_at (k : Fin 1024) (j : Fin 64) :
    Am m c (ix2 k ⟨64 + j.val, by omega⟩)
      = Xw m c (ix2 k ⟨2820 + j.val, by omega⟩) := by
  unfold Am
  after_reads_simp
  pointwise
  after_reads_simp
  pointwise
  (repeat' split) <;> first
    | exact False.elim (by omega)
    | exact rfl
    | exact congrArg (fun q => Xw m c (ix2 k q)) (Fin.ext (by first | exact rfl | (dsimp only; omega)))

theorem Ag_at (k : Fin 256) :
    Ag m c (ix2 0 k)
      = Xg m c (ix1 k) := by
  unfold Ag
  after_reads_simp
  pointwise

theorem Au_at (k j : Fin 256) :
    Au m c (ix2 k j)
      = Xu m c (ix2 k j) := by
  unfold Au
  after_reads_simp
  pointwise

theorem Ac16_at (t : Fin 65536) (l : Fin 128) :
    Ac16 m c (ix2 t l)
      = if h : l.val < 16 then  Xc m c (ix3 ⟨t.val / 4096, by omega⟩ ⟨t.val % 4096, by omega⟩ ⟨l.val, h⟩) else if h : l.val < 32 then Xc m c (ix3 ⟨t.val / 4096, by omega⟩ ⟨t.val % 4096, by omega⟩ ⟨l.val - 16, by omega⟩) else 1 := by
  unfold Ac16
  after_reads_simp
  pointwise
  after_reads_simp
  pointwise
  (repeat' split) <;> first
    | exact False.elim (by omega)
    | exact rfl
    | exact congrArg (fun q => Xc m c (ix3 _ _ q)) (Fin.ext (by first | exact rfl | (dsimp only; omega)))

theorem As16_at (t : Fin 65536) (l : Fin 128) :
    As16 m c (ix2 t l)
      = if h : l.val < 16 then - Xs m c (ix3 ⟨t.val / 4096, by omega⟩ ⟨t.val % 4096, by omega⟩ ⟨l.val, h⟩) else if h : l.val < 32 then Xs m c (ix3 ⟨t.val / 4096, by omega⟩ ⟨t.val % 4096, by omega⟩ ⟨l.val - 16, by omega⟩) else 0 := by
  unfold As16
  after_reads_simp
  pointwise
  after_reads_simp
  pointwise
  (repeat' split) <;> first
    | exact False.elim (by omega)
    | exact rfl
    | exact congrArg (fun q => Xs m c (ix3 _ _ q)) (Fin.ext (by first | exact rfl | (dsimp only; omega)))
    | exact congrArg (fun q => -Xs m c (ix3 _ _ q)) (Fin.ext (by first | exact rfl | (dsimp only; omega)))

theorem Ac8_at (t : Fin 65536) (l : Fin 128) :
    Ac8 m c (ix2 t l)
      = if h : l.val % 64 < 8 then  Xd m c (ix3 ⟨t.val / 4096, by omega⟩ ⟨t.val % 4096, by omega⟩ ⟨l.val % 64, h⟩) else if h : l.val % 64 < 16 then Xd m c (ix3 ⟨t.val / 4096, by omega⟩ ⟨t.val % 4096, by omega⟩ ⟨l.val % 64 - 8, by omega⟩) else 1 := by
  unfold Ac8
  after_reads_simp
  pointwise
  after_reads_simp
  pointwise
  (repeat' split) <;> first
    | exact False.elim (by omega)
    | exact rfl
    | exact congrArg (fun q => Xd m c (ix3 _ _ q)) (Fin.ext (by first | exact rfl | (dsimp only; omega)))

theorem As8_at (t : Fin 65536) (l : Fin 128) :
    As8 m c (ix2 t l)
      = if h : l.val % 64 < 8 then - Xt m c (ix3 ⟨t.val / 4096, by omega⟩ ⟨t.val % 4096, by omega⟩ ⟨l.val % 64, h⟩) else if h : l.val % 64 < 16 then Xt m c (ix3 ⟨t.val / 4096, by omega⟩ ⟨t.val % 4096, by omega⟩ ⟨l.val % 64 - 8, by omega⟩) else 0 := by
  unfold As8
  after_reads_simp
  pointwise
  after_reads_simp
  pointwise
  (repeat' split) <;> first
    | exact False.elim (by omega)
    | exact rfl
    | exact congrArg (fun q => Xt m c (ix3 _ _ q)) (Fin.ext (by first | exact rfl | (dsimp only; omega)))
    | exact congrArg (fun q => -Xt m c (ix3 _ _ q)) (Fin.ext (by first | exact rfl | (dsimp only; omega)))

end Cert.Kernel4Ideal.Proj

end

end
-- ==== Proof.Proj.Spec.lean ====
/- The projections' results, entry by entry, over the extended reals. -/
module

public import proofs.«01_k».proof.Proof.Proj.Pay
public import Idealize.ShloMosaic.Lib.Pipeline.ValueKit
public import Idealize.ShloMosaic.Lib.IdealHost
public import Idealize.ShloMosaic.Lib.Claim

@[expose] public section

set_option maxRecDepth 16384

noncomputable section

open Idealize.ShloMosaic Idealize.ShloMosaic.TcCoe Idealize.SL.Sem

namespace Cert.Proj

open Cert.Kernel4Ideal.Proj (turn fst16 fst8 pay4_at pay5_at)

/-- A row's rotation over its first 32 lanes. -/
def rope16 (c s : Fin 16 → EReal) (y : Fin 128 → EReal) (l : Fin 128) : EReal :=
  if h : l.val < 16 then y l * c ⟨l.val, h⟩ - y ⟨16 + l.val, by omega⟩ * s ⟨l.val, h⟩
  else if h' : l.val < 32 then y l * c ⟨l.val - 16, by omega⟩ + y ⟨l.val - 16, by omega⟩ * s ⟨l.val - 16, by omega⟩
  else y l

/-- A row's rotation over its first 16 lanes. -/
def rope8 (c s : Fin 8 → EReal) (y : Fin 64 → EReal) (l : Fin 64) : EReal :=
  if h : l.val < 8 then y l * c ⟨l.val, h⟩ - y ⟨8 + l.val, by omega⟩ * s ⟨l.val, h⟩
  else if h' : l.val < 16 then y l * c ⟨l.val - 8, by omega⟩ + y ⟨l.val - 8, by omega⟩ * s ⟨l.val - 8, by omega⟩
  else y l

/-- The tables a chunk is turned with. -/
def tc16 (c : Fin 16 → EReal) (l : Fin 128) : EReal :=
  if h : l.val < 16 then c ⟨l.val, h⟩ else if h : l.val < 32 then c ⟨l.val - 16, by omega⟩ else 1
def ts16 (s : Fin 16 → EReal) (l : Fin 128) : EReal :=
  if h : l.val < 16 then - s ⟨l.val, h⟩ else if h : l.val < 32 then s ⟨l.val - 16, by omega⟩ else 0
def tc8 (c : Fin 8 → EReal) (l : Fin 128) : EReal :=
  if h : l.val % 64 < 8 then c ⟨l.val % 64, h⟩ else if h : l.val % 64 < 16 then c ⟨l.val % 64 - 8, by omega⟩ else 1
def ts8 (s : Fin 8 → EReal) (l : Fin 128) : EReal :=
  if h : l.val % 64 < 8 then - s ⟨l.val % 64, h⟩ else if h : l.val % 64 < 16 then s ⟨l.val % 64 - 8, by omega⟩ else 0

theorem sel1 (a b : EReal) : Scalar.select (1#1 : BitVec 1) a b = a := rfl
theorem sel0 (a b : EReal) : Scalar.select (0#1 : BitVec 1) a b = b := rfl

theorem turn16 (c s : Fin 16 → EReal) (y : Fin 128 → EReal) (l : Fin 128) :
    turn 112 16 (fst16 l) (tc16 c l) (ts16 s l) y l = rope16 c s y l := by
  unfold turn rope16 tc16 ts16
  rw [pay4_at]
  by_cases h : l.val < 16
  · rw [if_pos h, sel1, dif_pos h, dif_pos h, dif_pos h, mul_neg, ← sub_eq_add_neg]
    exact congrArg (fun z : Fin 128 => y l * c ⟨l.val, h⟩ - y z * s ⟨l.val, h⟩) (Fin.ext (by show (l.val + 128 - 112) % 128 = 16 + l.val; omega))
  · rw [if_neg h, sel0, dif_neg h, dif_neg h, dif_neg h]
    by_cases h' : l.val < 32
    · rw [dif_pos h', dif_pos h', dif_pos h']
      exact congrArg (fun z : Fin 128 => y l * c ⟨l.val - 16, by omega⟩ + y z * s ⟨l.val - 16, by omega⟩) (Fin.ext (by show (l.val + 128 - 16) % 128 = l.val - 16; omega))
    · rw [dif_neg h', dif_neg h', dif_neg h', mul_one, mul_zero, add_zero]

theorem turn8 (c s : Fin 8 → EReal) (y : Fin 128 → EReal) (l : Fin 128) :
    turn 120 8 (fst8 l) (tc8 c l) (ts8 s l) y l
      = rope8 c s (fun d => y ⟨64 * (l.val / 64) + d.val, by omega⟩) ⟨l.val % 64, Nat.mod_lt _ (by omega)⟩ := by
  unfold turn rope8 tc8 ts8
  rw [pay5_at]
  have e : y l = y ⟨64 * (l.val / 64) + l.val % 64, by omega⟩ := congrArg y (Fin.ext (by show l.val = 64 * (l.val / 64) + l.val % 64; omega))
  by_cases h : l.val % 64 < 8
  · rw [if_pos h, sel1, dif_pos h, dif_pos h, dif_pos h, mul_neg, ← sub_eq_add_neg, e]
    exact congrArg (fun z : Fin 128 => y ⟨64 * (l.val / 64) + l.val % 64, by omega⟩ * c ⟨l.val % 64, h⟩ - y z * s ⟨l.val % 64, h⟩)
      (Fin.ext (by show (l.val + 128 - 120) % 128 = 64 * (l.val / 64) + (8 + l.val % 64); omega))
  · rw [if_neg h, sel0, dif_neg h, dif_neg h, dif_neg h]
    by_cases h' : l.val % 64 < 16
    · rw [dif_pos h', dif_pos h', dif_pos h', e]
      exact congrArg (fun z : Fin 128 => y ⟨64 * (l.val / 64) + l.val % 64, by omega⟩ * c ⟨l.val % 64 - 8, by omega⟩ + y z * s ⟨l.val % 64 - 8, by omega⟩)
        (Fin.ext (by show (l.val + 128 - 8) % 128 = 64 * (l.val / 64) + (l.val % 64 - 8); omega))
    · rw [dif_neg h', dif_neg h', dif_neg h', mul_one, mul_zero, add_zero, e]

variable (h : FVec Ideal ⟨3, ![16, 4096, 1024]⟩ .f32) (c s : FVec Ideal ⟨3, ![16, 4096, 16]⟩ .f32) (d t : FVec Ideal ⟨3, ![16, 4096, 8]⟩ .f32)
  (w : FVec Ideal ⟨2, ![1024, 4428]⟩ .f32) (g : FVec Ideal ⟨1, ![256]⟩ .f32) (u : FVec Ideal ⟨2, ![256, 256]⟩ .f32)

/-- The input projection at one entry. -/
def P (i : Fin 16) (p : Fin 4096) (j : Fin 4428) : EReal := ∑ k : Fin 1024, h (ix3 i p k) * w (ix2 k j)

/-- The normalised latent. -/
def ltn (i : Fin 16) (p : Fin 4096) (k : Fin 256) : EReal :=
  P h w i p ⟨2052 + k.val, by omega⟩ * Ideal.rsqrt (Ideal.div (∑ q : Fin 256, P h w i p ⟨2052 + q.val, by omega⟩ * P h w i p ⟨2052 + q.val, by omega⟩)
    (Ideal.ofBits .f32 0x43800000#32) + Ideal.ofBits .f32 0x358637BD#32) * g (ix1 k)

/-- The latent times its second weight. -/
def kvE (i : Fin 16) (p : Fin 4096) (j : Fin 256) : EReal := ∑ k : Fin 256, ltn h w g i p k * u (ix2 k j)

/-- A row's position. -/
abbrev b_ (r : Fin 65536) : Fin 16 := ⟨r.val / 4096, by omega⟩
abbrev p_ (r : Fin 65536) : Fin 4096 := ⟨r.val % 4096, by omega⟩

/-- A 64 lane head starting at column `o`, turned. -/
def head8 (o : ℕ) (ho : o + 64 ≤ 4428) (i : Fin 16) (p : Fin 4096) (l : Fin 64) : EReal :=
  rope8 (fun k => d (ix3 i p k)) (fun k => t (ix3 i p k)) (fun k => P h w i p ⟨o + k.val, by omega⟩) l

/-- The results. -/
def qaE (r : Fin 65536) (j : Fin 512) : EReal := P h w (b_ r) (p_ r) ⟨j.val, by omega⟩ * Ideal.ofBits .f32 0x3E0293EE#32
def vaE (r : Fin 65536) (j : Fin 512) : EReal := P h w (b_ r) (p_ r) ⟨1024 + j.val, by omega⟩
def vcE (r : Fin 65536) (j : Fin 512) : EReal := P h w (b_ r) (p_ r) ⟨3916 + j.val, by omega⟩
def vbE (r : Fin 65536) (l : Fin 128) : EReal := kvE h w g u (b_ r) (p_ r) ⟨128 + l.val, by omega⟩
def kbE (r : Fin 65536) (l : Fin 128) : EReal :=
  rope16 (fun k => c (ix3 (b_ r) (p_ r) k)) (fun k => s (ix3 (b_ r) (p_ r) k)) (fun k => kvE h w g u (b_ r) (p_ r) ⟨k.val, by omega⟩) l
def qbE (r : Fin 65536) (j : Fin 512) : EReal :=
  rope16 (fun k => c (ix3 (b_ r) (p_ r) k)) (fun k => s (ix3 (b_ r) (p_ r) k)) (fun k => P h w (b_ r) (p_ r) ⟨1540 + (128 * (j.val / 128) + k.val), by omega⟩)
    ⟨j.val % 128, Nat.mod_lt _ (by omega)⟩ * Ideal.ofBits .f32 0x3E0293EE#32
def qiE (r : Fin 65536) (j : Fin 512) : EReal :=
  head8 h d t w (2308 + 64 * (j.val / 64)) (by omega) (b_ r) (p_ r) ⟨j.val % 64, Nat.mod_lt _ (by omega)⟩ * Ideal.ofBits .f32 0x3E000000#32
def kiE (r : Fin 65536) (l : Fin 128) : EReal :=
  head8 h d t w 2820 (by omega) (b_ r) (p_ r) ⟨l.val % 64, Nat.mod_lt _ (by omega)⟩
def qcE (r : Fin 65536) (j : Fin 512) : EReal :=
  head8 h d t w (2892 + 64 * (j.val / 64)) (by omega) (b_ r) (p_ r) ⟨j.val % 64, Nat.mod_lt _ (by omega)⟩ * Ideal.ofBits .f32 0x3E38AA3B#32
def kcE (r : Fin 65536) (j : Fin 512) : EReal :=
  head8 h d t w (3404 + 64 * (j.val / 64)) (by omega) (b_ r) (p_ r) ⟨j.val % 64, Nat.mod_lt _ (by omega)⟩

end Cert.Proj

end

end
-- ==== Proof.Proj.Blk.lean ====
/- The projections' blocks read entry by entry, and what a tile's entries come to. -/
module

public import proofs.«01_k».proof.Proof.Proj.Host
public import proofs.«01_k».proof.Proof.Proj.Spec
public import Idealize.ShloMosaic.Lib.Pipeline.ValueKit
public import Idealize.ShloMosaic.Lib.IdealHost
public import Idealize.ShloMosaic.Lib.Claim

@[expose] public section

set_option maxRecDepth 16384
set_option maxHeartbeats 4000000

noncomputable section

open Idealize.ShloMosaic Idealize.ShloMosaic.TcCoe Idealize.SL.Sem
open Cert.Proj

namespace Cert.Kernel4Ideal.Proj

open Cert.Kernel4Ideal Cert.Kernel4Ideal.Gen

variable (m : (ℓ : Loc nD τ sig) → Buf (Elt Ideal) ℓ) (c : Dev nD)

/-- The windows' blocks at every grid point. -/
theorem idxI : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0] :=
  (by decide +kernel : ∀ t : Fin grid0.N, _)

theorem idxO : ∀ t : Fin cfg0.N, win0_14.index t = ![t.val, 0]
    ∧ win0_16.index t = ![0, t.val]
    ∧ win0_17.index t = ![t.val, 0]
    ∧ win0_18.index t = ![t.val, 0]
    ∧ win0_19.index t = ![0, t.val]
    ∧ win0_20.index t = ![t.val, 0]
    ∧ win0_21.index t = ![t.val, 0]
    ∧ win0_23.index t = ![t.val, 0]
    ∧ win0_24.index t = ![t.val, 0]
    ∧ win0_25.index t = ![0, t.val] :=
  (by decide +kernel : ∀ t : Fin grid0.N, _)

theorem lt_N (t : Fin cfg0.N) : t.val < 128 := lt_of_lt_of_eq t.isLt (show cfg0.N = 128 from N_0)

theorem rd0 (A : FVec Ideal S65536x1024 .f32) (t : Fin cfg0.N) (r : Fin 512) (k : Fin 1024) (i : Fin 65536) (hi : i.val = 512 * t.val + r.val) :
    (((cfg0.win 0).blk t).view.read (Elt Ideal) A : FVec Ideal S512x1024 .f32) (ix2 r k) = A (ix2 i k) := by
  blk_ext [idxI t]
theorem rd1 (A : FVec Ideal S65536x128 .f32) (t : Fin cfg0.N) (r : Fin 512) (k : Fin 128) (i : Fin 65536) (hi : i.val = 512 * t.val + r.val) :
    (((cfg0.win 1).blk t).view.read (Elt Ideal) A : FVec Ideal S512x128 .f32) (ix2 r k) = A (ix2 i k) := by
  blk_ext [idxI t]
theorem rd2 (A : FVec Ideal S65536x128 .f32) (t : Fin cfg0.N) (r : Fin 512) (k : Fin 128) (i : Fin 65536) (hi : i.val = 512 * t.val + r.val) :
    (((cfg0.win 2).blk t).view.read (Elt Ideal) A : FVec Ideal S512x128 .f32) (ix2 r k) = A (ix2 i k) := by
  blk_ext [idxI t]
theorem rd3 (A : FVec Ideal S65536x128 .f32) (t : Fin cfg0.N) (r : Fin 512) (k : Fin 128) (i : Fin 65536) (hi : i.val = 512 * t.val + r.val) :
    (((cfg0.win 3).blk t).view.read (Elt Ideal) A : FVec Ideal S512x128 .f32) (ix2 r k) = A (ix2 i k) := by
  blk_ext [idxI t]
theorem rd4 (A : FVec Ideal S65536x128 .f32) (t : Fin cfg0.N) (r : Fin 512) (k : Fin 128) (i : Fin 65536) (hi : i.val = 512 * t.val + r.val) :
    (((cfg0.win 4).blk t).view.read (Elt Ideal) A : FVec Ideal S512x128 .f32) (ix2 r k) = A (ix2 i k) := by
  blk_ext [idxI t]
theorem rd5 (A : FVec Ideal S1024x1536 .bf16) (t : Fin cfg0.N) (k : Fin 1024) (j : Fin 1536) :
    (((cfg0.win 5).blk t).view.read (Elt Ideal) A : FVec Ideal S1024x1536 .bf16) (ix2 k j) = A (ix2 k j) := by
  blk_ext [idxI t]
theorem rd6 (A : FVec Ideal S1024x512 .bf16) (t : Fin cfg0.N) (k : Fin 1024) (j : Fin 512) :
    (((cfg0.win 6).blk t).view.read (Elt Ideal) A : FVec Ideal S1024x512 .bf16) (ix2 k j) = A (ix2 k j) := by
  blk_ext [idxI t]
theorem rd7 (A : FVec Ideal S1024x256 .bf16) (t : Fin cfg0.N) (k : Fin 1024) (j : Fin 256) :
    (((cfg0.win 7).blk t).view.read (Elt Ideal) A : FVec Ideal S1024x256 .bf16) (ix2 k j) = A (ix2 k j) := by
  blk_ext [idxI t]
theorem rd8 (A : FVec Ideal S1024x512 .bf16) (t : Fin cfg0.N) (k : Fin 1024) (j : Fin 512) :
    (((cfg0.win 8).blk t).view.read (Elt Ideal) A : FVec Ideal S1024x512 .bf16) (ix2 k j) = A (ix2 k j) := by
  blk_ext [idxI t]
theorem rd9 (A : FVec Ideal S1024x1536 .bf16) (t : Fin cfg0.N) (k : Fin 1024) (j : Fin 1536) :
    (((cfg0.win 9).blk t).view.read (Elt Ideal) A : FVec Ideal S1024x1536 .bf16) (ix2 k j) = A (ix2 k j) := by
  blk_ext [idxI t]
theorem rd10 (A : FVec Ideal S1024x128 .bf16) (t : Fin cfg0.N) (k : Fin 1024) (j : Fin 128) :
    (((cfg0.win 10).blk t).view.read (Elt Ideal) A : FVec Ideal S1024x128 .bf16) (ix2 k j) = A (ix2 k j) := by
  blk_ext [idxI t]
theorem rd12 (A : FVec Ideal S1x256 .f32) (t : Fin cfg0.N) (k : Fin 1) (j : Fin 256) :
    (((cfg0.win 12).blk t).view.read (Elt Ideal) A : FVec Ideal S1x256 .f32) (ix2 k j) = A (ix2 k j) := by
  blk_ext [idxI t]
theorem rd13 (A : FVec Ideal S256x256 .bf16) (t : Fin cfg0.N) (k : Fin 256) (j : Fin 256) :
    (((cfg0.win 13).blk t).view.read (Elt Ideal) A : FVec Ideal S256x256 .bf16) (ix2 k j) = A (ix2 k j) := by
  blk_ext [idxI t]

theorem emb14 (t : Fin cfg0.N) (r : Fin 512) (k : Fin 512) (i : Fin 65536) (hi : i.val = 512 * t.val + r.val) :
    (((cfg0.win 14).blk t).view.emb (ix2 r k : S512x512.Idx) : S65536x512.Idx) = ix2 i k := by
  blk_ext [idxO t]
theorem emb17 (t : Fin cfg0.N) (r : Fin 512) (k : Fin 512) (i : Fin 65536) (hi : i.val = 512 * t.val + r.val) :
    (((cfg0.win 17).blk t).view.emb (ix2 r k : S512x512.Idx) : S65536x512.Idx) = ix2 i k := by
  blk_ext [idxO t]
theorem emb18 (t : Fin cfg0.N) (r : Fin 512) (k : Fin 128) (i : Fin 65536) (hi : i.val = 512 * t.val + r.val) :
    (((cfg0.win 18).blk t).view.emb (ix2 r k : S512x128.Idx) : S65536x128.Idx) = ix2 i k := by
  blk_ext [idxO t]
theorem emb20 (t : Fin cfg0.N) (r : Fin 512) (k : Fin 512) (i : Fin 65536) (hi : i.val = 512 * t.val + r.val) :
    (((cfg0.win 20).blk t).view.emb (ix2 r k : S512x512.Idx) : S65536x512.Idx) = ix2 i k := by
  blk_ext [idxO t]
theorem emb21 (t : Fin cfg0.N) (r : Fin 512) (k : Fin 128) (i : Fin 65536) (hi : i.val = 512 * t.val + r.val) :
    (((cfg0.win 21).blk t).view.emb (ix2 r k : S512x128.Idx) : S65536x128.Idx) = ix2 i k := by
  blk_ext [idxO t]
theorem emb23 (t : Fin cfg0.N) (r : Fin 512) (k : Fin 512) (i : Fin 65536) (hi : i.val = 512 * t.val + r.val) :
    (((cfg0.win 23).blk t).view.emb (ix2 r k : S512x512.Idx) : S65536x512.Idx) = ix2 i k := by
  blk_ext [idxO t]
theorem emb24 (t : Fin cfg0.N) (r : Fin 512) (k : Fin 512) (i : Fin 65536) (hi : i.val = 512 * t.val + r.val) :
    (((cfg0.win 24).blk t).view.emb (ix2 r k : S512x512.Idx) : S65536x512.Idx) = ix2 i k := by
  blk_ext [idxO t]
theorem emb16 (t : Fin cfg0.N) (r : Fin 512) (k : Fin 512) (i : Fin 65536) (hi : i.val = 512 * t.val + r.val) :
    (((cfg0.win 16).blk t).view.emb (ix2 k r : S512x512.Idx) : S512x65536.Idx) = ix2 k i := by
  blk_ext [idxO t]
theorem emb19 (t : Fin cfg0.N) (r : Fin 512) (k : Fin 128) (i : Fin 65536) (hi : i.val = 512 * t.val + r.val) :
    (((cfg0.win 19).blk t).view.emb (ix2 k r : S128x512.Idx) : S128x65536.Idx) = ix2 k i := by
  blk_ext [idxO t]
theorem emb25 (t : Fin cfg0.N) (r : Fin 512) (k : Fin 512) (i : Fin 65536) (hi : i.val = 512 * t.val + r.val) :
    (((cfg0.win 25).blk t).view.emb (ix2 k r : S512x512.Idx) : S512x65536.Idx) = ix2 k i := by
  blk_ext [idxO t]

section Rows

variable (t : Fin cfg0.N) (r : Fin 512) (i : Fin 65536) (hi : i.val = 512 * t.val + r.val)
include hi

theorem row (k : Fin 1024) : (iblk m c 0 t : FVec Ideal S512x1024 .f32) (ix2 r k) = Xh m c (ix3 (b_ i) (p_ i) k) :=
  (rd0 (Ah m c) t r k i hi).trans (Ah_at m c i k)
theorem tab1 (l : Fin 128) : (iblk m c 1 t : FVec Ideal S512x128 .f32) (ix2 r l) = tc16 (fun k => Xc m c (ix3 (b_ i) (p_ i) k)) l :=
  (rd1 (Ac16 m c) t r l i hi).trans (Ac16_at m c i l)
theorem tab2 (l : Fin 128) : (iblk m c 2 t : FVec Ideal S512x128 .f32) (ix2 r l) = ts16 (fun k => Xs m c (ix3 (b_ i) (p_ i) k)) l :=
  (rd2 (As16 m c) t r l i hi).trans (As16_at m c i l)
theorem tab3 (l : Fin 128) : (iblk m c 3 t : FVec Ideal S512x128 .f32) (ix2 r l) = tc8 (fun k => Xd m c (ix3 (b_ i) (p_ i) k)) l :=
  (rd3 (Ac8 m c) t r l i hi).trans (Ac8_at m c i l)
theorem tab4 (l : Fin 128) : (iblk m c 4 t : FVec Ideal S512x128 .f32) (ix2 r l) = ts8 (fun k => Xt m c (ix3 (b_ i) (p_ i) k)) l :=
  (rd4 (As8 m c) t r l i hi).trans (As8_at m c i l)

theorem pjP {n : ℕ} (w : FVec Ideal ⟨2, ![1024, n]⟩ .bf16) (j : Fin n) (j' : Fin 4428) (hw : ∀ k : Fin 1024, w (ix2 k j) = Xw m c (ix2 k j')) :
    pj (iblk m c 0 t) w r j = P (Xh m c) (Xw m c) (b_ i) (p_ i) j' := by
  unfold P
  exact Finset.sum_congr rfl fun k _ => congrArg₂ (· * ·) (row m c t r i hi k) (hw k)

theorem aq_eq (j : Fin 512) : pj (iblk m c 0 t) (iblk m c 5 t : FVec Ideal S1024x1536 .bf16) r ⟨j.val, by omega⟩ = P (Xh m c) (Xw m c) (b_ i) (p_ i) ⟨j.val, by omega⟩ :=
  pjP m c t r i hi _ _ _ fun k => (rd5 (Aa m c) t k _).trans (Aa_q m c k j)
theorem av_eq (j : Fin 512) : pj (iblk m c 0 t) (iblk m c 5 t : FVec Ideal S1024x1536 .bf16) r ⟨1024 + j.val, by omega⟩ = P (Xh m c) (Xw m c) (b_ i) (p_ i) ⟨1024 + j.val, by omega⟩ :=
  pjP m c t r i hi _ _ _ fun k => (rd5 (Aa m c) t k _).trans (Aa_v m c k j)
theorem bq_eq (j : Fin 512) : pj (iblk m c 0 t) (iblk m c 6 t : FVec Ideal S1024x512 .bf16) r j = P (Xh m c) (Xw m c) (b_ i) (p_ i) ⟨1540 + j.val, by omega⟩ :=
  pjP m c t r i hi _ _ _ fun k => (rd6 (Aq m c) t k _).trans (Aq_at m c k j)
theorem bc_eq (j : Fin 256) : pj (iblk m c 0 t) (iblk m c 7 t : FVec Ideal S1024x256 .bf16) r j = P (Xh m c) (Xw m c) (b_ i) (p_ i) ⟨2052 + j.val, by omega⟩ :=
  pjP m c t r i hi _ _ _ fun k => (rd7 (Al m c) t k _).trans (Al_at m c k j)
theorem bi_eq (j : Fin 512) : pj (iblk m c 0 t) (iblk m c 8 t : FVec Ideal S1024x512 .bf16) r j = P (Xh m c) (Xw m c) (b_ i) (p_ i) ⟨2308 + j.val, by omega⟩ :=
  pjP m c t r i hi _ _ _ fun k => (rd8 (Ai m c) t k _).trans (Ai_at m c k j)
theorem cd_eq (j : Fin 1536) : pj (iblk m c 0 t) (iblk m c 9 t : FVec Ideal S1024x1536 .bf16) r j = P (Xh m c) (Xw m c) (b_ i) (p_ i) ⟨2892 + j.val, by omega⟩ :=
  pjP m c t r i hi _ _ _ fun k => (rd9 (Ad m c) t k _).trans (Ad_at m c k j)
theorem ik_eq (j : Fin 64) : pj (iblk m c 0 t) (iblk m c 10 t : FVec Ideal S1024x128 .bf16) r ⟨64 + j.val, by omega⟩ = P (Xh m c) (Xw m c) (b_ i) (p_ i) ⟨2820 + j.val, by omega⟩ :=
  pjP m c t r i hi _ _ _ fun k => (rd10 (Am m c) t k _).trans (Am_at m c k j)

theorem kv_eq (j : Fin 256) : kv (iblk m c 0 t) (iblk m c 7 t) (iblk m c 12 t) (iblk m c 13 t) r j = kvE (Xh m c) (Xw m c) (Xg m c) (Xu m c) (b_ i) (p_ i) j := by
  unfold kv kvE
  refine Finset.sum_congr rfl fun k _ => congrArg₂ (· * ·) ?_ ((rd13 (Au m c) t k j).trans (Au_at m c k j))
  unfold lat ltn
  refine congrArg₂ (· * ·) ?_ ((rd12 (Ag m c) t 0 k).trans (Ag_at m c k))
  rw [bc_eq m c t r i hi k]
  refine congrArg (fun z => _ * Ideal.rsqrt (Ideal.div z _ + _)) (Finset.sum_congr rfl fun q _ => ?_)
  rw [bc_eq m c t r i hi q]

/-- A chunk of heads turned over 32 lanes. -/
theorem turnA (l : Fin 128) (y : Fin 128 → EReal) :
    turn 112 16 (fst16 l) ((iblk m c 1 t : FVec Ideal S512x128 .f32) (ix2 r l)) ((iblk m c 2 t : FVec Ideal S512x128 .f32) (ix2 r l)) y l
      = rope16 (fun k => Xc m c (ix3 (b_ i) (p_ i) k)) (fun k => Xs m c (ix3 (b_ i) (p_ i) k)) y l := by
  rw [tab1 m c t r i hi l, tab2 m c t r i hi l, turn16]

/-- A chunk of heads turned over 16 lanes. -/
theorem turnB (l : Fin 128) (y : Fin 128 → EReal) :
    turn 120 8 (fst8 l) ((iblk m c 3 t : FVec Ideal S512x128 .f32) (ix2 r l)) ((iblk m c 4 t : FVec Ideal S512x128 .f32) (ix2 r l)) y l
      = rope8 (fun k => Xd m c (ix3 (b_ i) (p_ i) k)) (fun k => Xt m c (ix3 (b_ i) (p_ i) k)) (fun d => y ⟨64 * (l.val / 64) + d.val, by omega⟩) ⟨l.val % 64, Nat.mod_lt _ (by omega)⟩ := by
  rw [tab3 m c t r i hi l, tab4 m c t r i hi l, turn8]

theorem qb_piece (n : ℕ) (j : Fin 512) (l : Fin 128) (hj : j.val = 128 * n + l.val) (y : Fin 128 → EReal)
    (hy : ∀ k : Fin 128, y k = P (Xh m c) (Xw m c) (b_ i) (p_ i) ⟨1540 + (128 * n + k.val), by omega⟩) :
    turn 112 16 (fst16 l) ((iblk m c 1 t : FVec Ideal S512x128 .f32) (ix2 r l)) ((iblk m c 2 t : FVec Ideal S512x128 .f32) (ix2 r l)) y l * Ideal.ofBits .f32 0x3E0293EE#32
      = qbE (Xh m c) (Xc m c) (Xs m c) (Xw m c) i j := by
  rw [turnA m c t r i hi l y]
  unfold qbE
  obtain rfl : n = j.val / 128 := by omega
  have e : l = ⟨j.val % 128, Nat.mod_lt _ (by omega)⟩ := Fin.ext (by show l.val = j.val % 128; omega)
  rw [e]
  exact congrArg (fun y => rope16 _ _ y _ * _) (funext hy)

theorem head_piece (o n : ℕ) (J : ℕ) (l : Fin 128) (hj : J = 128 * n + l.val) (hJ : o + J < 4400) (ho : o + 64 * (J / 64) + 64 ≤ 4428) (y : Fin 128 → EReal)
    (hn : o + 128 * n + 128 ≤ 4428) (hy : ∀ k : Fin 128, y k = P (Xh m c) (Xw m c) (b_ i) (p_ i) ⟨o + (128 * n + k.val), by omega⟩) :
    turn 120 8 (fst8 l) ((iblk m c 3 t : FVec Ideal S512x128 .f32) (ix2 r l)) ((iblk m c 4 t : FVec Ideal S512x128 .f32) (ix2 r l)) y l
      = head8 (Xh m c) (Xd m c) (Xt m c) (Xw m c) (o + 64 * (J / 64)) ho (b_ i) (p_ i) ⟨J % 64, Nat.mod_lt _ (by omega)⟩ := by
  rw [turnB m c t r i hi l y]
  unfold head8
  have e : (⟨l.val % 64, Nat.mod_lt _ (by omega)⟩ : Fin 64) = ⟨J % 64, Nat.mod_lt _ (by omega)⟩ := Fin.ext (by show l.val % 64 = J % 64; omega)
  rw [e]
  refine congrArg (fun y => rope8 _ _ y _) (funext fun k => (hy _).trans ?_)
  exact congrArg (fun q => P (Xh m c) (Xw m c) (b_ i) (p_ i) q) (Fin.ext (by show o + (128 * n + (64 * (l.val / 64) + k.val)) = o + 64 * (J / 64) + k.val; omega))

theorem ki_lane (l l' : Fin 128) (h : l.val % 64 = l'.val % 64) (h' : 64 ≤ l'.val) :
    turn 120 8 (fst8 l') ((iblk m c 3 t : FVec Ideal S512x128 .f32) (ix2 r l')) ((iblk m c 4 t : FVec Ideal S512x128 .f32) (ix2 r l'))
        (fun k => pj (iblk m c 0 t) (iblk m c 10 t : FVec Ideal S1024x128 .bf16) r k) l'
      = kiE (Xh m c) (Xd m c) (Xt m c) (Xw m c) i l := by
  rw [turnB m c t r i hi l' _]
  unfold kiE head8
  have e : (⟨l'.val % 64, Nat.mod_lt _ (by omega)⟩ : Fin 64) = ⟨l.val % 64, Nat.mod_lt _ (by omega)⟩ := Fin.ext h.symm
  rw [e]
  refine congrArg (fun y => rope8 _ _ y _) (funext fun k => ?_)
  refine Eq.trans ?_ (ik_eq m c t r i hi k)
  exact congrArg (fun q => pj (iblk m c 0 t) (iblk m c 10 t : FVec Ideal S1024x128 .bf16) r q) (Fin.ext (by show 64 * (l'.val / 64) + k.val = 64 + k.val; omega))

end Rows

end Cert.Kernel4Ideal.Proj

end

end
-- ==== Proof.Proj.Out.lean ====
/- The projections' output arrays. -/
module

public import proofs.«01_k».proof.Proof.Proj.Tile
public import proofs.«01_k».proof.Proof.Proj.Blk
public import Idealize.ShloMosaic.Lib.Pipeline.ValueKit
public import Idealize.ShloMosaic.Lib.IdealHost
public import Idealize.ShloMosaic.Lib.Claim

@[expose] public section

set_option maxRecDepth 16384
set_option maxHeartbeats 1600000

noncomputable section

open Idealize.ShloMosaic Idealize.ShloMosaic.TcCoe Idealize.SL.Sem
open Cert.Proj

namespace Cert.Kernel4Ideal.Proj

open Cert.Kernel4Ideal Cert.Kernel4Ideal.Gen

variable (m : (ℓ : Loc nD τ sig) → Buf (Elt Ideal) ℓ) (c : Dev nD)

/-- A lane's chunk and its place in it. -/
theorem lane (j : Fin 512) : j.val = 128 * (⟨j.val / 128, by omega⟩ : Fin 4).val + (⟨j.val % 128, Nat.mod_lt _ (by omega)⟩ : Fin 128).val := by
  show j.val = 128 * (j.val / 128) + j.val % 128
  omega

section Blocks

variable (t : Fin cfg0.N) (r : Fin 512) (i : Fin 65536) (hi : i.val = 512 * t.val + r.val)
include hi

theorem block14 (j : Fin 512) : (outsAt0 m c t.val t.isLt).1 (ix2 r j) = qaE (Xh m c) (Xw m c) i j :=
  (tqa m c t r j).trans (congrArg (· * _) (aq_eq m c t r i hi j))

theorem block16 (j : Fin 512) : (outsAt0 m c t.val t.isLt).2.2.1 (ix2 j r) = vaE (Xh m c) (Xw m c) i j :=
  (tva m c t r j).trans (av_eq m c t r i hi j)

theorem block17 (j : Fin 512) : (outsAt0 m c t.val t.isLt).2.2.2.1 (ix2 r j) = qbE (Xh m c) (Xc m c) (Xs m c) (Xw m c) i j :=
  (tqb m c t r j ⟨j.val / 128, by omega⟩ ⟨j.val % 128, Nat.mod_lt _ (by omega)⟩ (lane j)).trans (qb_piece m c t r i hi (j.val / 128) j ⟨j.val % 128, Nat.mod_lt _ (by omega)⟩ (lane j) _ fun k => bq_eq m c t r i hi _)

theorem block18 (j : Fin 128) : (outsAt0 m c t.val t.isLt).2.2.2.2.1 (ix2 r j) = kbE (Xh m c) (Xc m c) (Xs m c) (Xw m c) (Xg m c) (Xu m c) i j :=
  (tkb m c t r j).trans ((turnA m c t r i hi j _).trans
    (congrArg (fun y => rope16 _ _ y _) (funext fun k => kv_eq m c t r i hi _)))

theorem block19 (j : Fin 128) : (outsAt0 m c t.val t.isLt).2.2.2.2.2.1 (ix2 j r) = vbE (Xh m c) (Xw m c) (Xg m c) (Xu m c) i j :=
  (tvb m c t r j).trans (kv_eq m c t r i hi _)

theorem block20 (j : Fin 512) : (outsAt0 m c t.val t.isLt).2.2.2.2.2.2.1 (ix2 r j) = qiE (Xh m c) (Xd m c) (Xt m c) (Xw m c) i j :=
  (tqi m c t r j ⟨j.val / 128, by omega⟩ ⟨j.val % 128, Nat.mod_lt _ (by omega)⟩ (lane j)).trans (congrArg (· * _) (head_piece m c t r i hi 2308 (j.val / 128) j.val ⟨j.val % 128, Nat.mod_lt _ (by omega)⟩ (lane j) (by omega) (by omega) _ (by omega) fun k => bi_eq m c t r i hi _))

theorem block21 (j : Fin 128) : (outsAt0 m c t.val t.isLt).2.2.2.2.2.2.2.1 (ix2 r j) = kiE (Xh m c) (Xd m c) (Xt m c) (Xw m c) i j := by
  refine (tki m c t r j).trans ?_
  by_cases h : j.val < 64
  · rw [if_pos h]
    exact ki_lane m c t r i hi j ⟨(j.val + 128 - 64) % 128, Nat.mod_lt _ (by omega)⟩ (by show j.val % 64 = (j.val + 128 - 64) % 128 % 64; omega) (by show 64 ≤ (j.val + 128 - 64) % 128; omega)
  · rw [if_neg h]
    exact ki_lane m c t r i hi j j rfl (by omega)

theorem block23 (j : Fin 512) : (outsAt0 m c t.val t.isLt).2.2.2.2.2.2.2.2.2.1 (ix2 r j) = qcE (Xh m c) (Xd m c) (Xt m c) (Xw m c) i j :=
  (tqc m c t r j ⟨j.val / 128, by omega⟩ ⟨j.val % 128, Nat.mod_lt _ (by omega)⟩ (lane j)).trans (congrArg (· * _) (head_piece m c t r i hi 2892 (j.val / 128) j.val ⟨j.val % 128, Nat.mod_lt _ (by omega)⟩ (lane j) (by omega) (by omega) _ (by omega) fun k => cd_eq m c t r i hi _))

theorem block24 (j : Fin 512) : (outsAt0 m c t.val t.isLt).2.2.2.2.2.2.2.2.2.2.1 (ix2 r j) = kcE (Xh m c) (Xd m c) (Xt m c) (Xw m c) i j :=
  (tkc m c t r j ⟨j.val / 128, by omega⟩ ⟨j.val % 128, Nat.mod_lt _ (by omega)⟩ (lane j)).trans (head_piece m c t r i hi 3404 (j.val / 128) j.val ⟨j.val % 128, Nat.mod_lt _ (by omega)⟩ (lane j) (by omega) (by omega) _ (by omega) fun k => (cd_eq m c t r i hi _).trans (congrArg (fun q => P (Xh m c) (Xw m c) (b_ i) (p_ i) q) (Fin.ext (by show 2892 + (512 + (128 * (j.val / 128) + k.val)) = 3404 + (128 * (j.val / 128) + k.val); omega))))

theorem block25 (j : Fin 512) : (outsAt0 m c t.val t.isLt).2.2.2.2.2.2.2.2.2.2.2.1 (ix2 j r) = vcE (Xh m c) (Xw m c) i j :=
  (tvc m c t r j).trans ((cd_eq m c t r i hi ⟨1024 + j.val, by omega⟩).trans (congrArg (fun q => P (Xh m c) (Xw m c) (b_ i) (p_ i) q) (Fin.ext (by show 2892 + (1024 + j.val) = 3916 + j.val; omega))))

end Blocks

theorem final14 : (dats m 0 c).arrAt 14 cfg0.N = (fun x => qaE (Xh m c) (Xw m c) (x 0) (x 1) : FVec Ideal S65536x512 .bf16) := by
  have hb := fun t r i hi k => block14 m c t r i hi k
  generalize qaE (Xh m c) (Xw m c) = G at hb ⊢
  refine (dats m 0 c).arrAt_eq_of_covers 14 _ (by decide +kernel) fun t _ y => ?_
  blk_simp
  rw [after0_14]
  have ht := lt_N t
  obtain ⟨r, k, rfl⟩ : ∃ (r : Fin 512) (k : Fin 512), y = (ix2 r k : S512x512.Idx) := ⟨y 0, y 1, by blk_ext⟩
  refine (hb t r ⟨512 * t.val + r.val, by omega⟩ rfl k).trans ?_
  exact congrArg (fun x : S65536x512.Idx => G (x 0) (x 1)) (emb14 t r k ⟨512 * t.val + r.val, by omega⟩ rfl).symm

theorem final16 : (dats m 0 c).arrAt 16 cfg0.N = (fun x => vaE (Xh m c) (Xw m c) (x 1) (x 0) : FVec Ideal S512x65536 .bf16) := by
  have hb := fun t r i hi k => block16 m c t r i hi k
  generalize vaE (Xh m c) (Xw m c) = G at hb ⊢
  refine (dats m 0 c).arrAt_eq_of_covers 16 _ (by decide +kernel) fun t _ y => ?_
  blk_simp
  rw [after0_16]
  have ht := lt_N t
  obtain ⟨k, r, rfl⟩ : ∃ (k : Fin 512) (r : Fin 512), y = (ix2 k r : S512x512.Idx) := ⟨y 0, y 1, by blk_ext⟩
  refine (hb t r ⟨512 * t.val + r.val, by omega⟩ rfl k).trans ?_
  exact congrArg (fun x : S512x65536.Idx => G (x 1) (x 0)) (emb16 t r k ⟨512 * t.val + r.val, by omega⟩ rfl).symm

theorem final17 : (dats m 0 c).arrAt 17 cfg0.N = (fun x => qbE (Xh m c) (Xc m c) (Xs m c) (Xw m c) (x 0) (x 1) : FVec Ideal S65536x512 .bf16) := by
  have hb := fun t r i hi k => block17 m c t r i hi k
  generalize qbE (Xh m c) (Xc m c) (Xs m c) (Xw m c) = G at hb ⊢
  refine (dats m 0 c).arrAt_eq_of_covers 17 _ (by decide +kernel) fun t _ y => ?_
  blk_simp
  rw [after0_17]
  have ht := lt_N t
  obtain ⟨r, k, rfl⟩ : ∃ (r : Fin 512) (k : Fin 512), y = (ix2 r k : S512x512.Idx) := ⟨y 0, y 1, by blk_ext⟩
  refine (hb t r ⟨512 * t.val + r.val, by omega⟩ rfl k).trans ?_
  exact congrArg (fun x : S65536x512.Idx => G (x 0) (x 1)) (emb17 t r k ⟨512 * t.val + r.val, by omega⟩ rfl).symm

theorem final18 : (dats m 0 c).arrAt 18 cfg0.N = (fun x => kbE (Xh m c) (Xc m c) (Xs m c) (Xw m c) (Xg m c) (Xu m c) (x 0) (x 1) : FVec Ideal S65536x128 .bf16) := by
  have hb := fun t r i hi k => block18 m c t r i hi k
  generalize kbE (Xh m c) (Xc m c) (Xs m c) (Xw m c) (Xg m c) (Xu m c) = G at hb ⊢
  refine (dats m 0 c).arrAt_eq_of_covers 18 _ (by decide +kernel) fun t _ y => ?_
  blk_simp
  rw [after0_18]
  have ht := lt_N t
  obtain ⟨r, k, rfl⟩ : ∃ (r : Fin 512) (k : Fin 128), y = (ix2 r k : S512x128.Idx) := ⟨y 0, y 1, by blk_ext⟩
  refine (hb t r ⟨512 * t.val + r.val, by omega⟩ rfl k).trans ?_
  exact congrArg (fun x : S65536x128.Idx => G (x 0) (x 1)) (emb18 t r k ⟨512 * t.val + r.val, by omega⟩ rfl).symm

theorem final19 : (dats m 0 c).arrAt 19 cfg0.N = (fun x => vbE (Xh m c) (Xw m c) (Xg m c) (Xu m c) (x 1) (x 0) : FVec Ideal S128x65536 .bf16) := by
  have hb := fun t r i hi k => block19 m c t r i hi k
  generalize vbE (Xh m c) (Xw m c) (Xg m c) (Xu m c) = G at hb ⊢
  refine (dats m 0 c).arrAt_eq_of_covers 19 _ (by decide +kernel) fun t _ y => ?_
  blk_simp
  rw [after0_19]
  have ht := lt_N t
  obtain ⟨k, r, rfl⟩ : ∃ (k : Fin 128) (r : Fin 512), y = (ix2 k r : S128x512.Idx) := ⟨y 0, y 1, by blk_ext⟩
  refine (hb t r ⟨512 * t.val + r.val, by omega⟩ rfl k).trans ?_
  exact congrArg (fun x : S128x65536.Idx => G (x 1) (x 0)) (emb19 t r k ⟨512 * t.val + r.val, by omega⟩ rfl).symm

theorem final20 : (dats m 0 c).arrAt 20 cfg0.N = (fun x => qiE (Xh m c) (Xd m c) (Xt m c) (Xw m c) (x 0) (x 1) : FVec Ideal S65536x512 .bf16) := by
  have hb := fun t r i hi k => block20 m c t r i hi k
  generalize qiE (Xh m c) (Xd m c) (Xt m c) (Xw m c) = G at hb ⊢
  refine (dats m 0 c).arrAt_eq_of_covers 20 _ (by decide +kernel) fun t _ y => ?_
  blk_simp
  rw [after0_20]
  have ht := lt_N t
  obtain ⟨r, k, rfl⟩ : ∃ (r : Fin 512) (k : Fin 512), y = (ix2 r k : S512x512.Idx) := ⟨y 0, y 1, by blk_ext⟩
  refine (hb t r ⟨512 * t.val + r.val, by omega⟩ rfl k).trans ?_
  exact congrArg (fun x : S65536x512.Idx => G (x 0) (x 1)) (emb20 t r k ⟨512 * t.val + r.val, by omega⟩ rfl).symm

theorem final21 : (dats m 0 c).arrAt 21 cfg0.N = (fun x => kiE (Xh m c) (Xd m c) (Xt m c) (Xw m c) (x 0) (x 1) : FVec Ideal S65536x128 .bf16) := by
  have hb := fun t r i hi k => block21 m c t r i hi k
  generalize kiE (Xh m c) (Xd m c) (Xt m c) (Xw m c) = G at hb ⊢
  refine (dats m 0 c).arrAt_eq_of_covers 21 _ (by decide +kernel) fun t _ y => ?_
  blk_simp
  rw [after0_21]
  have ht := lt_N t
  obtain ⟨r, k, rfl⟩ : ∃ (r : Fin 512) (k : Fin 128), y = (ix2 r k : S512x128.Idx) := ⟨y 0, y 1, by blk_ext⟩
  refine (hb t r ⟨512 * t.val + r.val, by omega⟩ rfl k).trans ?_
  exact congrArg (fun x : S65536x128.Idx => G (x 0) (x 1)) (emb21 t r k ⟨512 * t.val + r.val, by omega⟩ rfl).symm

theorem final23 : (dats m 0 c).arrAt 23 cfg0.N = (fun x => qcE (Xh m c) (Xd m c) (Xt m c) (Xw m c) (x 0) (x 1) : FVec Ideal S65536x512 .bf16) := by
  have hb := fun t r i hi k => block23 m c t r i hi k
  generalize qcE (Xh m c) (Xd m c) (Xt m c) (Xw m c) = G at hb ⊢
  refine (dats m 0 c).arrAt_eq_of_covers 23 _ (by decide +kernel) fun t _ y => ?_
  blk_simp
  rw [after0_23]
  have ht := lt_N t
  obtain ⟨r, k, rfl⟩ : ∃ (r : Fin 512) (k : Fin 512), y = (ix2 r k : S512x512.Idx) := ⟨y 0, y 1, by blk_ext⟩
  refine (hb t r ⟨512 * t.val + r.val, by omega⟩ rfl k).trans ?_
  exact congrArg (fun x : S65536x512.Idx => G (x 0) (x 1)) (emb23 t r k ⟨512 * t.val + r.val, by omega⟩ rfl).symm

theorem final24 : (dats m 0 c).arrAt 24 cfg0.N = (fun x => kcE (Xh m c) (Xd m c) (Xt m c) (Xw m c) (x 0) (x 1) : FVec Ideal S65536x512 .bf16) := by
  have hb := fun t r i hi k => block24 m c t r i hi k
  generalize kcE (Xh m c) (Xd m c) (Xt m c) (Xw m c) = G at hb ⊢
  refine (dats m 0 c).arrAt_eq_of_covers 24 _ (by decide +kernel) fun t _ y => ?_
  blk_simp
  rw [after0_24]
  have ht := lt_N t
  obtain ⟨r, k, rfl⟩ : ∃ (r : Fin 512) (k : Fin 512), y = (ix2 r k : S512x512.Idx) := ⟨y 0, y 1, by blk_ext⟩
  refine (hb t r ⟨512 * t.val + r.val, by omega⟩ rfl k).trans ?_
  exact congrArg (fun x : S65536x512.Idx => G (x 0) (x 1)) (emb24 t r k ⟨512 * t.val + r.val, by omega⟩ rfl).symm

theorem final25 : (dats m 0 c).arrAt 25 cfg0.N = (fun x => vcE (Xh m c) (Xw m c) (x 1) (x 0) : FVec Ideal S512x65536 .bf16) := by
  have hb := fun t r i hi k => block25 m c t r i hi k
  generalize vcE (Xh m c) (Xw m c) = G at hb ⊢
  refine (dats m 0 c).arrAt_eq_of_covers 25 _ (by decide +kernel) fun t _ y => ?_
  blk_simp
  rw [after0_25]
  have ht := lt_N t
  obtain ⟨k, r, rfl⟩ : ∃ (k : Fin 512) (r : Fin 512), y = (ix2 k r : S512x512.Idx) := ⟨y 0, y 1, by blk_ext⟩
  refine (hb t r ⟨512 * t.val + r.val, by omega⟩ rfl k).trans ?_
  exact congrArg (fun x : S512x65536.Idx => G (x 1) (x 0)) (emb25 t r k ⟨512 * t.val + r.val, by omega⟩ rfl).symm

end Cert.Kernel4Ideal.Proj

end

end
-- ==== Proof.Proj.Ref.lean ====
/- What the projections' reference computes, over the extended reals, entry by entry. -/
module

public import proofs.«01_k».proof.Proof.Gen.Reference4Ideal.Run
public import proofs.«01_k».proof.Proof.Proj.Spec
public import Idealize.ShloMosaic.Lib.Pipeline.ValueKit
public import Idealize.ShloMosaic.Lib.IdealHost
public import Idealize.ShloMosaic.Lib.Claim

@[expose] public section

set_option maxRecDepth 16384
set_option maxHeartbeats 4000000

noncomputable section

open Idealize.ShloMosaic Idealize.ShloMosaic.TcCoe Idealize.SL.Sem
open Cert.Proj

namespace Cert.Reference4Ideal.Proj

open Cert.Reference4Ideal Cert.Reference4Ideal.Gen

/-- The input projection. -/
def yF (x : FVec Ideal S16x4096x1024 .f32) (w : FVec Ideal S1024x4428 .f32) : FVec Ideal S16x4096x4428 .f32 :=
  Host.dotGeneral dot_S16x4096x1024_S1024x4428_S16x4096x4428_2_0_01_1_n_n none x w

/-- The latent's columns. -/
def bcF (y : FVec Ideal S16x4096x4428 .f32) : FVec Ideal S16x4096x256 .f32 :=
  extractStridedSlice S16x4096x256 ![0, 0, 2052] y slices_S16x4096x4428_S16x4096x256_0_0_2052

/-- The normalised latent. -/
def ltF (b : FVec Ideal S16x4096x256 .f32) (g : FVec Ideal S256 .f32) : FVec Ideal S16x4096x256 .f32 :=
  mulf (mulf b (broadcastInDim S16x4096x256 ![0, 1, 2] bcast_S16x4096x1_S16x4096x256_0_1_2 (Host.rsqrt (addf (Host.divf (broadcastInDim S16x4096x1 ![0, 1] bcast_S16x4096_S16x4096x1_0_1 (Host.reduceAdd (mulf b b) (constant S_ .f32 0x00000000#32) reducesTo_S16x4096x256_S16x4096_d2 h_S_)) (broadcastInDim S16x4096x1 ![] bcast_S_S16x4096x1 (constant S_ .f32 0x43800000#32))) (broadcastInDim S16x4096x1 ![] bcast_S_S16x4096x1 (constant S_ .f32 0x358637BD#32)))))) (broadcastInDim S16x4096x256 ![0, 1, 2] bcast_S1x1x256_S16x4096x256_0_1_2 (broadcastInDim S1x1x256 ![2] bcast_S256_S1x1x256_2 g))

/-- The latent times its second weight. -/
def kvF (l : FVec Ideal S16x4096x256 .f32) (u : FVec Ideal S256x256 .f32) : FVec Ideal S16x4096x256 .f32 :=
  Host.dotGeneral dot_S16x4096x256_S256x256_S16x4096x256_2_0_01_1_n_n none l u

/-- The heads that turn over 32 lanes. -/
def wdF (y : FVec Ideal S16x4096x4428 .f32) (v : FVec Ideal S16x4096x256 .f32) : FVec Ideal S16x4096x5x128 .f32 :=
  concatenate S16x4096x5x128 2 [⟨S16x4096x4x128, shapeCast _ (extractStridedSlice S16x4096x512 ![0, 0, 1540] y slices_S16x4096x4428_S16x4096x512_0_0_1540) shapeCasts_S16x4096x512_S16x4096x4x128⟩, ⟨S16x4096x1x128, broadcastInDim S16x4096x1x128 ![0, 1, 3] bcast_S16x4096x128_S16x4096x1x128_0_1_3 (extractStridedSlice S16x4096x128 ![0, 0, 0] v slices_S16x4096x256_S16x4096x128_0_0_0)⟩] concatenates_S16x4096x4x128_S16x4096x1x128_S16x4096x5x128_d2

/-- The heads that turn over 16 lanes. -/
def slF (y : FVec Ideal S16x4096x4428 .f32) : FVec Ideal S16x4096x25x64 .f32 :=
  concatenate S16x4096x25x64 2 [⟨S16x4096x8x64, shapeCast _ (extractStridedSlice S16x4096x512 ![0, 0, 2308] y slices_S16x4096x4428_S16x4096x512_0_0_2308) shapeCasts_S16x4096x512_S16x4096x8x64⟩, ⟨S16x4096x1x64, broadcastInDim S16x4096x1x64 ![0, 1, 3] bcast_S16x4096x64_S16x4096x1x64_0_1_3 (extractStridedSlice S16x4096x64 ![0, 0, 2820] y slices_S16x4096x4428_S16x4096x64_0_0_2820)⟩, ⟨S16x4096x8x64, shapeCast _ (extractStridedSlice S16x4096x512 ![0, 0, 2892] y slices_S16x4096x4428_S16x4096x512_0_0_2892) shapeCasts_S16x4096x512_S16x4096x8x64⟩, ⟨S16x4096x8x64, shapeCast _ (extractStridedSlice S16x4096x512 ![0, 0, 3404] y slices_S16x4096x4428_S16x4096x512_0_0_3404) shapeCasts_S16x4096x512_S16x4096x8x64⟩] concatenates_S16x4096x8x64_S16x4096x1x64_S16x4096x8x64_S16x4096x8x64_S16x4096x25x64_d2

/-- Heads turned over their first 32 lanes. -/
def rwF (z : FVec Ideal S16x4096x5x128 .f32) (c s : FVec Ideal S16x4096x16 .f32) : FVec Ideal S16x4096x5x128 .f32 :=
  concatenate S16x4096x5x128 3 [⟨S16x4096x5x16, subf (mulf (extractStridedSlice S16x4096x5x16 ![0, 0, 0, 0] z slices_S16x4096x5x128_S16x4096x5x16_0_0_0_0) (broadcastInDim S16x4096x5x16 ![0, 1, 2, 3] bcast_S16x4096x1x16_S16x4096x5x16_0_1_2_3 (broadcastInDim S16x4096x1x16 ![0, 1, 3] bcast_S16x4096x16_S16x4096x1x16_0_1_3 c))) (mulf (extractStridedSlice S16x4096x5x16 ![0, 0, 0, 16] z slices_S16x4096x5x128_S16x4096x5x16_0_0_0_16) (broadcastInDim S16x4096x5x16 ![0, 1, 2, 3] bcast_S16x4096x1x16_S16x4096x5x16_0_1_2_3 (broadcastInDim S16x4096x1x16 ![0, 1, 3] bcast_S16x4096x16_S16x4096x1x16_0_1_3 s)))⟩, ⟨S16x4096x5x16, addf (mulf (extractStridedSlice S16x4096x5x16 ![0, 0, 0, 16] z slices_S16x4096x5x128_S16x4096x5x16_0_0_0_16) (broadcastInDim S16x4096x5x16 ![0, 1, 2, 3] bcast_S16x4096x1x16_S16x4096x5x16_0_1_2_3 (broadcastInDim S16x4096x1x16 ![0, 1, 3] bcast_S16x4096x16_S16x4096x1x16_0_1_3 c))) (mulf (extractStridedSlice S16x4096x5x16 ![0, 0, 0, 0] z slices_S16x4096x5x128_S16x4096x5x16_0_0_0_0) (broadcastInDim S16x4096x5x16 ![0, 1, 2, 3] bcast_S16x4096x1x16_S16x4096x5x16_0_1_2_3 (broadcastInDim S16x4096x1x16 ![0, 1, 3] bcast_S16x4096x16_S16x4096x1x16_0_1_3 s)))⟩, ⟨S16x4096x5x96, (extractStridedSlice S16x4096x5x96 ![0, 0, 0, 32] z slices_S16x4096x5x128_S16x4096x5x96_0_0_0_32)⟩] concatenates_S16x4096x5x16_S16x4096x5x16_S16x4096x5x96_S16x4096x5x128_d3

theorem rwF_at (z : FVec Ideal S16x4096x5x128 .f32) (c s : FVec Ideal S16x4096x16 .f32) (i : Fin 16) (p : Fin 4096) (q : Fin 5) (l : Fin 128) :
    rwF z c s (ix4 i p q l) = rope16 (fun k => c (ix3 i p k)) (fun k => s (ix3 i p k)) (fun k => z (ix4 i p q k)) l := by
  unfold rope16
  pointwise [rwF]
  by_cases h : l.val < 16
  · rw [dif_pos h, dif_pos h]
  · rw [dif_neg h, dif_neg h]
    by_cases h' : l.val < 32
    · rw [dif_pos h', dif_pos (by omega)]
      exact congrArg (fun k => z (ix4 i p q k) * _ + _) (Fin.ext (by show 16 + (l.val - 16) = l.val; omega))
    · rw [dif_neg h', dif_neg (by omega)]
      exact congrArg (fun k => z (ix4 i p q k)) (Fin.ext (by show 32 + (l.val - 16 - 16) = l.val; omega))

/-- Heads turned over their first 16 lanes. -/
def rsF (z : FVec Ideal S16x4096x25x64 .f32) (c s : FVec Ideal S16x4096x8 .f32) : FVec Ideal S16x4096x25x64 .f32 :=
  concatenate S16x4096x25x64 3 [⟨S16x4096x25x8, subf (mulf (extractStridedSlice S16x4096x25x8 ![0, 0, 0, 0] z slices_S16x4096x25x64_S16x4096x25x8_0_0_0_0) (broadcastInDim S16x4096x25x8 ![0, 1, 2, 3] bcast_S16x4096x1x8_S16x4096x25x8_0_1_2_3 (broadcastInDim S16x4096x1x8 ![0, 1, 3] bcast_S16x4096x8_S16x4096x1x8_0_1_3 c))) (mulf (extractStridedSlice S16x4096x25x8 ![0, 0, 0, 8] z slices_S16x4096x25x64_S16x4096x25x8_0_0_0_8) (broadcastInDim S16x4096x25x8 ![0, 1, 2, 3] bcast_S16x4096x1x8_S16x4096x25x8_0_1_2_3 (broadcastInDim S16x4096x1x8 ![0, 1, 3] bcast_S16x4096x8_S16x4096x1x8_0_1_3 s)))⟩, ⟨S16x4096x25x8, addf (mulf (extractStridedSlice S16x4096x25x8 ![0, 0, 0, 8] z slices_S16x4096x25x64_S16x4096x25x8_0_0_0_8) (broadcastInDim S16x4096x25x8 ![0, 1, 2, 3] bcast_S16x4096x1x8_S16x4096x25x8_0_1_2_3 (broadcastInDim S16x4096x1x8 ![0, 1, 3] bcast_S16x4096x8_S16x4096x1x8_0_1_3 c))) (mulf (extractStridedSlice S16x4096x25x8 ![0, 0, 0, 0] z slices_S16x4096x25x64_S16x4096x25x8_0_0_0_0) (broadcastInDim S16x4096x25x8 ![0, 1, 2, 3] bcast_S16x4096x1x8_S16x4096x25x8_0_1_2_3 (broadcastInDim S16x4096x1x8 ![0, 1, 3] bcast_S16x4096x8_S16x4096x1x8_0_1_3 s)))⟩, ⟨S16x4096x25x48, (extractStridedSlice S16x4096x25x48 ![0, 0, 0, 16] z slices_S16x4096x25x64_S16x4096x25x48_0_0_0_16)⟩] concatenates_S16x4096x25x8_S16x4096x25x8_S16x4096x25x48_S16x4096x25x64_d3

theorem rsF_at (z : FVec Ideal S16x4096x25x64 .f32) (c s : FVec Ideal S16x4096x8 .f32) (i : Fin 16) (p : Fin 4096) (q : Fin 25) (l : Fin 64) :
    rsF z c s (ix4 i p q l) = rope8 (fun k => c (ix3 i p k)) (fun k => s (ix3 i p k)) (fun k => z (ix4 i p q k)) l := by
  unfold rope8
  pointwise [rsF]
  by_cases h : l.val < 8
  · rw [dif_pos h, dif_pos h]
  · rw [dif_neg h, dif_neg h]
    by_cases h' : l.val < 16
    · rw [dif_pos h', dif_pos (by omega)]
      exact congrArg (fun k => z (ix4 i p q k) * _ + _) (Fin.ext (by show 8 + (l.val - 8) = l.val; omega))
    · rw [dif_neg h', dif_neg (by omega)]
      exact congrArg (fun k => z (ix4 i p q k)) (Fin.ext (by show 16 + (l.val - 8 - 8) = l.val; omega))

theorem yF_at (x : FVec Ideal S16x4096x1024 .f32) (w : FVec Ideal S1024x4428 .f32) (i : Fin 16) (p : Fin 4096) (j : Fin 4428) :
    yF x w (ix3 i p j) = P x w i p j := by
  unfold P
  pointwise [yF]

theorem bcF_at (y : FVec Ideal S16x4096x4428 .f32) (i : Fin 16) (p : Fin 4096) (k : Fin 256) :
    bcF y (ix3 i p k) = y (ix3 i p ⟨2052 + k.val, by omega⟩) := by
  pointwise [bcF]

theorem ltF_at (b : FVec Ideal S16x4096x256 .f32) (g : FVec Ideal S256 .f32) (i : Fin 16) (p : Fin 4096) (k : Fin 256) :
    ltF b g (ix3 i p k) = b (ix3 i p k) * Ideal.rsqrt (Ideal.div (∑ q : Fin 256, b (ix3 i p q) * b (ix3 i p q)) (Ideal.ofBits .f32 0x43800000#32)
      + Ideal.ofBits .f32 0x358637BD#32) * g (ix1 k) := by
  pointwise [ltF]

theorem kvF_at (l : FVec Ideal S16x4096x256 .f32) (u : FVec Ideal S256x256 .f32) (i : Fin 16) (p : Fin 4096) (j : Fin 256) :
    kvF l u (ix3 i p j) = ∑ k : Fin 256, l (ix3 i p k) * u (ix2 k j) := by
  pointwise [kvF]

theorem wdF_q (y : FVec Ideal S16x4096x4428 .f32) (v : FVec Ideal S16x4096x256 .f32) (i : Fin 16) (p : Fin 4096) (q : Fin 4) (l : Fin 128) :
    wdF y v (ix4 i p ⟨q.val, by omega⟩ l) = y (ix3 i p ⟨1540 + (128 * q.val + l.val), by omega⟩) := by
  pointwise [wdF]
  exact congrArg (fun k => y (ix3 i p k)) (Fin.ext (by show _ + (q.val * 128 + l.val) = _ + (128 * q.val + l.val); omega))

theorem wdF_k (y : FVec Ideal S16x4096x4428 .f32) (v : FVec Ideal S16x4096x256 .f32) (i : Fin 16) (p : Fin 4096) (l : Fin 128) :
    wdF y v (ix4 i p 4 l) = v (ix3 i p ⟨l.val, by omega⟩) := by
  pointwise [wdF]

theorem slF_i (y : FVec Ideal S16x4096x4428 .f32) (i : Fin 16) (p : Fin 4096) (q : Fin 8) (l : Fin 64) :
    slF y (ix4 i p ⟨q.val, by omega⟩ l) = y (ix3 i p ⟨2308 + (64 * q.val + l.val), by omega⟩) := by
  pointwise [slF]
  exact congrArg (fun k => y (ix3 i p k)) (Fin.ext (by show _ + (q.val * 64 + l.val) = _ + (64 * q.val + l.val); omega))

theorem slF_k (y : FVec Ideal S16x4096x4428 .f32) (i : Fin 16) (p : Fin 4096) (l : Fin 64) :
    slF y (ix4 i p 8 l) = y (ix3 i p ⟨2820 + l.val, by omega⟩) := by
  pointwise [slF]

theorem slF_c (y : FVec Ideal S16x4096x4428 .f32) (i : Fin 16) (p : Fin 4096) (q : Fin 8) (l : Fin 64) :
    slF y (ix4 i p ⟨9 + q.val, by omega⟩ l) = y (ix3 i p ⟨2892 + (64 * q.val + l.val), by omega⟩) := by
  pointwise [slF]
  rw [dif_neg (by omega), dif_neg (by omega), dif_pos (by omega)]
  exact congrArg (fun k => y (ix3 i p k)) (Fin.ext (by show _ + ((9 + q.val - 8 - 1) * 64 + l.val) = _ + (64 * q.val + l.val); omega))

theorem slF_d (y : FVec Ideal S16x4096x4428 .f32) (i : Fin 16) (p : Fin 4096) (q : Fin 8) (l : Fin 64) :
    slF y (ix4 i p ⟨17 + q.val, by omega⟩ l) = y (ix3 i p ⟨3404 + (64 * q.val + l.val), by omega⟩) := by
  pointwise [slF]
  rw [dif_neg (by omega), dif_neg (by omega), dif_neg (by omega)]
  exact congrArg (fun k => y (ix3 i p k)) (Fin.ext (by show _ + ((17 + q.val - 8 - 1 - 8) * 64 + l.val) = _ + (64 * q.val + l.val); omega))

/-- The results' last steps. -/
def qaF (y : FVec Ideal S16x4096x4428 .f32) : FVec Ideal S65536x512 .bf16 :=
  truncf .bf16 (shapeCast _ (mulf (extractStridedSlice S16x4096x512 ![0, 0, 0] y slices_S16x4096x4428_S16x4096x512_0_0_0) (broadcastInDim S16x4096x512 ![] bcast_S_S16x4096x512 (constant S_ .f32 0x3E0293EE#32))) shapeCasts_S16x4096x512_S65536x512) bitsLt_bf16_f32
def vaF (y : FVec Ideal S16x4096x4428 .f32) : FVec Ideal S512x65536 .bf16 :=
  transpose S512x65536 [1, 0] (truncf .bf16 (shapeCast _ (extractStridedSlice S16x4096x512 ![0, 0, 1024] y slices_S16x4096x4428_S16x4096x512_0_0_1024) shapeCasts_S16x4096x512_S65536x512) bitsLt_bf16_f32) transposes_S65536x512_S512x65536_1_0
def vcF (y : FVec Ideal S16x4096x4428 .f32) : FVec Ideal S512x65536 .bf16 :=
  transpose S512x65536 [1, 0] (truncf .bf16 (shapeCast _ (extractStridedSlice S16x4096x512 ![0, 0, 3916] y slices_S16x4096x4428_S16x4096x512_0_0_3916) shapeCasts_S16x4096x512_S65536x512) bitsLt_bf16_f32) transposes_S65536x512_S512x65536_1_0
def vbF (v : FVec Ideal S16x4096x256 .f32) : FVec Ideal S128x65536 .bf16 :=
  transpose S128x65536 [1, 0] (truncf .bf16 (shapeCast _ (extractStridedSlice S16x4096x128 ![0, 0, 128] v slices_S16x4096x256_S16x4096x128_0_0_128) shapeCasts_S16x4096x128_S65536x128) bitsLt_bf16_f32) transposes_S65536x128_S128x65536_1_0
def qbF (z : FVec Ideal S16x4096x5x128 .f32) : FVec Ideal S65536x512 .bf16 :=
  truncf .bf16 (shapeCast _ (mulf (extractStridedSlice S16x4096x4x128 ![0, 0, 0, 0] z slices_S16x4096x5x128_S16x4096x4x128_0_0_0_0) (broadcastInDim S16x4096x4x128 ![] bcast_S_S16x4096x4x128 (constant S_ .f32 0x3E0293EE#32))) shapeCasts_S16x4096x4x128_S65536x512) bitsLt_bf16_f32
def kbF (z : FVec Ideal S16x4096x5x128 .f32) : FVec Ideal S65536x128 .bf16 :=
  truncf .bf16 (shapeCast _ (extractStridedSlice S16x4096x1x128 ![0, 0, 4, 0] z slices_S16x4096x5x128_S16x4096x1x128_0_0_4_0) shapeCasts_S16x4096x1x128_S65536x128) bitsLt_bf16_f32
def qiF (z : FVec Ideal S16x4096x25x64 .f32) : FVec Ideal S65536x512 .bf16 :=
  truncf .bf16 (shapeCast _ (mulf (extractStridedSlice S16x4096x8x64 ![0, 0, 0, 0] z slices_S16x4096x25x64_S16x4096x8x64_0_0_0_0) (broadcastInDim S16x4096x8x64 ![] bcast_S_S16x4096x8x64 (constant S_ .f32 0x3E000000#32))) shapeCasts_S16x4096x8x64_S65536x512) bitsLt_bf16_f32
def kiF (z : FVec Ideal S16x4096x25x64 .f32) : FVec Ideal S65536x128 .bf16 :=
  truncf .bf16 (shapeCast _ (concatenate S16x4096x1x128 3 [⟨S16x4096x1x64, extractStridedSlice S16x4096x1x64 ![0, 0, 8, 0] z slices_S16x4096x25x64_S16x4096x1x64_0_0_8_0⟩, ⟨S16x4096x1x64, extractStridedSlice S16x4096x1x64 ![0, 0, 8, 0] z slices_S16x4096x25x64_S16x4096x1x64_0_0_8_0⟩] concatenates_S16x4096x1x64_S16x4096x1x64_S16x4096x1x128_d3) shapeCasts_S16x4096x1x128_S65536x128) bitsLt_bf16_f32
def qcF (z : FVec Ideal S16x4096x25x64 .f32) : FVec Ideal S65536x512 .bf16 :=
  truncf .bf16 (shapeCast _ (mulf (extractStridedSlice S16x4096x8x64 ![0, 0, 9, 0] z slices_S16x4096x25x64_S16x4096x8x64_0_0_9_0) (broadcastInDim S16x4096x8x64 ![] bcast_S_S16x4096x8x64 (constant S_ .f32 0x3E38AA3B#32))) shapeCasts_S16x4096x8x64_S65536x512) bitsLt_bf16_f32
def kcF (z : FVec Ideal S16x4096x25x64 .f32) : FVec Ideal S65536x512 .bf16 :=
  truncf .bf16 (shapeCast _ (extractStridedSlice S16x4096x8x64 ![0, 0, 17, 0] z slices_S16x4096x25x64_S16x4096x8x64_0_0_17_0) shapeCasts_S16x4096x8x64_S65536x512) bitsLt_bf16_f32

variable (y : FVec Ideal S16x4096x4428 .f32) (v : FVec Ideal S16x4096x256 .f32) (z : FVec Ideal S16x4096x5x128 .f32) (n : FVec Ideal S16x4096x25x64 .f32)

theorem qaF_at (r : Fin 65536) (j : Fin 512) : qaF y (ix2 r j) = y (ix3 (b_ r) (p_ r) ⟨j.val, by omega⟩) * Ideal.ofBits .f32 0x3E0293EE#32 := by
  pointwise [qaF]

theorem vaF_at (r : Fin 65536) (j : Fin 512) : vaF y (ix2 j r) = y (ix3 (b_ r) (p_ r) ⟨1024 + j.val, by omega⟩) := by
  pointwise [vaF]

theorem vcF_at (r : Fin 65536) (j : Fin 512) : vcF y (ix2 j r) = y (ix3 (b_ r) (p_ r) ⟨3916 + j.val, by omega⟩) := by
  pointwise [vcF]

theorem vbF_at (r : Fin 65536) (j : Fin 128) : vbF v (ix2 j r) = v (ix3 (b_ r) (p_ r) ⟨128 + j.val, by omega⟩) := by
  pointwise [vbF]

theorem qbF_at (r : Fin 65536) (j : Fin 512) : qbF z (ix2 r j) = z (ix4 (b_ r) (p_ r) ⟨j.val / 128, by omega⟩ ⟨j.val % 128, Nat.mod_lt _ (by omega)⟩) * Ideal.ofBits .f32 0x3E0293EE#32 := by
  pointwise [qbF]

theorem kbF_at (r : Fin 65536) (j : Fin 128) : kbF z (ix2 r j) = z (ix4 (b_ r) (p_ r) 4 j) := by
  pointwise [kbF]

theorem qiF_at (r : Fin 65536) (j : Fin 512) : qiF n (ix2 r j) = n (ix4 (b_ r) (p_ r) ⟨j.val / 64, by omega⟩ ⟨j.val % 64, Nat.mod_lt _ (by omega)⟩) * Ideal.ofBits .f32 0x3E000000#32 := by
  pointwise [qiF]

theorem kiF_at (r : Fin 65536) (j : Fin 128) : kiF n (ix2 r j) = n (ix4 (b_ r) (p_ r) 8 ⟨j.val % 64, Nat.mod_lt _ (by omega)⟩) := by
  pointwise [kiF]
  by_cases h : j.val < 64
  · rw [dif_pos h]
    exact congrArg (fun k => n (ix4 (b_ r) (p_ r) 8 k)) (Fin.ext (by show j.val = j.val % 64; omega))
  · rw [dif_neg h]
    exact congrArg (fun k => n (ix4 (b_ r) (p_ r) 8 k)) (Fin.ext (by show j.val - 64 = j.val % 64; omega))

theorem qcF_at (r : Fin 65536) (j : Fin 512) : qcF n (ix2 r j) = n (ix4 (b_ r) (p_ r) ⟨9 + j.val / 64, by omega⟩ ⟨j.val % 64, Nat.mod_lt _ (by omega)⟩) * Ideal.ofBits .f32 0x3E38AA3B#32 := by
  pointwise [qcF]

theorem kcF_at (r : Fin 65536) (j : Fin 512) : kcF n (ix2 r j) = n (ix4 (b_ r) (p_ r) ⟨17 + j.val / 64, by omega⟩ ⟨j.val % 64, Nat.mod_lt _ (by omega)⟩) := by
  pointwise [kcF]

variable (m : (ℓ : Loc nD τ sig) → Buf (Elt Ideal) ℓ) (c : Dev nD)

/-- The reference's arguments. -/
def Rh : FVec Ideal S16x4096x1024 .f32 := m ((c.tc : Thread nD τ).loc main_arg0)
def Rc : FVec Ideal S16x4096x16 .f32 := m ((c.tc : Thread nD τ).loc main_arg1)
def Rs : FVec Ideal S16x4096x16 .f32 := m ((c.tc : Thread nD τ).loc main_arg2)
def Rd : FVec Ideal S16x4096x8 .f32 := m ((c.tc : Thread nD τ).loc main_arg3)
def Rt : FVec Ideal S16x4096x8 .f32 := m ((c.tc : Thread nD τ).loc main_arg4)
def Rw : FVec Ideal S1024x4428 .f32 := m ((c.tc : Thread nD τ).loc main_arg5)
def Rg : FVec Ideal S256 .f32 := m ((c.tc : Thread nD τ).loc main_arg7)
def Ru : FVec Ideal S256x256 .f32 := m ((c.tc : Thread nD τ).loc main_arg8)

def Ry : FVec Ideal S16x4096x4428 .f32 := yF (Rh m c) (Rw m c)
def Rv : FVec Ideal S16x4096x256 .f32 := kvF (ltF (bcF (Ry m c)) (Rg m c)) (Ru m c)
def Rz : FVec Ideal S16x4096x5x128 .f32 := rwF (wdF (Ry m c) (Rv m c)) (Rc m c) (Rs m c)
def Rn : FVec Ideal S16x4096x25x64 .f32 := rsF (slF (Ry m c)) (Rd m c) (Rt m c)

theorem o2 : Value.res_out2 m c = qbF (Rz m c) := rfl
theorem o3 : Value.res_out3 m c = kbF (Rz m c) := rfl
theorem o5 : Value.res_out5 m c = qiF (Rn m c) := rfl
theorem o6 : Value.res_out6 m c = kiF (Rn m c) := rfl
theorem o7 : Value.res_out7 m c = qcF (Rn m c) := rfl
theorem o8 : Value.res_out8 m c = kcF (Rn m c) := rfl

theorem Ry_at (i : Fin 16) (p : Fin 4096) (j : Fin 4428) : Ry m c (ix3 i p j) = P (Rh m c) (Rw m c) i p j := yF_at _ _ i p j

theorem bc_at (i : Fin 16) (p : Fin 4096) (k : Fin 256) : bcF (Ry m c) (ix3 i p k) = P (Rh m c) (Rw m c) i p ⟨2052 + k.val, by omega⟩ :=
  (bcF_at _ i p k).trans (Ry_at m c i p _)

theorem Rv_at (i : Fin 16) (p : Fin 4096) (j : Fin 256) : Rv m c (ix3 i p j) = kvE (Rh m c) (Rw m c) (Rg m c) (Ru m c) i p j := by
  refine (kvF_at _ _ i p j).trans ?_
  unfold kvE
  refine Finset.sum_congr rfl fun k _ => congrArg (· * _) ((ltF_at _ _ i p k).trans ?_)
  unfold ltn
  simp only [bc_at]

theorem Rn_at (i : Fin 16) (p : Fin 4096) (q : Fin 25) (l : Fin 64) (o : ℕ) (ho : o + 64 ≤ 4428)
    (hq : ∀ k : Fin 64, slF (Ry m c) (ix4 i p q k) = Ry m c (ix3 i p ⟨o + k.val, by omega⟩)) :
    Rn m c (ix4 i p q l) = head8 (Rh m c) (Rd m c) (Rt m c) (Rw m c) o ho i p l := by
  refine (rsF_at _ _ _ i p q l).trans ?_
  unfold head8
  exact congrArg (fun y => rope8 _ _ y l) (funext fun k => (hq k).trans (Ry_at m c i p _))

theorem qa_at (r : Fin 65536) (j : Fin 512) : qaF (Ry m c) (ix2 r j) = qaE (Rh m c) (Rw m c) r j :=
  (qaF_at _ r j).trans (congrArg (· * _) (Ry_at m c _ _ _))
theorem va_at (r : Fin 65536) (j : Fin 512) : vaF (Ry m c) (ix2 j r) = vaE (Rh m c) (Rw m c) r j :=
  (vaF_at _ r j).trans (Ry_at m c _ _ _)
theorem vc_at (r : Fin 65536) (j : Fin 512) : vcF (Ry m c) (ix2 j r) = vcE (Rh m c) (Rw m c) r j :=
  (vcF_at _ r j).trans (Ry_at m c _ _ _)
theorem vb_at (r : Fin 65536) (j : Fin 128) : vbF (Rv m c) (ix2 j r) = vbE (Rh m c) (Rw m c) (Rg m c) (Ru m c) r j :=
  (vbF_at _ r j).trans (Rv_at m c _ _ _)
theorem qb_at (r : Fin 65536) (j : Fin 512) : qbF (Rz m c) (ix2 r j) = qbE (Rh m c) (Rc m c) (Rs m c) (Rw m c) r j := by
  refine (qbF_at _ r j).trans (congrArg (· * _) ((rwF_at _ _ _ _ _ _ _).trans ?_))
  exact congrArg (fun y => rope16 _ _ y _) (funext fun k => (wdF_q _ _ _ _ ⟨j.val / 128, by omega⟩ k).trans (Ry_at m c _ _ _))
theorem kb_at (r : Fin 65536) (j : Fin 128) : kbF (Rz m c) (ix2 r j) = kbE (Rh m c) (Rc m c) (Rs m c) (Rw m c) (Rg m c) (Ru m c) r j := by
  refine (kbF_at _ r j).trans ((rwF_at _ _ _ _ _ _ _).trans ?_)
  exact congrArg (fun y => rope16 _ _ y _) (funext fun k => (wdF_k _ _ _ _ k).trans (Rv_at m c _ _ _))

theorem assoc (a b o : ℕ) (h : a + (b + o) < 4428) (h' : a + b + o < 4428) : (⟨a + (b + o), h⟩ : Fin 4428) = ⟨a + b + o, h'⟩ :=
  Fin.ext (Nat.add_assoc a b o).symm

theorem qi_at (r : Fin 65536) (j : Fin 512) : qiF (Rn m c) (ix2 r j) = qiE (Rh m c) (Rd m c) (Rt m c) (Rw m c) r j := by
  refine (qiF_at _ r j).trans (congrArg (· * _) (Rn_at m c _ _ _ _ _ _ fun k => ?_))
  exact (slF_i _ _ _ ⟨j.val / 64, by omega⟩ k).trans (congrArg (fun q => Ry m c (ix3 (b_ r) (p_ r) q)) (assoc _ _ _ _ _))
theorem ki_at (r : Fin 65536) (j : Fin 128) : kiF (Rn m c) (ix2 r j) = kiE (Rh m c) (Rd m c) (Rt m c) (Rw m c) r j := by
  refine (kiF_at _ r j).trans (Rn_at m c _ _ _ _ _ _ fun k => ?_)
  exact slF_k _ _ _ k
theorem qc_at (r : Fin 65536) (j : Fin 512) : qcF (Rn m c) (ix2 r j) = qcE (Rh m c) (Rd m c) (Rt m c) (Rw m c) r j := by
  refine (qcF_at _ r j).trans (congrArg (· * _) (Rn_at m c _ _ _ _ _ _ fun k => ?_))
  exact (slF_c _ _ _ ⟨j.val / 64, by omega⟩ k).trans (congrArg (fun q => Ry m c (ix3 (b_ r) (p_ r) q)) (assoc _ _ _ _ _))
theorem kc_at (r : Fin 65536) (j : Fin 512) : kcF (Rn m c) (ix2 r j) = kcE (Rh m c) (Rd m c) (Rt m c) (Rw m c) r j := by
  refine (kcF_at _ r j).trans (Rn_at m c _ _ _ _ _ _ fun k => ?_)
  exact (slF_d _ _ _ ⟨j.val / 64, by omega⟩ k).trans (congrArg (fun q => Ry m c (ix3 (b_ r) (p_ r) q)) (assoc _ _ _ _ _))

end Cert.Reference4Ideal.Proj

end

end
-- ==== Proof.Proj.Meet.lean ====
/- The projections' output arrays and their reference's results are the same. -/
module

public import proofs.«01_k».proof.Proof.Proj.Out
public import proofs.«01_k».proof.Proof.Proj.Ref
public import Idealize.ShloMosaic.Lib.Pipeline.ValueKit
public import Idealize.ShloMosaic.Lib.IdealHost
public import Idealize.ShloMosaic.Lib.Claim

@[expose] public section

set_option maxRecDepth 16384

noncomputable section

open Idealize.ShloMosaic Idealize.ShloMosaic.TcCoe Idealize.SL.Sem
open Cert.Proj

namespace Cert.Meet4

open Cert.Kernel4Ideal.Proj (Xh Xc Xs Xd Xt Xw Xg Xu)
open Cert.Reference4Ideal.Proj

variable (m : (ℓ : Loc Cert.Kernel4Ideal.nD Cert.Kernel4Ideal.τ Cert.Kernel4Ideal.sig) → Buf (Elt Ideal) ℓ)
variable (m' : (ℓ : Loc Cert.Reference4Ideal.nD Cert.Reference4Ideal.τ Cert.Reference4Ideal.sig) → Buf (Elt Ideal) ℓ)
variable (c : Dev Cert.Kernel4Ideal.nD)

section Same

variable (h0 : Rh m' c = Xh m c) (h1 : Rc m' c = Xc m c) (h2 : Rs m' c = Xs m c) (h3 : Rd m' c = Xd m c) (h4 : Rt m' c = Xt m c)
  (h5 : Rw m' c = Xw m c) (h7 : Rg m' c = Xg m c) (h8 : Ru m' c = Xu m c)

include h0 h5 in
theorem qa : (Cert.Kernel4Ideal.Gen.dats m 0 c).arrAt 14 Cert.Kernel4Ideal.cfg0.N = qaF (Ry m' c) := by
  refine (Cert.Kernel4Ideal.Proj.final14 m c).trans ?_
  funext x
  obtain ⟨r, j, rfl⟩ : ∃ (r : Fin 65536) (j : Fin 512), x = (ix2 r j : Cert.Kernel4Ideal.S65536x512.Idx) := ⟨x 0, x 1, by blk_ext⟩
  refine Eq.trans ?_ (qa_at m' c r j).symm
  rw [h0, h5]
  rfl

include h0 h5 in
theorem va : (Cert.Kernel4Ideal.Gen.dats m 0 c).arrAt 16 Cert.Kernel4Ideal.cfg0.N = vaF (Ry m' c) := by
  refine (Cert.Kernel4Ideal.Proj.final16 m c).trans ?_
  funext x
  obtain ⟨j, r, rfl⟩ : ∃ (j : Fin 512) (r : Fin 65536), x = (ix2 j r : Cert.Kernel4Ideal.S512x65536.Idx) := ⟨x 0, x 1, by blk_ext⟩
  refine Eq.trans ?_ (va_at m' c r j).symm
  rw [h0, h5]
  rfl

include h0 h1 h2 h5 in
theorem qb : (Cert.Kernel4Ideal.Gen.dats m 0 c).arrAt 17 Cert.Kernel4Ideal.cfg0.N = qbF (Rz m' c) := by
  refine (Cert.Kernel4Ideal.Proj.final17 m c).trans ?_
  funext x
  obtain ⟨r, j, rfl⟩ : ∃ (r : Fin 65536) (j : Fin 512), x = (ix2 r j : Cert.Kernel4Ideal.S65536x512.Idx) := ⟨x 0, x 1, by blk_ext⟩
  refine Eq.trans ?_ (qb_at m' c r j).symm
  rw [h0, h1, h2, h5]
  rfl

include h0 h1 h2 h5 h7 h8 in
theorem kb : (Cert.Kernel4Ideal.Gen.dats m 0 c).arrAt 18 Cert.Kernel4Ideal.cfg0.N = kbF (Rz m' c) := by
  refine (Cert.Kernel4Ideal.Proj.final18 m c).trans ?_
  funext x
  obtain ⟨r, j, rfl⟩ : ∃ (r : Fin 65536) (j : Fin 128), x = (ix2 r j : Cert.Kernel4Ideal.S65536x128.Idx) := ⟨x 0, x 1, by blk_ext⟩
  refine Eq.trans ?_ (kb_at m' c r j).symm
  rw [h0, h1, h2, h5, h7, h8]
  rfl

include h0 h5 h7 h8 in
theorem vb : (Cert.Kernel4Ideal.Gen.dats m 0 c).arrAt 19 Cert.Kernel4Ideal.cfg0.N = vbF (Rv m' c) := by
  refine (Cert.Kernel4Ideal.Proj.final19 m c).trans ?_
  funext x
  obtain ⟨j, r, rfl⟩ : ∃ (j : Fin 128) (r : Fin 65536), x = (ix2 j r : Cert.Kernel4Ideal.S128x65536.Idx) := ⟨x 0, x 1, by blk_ext⟩
  refine Eq.trans ?_ (vb_at m' c r j).symm
  rw [h0, h5, h7, h8]
  rfl

include h0 h3 h4 h5 in
theorem qi : (Cert.Kernel4Ideal.Gen.dats m 0 c).arrAt 20 Cert.Kernel4Ideal.cfg0.N = qiF (Rn m' c) := by
  refine (Cert.Kernel4Ideal.Proj.final20 m c).trans ?_
  funext x
  obtain ⟨r, j, rfl⟩ : ∃ (r : Fin 65536) (j : Fin 512), x = (ix2 r j : Cert.Kernel4Ideal.S65536x512.Idx) := ⟨x 0, x 1, by blk_ext⟩
  refine Eq.trans ?_ (qi_at m' c r j).symm
  rw [h0, h3, h4, h5]
  rfl

include h0 h3 h4 h5 in
theorem ki : (Cert.Kernel4Ideal.Gen.dats m 0 c).arrAt 21 Cert.Kernel4Ideal.cfg0.N = kiF (Rn m' c) := by
  refine (Cert.Kernel4Ideal.Proj.final21 m c).trans ?_
  funext x
  obtain ⟨r, j, rfl⟩ : ∃ (r : Fin 65536) (j : Fin 128), x = (ix2 r j : Cert.Kernel4Ideal.S65536x128.Idx) := ⟨x 0, x 1, by blk_ext⟩
  refine Eq.trans ?_ (ki_at m' c r j).symm
  rw [h0, h3, h4, h5]
  rfl

include h0 h3 h4 h5 in
theorem qc : (Cert.Kernel4Ideal.Gen.dats m 0 c).arrAt 23 Cert.Kernel4Ideal.cfg0.N = qcF (Rn m' c) := by
  refine (Cert.Kernel4Ideal.Proj.final23 m c).trans ?_
  funext x
  obtain ⟨r, j, rfl⟩ : ∃ (r : Fin 65536) (j : Fin 512), x = (ix2 r j : Cert.Kernel4Ideal.S65536x512.Idx) := ⟨x 0, x 1, by blk_ext⟩
  refine Eq.trans ?_ (qc_at m' c r j).symm
  rw [h0, h3, h4, h5]
  rfl

include h0 h3 h4 h5 in
theorem kc : (Cert.Kernel4Ideal.Gen.dats m 0 c).arrAt 24 Cert.Kernel4Ideal.cfg0.N = kcF (Rn m' c) := by
  refine (Cert.Kernel4Ideal.Proj.final24 m c).trans ?_
  funext x
  obtain ⟨r, j, rfl⟩ : ∃ (r : Fin 65536) (j : Fin 512), x = (ix2 r j : Cert.Kernel4Ideal.S65536x512.Idx) := ⟨x 0, x 1, by blk_ext⟩
  refine Eq.trans ?_ (kc_at m' c r j).symm
  rw [h0, h3, h4, h5]
  rfl

include h0 h5 in
theorem vc : (Cert.Kernel4Ideal.Gen.dats m 0 c).arrAt 25 Cert.Kernel4Ideal.cfg0.N = vcF (Ry m' c) := by
  refine (Cert.Kernel4Ideal.Proj.final25 m c).trans ?_
  funext x
  obtain ⟨j, r, rfl⟩ : ∃ (j : Fin 512) (r : Fin 65536), x = (ix2 j r : Cert.Kernel4Ideal.S512x65536.Idx) := ⟨x 0, x 1, by blk_ext⟩
  refine Eq.trans ?_ (vc_at m' c r j).symm
  rw [h0, h5]
  rfl

end Same

end Cert.Meet4

end

end
-- ==== Proof.Proj.Value.lean ====
/- The projections' value claim. -/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Proj.Frame
public import proofs.«01_k».proof.Proof.Proj.Meet

@[expose] public section

set_option maxHeartbeats 0

noncomputable section

namespace Cert.Proof

open Idealize.ShloMosaic Idealize.SL.Sem

open Cert.Reference4Ideal.Proj in
/-- The projections' ten output arrays end with their reference's results. -/
theorem value4 : Cert.algebraic_Kernel4Ideal_Reference4Ideal := by
  intro m ρ m' ρ' hpre hagree
  refine ⟨fun c => qaF (Ry m' c), fun c => vaF (Ry m' c), fun c => qbF (Rz m' c), fun c => kbF (Rz m' c), fun c => vbF (Rv m' c),
    fun c => qiF (Rn m' c), fun c => kiF (Rn m' c), fun c => qcF (Rn m' c), fun c => kcF (Rn m' c), fun c => vcF (Ry m' c), ?_, ?_⟩
  · refine (θ_run Cert.Kernel4Ideal.defs _ _).mono (fun r h c => ?_) (Cert.Kernel4Ideal.Gen.run_blocks m ρ)
    obtain ⟨h0, h1, h2, h3, h4, h5, h6, h7, h8⟩ := hagree c
    obtain ⟨w0, w1, w2, w3, w4, w5, w6, w7, w8, w9, w10, w11, hr⟩ := h c
    exact ⟨w0.trans (Cert.Meet4.qa m m' c h0 h5), w2.trans (Cert.Meet4.va m m' c h0 h5), w3.trans (Cert.Meet4.qb m m' c h0 h1 h2 h5),
      w4.trans (Cert.Meet4.kb m m' c h0 h1 h2 h5 h7 h8), w5.trans (Cert.Meet4.vb m m' c h0 h5 h7 h8), w6.trans (Cert.Meet4.qi m m' c h0 h3 h4 h5),
      w7.trans (Cert.Meet4.ki m m' c h0 h3 h4 h5), w9.trans (Cert.Meet4.qc m m' c h0 h3 h4 h5), w10.trans (Cert.Meet4.kc m m' c h0 h3 h4 h5),
      w11.trans (Cert.Meet4.vc m m' c h0 h5), hr⟩
  · refine (θ_run Cert.Reference4Ideal.defs _ _).mono (fun r h c => ?_) (Cert.Reference4Ideal.Value.run m' ρ')
    obtain ⟨w0, w1, w2, w3, w4, w5, w6, w7, w8, w9, hr⟩ := h c
    exact ⟨w0.trans rfl, w1.trans rfl, w2.trans (o2 m' c), w3.trans (o3 m' c), w4.trans rfl, w5.trans (o5 m' c), w6.trans (o6 m' c),
      w7.trans (o7 m' c), w8.trans (o8 m' c), w9.trans rfl, hr⟩

end Cert.Proof

end

end
-- ==== Proof.lean ====
/- The claims, proved. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Fox.Run
public import proofs.«01_k».proof.Proof.Fox.Same
public import proofs.«01_k».proof.Proof.Fox.Meet
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Merge.Meet
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4Ideal
public import proofs.«01_k».proof.Proof.Gen.Reference4Ideal
public import proofs.«01_k».proof.Proof.Gen.Reference4Ideal.Run
public import proofs.«01_k».proof.Proof.Ffn.Meet
public import proofs.«01_k».proof.Proof.Proj.Frame
public import proofs.«01_k».proof.Proof.Proj.Value

@[expose] public section

noncomputable section

namespace Cert.Proof

open Idealize.ShloMosaic Idealize.SL.Sem

/-- The idealized kernel runs, leaves its arguments and ends with every counter at zero. -/
theorem frame_ideal : Cert.quiescent_KernelIdeal := fun m ρ _ => Cert.KernelIdeal.Fox.frame_gen m ρ Cert.KernelIdeal.Fox.eqIdeal

/-- The kernel's text is the idealized kernel's, so its frame is the same run over words. -/
theorem frame_kernel : Cert.quiescent_Kernel := fun m ρ _ => by
  have h := Cert.KernelIdeal.Fox.frame_gen (F := Bits) m ρ Cert.KernelIdeal.Fox.eqBits
  rw [← Cert.KernelIdeal.Fox.same_defs, ← Cert.KernelIdeal.Fox.same_main] at h
  exact h

/-- The reference runs and leaves its arguments; it has no counters. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The frames of the claims whose arguments are finite are the same runs. -/
theorem frame_ideal_finite : Cert.quiescent_KernelIdeal_pre_finite (hPre_finite := Cert.Pre_finite.Fox.facts) := fun m ρ _ => frame_ideal m ρ trivial

theorem frame_ref_finite : Cert.quiescent_ReferenceIdeal_pre_finite (hPre_finite := Cert.Pre_finite.Fox.facts) := fun m ρ _ => frame_ref m ρ trivial

open Cert.KernelIdeal Cert.KernelIdeal.Gen in
/-- On finite arguments the kernel's output array ends with the reference's result. -/
theorem value : Cert.algebraic_KernelIdeal_ReferenceIdeal_pre_finite (hPre_finite := Cert.Pre_finite.Fox.facts) := by
  intro m ρ m' ρ' hpre hagree
  have := Cert.Pre_finite.Fox.facts
  refine ⟨fun c => Cert.ReferenceIdeal.Value.res_main_v32 m' c, ?_, ?_⟩
  · refine (θ_run Cert.KernelIdeal.defs _ _).mono (fun r h c => ?_) (Cert.KernelIdeal.Fox.run_main m ρ Cert.KernelIdeal.Fox.eqIdeal)
    refine ⟨((h.1 c).1 3).trans (Cert.Meet.meet m m' c (hagree c).1 (hagree c).2.1 (hagree c).2.2.1 (hagree c).2.2.2
      (Cert.Pre_finite.Fox.real4 _ _ _ _ (hpre c).1) (Cert.Pre_finite.Fox.real4' _ _ _ _ (hpre c).2.1) (Cert.Pre_finite.Fox.real3 _ _ _ _ (hpre c).2.2)), ?_, ?_, ?_, ?_⟩
    · exact ((h.1 c).2 main_arg0 (Pipeline.mem_restRefs_of main_arg0 (by decide) (by decide))).trans (V_main_arg0 m c)
    · exact ((h.1 c).2 main_arg1 (Pipeline.mem_restRefs_of main_arg1 (by decide) (by decide))).trans (V_main_arg1 m c)
    · exact ((h.1 c).2 main_arg2 (Pipeline.mem_restRefs_of main_arg2 (by decide) (by decide))).trans (V_main_arg2 m c)
    · exact ((h.1 c).2 main_arg3 (Pipeline.mem_restRefs_of main_arg3 (by decide) (by decide))).trans (V_main_arg3 m c)
  · exact Cert.ReferenceIdeal.Value.run m' ρ'

/-- The merge's frames: the kernel's, the idealized kernel's and the reference's. -/
theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_ref2 : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The merge's output array ends with its reference's result. -/
theorem value2 : Cert.algebraic_Kernel2Ideal_Reference2Ideal := by
  intro m ρ m' ρ' hpre hagree
  refine ⟨fun c => Cert.Reference2Ideal.Value.res_main_v46 m' c, ?_, ?_⟩
  · refine (θ_run Cert.Kernel2Ideal.defs _ _).mono (fun r h c => ?_) (Cert.Kernel2Ideal.Value.run_blocks m ρ)
    obtain ⟨h0, h1, h2, h3, h4, h5, h6, h7, h8, h9, h10⟩ := hagree c
    exact ⟨(h c).1.trans (Cert.Meet2.meet m m' c h0 h1 h2 h3 h4 h5 h6 h7 h8 h9 h10), (h c).2⟩
  · exact Cert.Reference2Ideal.Value.run m' ρ'

/-- The gated MLP's frames: the kernel's, the idealized kernel's and the reference's. -/
theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_ref3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

theorem value3 : Cert.algebraic_Kernel3Ideal_Reference3Ideal := by
  intro m ρ m' ρ' hpre hagree
  refine ⟨fun c => Cert.Reference3Ideal.Value.res_main_v59 m' c, ?_, ?_⟩
  · refine (θ_run Cert.Kernel3Ideal.defs _ _).mono (fun r h c => ?_) (Cert.Kernel3Ideal.Value.run_blocks m ρ)
    obtain ⟨h0, h1, h2, h3, h4, h5, h6⟩ := hagree c
    exact ⟨(h c).1.trans (Cert.Meet3.meet m m' c h0 h1 h2 h3 h4 h5 h6), (h c).2⟩
  · exact Cert.Reference3Ideal.Value.run m' ρ'

/-- The projections' frames: the idealized kernel's and the reference's. -/
theorem frame_ideal4 : Cert.quiescent_Kernel4Ideal := fun m ρ _ => Cert.Kernel4Ideal.Gen.frame m ρ

theorem frame_ref4 : Cert.quiescent_Reference4Ideal := fun m ρ _ =>
  (θ_run Cert.Reference4Ideal.defs _ _).mono (fun r h => ⟨fun c => ((h c).2.2.2.2.2.2.2.2.2.2), sem_eq_zero_of_no_sems (by decide) r.2⟩) (Cert.Reference4Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4Ideal.Gen.facts, Cert.Reference4Ideal.Gen.facts, Cert.Pre_finite.Fox.facts,
  frame_kernel, frame_ideal, frame_ideal_finite, frame_ref, frame_ref_finite, frame_kernel2, frame_ideal2, frame_ref2, frame_kernel3, frame_ideal3, frame_ref3,
  frame_ideal4, frame_ref4,
  trivial, value, trivial, value2, trivial, value3, value4⟩

end Cert.Proof

end

end
